-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Attn2048 (m : (ℓ : Loc Cert.Attn2048.nD Cert.Attn2048.τ Cert.Attn2048.sig) → Buf (Elt Bits) ℓ) : Prop :=
  True

def Pre_Attn2048Ideal (m : (ℓ : Loc Cert.Attn2048Ideal.nD Cert.Attn2048Ideal.τ Cert.Attn2048Ideal.sig) → Buf (Elt Ideal) ℓ) : Prop :=
  True

def Pre_Attn2048Ideal_attn_finite [hPre_attn_finite : Cert.Pre_attn_finite.Facts] (m : (ℓ : Loc Cert.Attn2048Ideal.nD Cert.Attn2048Ideal.τ Cert.Attn2048Ideal.sig) → Buf (Elt Ideal) ℓ) : Prop :=
  ∀ c : Dev Cert.Attn2048Ideal.nD,
    (Cert.Pre_attn_finite.fn (F := Ideal) (m ((c.tc : Thread Cert.Attn2048Ideal.nD Cert.Attn2048Ideal.τ).loc Cert.Attn2048Ideal.main_arg0)) (m ((c.tc : Thread Cert.Attn2048Ideal.nD Cert.Attn2048Ideal.τ).loc Cert.Attn2048Ideal.main_arg1)) (m ((c.tc : Thread Cert.Attn2048Ideal.nD Cert.Attn2048Ideal.τ).loc Cert.Attn2048Ideal.main_arg2)) (m ((c.tc : Thread Cert.Attn2048Ideal.nD Cert.Attn2048Ideal.τ).loc Cert.Attn2048Ideal.main_arg3))) = (fun _ => 1#1)

def Pre_Attn2048RefIdeal (m : (ℓ : Loc Cert.Attn2048RefIdeal.nD Cert.Attn2048RefIdeal.τ Cert.Attn2048RefIdeal.sig) → Buf (Elt Ideal) ℓ) : Prop :=
  True

def Pre_Attn2048RefIdeal_attn_finite [hPre_attn_finite : Cert.Pre_attn_finite.Facts] (m : (ℓ : Loc Cert.Attn2048RefIdeal.nD Cert.Attn2048RefIdeal.τ Cert.Attn2048RefIdeal.sig) → Buf (Elt Ideal) ℓ) : Prop :=
  ∀ c : Dev Cert.Attn2048RefIdeal.nD,
    (Cert.Pre_attn_finite.fn (F := Ideal) (m ((c.tc : Thread Cert.Attn2048RefIdeal.nD Cert.Attn2048RefIdeal.τ).loc Cert.Attn2048RefIdeal.main_arg0)) (m ((c.tc : Thread Cert.Attn2048RefIdeal.nD Cert.Attn2048RefIdeal.τ).loc Cert.Attn2048RefIdeal.main_arg1)) (m ((c.tc : Thread Cert.Attn2048RefIdeal.nD Cert.Attn2048RefIdeal.τ).loc Cert.Attn2048RefIdeal.main_arg2)) (m ((c.tc : Thread Cert.Attn2048RefIdeal.nD Cert.Attn2048RefIdeal.τ).loc Cert.Attn2048RefIdeal.main_arg3))) = (fun _ => 1#1)

def Pre_Attn512 (m : (ℓ : Loc Cert.Attn512.nD Cert.Attn512.τ Cert.Attn512.sig) → Buf (Elt Bits) ℓ) : Prop :=
  True

def Pre_Attn512Ideal (m : (ℓ : Loc Cert.Attn512Ideal.nD Cert.Attn512Ideal.τ Cert.Attn512Ideal.sig) → Buf (Elt Ideal) ℓ) : Prop :=
  True

def Pre_Attn512Ideal_attn_finite [hPre_attn_finite : Cert.Pre_attn_finite.Facts] (m : (ℓ : Loc Cert.Attn512Ideal.nD Cert.Attn512Ideal.τ Cert.Attn512Ideal.sig) → Buf (Elt Ideal) ℓ) : Prop :=
  ∀ c : Dev Cert.Attn512Ideal.nD,
    (Cert.Pre_attn_finite.fn (F := Ideal) (m ((c.tc : Thread Cert.Attn512Ideal.nD Cert.Attn512Ideal.τ).loc Cert.Attn512Ideal.main_arg0)) (m ((c.tc : Thread Cert.Attn512Ideal.nD Cert.Attn512Ideal.τ).loc Cert.Attn512Ideal.main_arg1)) (m ((c.tc : Thread Cert.Attn512Ideal.nD Cert.Attn512Ideal.τ).loc Cert.Attn512Ideal.main_arg2)) (m ((c.tc : Thread Cert.Attn512Ideal.nD Cert.Attn512Ideal.τ).loc Cert.Attn512Ideal.main_arg3))) = (fun _ => 1#1)

def Pre_Attn512RefIdeal (m : (ℓ : Loc Cert.Attn512RefIdeal.nD Cert.Attn512RefIdeal.τ Cert.Attn512RefIdeal.sig) → Buf (Elt Ideal) ℓ) : Prop :=
  True

def Pre_Attn512RefIdeal_attn_finite [hPre_attn_finite : Cert.Pre_attn_finite.Facts] (m : (ℓ : Loc Cert.Attn512RefIdeal.nD Cert.Attn512RefIdeal.τ Cert.Attn512RefIdeal.sig) → Buf (Elt Ideal) ℓ) : Prop :=
  ∀ c : Dev Cert.Attn512RefIdeal.nD,
    (Cert.Pre_attn_finite.fn (F := Ideal) (m ((c.tc : Thread Cert.Attn512RefIdeal.nD Cert.Attn512RefIdeal.τ).loc Cert.Attn512RefIdeal.main_arg0)) (m ((c.tc : Thread Cert.Attn512RefIdeal.nD Cert.Attn512RefIdeal.τ).loc Cert.Attn512RefIdeal.main_arg1)) (m ((c.tc : Thread Cert.Attn512RefIdeal.nD Cert.Attn512RefIdeal.τ).loc Cert.Attn512RefIdeal.main_arg2)) (m ((c.tc : Thread Cert.Attn512RefIdeal.nD Cert.Attn512RefIdeal.τ).loc Cert.Attn512RefIdeal.main_arg3))) = (fun _ => 1#1)

def Pre_Attn128 (m : (ℓ : Loc Cert.Attn128.nD Cert.Attn128.τ Cert.Attn128.sig) → Buf (Elt Bits) ℓ) : Prop :=
  True

def Pre_Attn128Ideal (m : (ℓ : Loc Cert.Attn128Ideal.nD Cert.Attn128Ideal.τ Cert.Attn128Ideal.sig) → Buf (Elt Ideal) ℓ) : Prop :=
  True

def Pre_Attn128Ideal_attn_finite [hPre_attn_finite : Cert.Pre_attn_finite.Facts] (m : (ℓ : Loc Cert.Attn128Ideal.nD Cert.Attn128Ideal.τ Cert.Attn128Ideal.sig) → Buf (Elt Ideal) ℓ) : Prop :=
  ∀ c : Dev Cert.Attn128Ideal.nD,
    (Cert.Pre_attn_finite.fn (F := Ideal) (m ((c.tc : Thread Cert.Attn128Ideal.nD Cert.Attn128Ideal.τ).loc Cert.Attn128Ideal.main_arg0)) (m ((c.tc : Thread Cert.Attn128Ideal.nD Cert.Attn128Ideal.τ).loc Cert.Attn128Ideal.main_arg1)) (m ((c.tc : Thread Cert.Attn128Ideal.nD Cert.Attn128Ideal.τ).loc Cert.Attn128Ideal.main_arg2)) (m ((c.tc : Thread Cert.Attn128Ideal.nD Cert.Attn128Ideal.τ).loc Cert.Attn128Ideal.main_arg3))) = (fun _ => 1#1)

def Pre_Attn128RefIdeal (m : (ℓ : Loc Cert.Attn128RefIdeal.nD Cert.Attn128RefIdeal.τ Cert.Attn128RefIdeal.sig) → Buf (Elt Ideal) ℓ) : Prop :=
  True

def Pre_Attn128RefIdeal_attn_finite [hPre_attn_finite : Cert.Pre_attn_finite.Facts] (m : (ℓ : Loc Cert.Attn128RefIdeal.nD Cert.Attn128RefIdeal.τ Cert.Attn128RefIdeal.sig) → Buf (Elt Ideal) ℓ) : Prop :=
  ∀ c : Dev Cert.Attn128RefIdeal.nD,
    (Cert.Pre_attn_finite.fn (F := Ideal) (m ((c.tc : Thread Cert.Attn128RefIdeal.nD Cert.Attn128RefIdeal.τ).loc Cert.Attn128RefIdeal.main_arg0)) (m ((c.tc : Thread Cert.Attn128RefIdeal.nD Cert.Attn128RefIdeal.τ).loc Cert.Attn128RefIdeal.main_arg1)) (m ((c.tc : Thread Cert.Attn128RefIdeal.nD Cert.Attn128RefIdeal.τ).loc Cert.Attn128RefIdeal.main_arg2)) (m ((c.tc : Thread Cert.Attn128RefIdeal.nD Cert.Attn128RefIdeal.τ).loc Cert.Attn128RefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn2048 [hAttn2048 : Cert.Attn2048.Facts] : Prop :=
  ∀ (m : (ℓ : Loc Cert.Attn2048.nD Cert.Attn2048.τ Cert.Attn2048.sig) → Buf (Elt Bits) ℓ) (g : Dev Cert.Attn2048.nD → PrngReg), Pre_Attn2048 m →
    θ_run (Cert.Attn2048.defs (F := Bits)) (onTc (τ := Cert.Attn2048.τ) (Cert.Attn2048.main (F := Bits))) ⟨m, fun _ => 0, g⟩ (fun r => (∀ c : Dev Cert.Attn2048.nD,
      r.2.mem ((c.tc : Thread Cert.Attn2048.nD Cert.Attn2048.τ).loc Cert.Attn2048.main_arg0) = m ((c.tc : Thread Cert.Attn2048.nD Cert.Attn2048.τ).loc Cert.Attn2048.main_arg0)
      ∧ r.2.mem ((c.tc : Thread Cert.Attn2048.nD Cert.Attn2048.τ).loc Cert.Attn2048.main_arg1) = m ((c.tc : Thread Cert.Attn2048.nD Cert.Attn2048.τ).loc Cert.Attn2048.main_arg1)
      ∧ r.2.mem ((c.tc : Thread Cert.Attn2048.nD Cert.Attn2048.τ).loc Cert.Attn2048.main_arg2) = m ((c.tc : Thread Cert.Attn2048.nD Cert.Attn2048.τ).loc Cert.Attn2048.main_arg2)
      ∧ r.2.mem ((c.tc : Thread Cert.Attn2048.nD Cert.Attn2048.τ).loc Cert.Attn2048.main_arg3) = m ((c.tc : Thread Cert.Attn2048.nD Cert.Attn2048.τ).loc Cert.Attn2048.main_arg3))
      ∧ r.2.sem = fun _ => 0)

def quiescent_Attn2048Ideal [hAttn2048Ideal : Cert.Attn2048Ideal.Facts] : Prop :=
  ∀ (m : (ℓ : Loc Cert.Attn2048Ideal.nD Cert.Attn2048Ideal.τ Cert.Attn2048Ideal.sig) → Buf (Elt Ideal) ℓ) (g : Dev Cert.Attn2048Ideal.nD → PrngReg), Pre_Attn2048Ideal m →
    θ_run (Cert.Attn2048Ideal.defs (F := Ideal)) (onTc (τ := Cert.Attn2048Ideal.τ) (Cert.Attn2048Ideal.main (F := Ideal))) ⟨m, fun _ => 0, g⟩ (fun r => (∀ c : Dev Cert.Attn2048Ideal.nD,
      r.2.mem ((c.tc : Thread Cert.Attn2048Ideal.nD Cert.Attn2048Ideal.τ).loc Cert.Attn2048Ideal.main_arg0) = m ((c.tc : Thread Cert.Attn2048Ideal.nD Cert.Attn2048Ideal.τ).loc Cert.Attn2048Ideal.main_arg0)
      ∧ r.2.mem ((c.tc : Thread Cert.Attn2048Ideal.nD Cert.Attn2048Ideal.τ).loc Cert.Attn2048Ideal.main_arg1) = m ((c.tc : Thread Cert.Attn2048Ideal.nD Cert.Attn2048Ideal.τ).loc Cert.Attn2048Ideal.main_arg1)
      ∧ r.2.mem ((c.tc : Thread Cert.Attn2048Ideal.nD Cert.Attn2048Ideal.τ).loc Cert.Attn2048Ideal.main_arg2) = m ((c.tc : Thread Cert.Attn2048Ideal.nD Cert.Attn2048Ideal.τ).loc Cert.Attn2048Ideal.main_arg2)
      ∧ r.2.mem ((c.tc : Thread Cert.Attn2048Ideal.nD Cert.Attn2048Ideal.τ).loc Cert.Attn2048Ideal.main_arg3) = m ((c.tc : Thread Cert.Attn2048Ideal.nD Cert.Attn2048Ideal.τ).loc Cert.Attn2048Ideal.main_arg3))
      ∧ r.2.sem = fun _ => 0)

def quiescent_Attn2048Ideal_pre_attn_finite [hAttn2048Ideal : Cert.Attn2048Ideal.Facts] [hPre_attn_finite : Cert.Pre_attn_finite.Facts] : Prop :=
  ∀ (m : (ℓ : Loc Cert.Attn2048Ideal.nD Cert.Attn2048Ideal.τ Cert.Attn2048Ideal.sig) → Buf (Elt Ideal) ℓ) (g : Dev Cert.Attn2048Ideal.nD → PrngReg), Pre_Attn2048Ideal_attn_finite m →
    θ_run (Cert.Attn2048Ideal.defs (F := Ideal)) (onTc (τ := Cert.Attn2048Ideal.τ) (Cert.Attn2048Ideal.main (F := Ideal))) ⟨m, fun _ => 0, g⟩ (fun r => (∀ c : Dev Cert.Attn2048Ideal.nD,
      r.2.mem ((c.tc : Thread Cert.Attn2048Ideal.nD Cert.Attn2048Ideal.τ).loc Cert.Attn2048Ideal.main_arg0) = m ((c.tc : Thread Cert.Attn2048Ideal.nD Cert.Attn2048Ideal.τ).loc Cert.Attn2048Ideal.main_arg0)
      ∧ r.2.mem ((c.tc : Thread Cert.Attn2048Ideal.nD Cert.Attn2048Ideal.τ).loc Cert.Attn2048Ideal.main_arg1) = m ((c.tc : Thread Cert.Attn2048Ideal.nD Cert.Attn2048Ideal.τ).loc Cert.Attn2048Ideal.main_arg1)
      ∧ r.2.mem ((c.tc : Thread Cert.Attn2048Ideal.nD Cert.Attn2048Ideal.τ).loc Cert.Attn2048Ideal.main_arg2) = m ((c.tc : Thread Cert.Attn2048Ideal.nD Cert.Attn2048Ideal.τ).loc Cert.Attn2048Ideal.main_arg2)
      ∧ r.2.mem ((c.tc : Thread Cert.Attn2048Ideal.nD Cert.Attn2048Ideal.τ).loc Cert.Attn2048Ideal.main_arg3) = m ((c.tc : Thread Cert.Attn2048Ideal.nD Cert.Attn2048Ideal.τ).loc Cert.Attn2048Ideal.main_arg3))
      ∧ r.2.sem = fun _ => 0)

def quiescent_Attn2048RefIdeal [hAttn2048RefIdeal : Cert.Attn2048RefIdeal.Facts] : Prop :=
  ∀ (m : (ℓ : Loc Cert.Attn2048RefIdeal.nD Cert.Attn2048RefIdeal.τ Cert.Attn2048RefIdeal.sig) → Buf (Elt Ideal) ℓ) (g : Dev Cert.Attn2048RefIdeal.nD → PrngReg), Pre_Attn2048RefIdeal m →
    θ_run (Cert.Attn2048RefIdeal.defs (F := Ideal)) (onTc (τ := Cert.Attn2048RefIdeal.τ) (Cert.Attn2048RefIdeal.main (F := Ideal))) ⟨m, fun _ => 0, g⟩ (fun r => (∀ c : Dev Cert.Attn2048RefIdeal.nD,
      r.2.mem ((c.tc : Thread Cert.Attn2048RefIdeal.nD Cert.Attn2048RefIdeal.τ).loc Cert.Attn2048RefIdeal.main_arg0) = m ((c.tc : Thread Cert.Attn2048RefIdeal.nD Cert.Attn2048RefIdeal.τ).loc Cert.Attn2048RefIdeal.main_arg0)
      ∧ r.2.mem ((c.tc : Thread Cert.Attn2048RefIdeal.nD Cert.Attn2048RefIdeal.τ).loc Cert.Attn2048RefIdeal.main_arg1) = m ((c.tc : Thread Cert.Attn2048RefIdeal.nD Cert.Attn2048RefIdeal.τ).loc Cert.Attn2048RefIdeal.main_arg1)
      ∧ r.2.mem ((c.tc : Thread Cert.Attn2048RefIdeal.nD Cert.Attn2048RefIdeal.τ).loc Cert.Attn2048RefIdeal.main_arg2) = m ((c.tc : Thread Cert.Attn2048RefIdeal.nD Cert.Attn2048RefIdeal.τ).loc Cert.Attn2048RefIdeal.main_arg2)
      ∧ r.2.mem ((c.tc : Thread Cert.Attn2048RefIdeal.nD Cert.Attn2048RefIdeal.τ).loc Cert.Attn2048RefIdeal.main_arg3) = m ((c.tc : Thread Cert.Attn2048RefIdeal.nD Cert.Attn2048RefIdeal.τ).loc Cert.Attn2048RefIdeal.main_arg3))
      ∧ r.2.sem = fun _ => 0)

def quiescent_Attn2048RefIdeal_pre_attn_finite [hAttn2048RefIdeal : Cert.Attn2048RefIdeal.Facts] [hPre_attn_finite : Cert.Pre_attn_finite.Facts] : Prop :=
  ∀ (m : (ℓ : Loc Cert.Attn2048RefIdeal.nD Cert.Attn2048RefIdeal.τ Cert.Attn2048RefIdeal.sig) → Buf (Elt Ideal) ℓ) (g : Dev Cert.Attn2048RefIdeal.nD → PrngReg), Pre_Attn2048RefIdeal_attn_finite m →
    θ_run (Cert.Attn2048RefIdeal.defs (F := Ideal)) (onTc (τ := Cert.Attn2048RefIdeal.τ) (Cert.Attn2048RefIdeal.main (F := Ideal))) ⟨m, fun _ => 0, g⟩ (fun r => (∀ c : Dev Cert.Attn2048RefIdeal.nD,
      r.2.mem ((c.tc : Thread Cert.Attn2048RefIdeal.nD Cert.Attn2048RefIdeal.τ).loc Cert.Attn2048RefIdeal.main_arg0) = m ((c.tc : Thread Cert.Attn2048RefIdeal.nD Cert.Attn2048RefIdeal.τ).loc Cert.Attn2048RefIdeal.main_arg0)
      ∧ r.2.mem ((c.tc : Thread Cert.Attn2048RefIdeal.nD Cert.Attn2048RefIdeal.τ).loc Cert.Attn2048RefIdeal.main_arg1) = m ((c.tc : Thread Cert.Attn2048RefIdeal.nD Cert.Attn2048RefIdeal.τ).loc Cert.Attn2048RefIdeal.main_arg1)
      ∧ r.2.mem ((c.tc : Thread Cert.Attn2048RefIdeal.nD Cert.Attn2048RefIdeal.τ).loc Cert.Attn2048RefIdeal.main_arg2) = m ((c.tc : Thread Cert.Attn2048RefIdeal.nD Cert.Attn2048RefIdeal.τ).loc Cert.Attn2048RefIdeal.main_arg2)
      ∧ r.2.mem ((c.tc : Thread Cert.Attn2048RefIdeal.nD Cert.Attn2048RefIdeal.τ).loc Cert.Attn2048RefIdeal.main_arg3) = m ((c.tc : Thread Cert.Attn2048RefIdeal.nD Cert.Attn2048RefIdeal.τ).loc Cert.Attn2048RefIdeal.main_arg3))
      ∧ r.2.sem = fun _ => 0)

def quiescent_Attn512 [hAttn512 : Cert.Attn512.Facts] : Prop :=
  ∀ (m : (ℓ : Loc Cert.Attn512.nD Cert.Attn512.τ Cert.Attn512.sig) → Buf (Elt Bits) ℓ) (g : Dev Cert.Attn512.nD → PrngReg), Pre_Attn512 m →
    θ_run (Cert.Attn512.defs (F := Bits)) (onTc (τ := Cert.Attn512.τ) (Cert.Attn512.main (F := Bits))) ⟨m, fun _ => 0, g⟩ (fun r => (∀ c : Dev Cert.Attn512.nD,
      r.2.mem ((c.tc : Thread Cert.Attn512.nD Cert.Attn512.τ).loc Cert.Attn512.main_arg0) = m ((c.tc : Thread Cert.Attn512.nD Cert.Attn512.τ).loc Cert.Attn512.main_arg0)
      ∧ r.2.mem ((c.tc : Thread Cert.Attn512.nD Cert.Attn512.τ).loc Cert.Attn512.main_arg1) = m ((c.tc : Thread Cert.Attn512.nD Cert.Attn512.τ).loc Cert.Attn512.main_arg1)
      ∧ r.2.mem ((c.tc : Thread Cert.Attn512.nD Cert.Attn512.τ).loc Cert.Attn512.main_arg2) = m ((c.tc : Thread Cert.Attn512.nD Cert.Attn512.τ).loc Cert.Attn512.main_arg2)
      ∧ r.2.mem ((c.tc : Thread Cert.Attn512.nD Cert.Attn512.τ).loc Cert.Attn512.main_arg3) = m ((c.tc : Thread Cert.Attn512.nD Cert.Attn512.τ).loc Cert.Attn512.main_arg3))
      ∧ r.2.sem = fun _ => 0)

def quiescent_Attn512Ideal [hAttn512Ideal : Cert.Attn512Ideal.Facts] : Prop :=
  ∀ (m : (ℓ : Loc Cert.Attn512Ideal.nD Cert.Attn512Ideal.τ Cert.Attn512Ideal.sig) → Buf (Elt Ideal) ℓ) (g : Dev Cert.Attn512Ideal.nD → PrngReg), Pre_Attn512Ideal m →
    θ_run (Cert.Attn512Ideal.defs (F := Ideal)) (onTc (τ := Cert.Attn512Ideal.τ) (Cert.Attn512Ideal.main (F := Ideal))) ⟨m, fun _ => 0, g⟩ (fun r => (∀ c : Dev Cert.Attn512Ideal.nD,
      r.2.mem ((c.tc : Thread Cert.Attn512Ideal.nD Cert.Attn512Ideal.τ).loc Cert.Attn512Ideal.main_arg0) = m ((c.tc : Thread Cert.Attn512Ideal.nD Cert.Attn512Ideal.τ).loc Cert.Attn512Ideal.main_arg0)
      ∧ r.2.mem ((c.tc : Thread Cert.Attn512Ideal.nD Cert.Attn512Ideal.τ).loc Cert.Attn512Ideal.main_arg1) = m ((c.tc : Thread Cert.Attn512Ideal.nD Cert.Attn512Ideal.τ).loc Cert.Attn512Ideal.main_arg1)
      ∧ r.2.mem ((c.tc : Thread Cert.Attn512Ideal.nD Cert.Attn512Ideal.τ).loc Cert.Attn512Ideal.main_arg2) = m ((c.tc : Thread Cert.Attn512Ideal.nD Cert.Attn512Ideal.τ).loc Cert.Attn512Ideal.main_arg2)
      ∧ r.2.mem ((c.tc : Thread Cert.Attn512Ideal.nD Cert.Attn512Ideal.τ).loc Cert.Attn512Ideal.main_arg3) = m ((c.tc : Thread Cert.Attn512Ideal.nD Cert.Attn512Ideal.τ).loc Cert.Attn512Ideal.main_arg3))
      ∧ r.2.sem = fun _ => 0)

def quiescent_Attn512Ideal_pre_attn_finite [hAttn512Ideal : Cert.Attn512Ideal.Facts] [hPre_attn_finite : Cert.Pre_attn_finite.Facts] : Prop :=
  ∀ (m : (ℓ : Loc Cert.Attn512Ideal.nD Cert.Attn512Ideal.τ Cert.Attn512Ideal.sig) → Buf (Elt Ideal) ℓ) (g : Dev Cert.Attn512Ideal.nD → PrngReg), Pre_Attn512Ideal_attn_finite m →
    θ_run (Cert.Attn512Ideal.defs (F := Ideal)) (onTc (τ := Cert.Attn512Ideal.τ) (Cert.Attn512Ideal.main (F := Ideal))) ⟨m, fun _ => 0, g⟩ (fun r => (∀ c : Dev Cert.Attn512Ideal.nD,
      r.2.mem ((c.tc : Thread Cert.Attn512Ideal.nD Cert.Attn512Ideal.τ).loc Cert.Attn512Ideal.main_arg0) = m ((c.tc : Thread Cert.Attn512Ideal.nD Cert.Attn512Ideal.τ).loc Cert.Attn512Ideal.main_arg0)
      ∧ r.2.mem ((c.tc : Thread Cert.Attn512Ideal.nD Cert.Attn512Ideal.τ).loc Cert.Attn512Ideal.main_arg1) = m ((c.tc : Thread Cert.Attn512Ideal.nD Cert.Attn512Ideal.τ).loc Cert.Attn512Ideal.main_arg1)
      ∧ r.2.mem ((c.tc : Thread Cert.Attn512Ideal.nD Cert.Attn512Ideal.τ).loc Cert.Attn512Ideal.main_arg2) = m ((c.tc : Thread Cert.Attn512Ideal.nD Cert.Attn512Ideal.τ).loc Cert.Attn512Ideal.main_arg2)
      ∧ r.2.mem ((c.tc : Thread Cert.Attn512Ideal.nD Cert.Attn512Ideal.τ).loc Cert.Attn512Ideal.main_arg3) = m ((c.tc : Thread Cert.Attn512Ideal.nD Cert.Attn512Ideal.τ).loc Cert.Attn512Ideal.main_arg3))
      ∧ r.2.sem = fun _ => 0)

def quiescent_Attn512RefIdeal [hAttn512RefIdeal : Cert.Attn512RefIdeal.Facts] : Prop :=
  ∀ (m : (ℓ : Loc Cert.Attn512RefIdeal.nD Cert.Attn512RefIdeal.τ Cert.Attn512RefIdeal.sig) → Buf (Elt Ideal) ℓ) (g : Dev Cert.Attn512RefIdeal.nD → PrngReg), Pre_Attn512RefIdeal m →
    θ_run (Cert.Attn512RefIdeal.defs (F := Ideal)) (onTc (τ := Cert.Attn512RefIdeal.τ) (Cert.Attn512RefIdeal.main (F := Ideal))) ⟨m, fun _ => 0, g⟩ (fun r => (∀ c : Dev Cert.Attn512RefIdeal.nD,
      r.2.mem ((c.tc : Thread Cert.Attn512RefIdeal.nD Cert.Attn512RefIdeal.τ).loc Cert.Attn512RefIdeal.main_arg0) = m ((c.tc : Thread Cert.Attn512RefIdeal.nD Cert.Attn512RefIdeal.τ).loc Cert.Attn512RefIdeal.main_arg0)
      ∧ r.2.mem ((c.tc : Thread Cert.Attn512RefIdeal.nD Cert.Attn512RefIdeal.τ).loc Cert.Attn512RefIdeal.main_arg1) = m ((c.tc : Thread Cert.Attn512RefIdeal.nD Cert.Attn512RefIdeal.τ).loc Cert.Attn512RefIdeal.main_arg1)
      ∧ r.2.mem ((c.tc : Thread Cert.Attn512RefIdeal.nD Cert.Attn512RefIdeal.τ).loc Cert.Attn512RefIdeal.main_arg2) = m ((c.tc : Thread Cert.Attn512RefIdeal.nD Cert.Attn512RefIdeal.τ).loc Cert.Attn512RefIdeal.main_arg2)
      ∧ r.2.mem ((c.tc : Thread Cert.Attn512RefIdeal.nD Cert.Attn512RefIdeal.τ).loc Cert.Attn512RefIdeal.main_arg3) = m ((c.tc : Thread Cert.Attn512RefIdeal.nD Cert.Attn512RefIdeal.τ).loc Cert.Attn512RefIdeal.main_arg3))
      ∧ r.2.sem = fun _ => 0)

def quiescent_Attn512RefIdeal_pre_attn_finite [hAttn512RefIdeal : Cert.Attn512RefIdeal.Facts] [hPre_attn_finite : Cert.Pre_attn_finite.Facts] : Prop :=
  ∀ (m : (ℓ : Loc Cert.Attn512RefIdeal.nD Cert.Attn512RefIdeal.τ Cert.Attn512RefIdeal.sig) → Buf (Elt Ideal) ℓ) (g : Dev Cert.Attn512RefIdeal.nD → PrngReg), Pre_Attn512RefIdeal_attn_finite m →
    θ_run (Cert.Attn512RefIdeal.defs (F := Ideal)) (onTc (τ := Cert.Attn512RefIdeal.τ) (Cert.Attn512RefIdeal.main (F := Ideal))) ⟨m, fun _ => 0, g⟩ (fun r => (∀ c : Dev Cert.Attn512RefIdeal.nD,
      r.2.mem ((c.tc : Thread Cert.Attn512RefIdeal.nD Cert.Attn512RefIdeal.τ).loc Cert.Attn512RefIdeal.main_arg0) = m ((c.tc : Thread Cert.Attn512RefIdeal.nD Cert.Attn512RefIdeal.τ).loc Cert.Attn512RefIdeal.main_arg0)
      ∧ r.2.mem ((c.tc : Thread Cert.Attn512RefIdeal.nD Cert.Attn512RefIdeal.τ).loc Cert.Attn512RefIdeal.main_arg1) = m ((c.tc : Thread Cert.Attn512RefIdeal.nD Cert.Attn512RefIdeal.τ).loc Cert.Attn512RefIdeal.main_arg1)
      ∧ r.2.mem ((c.tc : Thread Cert.Attn512RefIdeal.nD Cert.Attn512RefIdeal.τ).loc Cert.Attn512RefIdeal.main_arg2) = m ((c.tc : Thread Cert.Attn512RefIdeal.nD Cert.Attn512RefIdeal.τ).loc Cert.Attn512RefIdeal.main_arg2)
      ∧ r.2.mem ((c.tc : Thread Cert.Attn512RefIdeal.nD Cert.Attn512RefIdeal.τ).loc Cert.Attn512RefIdeal.main_arg3) = m ((c.tc : Thread Cert.Attn512RefIdeal.nD Cert.Attn512RefIdeal.τ).loc Cert.Attn512RefIdeal.main_arg3))
      ∧ r.2.sem = fun _ => 0)

def quiescent_Attn128 [hAttn128 : Cert.Attn128.Facts] : Prop :=
  ∀ (m : (ℓ : Loc Cert.Attn128.nD Cert.Attn128.τ Cert.Attn128.sig) → Buf (Elt Bits) ℓ) (g : Dev Cert.Attn128.nD → PrngReg), Pre_Attn128 m →
    θ_run (Cert.Attn128.defs (F := Bits)) (onTc (τ := Cert.Attn128.τ) (Cert.Attn128.main (F := Bits))) ⟨m, fun _ => 0, g⟩ (fun r => (∀ c : Dev Cert.Attn128.nD,
      r.2.mem ((c.tc : Thread Cert.Attn128.nD Cert.Attn128.τ).loc Cert.Attn128.main_arg0) = m ((c.tc : Thread Cert.Attn128.nD Cert.Attn128.τ).loc Cert.Attn128.main_arg0)
      ∧ r.2.mem ((c.tc : Thread Cert.Attn128.nD Cert.Attn128.τ).loc Cert.Attn128.main_arg1) = m ((c.tc : Thread Cert.Attn128.nD Cert.Attn128.τ).loc Cert.Attn128.main_arg1)
      ∧ r.2.mem ((c.tc : Thread Cert.Attn128.nD Cert.Attn128.τ).loc Cert.Attn128.main_arg2) = m ((c.tc : Thread Cert.Attn128.nD Cert.Attn128.τ).loc Cert.Attn128.main_arg2)
      ∧ r.2.mem ((c.tc : Thread Cert.Attn128.nD Cert.Attn128.τ).loc Cert.Attn128.main_arg3) = m ((c.tc : Thread Cert.Attn128.nD Cert.Attn128.τ).loc Cert.Attn128.main_arg3))
      ∧ r.2.sem = fun _ => 0)

def quiescent_Attn128Ideal [hAttn128Ideal : Cert.Attn128Ideal.Facts] : Prop :=
  ∀ (m : (ℓ : Loc Cert.Attn128Ideal.nD Cert.Attn128Ideal.τ Cert.Attn128Ideal.sig) → Buf (Elt Ideal) ℓ) (g : Dev Cert.Attn128Ideal.nD → PrngReg), Pre_Attn128Ideal m →
    θ_run (Cert.Attn128Ideal.defs (F := Ideal)) (onTc (τ := Cert.Attn128Ideal.τ) (Cert.Attn128Ideal.main (F := Ideal))) ⟨m, fun _ => 0, g⟩ (fun r => (∀ c : Dev Cert.Attn128Ideal.nD,
      r.2.mem ((c.tc : Thread Cert.Attn128Ideal.nD Cert.Attn128Ideal.τ).loc Cert.Attn128Ideal.main_arg0) = m ((c.tc : Thread Cert.Attn128Ideal.nD Cert.Attn128Ideal.τ).loc Cert.Attn128Ideal.main_arg0)
      ∧ r.2.mem ((c.tc : Thread Cert.Attn128Ideal.nD Cert.Attn128Ideal.τ).loc Cert.Attn128Ideal.main_arg1) = m ((c.tc : Thread Cert.Attn128Ideal.nD Cert.Attn128Ideal.τ).loc Cert.Attn128Ideal.main_arg1)
      ∧ r.2.mem ((c.tc : Thread Cert.Attn128Ideal.nD Cert.Attn128Ideal.τ).loc Cert.Attn128Ideal.main_arg2) = m ((c.tc : Thread Cert.Attn128Ideal.nD Cert.Attn128Ideal.τ).loc Cert.Attn128Ideal.main_arg2)
      ∧ r.2.mem ((c.tc : Thread Cert.Attn128Ideal.nD Cert.Attn128Ideal.τ).loc Cert.Attn128Ideal.main_arg3) = m ((c.tc : Thread Cert.Attn128Ideal.nD Cert.Attn128Ideal.τ).loc Cert.Attn128Ideal.main_arg3))
      ∧ r.2.sem = fun _ => 0)

def quiescent_Attn128Ideal_pre_attn_finite [hAttn128Ideal : Cert.Attn128Ideal.Facts] [hPre_attn_finite : Cert.Pre_attn_finite.Facts] : Prop :=
  ∀ (m : (ℓ : Loc Cert.Attn128Ideal.nD Cert.Attn128Ideal.τ Cert.Attn128Ideal.sig) → Buf (Elt Ideal) ℓ) (g : Dev Cert.Attn128Ideal.nD → PrngReg), Pre_Attn128Ideal_attn_finite m →
    θ_run (Cert.Attn128Ideal.defs (F := Ideal)) (onTc (τ := Cert.Attn128Ideal.τ) (Cert.Attn128Ideal.main (F := Ideal))) ⟨m, fun _ => 0, g⟩ (fun r => (∀ c : Dev Cert.Attn128Ideal.nD,
      r.2.mem ((c.tc : Thread Cert.Attn128Ideal.nD Cert.Attn128Ideal.τ).loc Cert.Attn128Ideal.main_arg0) = m ((c.tc : Thread Cert.Attn128Ideal.nD Cert.Attn128Ideal.τ).loc Cert.Attn128Ideal.main_arg0)
      ∧ r.2.mem ((c.tc : Thread Cert.Attn128Ideal.nD Cert.Attn128Ideal.τ).loc Cert.Attn128Ideal.main_arg1) = m ((c.tc : Thread Cert.Attn128Ideal.nD Cert.Attn128Ideal.τ).loc Cert.Attn128Ideal.main_arg1)
      ∧ r.2.mem ((c.tc : Thread Cert.Attn128Ideal.nD Cert.Attn128Ideal.τ).loc Cert.Attn128Ideal.main_arg2) = m ((c.tc : Thread Cert.Attn128Ideal.nD Cert.Attn128Ideal.τ).loc Cert.Attn128Ideal.main_arg2)
      ∧ r.2.mem ((c.tc : Thread Cert.Attn128Ideal.nD Cert.Attn128Ideal.τ).loc Cert.Attn128Ideal.main_arg3) = m ((c.tc : Thread Cert.Attn128Ideal.nD Cert.Attn128Ideal.τ).loc Cert.Attn128Ideal.main_arg3))
      ∧ r.2.sem = fun _ => 0)

def quiescent_Attn128RefIdeal [hAttn128RefIdeal : Cert.Attn128RefIdeal.Facts] : Prop :=
  ∀ (m : (ℓ : Loc Cert.Attn128RefIdeal.nD Cert.Attn128RefIdeal.τ Cert.Attn128RefIdeal.sig) → Buf (Elt Ideal) ℓ) (g : Dev Cert.Attn128RefIdeal.nD → PrngReg), Pre_Attn128RefIdeal m →
    θ_run (Cert.Attn128RefIdeal.defs (F := Ideal)) (onTc (τ := Cert.Attn128RefIdeal.τ) (Cert.Attn128RefIdeal.main (F := Ideal))) ⟨m, fun _ => 0, g⟩ (fun r => (∀ c : Dev Cert.Attn128RefIdeal.nD,
      r.2.mem ((c.tc : Thread Cert.Attn128RefIdeal.nD Cert.Attn128RefIdeal.τ).loc Cert.Attn128RefIdeal.main_arg0) = m ((c.tc : Thread Cert.Attn128RefIdeal.nD Cert.Attn128RefIdeal.τ).loc Cert.Attn128RefIdeal.main_arg0)
      ∧ r.2.mem ((c.tc : Thread Cert.Attn128RefIdeal.nD Cert.Attn128RefIdeal.τ).loc Cert.Attn128RefIdeal.main_arg1) = m ((c.tc : Thread Cert.Attn128RefIdeal.nD Cert.Attn128RefIdeal.τ).loc Cert.Attn128RefIdeal.main_arg1)
      ∧ r.2.mem ((c.tc : Thread Cert.Attn128RefIdeal.nD Cert.Attn128RefIdeal.τ).loc Cert.Attn128RefIdeal.main_arg2) = m ((c.tc : Thread Cert.Attn128RefIdeal.nD Cert.Attn128RefIdeal.τ).loc Cert.Attn128RefIdeal.main_arg2)
      ∧ r.2.mem ((c.tc : Thread Cert.Attn128RefIdeal.nD Cert.Attn128RefIdeal.τ).loc Cert.Attn128RefIdeal.main_arg3) = m ((c.tc : Thread Cert.Attn128RefIdeal.nD Cert.Attn128RefIdeal.τ).loc Cert.Attn128RefIdeal.main_arg3))
      ∧ r.2.sem = fun _ => 0)

def quiescent_Attn128RefIdeal_pre_attn_finite [hAttn128RefIdeal : Cert.Attn128RefIdeal.Facts] [hPre_attn_finite : Cert.Pre_attn_finite.Facts] : Prop :=
  ∀ (m : (ℓ : Loc Cert.Attn128RefIdeal.nD Cert.Attn128RefIdeal.τ Cert.Attn128RefIdeal.sig) → Buf (Elt Ideal) ℓ) (g : Dev Cert.Attn128RefIdeal.nD → PrngReg), Pre_Attn128RefIdeal_attn_finite m →
    θ_run (Cert.Attn128RefIdeal.defs (F := Ideal)) (onTc (τ := Cert.Attn128RefIdeal.τ) (Cert.Attn128RefIdeal.main (F := Ideal))) ⟨m, fun _ => 0, g⟩ (fun r => (∀ c : Dev Cert.Attn128RefIdeal.nD,
      r.2.mem ((c.tc : Thread Cert.Attn128RefIdeal.nD Cert.Attn128RefIdeal.τ).loc Cert.Attn128RefIdeal.main_arg0) = m ((c.tc : Thread Cert.Attn128RefIdeal.nD Cert.Attn128RefIdeal.τ).loc Cert.Attn128RefIdeal.main_arg0)
      ∧ r.2.mem ((c.tc : Thread Cert.Attn128RefIdeal.nD Cert.Attn128RefIdeal.τ).loc Cert.Attn128RefIdeal.main_arg1) = m ((c.tc : Thread Cert.Attn128RefIdeal.nD Cert.Attn128RefIdeal.τ).loc Cert.Attn128RefIdeal.main_arg1)
      ∧ r.2.mem ((c.tc : Thread Cert.Attn128RefIdeal.nD Cert.Attn128RefIdeal.τ).loc Cert.Attn128RefIdeal.main_arg2) = m ((c.tc : Thread Cert.Attn128RefIdeal.nD Cert.Attn128RefIdeal.τ).loc Cert.Attn128RefIdeal.main_arg2)
      ∧ r.2.mem ((c.tc : Thread Cert.Attn128RefIdeal.nD Cert.Attn128RefIdeal.τ).loc Cert.Attn128RefIdeal.main_arg3) = m ((c.tc : Thread Cert.Attn128RefIdeal.nD Cert.Attn128RefIdeal.τ).loc Cert.Attn128RefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4)
      ∧ r.2.mem ((c.tc : Thread Cert.FfnW.nD Cert.FfnW.τ).loc Cert.FfnW.main_arg5) = m ((c.tc : Thread Cert.FfnW.nD Cert.FfnW.τ).loc Cert.FfnW.main_arg5))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
      ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3)
      ∧ r.2.mem ((c.tc : Thread Cert.FfnWRefIdeal.nD Cert.FfnWRefIdeal.τ).loc Cert.FfnWRefIdeal.main_arg4) = m ((c.tc : Thread Cert.FfnWRefIdeal.nD Cert.FfnWRefIdeal.τ).loc Cert.FfnWRefIdeal.main_arg4)
      ∧ r.2.mem ((c.tc : Thread Cert.FfnWRefIdeal.nD Cert.FfnWRefIdeal.τ).loc Cert.FfnWRefIdeal.main_arg5) = m ((c.tc : Thread Cert.FfnWRefIdeal.nD Cert.FfnWRefIdeal.τ).loc Cert.FfnWRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10)
      ∧ r.2.mem ((c.tc : Thread Cert.MixIn.nD Cert.MixIn.τ).loc Cert.MixIn.main_arg11) = m ((c.tc : Thread Cert.MixIn.nD Cert.MixIn.τ).loc Cert.MixIn.main_arg11)
      ∧ r.2.mem ((c.tc : Thread Cert.MixIn.nD Cert.MixIn.τ).loc Cert.MixIn.main_arg12) = m ((c.tc : Thread Cert.MixIn.nD Cert.MixIn.τ).loc Cert.MixIn.main_arg12)
      ∧ r.2.mem ((c.tc : Thread Cert.MixIn.nD Cert.MixIn.τ).loc Cert.MixIn.main_arg13) = m ((c.tc : Thread Cert.MixIn.nD Cert.MixIn.τ).loc Cert.MixIn.main_arg13)
      ∧ r.2.mem ((c.tc : Thread Cert.MixIn.nD Cert.MixIn.τ).loc Cert.MixIn.main_arg14) = m ((c.tc : Thread Cert.MixIn.nD Cert.MixIn.τ).loc Cert.MixIn.main_arg14)
      ∧ r.2.mem ((c.tc : Thread Cert.MixIn.nD Cert.MixIn.τ).loc Cert.MixIn.main_arg15) = m ((c.tc : Thread Cert.MixIn.nD Cert.MixIn.τ).loc Cert.MixIn.main_arg15)
      ∧ r.2.mem ((c.tc : Thread Cert.MixIn.nD Cert.MixIn.τ).loc Cert.MixIn.main_arg16) = m ((c.tc : Thread Cert.MixIn.nD Cert.MixIn.τ).loc Cert.MixIn.main_arg16))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11)
      ∧ r.2.mem ((c.tc : Thread Cert.MixInIdeal.nD Cert.MixInIdeal.τ).loc Cert.MixInIdeal.main_arg12) = m ((c.tc : Thread Cert.MixInIdeal.nD Cert.MixInIdeal.τ).loc Cert.MixInIdeal.main_arg12)
      ∧ r.2.mem ((c.tc : Thread Cert.MixInIdeal.nD Cert.MixInIdeal.τ).loc Cert.MixInIdeal.main_arg13) = m ((c.tc : Thread Cert.MixInIdeal.nD Cert.MixInIdeal.τ).loc Cert.MixInIdeal.main_arg13)
      ∧ r.2.mem ((c.tc : Thread Cert.MixInIdeal.nD Cert.MixInIdeal.τ).loc Cert.MixInIdeal.main_arg14) = m ((c.tc : Thread Cert.MixInIdeal.nD Cert.MixInIdeal.τ).loc Cert.MixInIdeal.main_arg14)
      ∧ r.2.mem ((c.tc : Thread Cert.MixInIdeal.nD Cert.MixInIdeal.τ).loc Cert.MixInIdeal.main_arg15) = m ((c.tc : Thread Cert.MixInIdeal.nD Cert.MixInIdeal.τ).loc Cert.MixInIdeal.main_arg15)
      ∧ r.2.mem ((c.tc : Thread Cert.MixInIdeal.nD Cert.MixInIdeal.τ).loc Cert.MixInIdeal.main_arg16) = m ((c.tc : Thread Cert.MixInIdeal.nD Cert.MixInIdeal.τ).loc Cert.MixInIdeal.main_arg16))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn2048_Attn2048Ideal : Prop :=
  IdealRules.named_const.Statement Cert.Attn2048Ideal.κ "mask" .f32 0xF149F2CA#32 ⊥

def algebraic_Attn2048Ideal_Attn2048RefIdeal_pre_attn_finite [hAttn2048Ideal : Cert.Attn2048Ideal.Facts] [hAttn2048RefIdeal : Cert.Attn2048RefIdeal.Facts] [hPre_attn_finite : Cert.Pre_attn_finite.Facts] : Prop :=
  ∀ (m : (ℓ : Loc Cert.Attn2048Ideal.nD Cert.Attn2048Ideal.τ Cert.Attn2048Ideal.sig) → Buf (Elt Ideal) ℓ) (g : Dev Cert.Attn2048Ideal.nD → PrngReg)
    (m' : (ℓ : Loc Cert.Attn2048RefIdeal.nD Cert.Attn2048RefIdeal.τ Cert.Attn2048RefIdeal.sig) → Buf (Elt Ideal) ℓ) (g' : Dev Cert.Attn2048RefIdeal.nD → PrngReg), Pre_Attn2048Ideal_attn_finite m →
    (∀ c : Dev Cert.Attn2048Ideal.nD,
      m' ((c.tc : Thread Cert.Attn2048RefIdeal.nD Cert.Attn2048RefIdeal.τ).loc Cert.Attn2048RefIdeal.main_arg0) = m ((c.tc : Thread Cert.Attn2048Ideal.nD Cert.Attn2048Ideal.τ).loc Cert.Attn2048Ideal.main_arg0)
      ∧ m' ((c.tc : Thread Cert.Attn2048RefIdeal.nD Cert.Attn2048RefIdeal.τ).loc Cert.Attn2048RefIdeal.main_arg1) = m ((c.tc : Thread Cert.Attn2048Ideal.nD Cert.Attn2048Ideal.τ).loc Cert.Attn2048Ideal.main_arg1)
      ∧ m' ((c.tc : Thread Cert.Attn2048RefIdeal.nD Cert.Attn2048RefIdeal.τ).loc Cert.Attn2048RefIdeal.main_arg2) = m ((c.tc : Thread Cert.Attn2048Ideal.nD Cert.Attn2048Ideal.τ).loc Cert.Attn2048Ideal.main_arg2)
      ∧ m' ((c.tc : Thread Cert.Attn2048RefIdeal.nD Cert.Attn2048RefIdeal.τ).loc Cert.Attn2048RefIdeal.main_arg3) = m ((c.tc : Thread Cert.Attn2048Ideal.nD Cert.Attn2048Ideal.τ).loc Cert.Attn2048Ideal.main_arg3)) →
    ∃ (v0 : (c : Dev Cert.Attn2048Ideal.nD) → Buf (Elt Ideal) ((c.tc : Thread Cert.Attn2048Ideal.nD Cert.Attn2048Ideal.τ).loc Cert.Attn2048Ideal.main_v117_0)) (v1 : (c : Dev Cert.Attn2048Ideal.nD) → Buf (Elt Ideal) ((c.tc : Thread Cert.Attn2048Ideal.nD Cert.Attn2048Ideal.τ).loc Cert.Attn2048Ideal.main_v117_1)) (v2 : (c : Dev Cert.Attn2048Ideal.nD) → Buf (Elt Ideal) ((c.tc : Thread Cert.Attn2048Ideal.nD Cert.Attn2048Ideal.τ).loc Cert.Attn2048Ideal.main_v117_2)),
      θ_run (Cert.Attn2048Ideal.defs (F := Ideal)) (onTc (τ := Cert.Attn2048Ideal.τ) (Cert.Attn2048Ideal.main (F := Ideal))) ⟨m, fun _ => 0, g⟩ (fun r => ∀ c : Dev Cert.Attn2048Ideal.nD,
          r.2.mem ((c.tc : Thread Cert.Attn2048Ideal.nD Cert.Attn2048Ideal.τ).loc Cert.Attn2048Ideal.main_v117_0) = v0 c
          ∧ r.2.mem ((c.tc : Thread Cert.Attn2048Ideal.nD Cert.Attn2048Ideal.τ).loc Cert.Attn2048Ideal.main_v117_1) = v1 c
          ∧ r.2.mem ((c.tc : Thread Cert.Attn2048Ideal.nD Cert.Attn2048Ideal.τ).loc Cert.Attn2048Ideal.main_v117_2) = v2 c
          ∧ r.2.mem ((c.tc : Thread Cert.Attn2048Ideal.nD Cert.Attn2048Ideal.τ).loc Cert.Attn2048Ideal.main_arg0) = m ((c.tc : Thread Cert.Attn2048Ideal.nD Cert.Attn2048Ideal.τ).loc Cert.Attn2048Ideal.main_arg0)
          ∧ r.2.mem ((c.tc : Thread Cert.Attn2048Ideal.nD Cert.Attn2048Ideal.τ).loc Cert.Attn2048Ideal.main_arg1) = m ((c.tc : Thread Cert.Attn2048Ideal.nD Cert.Attn2048Ideal.τ).loc Cert.Attn2048Ideal.main_arg1)
          ∧ r.2.mem ((c.tc : Thread Cert.Attn2048Ideal.nD Cert.Attn2048Ideal.τ).loc Cert.Attn2048Ideal.main_arg2) = m ((c.tc : Thread Cert.Attn2048Ideal.nD Cert.Attn2048Ideal.τ).loc Cert.Attn2048Ideal.main_arg2)
          ∧ r.2.mem ((c.tc : Thread Cert.Attn2048Ideal.nD Cert.Attn2048Ideal.τ).loc Cert.Attn2048Ideal.main_arg3) = m ((c.tc : Thread Cert.Attn2048Ideal.nD Cert.Attn2048Ideal.τ).loc Cert.Attn2048Ideal.main_arg3))
      ∧ θ_run (Cert.Attn2048RefIdeal.defs (F := Ideal)) (onTc (τ := Cert.Attn2048RefIdeal.τ) (Cert.Attn2048RefIdeal.main (F := Ideal))) ⟨m', fun _ => 0, g'⟩ (fun r => ∀ c : Dev Cert.Attn2048RefIdeal.nD,
          r.2.mem ((c.tc : Thread Cert.Attn2048RefIdeal.nD Cert.Attn2048RefIdeal.τ).loc Cert.Attn2048RefIdeal.main_v161) = v0 c
          ∧ r.2.mem ((c.tc : Thread Cert.Attn2048RefIdeal.nD Cert.Attn2048RefIdeal.τ).loc Cert.Attn2048RefIdeal.main_v168) = v1 c
          ∧ r.2.mem ((c.tc : Thread Cert.Attn2048RefIdeal.nD Cert.Attn2048RefIdeal.τ).loc Cert.Attn2048RefIdeal.main_v175) = v2 c
          ∧ r.2.mem ((c.tc : Thread Cert.Attn2048RefIdeal.nD Cert.Attn2048RefIdeal.τ).loc Cert.Attn2048RefIdeal.main_arg0) = m' ((c.tc : Thread Cert.Attn2048RefIdeal.nD Cert.Attn2048RefIdeal.τ).loc Cert.Attn2048RefIdeal.main_arg0)
          ∧ r.2.mem ((c.tc : Thread Cert.Attn2048RefIdeal.nD Cert.Attn2048RefIdeal.τ).loc Cert.Attn2048RefIdeal.main_arg1) = m' ((c.tc : Thread Cert.Attn2048RefIdeal.nD Cert.Attn2048RefIdeal.τ).loc Cert.Attn2048RefIdeal.main_arg1)
          ∧ r.2.mem ((c.tc : Thread Cert.Attn2048RefIdeal.nD Cert.Attn2048RefIdeal.τ).loc Cert.Attn2048RefIdeal.main_arg2) = m' ((c.tc : Thread Cert.Attn2048RefIdeal.nD Cert.Attn2048RefIdeal.τ).loc Cert.Attn2048RefIdeal.main_arg2)
          ∧ r.2.mem ((c.tc : Thread Cert.Attn2048RefIdeal.nD Cert.Attn2048RefIdeal.τ).loc Cert.Attn2048RefIdeal.main_arg3) = m' ((c.tc : Thread Cert.Attn2048RefIdeal.nD Cert.Attn2048RefIdeal.τ).loc Cert.Attn2048RefIdeal.main_arg3))

def preserves_Attn512_Attn512Ideal : Prop :=
  IdealRules.named_const.Statement Cert.Attn512Ideal.κ "mask" .f32 0xF149F2CA#32 ⊥

def algebraic_Attn512Ideal_Attn512RefIdeal_pre_attn_finite [hAttn512Ideal : Cert.Attn512Ideal.Facts] [hAttn512RefIdeal : Cert.Attn512RefIdeal.Facts] [hPre_attn_finite : Cert.Pre_attn_finite.Facts] : Prop :=
  ∀ (m : (ℓ : Loc Cert.Attn512Ideal.nD Cert.Attn512Ideal.τ Cert.Attn512Ideal.sig) → Buf (Elt Ideal) ℓ) (g : Dev Cert.Attn512Ideal.nD → PrngReg)
    (m' : (ℓ : Loc Cert.Attn512RefIdeal.nD Cert.Attn512RefIdeal.τ Cert.Attn512RefIdeal.sig) → Buf (Elt Ideal) ℓ) (g' : Dev Cert.Attn512RefIdeal.nD → PrngReg), Pre_Attn512Ideal_attn_finite m →
    (∀ c : Dev Cert.Attn512Ideal.nD,
      m' ((c.tc : Thread Cert.Attn512RefIdeal.nD Cert.Attn512RefIdeal.τ).loc Cert.Attn512RefIdeal.main_arg0) = m ((c.tc : Thread Cert.Attn512Ideal.nD Cert.Attn512Ideal.τ).loc Cert.Attn512Ideal.main_arg0)
      ∧ m' ((c.tc : Thread Cert.Attn512RefIdeal.nD Cert.Attn512RefIdeal.τ).loc Cert.Attn512RefIdeal.main_arg1) = m ((c.tc : Thread Cert.Attn512Ideal.nD Cert.Attn512Ideal.τ).loc Cert.Attn512Ideal.main_arg1)
      ∧ m' ((c.tc : Thread Cert.Attn512RefIdeal.nD Cert.Attn512RefIdeal.τ).loc Cert.Attn512RefIdeal.main_arg2) = m ((c.tc : Thread Cert.Attn512Ideal.nD Cert.Attn512Ideal.τ).loc Cert.Attn512Ideal.main_arg2)
      ∧ m' ((c.tc : Thread Cert.Attn512RefIdeal.nD Cert.Attn512RefIdeal.τ).loc Cert.Attn512RefIdeal.main_arg3) = m ((c.tc : Thread Cert.Attn512Ideal.nD Cert.Attn512Ideal.τ).loc Cert.Attn512Ideal.main_arg3)) →
    ∃ (v0 : (c : Dev Cert.Attn512Ideal.nD) → Buf (Elt Ideal) ((c.tc : Thread Cert.Attn512Ideal.nD Cert.Attn512Ideal.τ).loc Cert.Attn512Ideal.main_v117_0)) (v1 : (c : Dev Cert.Attn512Ideal.nD) → Buf (Elt Ideal) ((c.tc : Thread Cert.Attn512Ideal.nD Cert.Attn512Ideal.τ).loc Cert.Attn512Ideal.main_v117_1)) (v2 : (c : Dev Cert.Attn512Ideal.nD) → Buf (Elt Ideal) ((c.tc : Thread Cert.Attn512Ideal.nD Cert.Attn512Ideal.τ).loc Cert.Attn512Ideal.main_v117_2)),
      θ_run (Cert.Attn512Ideal.defs (F := Ideal)) (onTc (τ := Cert.Attn512Ideal.τ) (Cert.Attn512Ideal.main (F := Ideal))) ⟨m, fun _ => 0, g⟩ (fun r => ∀ c : Dev Cert.Attn512Ideal.nD,
          r.2.mem ((c.tc : Thread Cert.Attn512Ideal.nD Cert.Attn512Ideal.τ).loc Cert.Attn512Ideal.main_v117_0) = v0 c
          ∧ r.2.mem ((c.tc : Thread Cert.Attn512Ideal.nD Cert.Attn512Ideal.τ).loc Cert.Attn512Ideal.main_v117_1) = v1 c
          ∧ r.2.mem ((c.tc : Thread Cert.Attn512Ideal.nD Cert.Attn512Ideal.τ).loc Cert.Attn512Ideal.main_v117_2) = v2 c
          ∧ r.2.mem ((c.tc : Thread Cert.Attn512Ideal.nD Cert.Attn512Ideal.τ).loc Cert.Attn512Ideal.main_arg0) = m ((c.tc : Thread Cert.Attn512Ideal.nD Cert.Attn512Ideal.τ).loc Cert.Attn512Ideal.main_arg0)
          ∧ r.2.mem ((c.tc : Thread Cert.Attn512Ideal.nD Cert.Attn512Ideal.τ).loc Cert.Attn512Ideal.main_arg1) = m ((c.tc : Thread Cert.Attn512Ideal.nD Cert.Attn512Ideal.τ).loc Cert.Attn512Ideal.main_arg1)
          ∧ r.2.mem ((c.tc : Thread Cert.Attn512Ideal.nD Cert.Attn512Ideal.τ).loc Cert.Attn512Ideal.main_arg2) = m ((c.tc : Thread Cert.Attn512Ideal.nD Cert.Attn512Ideal.τ).loc Cert.Attn512Ideal.main_arg2)
          ∧ r.2.mem ((c.tc : Thread Cert.Attn512Ideal.nD Cert.Attn512Ideal.τ).loc Cert.Attn512Ideal.main_arg3) = m ((c.tc : Thread Cert.Attn512Ideal.nD Cert.Attn512Ideal.τ).loc Cert.Attn512Ideal.main_arg3))
      ∧ θ_run (Cert.Attn512RefIdeal.defs (F := Ideal)) (onTc (τ := Cert.Attn512RefIdeal.τ) (Cert.Attn512RefIdeal.main (F := Ideal))) ⟨m', fun _ => 0, g'⟩ (fun r => ∀ c : Dev Cert.Attn512RefIdeal.nD,
          r.2.mem ((c.tc : Thread Cert.Attn512RefIdeal.nD Cert.Attn512RefIdeal.τ).loc Cert.Attn512RefIdeal.main_v161) = v0 c
          ∧ r.2.mem ((c.tc : Thread Cert.Attn512RefIdeal.nD Cert.Attn512RefIdeal.τ).loc Cert.Attn512RefIdeal.main_v168) = v1 c
          ∧ r.2.mem ((c.tc : Thread Cert.Attn512RefIdeal.nD Cert.Attn512RefIdeal.τ).loc Cert.Attn512RefIdeal.main_v175) = v2 c
          ∧ r.2.mem ((c.tc : Thread Cert.Attn512RefIdeal.nD Cert.Attn512RefIdeal.τ).loc Cert.Attn512RefIdeal.main_arg0) = m' ((c.tc : Thread Cert.Attn512RefIdeal.nD Cert.Attn512RefIdeal.τ).loc Cert.Attn512RefIdeal.main_arg0)
          ∧ r.2.mem ((c.tc : Thread Cert.Attn512RefIdeal.nD Cert.Attn512RefIdeal.τ).loc Cert.Attn512RefIdeal.main_arg1) = m' ((c.tc : Thread Cert.Attn512RefIdeal.nD Cert.Attn512RefIdeal.τ).loc Cert.Attn512RefIdeal.main_arg1)
          ∧ r.2.mem ((c.tc : Thread Cert.Attn512RefIdeal.nD Cert.Attn512RefIdeal.τ).loc Cert.Attn512RefIdeal.main_arg2) = m' ((c.tc : Thread Cert.Attn512RefIdeal.nD Cert.Attn512RefIdeal.τ).loc Cert.Attn512RefIdeal.main_arg2)
          ∧ r.2.mem ((c.tc : Thread Cert.Attn512RefIdeal.nD Cert.Attn512RefIdeal.τ).loc Cert.Attn512RefIdeal.main_arg3) = m' ((c.tc : Thread Cert.Attn512RefIdeal.nD Cert.Attn512RefIdeal.τ).loc Cert.Attn512RefIdeal.main_arg3))

def preserves_Attn128_Attn128Ideal : Prop :=
  IdealRules.named_const.Statement Cert.Attn128Ideal.κ "mask" .f32 0xF149F2CA#32 ⊥

def algebraic_Attn128Ideal_Attn128RefIdeal_pre_attn_finite [hAttn128Ideal : Cert.Attn128Ideal.Facts] [hAttn128RefIdeal : Cert.Attn128RefIdeal.Facts] [hPre_attn_finite : Cert.Pre_attn_finite.Facts] : Prop :=
  ∀ (m : (ℓ : Loc Cert.Attn128Ideal.nD Cert.Attn128Ideal.τ Cert.Attn128Ideal.sig) → Buf (Elt Ideal) ℓ) (g : Dev Cert.Attn128Ideal.nD → PrngReg)
    (m' : (ℓ : Loc Cert.Attn128RefIdeal.nD Cert.Attn128RefIdeal.τ Cert.Attn128RefIdeal.sig) → Buf (Elt Ideal) ℓ) (g' : Dev Cert.Attn128RefIdeal.nD → PrngReg), Pre_Attn128Ideal_attn_finite m →
    (∀ c : Dev Cert.Attn128Ideal.nD,
      m' ((c.tc : Thread Cert.Attn128RefIdeal.nD Cert.Attn128RefIdeal.τ).loc Cert.Attn128RefIdeal.main_arg0) = m ((c.tc : Thread Cert.Attn128Ideal.nD Cert.Attn128Ideal.τ).loc Cert.Attn128Ideal.main_arg0)
      ∧ m' ((c.tc : Thread Cert.Attn128RefIdeal.nD Cert.Attn128RefIdeal.τ).loc Cert.Attn128RefIdeal.main_arg1) = m ((c.tc : Thread Cert.Attn128Ideal.nD Cert.Attn128Ideal.τ).loc Cert.Attn128Ideal.main_arg1)
      ∧ m' ((c.tc : Thread Cert.Attn128RefIdeal.nD Cert.Attn128RefIdeal.τ).loc Cert.Attn128RefIdeal.main_arg2) = m ((c.tc : Thread Cert.Attn128Ideal.nD Cert.Attn128Ideal.τ).loc Cert.Attn128Ideal.main_arg2)
      ∧ m' ((c.tc : Thread Cert.Attn128RefIdeal.nD Cert.Attn128RefIdeal.τ).loc Cert.Attn128RefIdeal.main_arg3) = m ((c.tc : Thread Cert.Attn128Ideal.nD Cert.Attn128Ideal.τ).loc Cert.Attn128Ideal.main_arg3)) →
    ∃ (v0 : (c : Dev Cert.Attn128Ideal.nD) → Buf (Elt Ideal) ((c.tc : Thread Cert.Attn128Ideal.nD Cert.Attn128Ideal.τ).loc Cert.Attn128Ideal.main_v117_0)) (v1 : (c : Dev Cert.Attn128Ideal.nD) → Buf (Elt Ideal) ((c.tc : Thread Cert.Attn128Ideal.nD Cert.Attn128Ideal.τ).loc Cert.Attn128Ideal.main_v117_1)) (v2 : (c : Dev Cert.Attn128Ideal.nD) → Buf (Elt Ideal) ((c.tc : Thread Cert.Attn128Ideal.nD Cert.Attn128Ideal.τ).loc Cert.Attn128Ideal.main_v117_2)),
      θ_run (Cert.Attn128Ideal.defs (F := Ideal)) (onTc (τ := Cert.Attn128Ideal.τ) (Cert.Attn128Ideal.main (F := Ideal))) ⟨m, fun _ => 0, g⟩ (fun r => ∀ c : Dev Cert.Attn128Ideal.nD,
          r.2.mem ((c.tc : Thread Cert.Attn128Ideal.nD Cert.Attn128Ideal.τ).loc Cert.Attn128Ideal.main_v117_0) = v0 c
          ∧ r.2.mem ((c.tc : Thread Cert.Attn128Ideal.nD Cert.Attn128Ideal.τ).loc Cert.Attn128Ideal.main_v117_1) = v1 c
          ∧ r.2.mem ((c.tc : Thread Cert.Attn128Ideal.nD Cert.Attn128Ideal.τ).loc Cert.Attn128Ideal.main_v117_2) = v2 c
          ∧ r.2.mem ((c.tc : Thread Cert.Attn128Ideal.nD Cert.Attn128Ideal.τ).loc Cert.Attn128Ideal.main_arg0) = m ((c.tc : Thread Cert.Attn128Ideal.nD Cert.Attn128Ideal.τ).loc Cert.Attn128Ideal.main_arg0)
          ∧ r.2.mem ((c.tc : Thread Cert.Attn128Ideal.nD Cert.Attn128Ideal.τ).loc Cert.Attn128Ideal.main_arg1) = m ((c.tc : Thread Cert.Attn128Ideal.nD Cert.Attn128Ideal.τ).loc Cert.Attn128Ideal.main_arg1)
          ∧ r.2.mem ((c.tc : Thread Cert.Attn128Ideal.nD Cert.Attn128Ideal.τ).loc Cert.Attn128Ideal.main_arg2) = m ((c.tc : Thread Cert.Attn128Ideal.nD Cert.Attn128Ideal.τ).loc Cert.Attn128Ideal.main_arg2)
          ∧ r.2.mem ((c.tc : Thread Cert.Attn128Ideal.nD Cert.Attn128Ideal.τ).loc Cert.Attn128Ideal.main_arg3) = m ((c.tc : Thread Cert.Attn128Ideal.nD Cert.Attn128Ideal.τ).loc Cert.Attn128Ideal.main_arg3))
      ∧ θ_run (Cert.Attn128RefIdeal.defs (F := Ideal)) (onTc (τ := Cert.Attn128RefIdeal.τ) (Cert.Attn128RefIdeal.main (F := Ideal))) ⟨m', fun _ => 0, g'⟩ (fun r => ∀ c : Dev Cert.Attn128RefIdeal.nD,
          r.2.mem ((c.tc : Thread Cert.Attn128RefIdeal.nD Cert.Attn128RefIdeal.τ).loc Cert.Attn128RefIdeal.main_v161) = v0 c
          ∧ r.2.mem ((c.tc : Thread Cert.Attn128RefIdeal.nD Cert.Attn128RefIdeal.τ).loc Cert.Attn128RefIdeal.main_v168) = v1 c
          ∧ r.2.mem ((c.tc : Thread Cert.Attn128RefIdeal.nD Cert.Attn128RefIdeal.τ).loc Cert.Attn128RefIdeal.main_v175) = v2 c
          ∧ r.2.mem ((c.tc : Thread Cert.Attn128RefIdeal.nD Cert.Attn128RefIdeal.τ).loc Cert.Attn128RefIdeal.main_arg0) = m' ((c.tc : Thread Cert.Attn128RefIdeal.nD Cert.Attn128RefIdeal.τ).loc Cert.Attn128RefIdeal.main_arg0)
          ∧ r.2.mem ((c.tc : Thread Cert.Attn128RefIdeal.nD Cert.Attn128RefIdeal.τ).loc Cert.Attn128RefIdeal.main_arg1) = m' ((c.tc : Thread Cert.Attn128RefIdeal.nD Cert.Attn128RefIdeal.τ).loc Cert.Attn128RefIdeal.main_arg1)
          ∧ r.2.mem ((c.tc : Thread Cert.Attn128RefIdeal.nD Cert.Attn128RefIdeal.τ).loc Cert.Attn128RefIdeal.main_arg2) = m' ((c.tc : Thread Cert.Attn128RefIdeal.nD Cert.Attn128RefIdeal.τ).loc Cert.Attn128RefIdeal.main_arg2)
          ∧ r.2.mem ((c.tc : Thread Cert.Attn128RefIdeal.nD Cert.Attn128RefIdeal.τ).loc Cert.Attn128RefIdeal.main_arg3) = m' ((c.tc : Thread Cert.Attn128RefIdeal.nD Cert.Attn128RefIdeal.τ).loc Cert.Attn128RefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v23_0)) (v1 : (c : Dev Cert.FfnIdeal.nD) → Buf (Elt Ideal) ((c.tc : Thread Cert.FfnIdeal.nD Cert.FfnIdeal.τ).loc Cert.FfnIdeal.main_v23_1)) (v2 : (c : Dev Cert.FfnIdeal.nD) → Buf (Elt Ideal) ((c.tc : Thread Cert.FfnIdeal.nD Cert.FfnIdeal.τ).loc Cert.FfnIdeal.main_v23_2)) (v3 : (c : Dev Cert.FfnIdeal.nD) → Buf (Elt Ideal) ((c.tc : Thread Cert.FfnIdeal.nD Cert.FfnIdeal.τ).loc Cert.FfnIdeal.main_v23_3)) (v4 : (c : Dev Cert.FfnIdeal.nD) → Buf (Elt Ideal) ((c.tc : Thread Cert.FfnIdeal.nD Cert.FfnIdeal.τ).loc Cert.FfnIdeal.main_v23_4)) (v5 : (c : Dev Cert.FfnIdeal.nD) → Buf (Elt Ideal) ((c.tc : Thread Cert.FfnIdeal.nD Cert.FfnIdeal.τ).loc Cert.FfnIdeal.main_v23_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v23_0) = v0 c
          ∧ r.2.mem ((c.tc : Thread Cert.FfnIdeal.nD Cert.FfnIdeal.τ).loc Cert.FfnIdeal.main_v23_1) = v1 c
          ∧ r.2.mem ((c.tc : Thread Cert.FfnIdeal.nD Cert.FfnIdeal.τ).loc Cert.FfnIdeal.main_v23_2) = v2 c
          ∧ r.2.mem ((c.tc : Thread Cert.FfnIdeal.nD Cert.FfnIdeal.τ).loc Cert.FfnIdeal.main_v23_3) = v3 c
          ∧ r.2.mem ((c.tc : Thread Cert.FfnIdeal.nD Cert.FfnIdeal.τ).loc Cert.FfnIdeal.main_v23_4) = v4 c
          ∧ r.2.mem ((c.tc : Thread Cert.FfnIdeal.nD Cert.FfnIdeal.τ).loc Cert.FfnIdeal.main_v23_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v65) = v0 c
          ∧ r.2.mem ((c.tc : Thread Cert.FfnRefIdeal.nD Cert.FfnRefIdeal.τ).loc Cert.FfnRefIdeal.main_v66) = v1 c
          ∧ r.2.mem ((c.tc : Thread Cert.FfnRefIdeal.nD Cert.FfnRefIdeal.τ).loc Cert.FfnRefIdeal.main_v67) = v2 c
          ∧ r.2.mem ((c.tc : Thread Cert.FfnRefIdeal.nD Cert.FfnRefIdeal.τ).loc Cert.FfnRefIdeal.main_v68) = v3 c
          ∧ r.2.mem ((c.tc : Thread Cert.FfnRefIdeal.nD Cert.FfnRefIdeal.τ).loc Cert.FfnRefIdeal.main_v69) = v4 c
          ∧ r.2.mem ((c.tc : Thread Cert.FfnRefIdeal.nD Cert.FfnRefIdeal.τ).loc Cert.FfnRefIdeal.main_v70) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)
      ∧ m' ((c.tc : Thread Cert.FfnWRefIdeal.nD Cert.FfnWRefIdeal.τ).loc Cert.FfnWRefIdeal.main_arg4) = m ((c.tc : Thread Cert.FfnWIdeal.nD Cert.FfnWIdeal.τ).loc Cert.FfnWIdeal.main_arg4)
      ∧ m' ((c.tc : Thread Cert.FfnWRefIdeal.nD Cert.FfnWRefIdeal.τ).loc Cert.FfnWRefIdeal.main_arg5) = m ((c.tc : Thread Cert.FfnWIdeal.nD Cert.FfnWIdeal.τ).loc Cert.FfnWIdeal.main_arg5)) →
    ∃ (v0 : (c : Dev Cert.FfnWIdeal.nD) → Buf (Elt Ideal) ((c.tc : Thread Cert.FfnWIdeal.nD Cert.FfnWIdeal.τ).loc Cert.FfnWIdeal.main_v74_0)) (v1 : (c : Dev Cert.FfnWIdeal.nD) → Buf (Elt Ideal) ((c.tc : Thread Cert.FfnWIdeal.nD Cert.FfnWIdeal.τ).loc Cert.FfnWIdeal.main_v74_1)) (v2 : (c : Dev Cert.FfnWIdeal.nD) → Buf (Elt Ideal) ((c.tc : Thread Cert.FfnWIdeal.nD Cert.FfnWIdeal.τ).loc Cert.FfnWIdeal.main_v74_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v74_0) = v0 c
          ∧ r.2.mem ((c.tc : Thread Cert.FfnWIdeal.nD Cert.FfnWIdeal.τ).loc Cert.FfnWIdeal.main_v74_1) = v1 c
          ∧ r.2.mem ((c.tc : Thread Cert.FfnWIdeal.nD Cert.FfnWIdeal.τ).loc Cert.FfnWIdeal.main_v74_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4)
          ∧ r.2.mem ((c.tc : Thread Cert.FfnWIdeal.nD Cert.FfnWIdeal.τ).loc Cert.FfnWIdeal.main_arg5) = m ((c.tc : Thread Cert.FfnWIdeal.nD Cert.FfnWIdeal.τ).loc Cert.FfnWIdeal.main_arg5))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v68) = v0 c
          ∧ r.2.mem ((c.tc : Thread Cert.FfnWRefIdeal.nD Cert.FfnWRefIdeal.τ).loc Cert.FfnWRefIdeal.main_v69) = v1 c
          ∧ r.2.mem ((c.tc : Thread Cert.FfnWRefIdeal.nD Cert.FfnWRefIdeal.τ).loc Cert.FfnWRefIdeal.main_v70) = v2 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3)
          ∧ r.2.mem ((c.tc : Thread Cert.FfnWRefIdeal.nD Cert.FfnWRefIdeal.τ).loc Cert.FfnWRefIdeal.main_arg4) = m' ((c.tc : Thread Cert.FfnWRefIdeal.nD Cert.FfnWRefIdeal.τ).loc Cert.FfnWRefIdeal.main_arg4)
          ∧ r.2.mem ((c.tc : Thread Cert.FfnWRefIdeal.nD Cert.FfnWRefIdeal.τ).loc Cert.FfnWRefIdeal.main_arg5) = m' ((c.tc : Thread Cert.FfnWRefIdeal.nD Cert.FfnWRefIdeal.τ).loc Cert.FfnWRefIdeal.main_arg5))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v82_0)) (v1 : (c : Dev Cert.MixOutIdeal.nD) → Buf (Elt Ideal) ((c.tc : Thread Cert.MixOutIdeal.nD Cert.MixOutIdeal.τ).loc Cert.MixOutIdeal.main_v82_1)) (v2 : (c : Dev Cert.MixOutIdeal.nD) → Buf (Elt Ideal) ((c.tc : Thread Cert.MixOutIdeal.nD Cert.MixOutIdeal.τ).loc Cert.MixOutIdeal.main_v82_2)) (v3 : (c : Dev Cert.MixOutIdeal.nD) → Buf (Elt Ideal) ((c.tc : Thread Cert.MixOutIdeal.nD Cert.MixOutIdeal.τ).loc Cert.MixOutIdeal.main_v82_3)) (v4 : (c : Dev Cert.MixOutIdeal.nD) → Buf (Elt Ideal) ((c.tc : Thread Cert.MixOutIdeal.nD Cert.MixOutIdeal.τ).loc Cert.MixOutIdeal.main_v82_4)) (v5 : (c : Dev Cert.MixOutIdeal.nD) → Buf (Elt Ideal) ((c.tc : Thread Cert.MixOutIdeal.nD Cert.MixOutIdeal.τ).loc Cert.MixOutIdeal.main_v82_5)) (v6 : (c : Dev Cert.MixOutIdeal.nD) → Buf (Elt Ideal) ((c.tc : Thread Cert.MixOutIdeal.nD Cert.MixOutIdeal.τ).loc Cert.MixOutIdeal.main_v82_6)) (v7 : (c : Dev Cert.MixOutIdeal.nD) → Buf (Elt Ideal) ((c.tc : Thread Cert.MixOutIdeal.nD Cert.MixOutIdeal.τ).loc Cert.MixOutIdeal.main_v82_7)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v82_0) = v0 c
          ∧ r.2.mem ((c.tc : Thread Cert.MixOutIdeal.nD Cert.MixOutIdeal.τ).loc Cert.MixOutIdeal.main_v82_1) = v1 c
          ∧ r.2.mem ((c.tc : Thread Cert.MixOutIdeal.nD Cert.MixOutIdeal.τ).loc Cert.MixOutIdeal.main_v82_2) = v2 c
          ∧ r.2.mem ((c.tc : Thread Cert.MixOutIdeal.nD Cert.MixOutIdeal.τ).loc Cert.MixOutIdeal.main_v82_3) = v3 c
          ∧ r.2.mem ((c.tc : Thread Cert.MixOutIdeal.nD Cert.MixOutIdeal.τ).loc Cert.MixOutIdeal.main_v82_4) = v4 c
          ∧ r.2.mem ((c.tc : Thread Cert.MixOutIdeal.nD Cert.MixOutIdeal.τ).loc Cert.MixOutIdeal.main_v82_5) = v5 c
          ∧ r.2.mem ((c.tc : Thread Cert.MixOutIdeal.nD Cert.MixOutIdeal.τ).loc Cert.MixOutIdeal.main_v82_6) = v6 c
          ∧ r.2.mem ((c.tc : Thread Cert.MixOutIdeal.nD Cert.MixOutIdeal.τ).loc Cert.MixOutIdeal.main_v82_7) = v7 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v94) = v0 c
          ∧ r.2.mem ((c.tc : Thread Cert.MixOutRefIdeal.nD Cert.MixOutRefIdeal.τ).loc Cert.MixOutRefIdeal.main_v86) = v1 c
          ∧ r.2.mem ((c.tc : Thread Cert.MixOutRefIdeal.nD Cert.MixOutRefIdeal.τ).loc Cert.MixOutRefIdeal.main_v93) = v2 c
          ∧ r.2.mem ((c.tc : Thread Cert.MixOutRefIdeal.nD Cert.MixOutRefIdeal.τ).loc Cert.MixOutRefIdeal.main_v96) = v3 c
          ∧ r.2.mem ((c.tc : Thread Cert.MixOutRefIdeal.nD Cert.MixOutRefIdeal.τ).loc Cert.MixOutRefIdeal.main_v98) = v4 c
          ∧ r.2.mem ((c.tc : Thread Cert.MixOutRefIdeal.nD Cert.MixOutRefIdeal.τ).loc Cert.MixOutRefIdeal.main_v92) = v5 c
          ∧ r.2.mem ((c.tc : Thread Cert.MixOutRefIdeal.nD Cert.MixOutRefIdeal.τ).loc Cert.MixOutRefIdeal.main_v100) = v6 c
          ∧ r.2.mem ((c.tc : Thread Cert.MixOutRefIdeal.nD Cert.MixOutRefIdeal.τ).loc Cert.MixOutRefIdeal.main_v102) = v7 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_Pool_PoolIdeal : Prop :=
  True

def preserves_MixIn_MixInIdeal : Prop :=
  True

def Claim : Prop :=
  ∃ (hLoss : Cert.Loss.Facts) (hLossIdeal : Cert.LossIdeal.Facts) (hLossRefIdeal : Cert.LossRefIdeal.Facts) (hAttn2048 : Cert.Attn2048.Facts) (hAttn2048Ideal : Cert.Attn2048Ideal.Facts) (hAttn2048RefIdeal : Cert.Attn2048RefIdeal.Facts) (hAttn512 : Cert.Attn512.Facts) (hAttn512Ideal : Cert.Attn512Ideal.Facts) (hAttn512RefIdeal : Cert.Attn512RefIdeal.Facts) (hAttn128 : Cert.Attn128.Facts) (hAttn128Ideal : Cert.Attn128Ideal.Facts) (hAttn128RefIdeal : Cert.Attn128RefIdeal.Facts) (hFfn : Cert.Ffn.Facts) (hFfnIdeal : Cert.FfnIdeal.Facts) (hFfnRefIdeal : Cert.FfnRefIdeal.Facts) (hFfnW : Cert.FfnW.Facts) (hFfnWIdeal : Cert.FfnWIdeal.Facts) (hFfnWRefIdeal : Cert.FfnWRefIdeal.Facts) (hMixOut : Cert.MixOut.Facts) (hMixOutIdeal : Cert.MixOutIdeal.Facts) (hMixOutRefIdeal : Cert.MixOutRefIdeal.Facts) (hPool : Cert.Pool.Facts) (hPoolIdeal : Cert.PoolIdeal.Facts) (hMixIn : Cert.MixIn.Facts) (hMixInIdeal : Cert.MixInIdeal.Facts) (hPre_loss_finite : Cert.Pre_loss_finite.Facts) (hPre_attn_finite : Cert.Pre_attn_finite.Facts) (hPre_ffn_finite : Cert.Pre_ffn_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Attn2048 (hAttn2048 := hAttn2048)
    ∧ quiescent_Attn2048Ideal (hAttn2048Ideal := hAttn2048Ideal)
    ∧ quiescent_Attn2048Ideal_pre_attn_finite (hAttn2048Ideal := hAttn2048Ideal) (hPre_attn_finite := hPre_attn_finite)
    ∧ quiescent_Attn2048RefIdeal (hAttn2048RefIdeal := hAttn2048RefIdeal)
    ∧ quiescent_Attn2048RefIdeal_pre_attn_finite (hAttn2048RefIdeal := hAttn2048RefIdeal) (hPre_attn_finite := hPre_attn_finite)
    ∧ quiescent_Attn512 (hAttn512 := hAttn512)
    ∧ quiescent_Attn512Ideal (hAttn512Ideal := hAttn512Ideal)
    ∧ quiescent_Attn512Ideal_pre_attn_finite (hAttn512Ideal := hAttn512Ideal) (hPre_attn_finite := hPre_attn_finite)
    ∧ quiescent_Attn512RefIdeal (hAttn512RefIdeal := hAttn512RefIdeal)
    ∧ quiescent_Attn512RefIdeal_pre_attn_finite (hAttn512RefIdeal := hAttn512RefIdeal) (hPre_attn_finite := hPre_attn_finite)
    ∧ quiescent_Attn128 (hAttn128 := hAttn128)
    ∧ quiescent_Attn128Ideal (hAttn128Ideal := hAttn128Ideal)
    ∧ quiescent_Attn128Ideal_pre_attn_finite (hAttn128Ideal := hAttn128Ideal) (hPre_attn_finite := hPre_attn_finite)
    ∧ quiescent_Attn128RefIdeal (hAttn128RefIdeal := hAttn128RefIdeal)
    ∧ quiescent_Attn128RefIdeal_pre_attn_finite (hAttn128RefIdeal := hAttn128RefIdeal) (hPre_attn_finite := hPre_attn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Pool (hPool := hPool)
    ∧ quiescent_PoolIdeal (hPoolIdeal := hPoolIdeal)
    ∧ quiescent_MixIn (hMixIn := hMixIn)
    ∧ quiescent_MixInIdeal (hMixInIdeal := hMixInIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Attn2048_Attn2048Ideal
    ∧ algebraic_Attn2048Ideal_Attn2048RefIdeal_pre_attn_finite (hAttn2048Ideal := hAttn2048Ideal) (hAttn2048RefIdeal := hAttn2048RefIdeal) (hPre_attn_finite := hPre_attn_finite)
    ∧ preserves_Attn512_Attn512Ideal
    ∧ algebraic_Attn512Ideal_Attn512RefIdeal_pre_attn_finite (hAttn512Ideal := hAttn512Ideal) (hAttn512RefIdeal := hAttn512RefIdeal) (hPre_attn_finite := hPre_attn_finite)
    ∧ preserves_Attn128_Attn128Ideal
    ∧ algebraic_Attn128Ideal_Attn128RefIdeal_pre_attn_finite (hAttn128Ideal := hAttn128Ideal) (hAttn128RefIdeal := hAttn128RefIdeal) (hPre_attn_finite := hPre_attn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnW_FfnWIdeal
    ∧ algebraic_FfnWIdeal_FfnWRefIdeal (hFfnWIdeal := hFfnWIdeal) (hFfnWRefIdeal := hFfnWRefIdeal)
    ∧ preserves_MixOut_MixOutIdeal
    ∧ algebraic_MixOutIdeal_MixOutRefIdeal (hMixOutIdeal := hMixOutIdeal) (hMixOutRefIdeal := hMixOutRefIdeal)
    ∧ preserves_Pool_PoolIdeal
    ∧ preserves_MixIn_MixInIdeal
-- ==== Pre_attn_finite.lean ====
abbrev S1x2048x12x64 : Shape := ⟨4, ![1, 2048, 12, 64]⟩
abbrev S_ : Shape := ⟨0, ![]⟩

class Facts : Prop where
  bcast_S_S1x2048x12x64 : S_.BroadcastsInDim S1x2048x12x64 (![] : Fin 0 → Fin S1x2048x12x64.rank)
  reducesTo_S1x2048x12x64_S_d0_1_2_3 : S1x2048x12x64.ReducesTo [0, 1, 2, 3] S_
  h_S_ : 0 < S_.numel

variable [Facts]

def fn_part1 {F : FTy → Type} [FloatOps F] (main_v8 : IVec S_ 1) (main_v12 : IVec S_ 1) (main_v15 : IVec S1x2048x12x64 1) (main_c_5 : IVec S_ 1) : IVec S_ 1 :=
  let main_v16 : IVec S_ 1 := (fun x v => Host.reduce IntOp.andi x v reducesTo_S1x2048x12x64_S_d0_1_2_3 h_S_) main_v15 main_c_5
  let main_v17 : IVec S_ 1 := andi main_v12 main_v16
  let main_v18 : IVec S_ 1 := andi main_v8 main_v17
  main_v18

def fn {F : FTy → Type} [FloatOps F] (main_arg0 : FVec F S1x2048x12x64 .f32) (main_arg1 : FVec F S1x2048x12x64 .f32) (main_arg2 : FVec F S1x2048x12x64 .f32) (main_arg3 : FVec F S1x2048x12x64 .f32) : IVec S_ 1 :=
  let main_v0 : FVec F S1x2048x12x64 .f32 := Host.absf main_arg0
  let main_cst : FVec F S_ .f32 := constant S_ .f32 0x7F800000#32
  let main_v1 : FVec F S1x2048x12x64 .f32 := broadcastInDim S1x2048x12x64 ![] bcast_S_S1x2048x12x64 main_cst
  let main_v2 : IVec S1x2048x12x64 1 := cmpf .olt main_v0 main_v1
  let main_c : IVec S_ 1 := constantI S_ 1 1#1
  let main_v3 : IVec S_ 1 := (fun x v => Host.reduce IntOp.andi x v reducesTo_S1x2048x12x64_S_d0_1_2_3 h_S_) main_v2 main_c
  let main_v4 : FVec F S1x2048x12x64 .f32 := Host.absf main_arg1
  let main_cst_0 : FVec F S_ .f32 := constant S_ .f32 0x7F800000#32
  let main_v5 : FVec F S1x2048x12x64 .f32 := broadcastInDim S1x2048x12x64 ![] bcast_S_S1x2048x12x64 main_cst_0
  let main_v6 : IVec S1x2048x12x64 1 := cmpf .olt main_v4 main_v5
  let main_c_1 : IVec S_ 1 := constantI S_ 1 1#1
  let main_v7 : IVec S_ 1 := (fun x v => Host.reduce IntOp.andi x v reducesTo_S1x2048x12x64_S_d0_1_2_3 h_S_) main_v6 main_c_1
  let main_v8 : IVec S_ 1 := andi main_v3 main_v7
  let main_v9 : FVec F S1x2048x12x64 .f32 := Host.absf main_arg2
  let main_cst_2 : FVec F S_ .f32 := constant S_ .f32 0x7F800000#32
  let main_v10 : FVec F S1x2048x12x64 .f32 := broadcastInDim S1x2048x12x64 ![] bcast_S_S1x2048x12x64 main_cst_2
  let main_v11 : IVec S1x2048x12x64 1 := cmpf .olt main_v9 main_v10
  let main_c_3 : IVec S_ 1 := constantI S_ 1 1#1
  let main_v12 : IVec S_ 1 := (fun x v => Host.reduce IntOp.andi x v reducesTo_S1x2048x12x64_S_d0_1_2_3 h_S_) main_v11 main_c_3
  let main_v13 : FVec F S1x2048x12x64 .f32 := Host.absf main_arg3
  let main_cst_4 : FVec F S_ .f32 := constant S_ .f32 0x7F800000#32
  let main_v14 : FVec F S1x2048x12x64 .f32 := broadcastInDim S1x2048x12x64 ![] bcast_S_S1x2048x12x64 main_cst_4
  let main_v15 : IVec S1x2048x12x64 1 := cmpf .olt main_v13 main_v14
  let main_c_5 : IVec S_ 1 := constantI S_ 1 1#1
  fn_part1 (F := F) main_v8 main_v12 main_v15 main_c_5
-- ==== Pre_ffn_finite.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2048x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S1024 .f32) (main_arg2 : FVec F S1024x2816 .f32) (main_arg3 : FVec F S1024x2816 .f32) (main_arg4 : FVec F S2816x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_loss_finite.lean ====
abbrev S1x2048x1024 : Shape := ⟨3, ![1, 2048, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x2048x1024 .f32) (main_arg1 : FVec F S1024 .f32) (main_arg2 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x2048x1024 .f32 := Host.absf main_arg2
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_c_3 : IVec S_ 1 := constantI S_ 1 1#1
  let main_v12 : IVec S_ 1 := (fun x v => Host.reduce IntOp.andi x v reducesTo_S1x2048x1024_S_d0_1_2 h_S_) main_v11 main_c_3
  let main_v13 : IVec S_ 1 := andi main_v8 main_v12
  main_v13
-- ==== Loss.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x1024 : Shape := ⟨2, ![2048, 1024]⟩

abbrev nBuf : Space → Nat
  | .hbm => 76
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x2048x1024, .f32⟩
  | .hbm, ⟨52, _⟩ => ⟨S1x2048x1024, .f32⟩
  | .hbm, ⟨53, _⟩ => ⟨S_, .f32⟩
  | .hbm, ⟨54, _⟩ => ⟨S1024, .f32⟩
  | .hbm, ⟨55, _⟩ => ⟨S1x2048x1024, .f32⟩
  | .hbm, ⟨56, _⟩ => ⟨S_, .f32⟩
  | .hbm, ⟨57, _⟩ => ⟨S1x2048, .f32⟩
  | .hbm, ⟨58, _⟩ => ⟨S1x2048x1, .f32⟩
  | .hbm, ⟨59, _⟩ => ⟨S1x2048x1024, .f32⟩
  | .hbm, ⟨60, _⟩ => ⟨S1x2048x1024, .f32⟩
  | .hbm, ⟨61, _⟩ => ⟨S1x2048x1, .f32⟩
  | .hbm, ⟨62, _⟩ => ⟨S_, .f32⟩
  | .hbm, ⟨63, _⟩ => ⟨S1x2048x1, .f32⟩
  | .hbm, ⟨64, _⟩ => ⟨S1x2048x1, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S2048x1024, .f32⟩
  | .hbm, ⟨74, _⟩ => ⟨S1x1024, .f32⟩
  | .hbm, ⟨75, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Attn2048.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S2048x12 : Shape := ⟨2, ![2048, 12]⟩
abbrev S2048x128 : Shape := ⟨2, ![2048, 128]⟩
abbrev S2048x768 : Shape := ⟨2, ![2048, 768]⟩
abbrev S2048x1x768 : Shape := ⟨3, ![2048, 1, 768]⟩
abbrev S1x2048x768 : Shape := ⟨3, ![1, 2048, 768]⟩
abbrev S2048x1x128 : Shape := ⟨3, ![2048, 1, 128]⟩
abbrev S1x2048x128 : Shape := ⟨3, ![1, 2048, 128]⟩
abbrev S3x256x256 : Shape := ⟨3, ![3, 256, 256]⟩
abbrev S128x128 : Shape := ⟨2, ![128, 128]⟩
abbrev S256x256 : Shape := ⟨2, ![256, 256]⟩
abbrev S1x256x256 : Shape := ⟨3, ![1, 256, 256]⟩
abbrev S256x128 : Shape := ⟨2, ![256, 128]⟩
abbrev S128 : Shape := ⟨1, ![128]⟩
abbrev S128x1 : Shape := ⟨2, ![128, 1]⟩
abbrev S256x1 : Shape := ⟨2, ![256, 1]⟩

abbrev nBuf : Space → Nat
  | .hbm => 165
  | .vmem => 19
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048, .f32⟩
  | 82 => ⟨S3x12x2048x1, .f32⟩
  | 83 => ⟨S3x12x2048x2048, .f32⟩
  | 84 => ⟨S3x12x2048x2048, .f32⟩
  | 85 => ⟨S3x12x2048x2048, .f32⟩
  | 86 => ⟨S3x12x2048x64, .f32⟩
  | 87 => ⟨S_, .f32⟩
  | 88 => ⟨S3x12x2048, .f32⟩
  | 89 => ⟨S_, .f32⟩
  | 90 => ⟨S12x2048, .f32⟩
  | 91 => ⟨S1x12x2048, .f32⟩
  | 92 => ⟨S3x12x2048, .f32⟩
  | 93 => ⟨S3x12x2048, .f32⟩
  | 94 => ⟨S3x12x2048, .f32⟩
  | 95 => ⟨S3x12x2048x1, .f32⟩
  | 96 => ⟨S3x12x2048x64, .f32⟩
  | 97 => ⟨S3x12x2048x64, .f32⟩
  | 98 => ⟨S3x12x2048, .f32⟩
  | 99 => ⟨S1x12x2048x64, .f32⟩
  | 100 => ⟨S12x2048x64, .f32⟩
  | 101 => ⟨S1x12x2048x64, .f32⟩
  | 102 => ⟨S12x2048x64, .f32⟩
  | 103 => ⟨S12x2048x64, .f32⟩
  | 104 => ⟨S1x12x2048x64, .f32⟩
  | 105 => ⟨S12x2048x64, .f32⟩
  | 106 => ⟨S12x2048x64, .f32⟩
  | 107 => ⟨S1x12x2048, .f32⟩
  | 108 => ⟨S12x2048, .f32⟩
  | 109 => ⟨S1x12x2048, .f32⟩
  | 110 => ⟨S12x2048, .f32⟩
  | 111 => ⟨S12x2048, .f32⟩
  | 112 => ⟨S1x12x2048, .f32⟩
  | 113 => ⟨S12x2048, .f32⟩
  | 114 => ⟨S12x2048, .f32⟩
  | 115 => ⟨S12x2048, .f32⟩
  | 116 => ⟨S12x2048, .f32⟩
  | 117 => ⟨S2048x12x64, .f32⟩
  | 118 => ⟨S12x2048x64, .f32⟩
  | 119 => ⟨S12x2048x1, .f32⟩
  | 120 => ⟨S12x2048x64, .f32⟩
  | 121 => ⟨S12x2048x64, .f32⟩
  | 122 => ⟨S12x2048x64, .f32⟩
  | 123 => ⟨S_, .f32⟩
  | 124 => ⟨S12x2048, .f32⟩
  | 125 => ⟨S2048x12, .f32⟩
  | 126 => ⟨S_, .i32⟩
  | 127 => ⟨S_, .f32⟩
  | _ => ⟨S1x2048x12x64, .f32⟩

abbrev hbmTy0_1 (i : Nat) : BufTy := match i % 128 with
  | 0 => ⟨S2048x128, .f32⟩
  | 1 => ⟨S2048x12, .f32⟩
  | 2 => ⟨S_, .i32⟩
  | 3 => ⟨S_, .f32⟩
  | 4 => ⟨S2048x128, .f32⟩
  | 5 => ⟨S_, .f32⟩
  | 6 => ⟨S1x2048x12x64, .f32⟩
  | 7 => ⟨S1x2048x12x64, .f32⟩
  | 8 => ⟨S2048x768, .f32⟩
  | 9 => ⟨S2048x1x768, .f32⟩
  | 10 => ⟨S1x2048x768, .f32⟩
  | 11 => ⟨S2048x768, .f32⟩
  | 12 => ⟨S2048x768, .bf16⟩
  | 13 => ⟨S2048x768, .f32⟩
  | 14 => ⟨S2048x1x768, .f32⟩
  | 15 => ⟨S1x2048x768, .f32⟩
  | 16 => ⟨S2048x768, .f32⟩
  | 17 => ⟨S2048x768, .bf16⟩
  | 18 => ⟨S2048x768, .f32⟩
  | 19 => ⟨S2048x1x768, .f32⟩
  | 20 => ⟨S1x2048x768, .f32⟩
  | 21 => ⟨S2048x768, .f32⟩
  | 22 => ⟨S2048x768, .bf16⟩
  | 23 => ⟨S2048x768, .f32⟩
  | 24 => ⟨S2048x1x768, .f32⟩
  | 25 => ⟨S1x2048x768, .f32⟩
  | 26 => ⟨S2048x768, .f32⟩
  | 27 => ⟨S2048x768, .bf16⟩
  | 28 => ⟨S2048x1x128, .f32⟩
  | 29 => ⟨S1x2048x128, .f32⟩
  | 30 => ⟨S2048x128, .f32⟩
  | 31 => ⟨S2048x1x128, .f32⟩
  | 32 => ⟨S1x2048x128, .f32⟩
  | 33 => ⟨S2048x128, .f32⟩
  | 34 => ⟨S2048x768, .bf16⟩
  | 35 => ⟨S2048x768, .bf16⟩
  | 36 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x256x256, .f32⟩
  | .local _ .vmem, ⟨17, _⟩ => ⟨S2048x128, .f32⟩
  | .local _ .vmem, ⟨18, _⟩ => ⟨S2048x128, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_c_13 : Ref sig .tc := ⟨.hbm, 126, rfl⟩
abbrev main_call4_v0 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_call5_v0 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117_0 : Ref sig .tc := ⟨.hbm, 162, rfl⟩
abbrev main_v117_1 : Ref sig .tc := ⟨.hbm, 163, rfl⟩
abbrev main_v117_2 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn2048Ideal.lean ====
variable {F : FTy → Type} [FloatOps F] [Named F]
def κ : String → Option EReal := fun
  | "mask" => some ⊥
  | _ => none
-- ==== Attn2048RefIdeal.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S3x12x64x2048 : Shape := ⟨4, ![3, 12, 64, 2048]⟩
abbrev S2048x1x768 : Shape := ⟨3, ![2048, 1, 768]⟩
abbrev S1x2048x768 : Shape := ⟨3, ![1, 2048, 768]⟩
abbrev S2048x768 : Shape := ⟨2, ![2048, 768]⟩

abbrev nBuf : Space → Nat
  | .hbm => 236
  | .vmem => 0
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048x2048, .f32⟩
  | 82 => ⟨S_, .f32⟩
  | 83 => ⟨S3x12x2048, .f32⟩
  | 84 => ⟨S3x12x2048x1, .f32⟩
  | 85 => ⟨S3x12x2048x2048, .f32⟩
  | 86 => ⟨S3x12x2048x2048, .i1⟩
  | 87 => ⟨S3x12x2048x2048, .f32⟩
  | 88 => ⟨S_, .f32⟩
  | 89 => ⟨S3x12x2048, .f32⟩
  | 90 => ⟨S3x12x2048x1, .f32⟩
  | 91 => ⟨S3x12x2048x2048, .f32⟩
  | 92 => ⟨S3x12x2048x2048, .f32⟩
  | 93 => ⟨S3x12x2048x2048, .f32⟩
  | 94 => ⟨S3x12x2048x64, .f32⟩
  | 95 => ⟨S_, .f32⟩
  | 96 => ⟨S3x12x2048, .f32⟩
  | 97 => ⟨S_, .f32⟩
  | 98 => ⟨S12x2048, .f32⟩
  | 99 => ⟨S1x12x2048, .f32⟩
  | 100 => ⟨S3x12x2048, .f32⟩
  | 101 => ⟨S3x12x2048, .i1⟩
  | 102 => ⟨S3x12x2048, .f32⟩
  | 103 => ⟨S_, .f32⟩
  | 104 => ⟨S12x2048, .f32⟩
  | 105 => ⟨S1x12x2048, .f32⟩
  | 106 => ⟨S3x12x2048, .f32⟩
  | 107 => ⟨S3x12x2048, .f32⟩
  | 108 => ⟨S3x12x2048, .f32⟩
  | 109 => ⟨S3x12x2048x1, .f32⟩
  | 110 => ⟨S3x12x2048x64, .f32⟩
  | 111 => ⟨S3x12x2048x64, .f32⟩
  | 112 => ⟨S3x12x2048, .f32⟩
  | 113 => ⟨S1x12x2048x64, .f32⟩
  | 114 => ⟨S12x2048x64, .f32⟩
  | 115 => ⟨S1x12x2048x64, .f32⟩
  | 116 => ⟨S12x2048x64, .f32⟩
  | 117 => ⟨S12x2048x64, .f32⟩
  | 118 => ⟨S1x12x2048x64, .f32⟩
  | 119 => ⟨S12x2048x64, .f32⟩
  | 120 => ⟨S12x2048x64, .f32⟩
  | 121 => ⟨S1x12x2048, .f32⟩
  | 122 => ⟨S12x2048, .f32⟩
  | 123 => ⟨S1x12x2048, .f32⟩
  | 124 => ⟨S12x2048, .f32⟩
  | 125 => ⟨S12x2048, .f32⟩
  | 126 => ⟨S1x12x2048, .f32⟩
  | 127 => ⟨S12x2048, .f32⟩
  | _ => ⟨S1x2048x12x64, .f32⟩

abbrev hbmTy0_1 (i : Nat) : BufTy := match i % 128 with
  | 0 => ⟨S12x2048, .f32⟩
  | 1 => ⟨S12x2048x1, .f32⟩
  | 2 => ⟨S12x2048x64, .f32⟩
  | 3 => ⟨S12x2048x64, .f32⟩
  | 4 => ⟨S12x2048x1, .f32⟩
  | 5 => ⟨S_, .f32⟩
  | 6 => ⟨S12x2048x1, .f32⟩
  | 7 => ⟨S12x2048x1, .f32⟩
  | 8 => ⟨S2048x12x64, .f32⟩
  | 9 => ⟨S12x2048x64, .f32⟩
  | 10 => ⟨S12x2048x64, .f32⟩
  | 11 => ⟨S12x2048x64, .f32⟩
  | 12 => ⟨S12x2048x64, .f32⟩
  | 13 => ⟨S_, .f32⟩
  | 14 => ⟨S12x2048, .f32⟩
  | 15 => ⟨S12x2048x1, .f32⟩
  | 16 => ⟨S12x2048x1, .f32⟩
  | 17 => ⟨S12x2048x64, .f32⟩
  | 18 => ⟨S12x2048x64, .f32⟩
  | 19 => ⟨S_, .f32⟩
  | 20 => ⟨S12x2048, .f32⟩
  | 21 => ⟨S1x12x2048, .f32⟩
  | 22 => ⟨S_, .f32⟩
  | 23 => ⟨S3x12x2048, .f32⟩
  | 24 => ⟨S1x12x2048, .f32⟩
  | 25 => ⟨S_, .f32⟩
  | 26 => ⟨S3x12x2048, .f32⟩
  | 27 => ⟨S3x12x2048, .f32⟩
  | 28 => ⟨S1x12x2048, .f32⟩
  | 29 => ⟨S_, .f32⟩
  | 30 => ⟨S3x12x2048, .f32⟩
  | 31 => ⟨S3x12x2048, .f32⟩
  | 32 => ⟨S1x12x2048x64, .f32⟩
  | 33 => ⟨S_, .f32⟩
  | 34 => ⟨S3x12x2048x64, .f32⟩
  | 35 => ⟨S1x12x2048x64, .f32⟩
  | 36 => ⟨S_, .f32⟩
  | 37 => ⟨S3x12x2048x64, .f32⟩
  | 38 => ⟨S3x12x2048x64, .f32⟩
  | 39 => ⟨S1x12x2048x64, .f32⟩
  | 40 => ⟨S_, .f32⟩
  | 41 => ⟨S3x12x2048x64, .f32⟩
  | 42 => ⟨S3x12x2048x64, .f32⟩
  | 43 => ⟨S3x12x2048, .f32⟩
  | 44 => ⟨S3x12x2048, .f32⟩
  | 45 => ⟨S3x12x2048x64, .f32⟩
  | 46 => ⟨S3x12x2048x64, .f32⟩
  | 47 => ⟨S3x12x2048x64, .f32⟩
  | 48 => ⟨S_, .f32⟩
  | 49 => ⟨S3x12x2048, .f32⟩
  | 50 => ⟨S3x12x2048x1, .f32⟩
  | 51 => ⟨S_, .f32⟩
  | 52 => ⟨S3x12x2048, .f32⟩
  | 53 => ⟨S3x12x2048, .f32⟩
  | 54 => ⟨S3x12x2048, .f32⟩
  | 55 => ⟨S3x12x2048, .f32⟩
  | 56 => ⟨S_, .f32⟩
  | 57 => ⟨S12x2048, .f32⟩
  | 58 => ⟨S1x12x2048, .f32⟩
  | 59 => ⟨S_, .f32⟩
  | 60 => ⟨S12x2048, .f32⟩
  | 61 => ⟨S12x2048, .f32⟩
  | 62 => ⟨S3x12x2048, .f32⟩
  | 63 => ⟨S3x12x2048, .f32⟩
  | 64 => ⟨S3x12x2048, .f32⟩
  | 65 => ⟨S3x12x2048x2048, .f32⟩
  | 66 => ⟨S3x12x64x2048, .f32⟩
  | 67 => ⟨S3x12x2048x64, .f32⟩
  | 68 => ⟨S3x12x2048x2048, .f32⟩
  | 69 => ⟨S3x12x2048x2048, .f32⟩
  | 70 => ⟨S3x12x2048x2048, .f32⟩
  | 71 => ⟨S3x12x2048x2048, .f32⟩
  | 72 => ⟨S_, .f32⟩
  | 73 => ⟨S3x12x2048, .f32⟩
  | 74 => ⟨S3x12x2048x1, .f32⟩
  | 75 => ⟨S_, .f32⟩
  | 76 => ⟨S3x12x2048, .f32⟩
  | 77 => ⟨S3x12x2048, .f32⟩
  | 78 => ⟨S3x12x2048, .f32⟩
  | 79 => ⟨S3x12x2048x2048, .f32⟩
  | 80 => ⟨S3x12x2048x2048, .f32⟩
  | 81 => ⟨S3x12x2048x2048, .f32⟩
  | 82 => ⟨S_, .f32⟩
  | 83 => ⟨S3x12x2048x2048, .f32⟩
  | 84 => ⟨S3x12x2048x2048, .f32⟩
  | 85 => ⟨S3x12x2048x64, .f32⟩
  | 86 => ⟨S3x12x2048x64, .f32⟩
  | 87 => ⟨S1x12x2048x64, .f32⟩
  | 88 => ⟨S12x2048x64, .f32⟩
  | 89 => ⟨S2048x12x64, .f32⟩
  | 90 => ⟨S2048x1x768, .f32⟩
  | 91 => ⟨S1x2048x768, .f32⟩
  | 92 => ⟨S2048x768, .f32⟩
  | 93 => ⟨S2048x768, .bf16⟩
  | 94 => ⟨S1x12x2048x64, .f32⟩
  | 95 => ⟨S12x2048x64, .f32⟩
  | 96 => ⟨S2048x12x64, .f32⟩
  | 97 => ⟨S2048x1x768, .f32⟩
  | 98 => ⟨S1x2048x768, .f32⟩
  | 99 => ⟨S2048x768, .f32⟩
  | 100 => ⟨S2048x768, .bf16⟩
  | 101 => ⟨S1x12x2048x64, .f32⟩
  | 102 => ⟨S12x2048x64, .f32⟩
  | 103 => ⟨S2048x12x64, .f32⟩
  | 104 => ⟨S2048x1x768, .f32⟩
  | 105 => ⟨S1x2048x768, .f32⟩
  | 106 => ⟨S2048x768, .f32⟩
  | 107 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_v43_1 : Ref sig .tc := ⟨.hbm, 77, rfl⟩
abbrev main_call3_v2 : Ref sig .tc := ⟨.hbm, 78, rfl⟩
abbrev main_v43_0 : Ref sig .tc := ⟨.hbm, 79, rfl⟩
abbrev main_call3_cst : Ref sig .tc := ⟨.hbm, 80, rfl⟩
abbrev main_v43_2 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_15 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_16 : Ref sig .tc := ⟨.hbm, 147, rfl⟩
abbrev main_v102 : Ref sig .tc := ⟨.hbm, 148, rfl⟩
abbrev main_v103 : Ref sig .tc := ⟨.hbm, 149, rfl⟩
abbrev main_cst_17 : Ref sig .tc := ⟨.hbm, 150, rfl⟩
abbrev main_v104 : Ref sig .tc := ⟨.hbm, 151, rfl⟩
abbrev main_v105 : Ref sig .tc := ⟨.hbm, 152, rfl⟩
abbrev main_cst_18 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_19 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_20 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_23 : Ref sig .tc := ⟨.hbm, 176, rfl⟩
abbrev main_v124 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_25 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_27 : Ref sig .tc := ⟨.hbm, 200, rfl⟩
abbrev main_v144 : Ref sig .tc := ⟨.hbm, 201, rfl⟩
abbrev main_v145 : Ref sig .tc := ⟨.hbm, 202, rfl⟩
abbrev main_cst_28 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_call4_cst : Ref sig .tc := ⟨.hbm, 210, rfl⟩
abbrev main_call4_v0 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩

abbrev nD : Nat := 1
abbrev τ : Topo := Topo.v7x

variable {F : FTy → Type} [FloatOps F]

def κ : String → Option EReal := fun
  | "mask" => some ⊥
  | _ => none
-- ==== Attn512.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S2048x12 : Shape := ⟨2, ![2048, 12]⟩
abbrev S2048x128 : Shape := ⟨2, ![2048, 128]⟩
abbrev S2048x768 : Shape := ⟨2, ![2048, 768]⟩
abbrev S512x4x768 : Shape := ⟨3, ![512, 4, 768]⟩
abbrev S4x512x768 : Shape := ⟨3, ![4, 512, 768]⟩
abbrev S512x4x128 : Shape := ⟨3, ![512, 4, 128]⟩
abbrev S4x512x128 : Shape := ⟨3, ![4, 512, 128]⟩
abbrev S3x256x256 : Shape := ⟨3, ![3, 256, 256]⟩
abbrev S128x128 : Shape := ⟨2, ![128, 128]⟩
abbrev S256x256 : Shape := ⟨2, ![256, 256]⟩
abbrev S1x256x256 : Shape := ⟨3, ![1, 256, 256]⟩
abbrev S256x128 : Shape := ⟨2, ![256, 128]⟩
abbrev S128 : Shape := ⟨1, ![128]⟩
abbrev S128x1 : Shape := ⟨2, ![128, 1]⟩
abbrev S256x1 : Shape := ⟨2, ![256, 1]⟩

abbrev nBuf : Space → Nat
  | .hbm => 165
  | .vmem => 19
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048, .f32⟩
  | 82 => ⟨S3x12x2048x1, .f32⟩
  | 83 => ⟨S3x12x2048x2048, .f32⟩
  | 84 => ⟨S3x12x2048x2048, .f32⟩
  | 85 => ⟨S3x12x2048x2048, .f32⟩
  | 86 => ⟨S3x12x2048x64, .f32⟩
  | 87 => ⟨S_, .f32⟩
  | 88 => ⟨S3x12x2048, .f32⟩
  | 89 => ⟨S_, .f32⟩
  | 90 => ⟨S12x2048, .f32⟩
  | 91 => ⟨S1x12x2048, .f32⟩
  | 92 => ⟨S3x12x2048, .f32⟩
  | 93 => ⟨S3x12x2048, .f32⟩
  | 94 => ⟨S3x12x2048, .f32⟩
  | 95 => ⟨S3x12x2048x1, .f32⟩
  | 96 => ⟨S3x12x2048x64, .f32⟩
  | 97 => ⟨S3x12x2048x64, .f32⟩
  | 98 => ⟨S3x12x2048, .f32⟩
  | 99 => ⟨S1x12x2048x64, .f32⟩
  | 100 => ⟨S12x2048x64, .f32⟩
  | 101 => ⟨S1x12x2048x64, .f32⟩
  | 102 => ⟨S12x2048x64, .f32⟩
  | 103 => ⟨S12x2048x64, .f32⟩
  | 104 => ⟨S1x12x2048x64, .f32⟩
  | 105 => ⟨S12x2048x64, .f32⟩
  | 106 => ⟨S12x2048x64, .f32⟩
  | 107 => ⟨S1x12x2048, .f32⟩
  | 108 => ⟨S12x2048, .f32⟩
  | 109 => ⟨S1x12x2048, .f32⟩
  | 110 => ⟨S12x2048, .f32⟩
  | 111 => ⟨S12x2048, .f32⟩
  | 112 => ⟨S1x12x2048, .f32⟩
  | 113 => ⟨S12x2048, .f32⟩
  | 114 => ⟨S12x2048, .f32⟩
  | 115 => ⟨S12x2048, .f32⟩
  | 116 => ⟨S12x2048, .f32⟩
  | 117 => ⟨S2048x12x64, .f32⟩
  | 118 => ⟨S12x2048x64, .f32⟩
  | 119 => ⟨S12x2048x1, .f32⟩
  | 120 => ⟨S12x2048x64, .f32⟩
  | 121 => ⟨S12x2048x64, .f32⟩
  | 122 => ⟨S12x2048x64, .f32⟩
  | 123 => ⟨S_, .f32⟩
  | 124 => ⟨S12x2048, .f32⟩
  | 125 => ⟨S2048x12, .f32⟩
  | 126 => ⟨S_, .i32⟩
  | 127 => ⟨S_, .f32⟩
  | _ => ⟨S1x2048x12x64, .f32⟩

abbrev hbmTy0_1 (i : Nat) : BufTy := match i % 128 with
  | 0 => ⟨S2048x128, .f32⟩
  | 1 => ⟨S2048x12, .f32⟩
  | 2 => ⟨S_, .i32⟩
  | 3 => ⟨S_, .f32⟩
  | 4 => ⟨S2048x128, .f32⟩
  | 5 => ⟨S_, .f32⟩
  | 6 => ⟨S1x2048x12x64, .f32⟩
  | 7 => ⟨S1x2048x12x64, .f32⟩
  | 8 => ⟨S2048x768, .f32⟩
  | 9 => ⟨S512x4x768, .f32⟩
  | 10 => ⟨S4x512x768, .f32⟩
  | 11 => ⟨S2048x768, .f32⟩
  | 12 => ⟨S2048x768, .bf16⟩
  | 13 => ⟨S2048x768, .f32⟩
  | 14 => ⟨S512x4x768, .f32⟩
  | 15 => ⟨S4x512x768, .f32⟩
  | 16 => ⟨S2048x768, .f32⟩
  | 17 => ⟨S2048x768, .bf16⟩
  | 18 => ⟨S2048x768, .f32⟩
  | 19 => ⟨S512x4x768, .f32⟩
  | 20 => ⟨S4x512x768, .f32⟩
  | 21 => ⟨S2048x768, .f32⟩
  | 22 => ⟨S2048x768, .bf16⟩
  | 23 => ⟨S2048x768, .f32⟩
  | 24 => ⟨S512x4x768, .f32⟩
  | 25 => ⟨S4x512x768, .f32⟩
  | 26 => ⟨S2048x768, .f32⟩
  | 27 => ⟨S2048x768, .bf16⟩
  | 28 => ⟨S512x4x128, .f32⟩
  | 29 => ⟨S4x512x128, .f32⟩
  | 30 => ⟨S2048x128, .f32⟩
  | 31 => ⟨S512x4x128, .f32⟩
  | 32 => ⟨S4x512x128, .f32⟩
  | 33 => ⟨S2048x128, .f32⟩
  | 34 => ⟨S2048x768, .bf16⟩
  | 35 => ⟨S2048x768, .bf16⟩
  | 36 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x256x256, .f32⟩
  | .local _ .vmem, ⟨17, _⟩ => ⟨S2048x128, .f32⟩
  | .local _ .vmem, ⟨18, _⟩ => ⟨S2048x128, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_c_13 : Ref sig .tc := ⟨.hbm, 126, rfl⟩
abbrev main_call4_v0 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_call5_v0 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117_0 : Ref sig .tc := ⟨.hbm, 162, rfl⟩
abbrev main_v117_1 : Ref sig .tc := ⟨.hbm, 163, rfl⟩
abbrev main_v117_2 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn512Ideal.lean ====
variable {F : FTy → Type} [FloatOps F] [Named F]
def κ : String → Option EReal := fun
  | "mask" => some ⊥
  | _ => none
-- ==== Attn512RefIdeal.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S3x12x64x2048 : Shape := ⟨4, ![3, 12, 64, 2048]⟩
abbrev S512x4x768 : Shape := ⟨3, ![512, 4, 768]⟩
abbrev S4x512x768 : Shape := ⟨3, ![4, 512, 768]⟩
abbrev S2048x768 : Shape := ⟨2, ![2048, 768]⟩

abbrev nBuf : Space → Nat
  | .hbm => 236
  | .vmem => 0
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048x2048, .f32⟩
  | 82 => ⟨S_, .f32⟩
  | 83 => ⟨S3x12x2048, .f32⟩
  | 84 => ⟨S3x12x2048x1, .f32⟩
  | 85 => ⟨S3x12x2048x2048, .f32⟩
  | 86 => ⟨S3x12x2048x2048, .i1⟩
  | 87 => ⟨S3x12x2048x2048, .f32⟩
  | 88 => ⟨S_, .f32⟩
  | 89 => ⟨S3x12x2048, .f32⟩
  | 90 => ⟨S3x12x2048x1, .f32⟩
  | 91 => ⟨S3x12x2048x2048, .f32⟩
  | 92 => ⟨S3x12x2048x2048, .f32⟩
  | 93 => ⟨S3x12x2048x2048, .f32⟩
  | 94 => ⟨S3x12x2048x64, .f32⟩
  | 95 => ⟨S_, .f32⟩
  | 96 => ⟨S3x12x2048, .f32⟩
  | 97 => ⟨S_, .f32⟩
  | 98 => ⟨S12x2048, .f32⟩
  | 99 => ⟨S1x12x2048, .f32⟩
  | 100 => ⟨S3x12x2048, .f32⟩
  | 101 => ⟨S3x12x2048, .i1⟩
  | 102 => ⟨S3x12x2048, .f32⟩
  | 103 => ⟨S_, .f32⟩
  | 104 => ⟨S12x2048, .f32⟩
  | 105 => ⟨S1x12x2048, .f32⟩
  | 106 => ⟨S3x12x2048, .f32⟩
  | 107 => ⟨S3x12x2048, .f32⟩
  | 108 => ⟨S3x12x2048, .f32⟩
  | 109 => ⟨S3x12x2048x1, .f32⟩
  | 110 => ⟨S3x12x2048x64, .f32⟩
  | 111 => ⟨S3x12x2048x64, .f32⟩
  | 112 => ⟨S3x12x2048, .f32⟩
  | 113 => ⟨S1x12x2048x64, .f32⟩
  | 114 => ⟨S12x2048x64, .f32⟩
  | 115 => ⟨S1x12x2048x64, .f32⟩
  | 116 => ⟨S12x2048x64, .f32⟩
  | 117 => ⟨S12x2048x64, .f32⟩
  | 118 => ⟨S1x12x2048x64, .f32⟩
  | 119 => ⟨S12x2048x64, .f32⟩
  | 120 => ⟨S12x2048x64, .f32⟩
  | 121 => ⟨S1x12x2048, .f32⟩
  | 122 => ⟨S12x2048, .f32⟩
  | 123 => ⟨S1x12x2048, .f32⟩
  | 124 => ⟨S12x2048, .f32⟩
  | 125 => ⟨S12x2048, .f32⟩
  | 126 => ⟨S1x12x2048, .f32⟩
  | 127 => ⟨S12x2048, .f32⟩
  | _ => ⟨S1x2048x12x64, .f32⟩

abbrev hbmTy0_1 (i : Nat) : BufTy := match i % 128 with
  | 0 => ⟨S12x2048, .f32⟩
  | 1 => ⟨S12x2048x1, .f32⟩
  | 2 => ⟨S12x2048x64, .f32⟩
  | 3 => ⟨S12x2048x64, .f32⟩
  | 4 => ⟨S12x2048x1, .f32⟩
  | 5 => ⟨S_, .f32⟩
  | 6 => ⟨S12x2048x1, .f32⟩
  | 7 => ⟨S12x2048x1, .f32⟩
  | 8 => ⟨S2048x12x64, .f32⟩
  | 9 => ⟨S12x2048x64, .f32⟩
  | 10 => ⟨S12x2048x64, .f32⟩
  | 11 => ⟨S12x2048x64, .f32⟩
  | 12 => ⟨S12x2048x64, .f32⟩
  | 13 => ⟨S_, .f32⟩
  | 14 => ⟨S12x2048, .f32⟩
  | 15 => ⟨S12x2048x1, .f32⟩
  | 16 => ⟨S12x2048x1, .f32⟩
  | 17 => ⟨S12x2048x64, .f32⟩
  | 18 => ⟨S12x2048x64, .f32⟩
  | 19 => ⟨S_, .f32⟩
  | 20 => ⟨S12x2048, .f32⟩
  | 21 => ⟨S1x12x2048, .f32⟩
  | 22 => ⟨S_, .f32⟩
  | 23 => ⟨S3x12x2048, .f32⟩
  | 24 => ⟨S1x12x2048, .f32⟩
  | 25 => ⟨S_, .f32⟩
  | 26 => ⟨S3x12x2048, .f32⟩
  | 27 => ⟨S3x12x2048, .f32⟩
  | 28 => ⟨S1x12x2048, .f32⟩
  | 29 => ⟨S_, .f32⟩
  | 30 => ⟨S3x12x2048, .f32⟩
  | 31 => ⟨S3x12x2048, .f32⟩
  | 32 => ⟨S1x12x2048x64, .f32⟩
  | 33 => ⟨S_, .f32⟩
  | 34 => ⟨S3x12x2048x64, .f32⟩
  | 35 => ⟨S1x12x2048x64, .f32⟩
  | 36 => ⟨S_, .f32⟩
  | 37 => ⟨S3x12x2048x64, .f32⟩
  | 38 => ⟨S3x12x2048x64, .f32⟩
  | 39 => ⟨S1x12x2048x64, .f32⟩
  | 40 => ⟨S_, .f32⟩
  | 41 => ⟨S3x12x2048x64, .f32⟩
  | 42 => ⟨S3x12x2048x64, .f32⟩
  | 43 => ⟨S3x12x2048, .f32⟩
  | 44 => ⟨S3x12x2048, .f32⟩
  | 45 => ⟨S3x12x2048x64, .f32⟩
  | 46 => ⟨S3x12x2048x64, .f32⟩
  | 47 => ⟨S3x12x2048x64, .f32⟩
  | 48 => ⟨S_, .f32⟩
  | 49 => ⟨S3x12x2048, .f32⟩
  | 50 => ⟨S3x12x2048x1, .f32⟩
  | 51 => ⟨S_, .f32⟩
  | 52 => ⟨S3x12x2048, .f32⟩
  | 53 => ⟨S3x12x2048, .f32⟩
  | 54 => ⟨S3x12x2048, .f32⟩
  | 55 => ⟨S3x12x2048, .f32⟩
  | 56 => ⟨S_, .f32⟩
  | 57 => ⟨S12x2048, .f32⟩
  | 58 => ⟨S1x12x2048, .f32⟩
  | 59 => ⟨S_, .f32⟩
  | 60 => ⟨S12x2048, .f32⟩
  | 61 => ⟨S12x2048, .f32⟩
  | 62 => ⟨S3x12x2048, .f32⟩
  | 63 => ⟨S3x12x2048, .f32⟩
  | 64 => ⟨S3x12x2048, .f32⟩
  | 65 => ⟨S3x12x2048x2048, .f32⟩
  | 66 => ⟨S3x12x64x2048, .f32⟩
  | 67 => ⟨S3x12x2048x64, .f32⟩
  | 68 => ⟨S3x12x2048x2048, .f32⟩
  | 69 => ⟨S3x12x2048x2048, .f32⟩
  | 70 => ⟨S3x12x2048x2048, .f32⟩
  | 71 => ⟨S3x12x2048x2048, .f32⟩
  | 72 => ⟨S_, .f32⟩
  | 73 => ⟨S3x12x2048, .f32⟩
  | 74 => ⟨S3x12x2048x1, .f32⟩
  | 75 => ⟨S_, .f32⟩
  | 76 => ⟨S3x12x2048, .f32⟩
  | 77 => ⟨S3x12x2048, .f32⟩
  | 78 => ⟨S3x12x2048, .f32⟩
  | 79 => ⟨S3x12x2048x2048, .f32⟩
  | 80 => ⟨S3x12x2048x2048, .f32⟩
  | 81 => ⟨S3x12x2048x2048, .f32⟩
  | 82 => ⟨S_, .f32⟩
  | 83 => ⟨S3x12x2048x2048, .f32⟩
  | 84 => ⟨S3x12x2048x2048, .f32⟩
  | 85 => ⟨S3x12x2048x64, .f32⟩
  | 86 => ⟨S3x12x2048x64, .f32⟩
  | 87 => ⟨S1x12x2048x64, .f32⟩
  | 88 => ⟨S12x2048x64, .f32⟩
  | 89 => ⟨S2048x12x64, .f32⟩
  | 90 => ⟨S512x4x768, .f32⟩
  | 91 => ⟨S4x512x768, .f32⟩
  | 92 => ⟨S2048x768, .f32⟩
  | 93 => ⟨S2048x768, .bf16⟩
  | 94 => ⟨S1x12x2048x64, .f32⟩
  | 95 => ⟨S12x2048x64, .f32⟩
  | 96 => ⟨S2048x12x64, .f32⟩
  | 97 => ⟨S512x4x768, .f32⟩
  | 98 => ⟨S4x512x768, .f32⟩
  | 99 => ⟨S2048x768, .f32⟩
  | 100 => ⟨S2048x768, .bf16⟩
  | 101 => ⟨S1x12x2048x64, .f32⟩
  | 102 => ⟨S12x2048x64, .f32⟩
  | 103 => ⟨S2048x12x64, .f32⟩
  | 104 => ⟨S512x4x768, .f32⟩
  | 105 => ⟨S4x512x768, .f32⟩
  | 106 => ⟨S2048x768, .f32⟩
  | 107 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_v43_1 : Ref sig .tc := ⟨.hbm, 77, rfl⟩
abbrev main_call3_v2 : Ref sig .tc := ⟨.hbm, 78, rfl⟩
abbrev main_v43_0 : Ref sig .tc := ⟨.hbm, 79, rfl⟩
abbrev main_call3_cst : Ref sig .tc := ⟨.hbm, 80, rfl⟩
abbrev main_v43_2 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_15 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_16 : Ref sig .tc := ⟨.hbm, 147, rfl⟩
abbrev main_v102 : Ref sig .tc := ⟨.hbm, 148, rfl⟩
abbrev main_v103 : Ref sig .tc := ⟨.hbm, 149, rfl⟩
abbrev main_cst_17 : Ref sig .tc := ⟨.hbm, 150, rfl⟩
abbrev main_v104 : Ref sig .tc := ⟨.hbm, 151, rfl⟩
abbrev main_v105 : Ref sig .tc := ⟨.hbm, 152, rfl⟩
abbrev main_cst_18 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_19 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_20 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_23 : Ref sig .tc := ⟨.hbm, 176, rfl⟩
abbrev main_v124 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_25 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_27 : Ref sig .tc := ⟨.hbm, 200, rfl⟩
abbrev main_v144 : Ref sig .tc := ⟨.hbm, 201, rfl⟩
abbrev main_v145 : Ref sig .tc := ⟨.hbm, 202, rfl⟩
abbrev main_cst_28 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_call4_cst : Ref sig .tc := ⟨.hbm, 210, rfl⟩
abbrev main_call4_v0 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩

abbrev nD : Nat := 1
abbrev τ : Topo := Topo.v7x

variable {F : FTy → Type} [FloatOps F]

def κ : String → Option EReal := fun
  | "mask" => some ⊥
  | _ => none
-- ==== Attn128.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S2048x12 : Shape := ⟨2, ![2048, 12]⟩
abbrev S2048x128 : Shape := ⟨2, ![2048, 128]⟩
abbrev S2048x768 : Shape := ⟨2, ![2048, 768]⟩
abbrev S128x16x768 : Shape := ⟨3, ![128, 16, 768]⟩
abbrev S16x128x768 : Shape := ⟨3, ![16, 128, 768]⟩
abbrev S128x16x128 : Shape := ⟨3, ![128, 16, 128]⟩
abbrev S16x128x128 : Shape := ⟨3, ![16, 128, 128]⟩
abbrev S1x256x128 : Shape := ⟨3, ![1, 256, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S256x1 : Shape := ⟨2, ![256, 1]⟩

abbrev nBuf : Space → Nat
  | .hbm => 165
  | .vmem => 19
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048, .f32⟩
  | 82 => ⟨S3x12x2048x1, .f32⟩
  | 83 => ⟨S3x12x2048x2048, .f32⟩
  | 84 => ⟨S3x12x2048x2048, .f32⟩
  | 85 => ⟨S3x12x2048x2048, .f32⟩
  | 86 => ⟨S3x12x2048x64, .f32⟩
  | 87 => ⟨S_, .f32⟩
  | 88 => ⟨S3x12x2048, .f32⟩
  | 89 => ⟨S_, .f32⟩
  | 90 => ⟨S12x2048, .f32⟩
  | 91 => ⟨S1x12x2048, .f32⟩
  | 92 => ⟨S3x12x2048, .f32⟩
  | 93 => ⟨S3x12x2048, .f32⟩
  | 94 => ⟨S3x12x2048, .f32⟩
  | 95 => ⟨S3x12x2048x1, .f32⟩
  | 96 => ⟨S3x12x2048x64, .f32⟩
  | 97 => ⟨S3x12x2048x64, .f32⟩
  | 98 => ⟨S3x12x2048, .f32⟩
  | 99 => ⟨S1x12x2048x64, .f32⟩
  | 100 => ⟨S12x2048x64, .f32⟩
  | 101 => ⟨S1x12x2048x64, .f32⟩
  | 102 => ⟨S12x2048x64, .f32⟩
  | 103 => ⟨S12x2048x64, .f32⟩
  | 104 => ⟨S1x12x2048x64, .f32⟩
  | 105 => ⟨S12x2048x64, .f32⟩
  | 106 => ⟨S12x2048x64, .f32⟩
  | 107 => ⟨S1x12x2048, .f32⟩
  | 108 => ⟨S12x2048, .f32⟩
  | 109 => ⟨S1x12x2048, .f32⟩
  | 110 => ⟨S12x2048, .f32⟩
  | 111 => ⟨S12x2048, .f32⟩
  | 112 => ⟨S1x12x2048, .f32⟩
  | 113 => ⟨S12x2048, .f32⟩
  | 114 => ⟨S12x2048, .f32⟩
  | 115 => ⟨S12x2048, .f32⟩
  | 116 => ⟨S12x2048, .f32⟩
  | 117 => ⟨S2048x12x64, .f32⟩
  | 118 => ⟨S12x2048x64, .f32⟩
  | 119 => ⟨S12x2048x1, .f32⟩
  | 120 => ⟨S12x2048x64, .f32⟩
  | 121 => ⟨S12x2048x64, .f32⟩
  | 122 => ⟨S12x2048x64, .f32⟩
  | 123 => ⟨S_, .f32⟩
  | 124 => ⟨S12x2048, .f32⟩
  | 125 => ⟨S2048x12, .f32⟩
  | 126 => ⟨S_, .i32⟩
  | 127 => ⟨S_, .f32⟩
  | _ => ⟨S1x2048x12x64, .f32⟩

abbrev hbmTy0_1 (i : Nat) : BufTy := match i % 128 with
  | 0 => ⟨S2048x128, .f32⟩
  | 1 => ⟨S2048x12, .f32⟩
  | 2 => ⟨S_, .i32⟩
  | 3 => ⟨S_, .f32⟩
  | 4 => ⟨S2048x128, .f32⟩
  | 5 => ⟨S_, .f32⟩
  | 6 => ⟨S1x2048x12x64, .f32⟩
  | 7 => ⟨S1x2048x12x64, .f32⟩
  | 8 => ⟨S2048x768, .f32⟩
  | 9 => ⟨S128x16x768, .f32⟩
  | 10 => ⟨S16x128x768, .f32⟩
  | 11 => ⟨S2048x768, .f32⟩
  | 12 => ⟨S2048x768, .bf16⟩
  | 13 => ⟨S2048x768, .f32⟩
  | 14 => ⟨S128x16x768, .f32⟩
  | 15 => ⟨S16x128x768, .f32⟩
  | 16 => ⟨S2048x768, .f32⟩
  | 17 => ⟨S2048x768, .bf16⟩
  | 18 => ⟨S2048x768, .f32⟩
  | 19 => ⟨S128x16x768, .f32⟩
  | 20 => ⟨S16x128x768, .f32⟩
  | 21 => ⟨S2048x768, .f32⟩
  | 22 => ⟨S2048x768, .bf16⟩
  | 23 => ⟨S2048x768, .f32⟩
  | 24 => ⟨S128x16x768, .f32⟩
  | 25 => ⟨S16x128x768, .f32⟩
  | 26 => ⟨S2048x768, .f32⟩
  | 27 => ⟨S2048x768, .bf16⟩
  | 28 => ⟨S128x16x128, .f32⟩
  | 29 => ⟨S16x128x128, .f32⟩
  | 30 => ⟨S2048x128, .f32⟩
  | 31 => ⟨S128x16x128, .f32⟩
  | 32 => ⟨S16x128x128, .f32⟩
  | 33 => ⟨S2048x128, .f32⟩
  | 34 => ⟨S2048x768, .bf16⟩
  | 35 => ⟨S2048x768, .bf16⟩
  | 36 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x256x128, .f32⟩
  | .local _ .vmem, ⟨17, _⟩ => ⟨S2048x128, .f32⟩
  | .local _ .vmem, ⟨18, _⟩ => ⟨S2048x128, .f32⟩
  | _, _ => ⟨S1x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_c_13 : Ref sig .tc := ⟨.hbm, 126, rfl⟩
abbrev main_call4_v0 : Ref sig .tc := ⟨.hbm, 127, rfl⟩
abbrev main_v86 : Ref sig .tc := ⟨.hbm, 128, rfl⟩
abbrev main_v87 : Ref sig .tc := ⟨.hbm, 129, rfl⟩
abbrev main_c_14 : Ref sig .tc := ⟨.hbm, 130, rfl⟩
abbrev main_call5_v0 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117_0 : Ref sig .tc := ⟨.hbm, 162, rfl⟩
abbrev main_v117_1 : Ref sig .tc := ⟨.hbm, 163, rfl⟩
abbrev main_v117_2 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn128Ideal.lean ====
variable {F : FTy → Type} [FloatOps F] [Named F]
def κ : String → Option EReal := fun
  | "mask" => some ⊥
  | _ => none
-- ==== Attn128RefIdeal.lean ====
abbrev S1x2048x12x64 : Shape := ⟨4, ![1, 2048, 12, 64]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S3x12x64x2048 : Shape := ⟨4, ![3, 12, 64, 2048]⟩
abbrev S128x16x768 : Shape := ⟨3, ![128, 16, 768]⟩
abbrev S16x128x768 : Shape := ⟨3, ![16, 128, 768]⟩
abbrev S2048x768 : Shape := ⟨2, ![2048, 768]⟩

abbrev nBuf : Space → Nat
  | .hbm => 236
  | .vmem => 0
  | .smem => 0
  | _ => 0

abbrev hbmTy0_0 (i : Nat) : BufTy := match i % 128 with
  | 0 => ⟨S1x2048x12x64, .f32⟩
  | 1 => ⟨S1x2048x12x64, .f32⟩
  | 2 => ⟨S1x2048x12x64, .f32⟩
  | 3 => ⟨S1x2048x12x64, .f32⟩
  | 4 => ⟨S_, .f32⟩
  | 5 => ⟨S1x2048x12x64, .f32⟩
  | 6 => ⟨S1x2048x12x64, .f32⟩
  | 7 => ⟨S2048x12x64, .f32⟩
  | 8 => ⟨S12x2048x64, .f32⟩
  | 9 => ⟨S3x12x2048x64, .f32⟩
  | 10 => ⟨S2048x12x64, .f32⟩
  | 11 => ⟨S12x2048x64, .f32⟩
  | 12 => ⟨S3x12x2048x64, .f32⟩
  | 13 => ⟨S2048x12x64, .f32⟩
  | 14 => ⟨S12x2048x64, .f32⟩
  | 15 => ⟨S3x12x2048x64, .f32⟩
  | 16 => ⟨S3x12x2048x2048, .f32⟩
  | 17 => ⟨S2048, .i32⟩
  | 18 => ⟨S2048x1, .i32⟩
  | 19 => ⟨S2048, .i32⟩
  | 20 => ⟨S1x2048, .i32⟩
  | 21 => ⟨S2048x2048, .i32⟩
  | 22 => ⟨S2048x2048, .i32⟩
  | 23 => ⟨S2048x2048, .i32⟩
  | 24 => ⟨S2048x2048, .i32⟩
  | 25 => ⟨S_, .i32⟩
  | 26 => ⟨S2048x2048, .i32⟩
  | 27 => ⟨S2048x2048, .i1⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .i32⟩
  | 56 => ⟨S2048x2048, .i32⟩
  | 57 => ⟨S2048x2048, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i1⟩
  | 70 => ⟨S1x2048x2048, .i1⟩
  | 71 => ⟨S1x2048x2048, .i1⟩
  | 72 => ⟨S1x2048x2048, .i1⟩
  | 73 => ⟨S3x2048x2048, .i1⟩
  | 74 => ⟨S3x1x2048x2048, .i1⟩
  | 75 => ⟨S_, .f32⟩
  | 76 => ⟨S_, .f32⟩
  | 77 => ⟨S3x12x2048x2048, .i1⟩
  | 78 => ⟨S3x12x2048x2048, .f32⟩
  | 79 => ⟨S3x12x2048x2048, .f32⟩
  | 80 => ⟨S_, .f32⟩
  | 81 => ⟨S3x12x2048x2048, .f32⟩
  | 82 => ⟨S_, .f32⟩
  | 83 => ⟨S3x12x2048, .f32⟩
  | 84 => ⟨S3x12x2048x1, .f32⟩
  | 85 => ⟨S3x12x2048x2048, .f32⟩
  | 86 => ⟨S3x12x2048x2048, .i1⟩
  | 87 => ⟨S3x12x2048x2048, .f32⟩
  | 88 => ⟨S_, .f32⟩
  | 89 => ⟨S3x12x2048, .f32⟩
  | 90 => ⟨S3x12x2048x1, .f32⟩
  | 91 => ⟨S3x12x2048x2048, .f32⟩
  | 92 => ⟨S3x12x2048x2048, .f32⟩
  | 93 => ⟨S3x12x2048x2048, .f32⟩
  | 94 => ⟨S3x12x2048x64, .f32⟩
  | 95 => ⟨S_, .f32⟩
  | 96 => ⟨S3x12x2048, .f32⟩
  | 97 => ⟨S_, .f32⟩
  | 98 => ⟨S12x2048, .f32⟩
  | 99 => ⟨S1x12x2048, .f32⟩
  | 100 => ⟨S3x12x2048, .f32⟩
  | 101 => ⟨S3x12x2048, .i1⟩
  | 102 => ⟨S3x12x2048, .f32⟩
  | 103 => ⟨S_, .f32⟩
  | 104 => ⟨S12x2048, .f32⟩
  | 105 => ⟨S1x12x2048, .f32⟩
  | 106 => ⟨S3x12x2048, .f32⟩
  | 107 => ⟨S3x12x2048, .f32⟩
  | 108 => ⟨S3x12x2048, .f32⟩
  | 109 => ⟨S3x12x2048x1, .f32⟩
  | 110 => ⟨S3x12x2048x64, .f32⟩
  | 111 => ⟨S3x12x2048x64, .f32⟩
  | 112 => ⟨S3x12x2048, .f32⟩
  | 113 => ⟨S1x12x2048x64, .f32⟩
  | 114 => ⟨S12x2048x64, .f32⟩
  | 115 => ⟨S1x12x2048x64, .f32⟩
  | 116 => ⟨S12x2048x64, .f32⟩
  | 117 => ⟨S12x2048x64, .f32⟩
  | 118 => ⟨S1x12x2048x64, .f32⟩
  | 119 => ⟨S12x2048x64, .f32⟩
  | 120 => ⟨S12x2048x64, .f32⟩
  | 121 => ⟨S1x12x2048, .f32⟩
  | 122 => ⟨S12x2048, .f32⟩
  | 123 => ⟨S1x12x2048, .f32⟩
  | 124 => ⟨S12x2048, .f32⟩
  | 125 => ⟨S12x2048, .f32⟩
  | 126 => ⟨S1x12x2048, .f32⟩
  | 127 => ⟨S12x2048, .f32⟩
  | _ => ⟨S1x2048x12x64, .f32⟩

abbrev hbmTy0_1 (i : Nat) : BufTy := match i % 128 with
  | 0 => ⟨S12x2048, .f32⟩
  | 1 => ⟨S12x2048x1, .f32⟩
  | 2 => ⟨S12x2048x64, .f32⟩
  | 3 => ⟨S12x2048x64, .f32⟩
  | 4 => ⟨S12x2048x1, .f32⟩
  | 5 => ⟨S_, .f32⟩
  | 6 => ⟨S12x2048x1, .f32⟩
  | 7 => ⟨S12x2048x1, .f32⟩
  | 8 => ⟨S2048x12x64, .f32⟩
  | 9 => ⟨S12x2048x64, .f32⟩
  | 10 => ⟨S12x2048x64, .f32⟩
  | 11 => ⟨S12x2048x64, .f32⟩
  | 12 => ⟨S12x2048x64, .f32⟩
  | 13 => ⟨S_, .f32⟩
  | 14 => ⟨S12x2048, .f32⟩
  | 15 => ⟨S12x2048x1, .f32⟩
  | 16 => ⟨S12x2048x1, .f32⟩
  | 17 => ⟨S12x2048x64, .f32⟩
  | 18 => ⟨S12x2048x64, .f32⟩
  | 19 => ⟨S_, .f32⟩
  | 20 => ⟨S12x2048, .f32⟩
  | 21 => ⟨S1x12x2048, .f32⟩
  | 22 => ⟨S_, .f32⟩
  | 23 => ⟨S3x12x2048, .f32⟩
  | 24 => ⟨S1x12x2048, .f32⟩
  | 25 => ⟨S_, .f32⟩
  | 26 => ⟨S3x12x2048, .f32⟩
  | 27 => ⟨S3x12x2048, .f32⟩
  | 28 => ⟨S1x12x2048, .f32⟩
  | 29 => ⟨S_, .f32⟩
  | 30 => ⟨S3x12x2048, .f32⟩
  | 31 => ⟨S3x12x2048, .f32⟩
  | 32 => ⟨S1x12x2048x64, .f32⟩
  | 33 => ⟨S_, .f32⟩
  | 34 => ⟨S3x12x2048x64, .f32⟩
  | 35 => ⟨S1x12x2048x64, .f32⟩
  | 36 => ⟨S_, .f32⟩
  | 37 => ⟨S3x12x2048x64, .f32⟩
  | 38 => ⟨S3x12x2048x64, .f32⟩
  | 39 => ⟨S1x12x2048x64, .f32⟩
  | 40 => ⟨S_, .f32⟩
  | 41 => ⟨S3x12x2048x64, .f32⟩
  | 42 => ⟨S3x12x2048x64, .f32⟩
  | 43 => ⟨S3x12x2048, .f32⟩
  | 44 => ⟨S3x12x2048, .f32⟩
  | 45 => ⟨S3x12x2048x64, .f32⟩
  | 46 => ⟨S3x12x2048x64, .f32⟩
  | 47 => ⟨S3x12x2048x64, .f32⟩
  | 48 => ⟨S_, .f32⟩
  | 49 => ⟨S3x12x2048, .f32⟩
  | 50 => ⟨S3x12x2048x1, .f32⟩
  | 51 => ⟨S_, .f32⟩
  | 52 => ⟨S3x12x2048, .f32⟩
  | 53 => ⟨S3x12x2048, .f32⟩
  | 54 => ⟨S3x12x2048, .f32⟩
  | 55 => ⟨S3x12x2048, .f32⟩
  | 56 => ⟨S_, .f32⟩
  | 57 => ⟨S12x2048, .f32⟩
  | 58 => ⟨S1x12x2048, .f32⟩
  | 59 => ⟨S_, .f32⟩
  | 60 => ⟨S12x2048, .f32⟩
  | 61 => ⟨S12x2048, .f32⟩
  | 62 => ⟨S3x12x2048, .f32⟩
  | 63 => ⟨S3x12x2048, .f32⟩
  | 64 => ⟨S3x12x2048, .f32⟩
  | 65 => ⟨S3x12x2048x2048, .f32⟩
  | 66 => ⟨S3x12x64x2048, .f32⟩
  | 67 => ⟨S3x12x2048x64, .f32⟩
  | 68 => ⟨S3x12x2048x2048, .f32⟩
  | 69 => ⟨S3x12x2048x2048, .f32⟩
  | 70 => ⟨S3x12x2048x2048, .f32⟩
  | 71 => ⟨S3x12x2048x2048, .f32⟩
  | 72 => ⟨S_, .f32⟩
  | 73 => ⟨S3x12x2048, .f32⟩
  | 74 => ⟨S3x12x2048x1, .f32⟩
  | 75 => ⟨S_, .f32⟩
  | 76 => ⟨S3x12x2048, .f32⟩
  | 77 => ⟨S3x12x2048, .f32⟩
  | 78 => ⟨S3x12x2048, .f32⟩
  | 79 => ⟨S3x12x2048x2048, .f32⟩
  | 80 => ⟨S3x12x2048x2048, .f32⟩
  | 81 => ⟨S3x12x2048x2048, .f32⟩
  | 82 => ⟨S_, .f32⟩
  | 83 => ⟨S3x12x2048x2048, .f32⟩
  | 84 => ⟨S3x12x2048x2048, .f32⟩
  | 85 => ⟨S3x12x2048x64, .f32⟩
  | 86 => ⟨S3x12x2048x64, .f32⟩
  | 87 => ⟨S1x12x2048x64, .f32⟩
  | 88 => ⟨S12x2048x64, .f32⟩
  | 89 => ⟨S2048x12x64, .f32⟩
  | 90 => ⟨S128x16x768, .f32⟩
  | 91 => ⟨S16x128x768, .f32⟩
  | 92 => ⟨S2048x768, .f32⟩
  | 93 => ⟨S2048x768, .bf16⟩
  | 94 => ⟨S1x12x2048x64, .f32⟩
  | 95 => ⟨S12x2048x64, .f32⟩
  | 96 => ⟨S2048x12x64, .f32⟩
  | 97 => ⟨S128x16x768, .f32⟩
  | 98 => ⟨S16x128x768, .f32⟩
  | 99 => ⟨S2048x768, .f32⟩
  | 100 => ⟨S2048x768, .bf16⟩
  | 101 => ⟨S1x12x2048x64, .f32⟩
  | 102 => ⟨S12x2048x64, .f32⟩
  | 103 => ⟨S2048x12x64, .f32⟩
  | 104 => ⟨S128x16x768, .f32⟩
  | 105 => ⟨S16x128x768, .f32⟩
  | 106 => ⟨S2048x768, .f32⟩
  | 107 => ⟨S2048x768, .bf16⟩
  | _ => ⟨S1x2048x12x64, .f32⟩

abbrev hbmTy (i : Nat) : BufTy := match i / 128 with
  | 0 => hbmTy0_0 i
  | 1 => hbmTy0_1 i
  | _ => ⟨S1x2048x12x64, .f32⟩

abbrev bufTy : (tb : Table) → Fin (tcTables nBuf tb) → BufTy
  | .hbm, ⟨i, _⟩ => hbmTy i
  | _, _ => ⟨S1x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_call0_c : Ref sig .tc := ⟨.hbm, 29, rfl⟩
abbrev main_call0_v0 : Ref sig .tc := ⟨.hbm, 30, rfl⟩
abbrev main_call0_c_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_call1_c : Ref sig .tc := ⟨.hbm, 44, rfl⟩
abbrev main_call1_v0 : Ref sig .tc := ⟨.hbm, 45, rfl⟩
abbrev main_call1_c_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_c : Ref sig .tc := ⟨.hbm, 59, rfl⟩
abbrev main_call2_v0 : Ref sig .tc := ⟨.hbm, 60, rfl⟩
abbrev main_call2_c_0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_call3_v0 : Ref sig .tc := ⟨.hbm, 76, rfl⟩
abbrev main_v43_1 : Ref sig .tc := ⟨.hbm, 77, rfl⟩
abbrev main_call3_v2 : Ref sig .tc := ⟨.hbm, 78, rfl⟩
abbrev main_v43_0 : Ref sig .tc := ⟨.hbm, 79, rfl⟩
abbrev main_call3_cst : Ref sig .tc := ⟨.hbm, 80, rfl⟩
abbrev main_v43_2 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_10 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_11 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_15 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_16 : Ref sig .tc := ⟨.hbm, 147, rfl⟩
abbrev main_v102 : Ref sig .tc := ⟨.hbm, 148, rfl⟩
abbrev main_v103 : Ref sig .tc := ⟨.hbm, 149, rfl⟩
abbrev main_cst_17 : Ref sig .tc := ⟨.hbm, 150, rfl⟩
abbrev main_v104 : Ref sig .tc := ⟨.hbm, 151, rfl⟩
abbrev main_v105 : Ref sig .tc := ⟨.hbm, 152, rfl⟩
abbrev main_cst_18 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_19 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_cst_20 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_22 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_23 : Ref sig .tc := ⟨.hbm, 176, rfl⟩
abbrev main_v124 : Ref sig .tc := ⟨.hbm, 177, rfl⟩
abbrev main_v125 : Ref sig .tc := ⟨.hbm, 178, rfl⟩
abbrev main_cst_24 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_25 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_27 : Ref sig .tc := ⟨.hbm, 200, rfl⟩
abbrev main_v144 : Ref sig .tc := ⟨.hbm, 201, rfl⟩
abbrev main_v145 : Ref sig .tc := ⟨.hbm, 202, rfl⟩
abbrev main_cst_28 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_call4_cst : Ref sig .tc := ⟨.hbm, 210, rfl⟩
abbrev main_call4_v0 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩

abbrev nD : Nat := 1
abbrev τ : Topo := Topo.v7x

variable {F : FTy → Type} [FloatOps F]

def κ : String → Option EReal := fun
  | "mask" => some ⊥
  | _ => none
-- ==== Ffn.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x2816, .f32⟩
  | .hbm, ⟨24, _⟩ => ⟨S2048x2816, .bf16⟩
  | .hbm, ⟨25, _⟩ => ⟨S2048x2816, .f32⟩
  | .hbm, ⟨26, _⟩ => ⟨S2048x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S2048x1024, .f32⟩
  | .hbm, ⟨33, _⟩ => ⟨S2048x2816, .bf16⟩
  | .hbm, ⟨34, _⟩ => ⟨S2048x2816, .bf16⟩
  | .hbm, ⟨35, _⟩ => ⟨S2048x1024, .bf16⟩
  | .hbm, ⟨36, _⟩ => ⟨S2048x1024, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x1024, .f32⟩
  | .local _ .vmem, ⟨8, _⟩ => ⟨S256x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x2816, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S1024x2816, .f32⟩
  | .hbm, ⟨59, _⟩ => ⟨S2816x1024, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2816x1024, .f32⟩
  | .hbm, ⟨68, _⟩ => ⟨S1024x2816, .f32⟩
  | .hbm, ⟨69, _⟩ => ⟨S2048x1024, .f32⟩
  | .hbm, ⟨70, _⟩ => ⟨S2816x1024, .f32⟩
  | .hbm, ⟨71, _⟩ => ⟨S1024x2816, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x2816, .bf16⟩
  | .hbm, ⟨101, _⟩ => ⟨S2048x2816, .bf16⟩
  | .hbm, ⟨102, _⟩ => ⟨S2048x1024, .bf16⟩
  | .hbm, ⟨103, _⟩ => ⟨S2048x1024, .bf16⟩
  | .hbm, ⟨104, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v22_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v22_1 : Ref sig .tc := ⟨.hbm, 45, rfl⟩
abbrev main_v22_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== FfnW.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩
abbrev S2048x256 : Shape := ⟨2, ![2048, 256]⟩
abbrev S256x1024 : Shape := ⟨2, ![256, 1024]⟩

abbrev nBuf : Space → Nat
  | .hbm => 111
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x2816, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S1024x2816, .f32⟩
  | .hbm, ⟨59, _⟩ => ⟨S2816x1024, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2816x1024, .f32⟩
  | .hbm, ⟨68, _⟩ => ⟨S1024x2816, .f32⟩
  | .hbm, ⟨69, _⟩ => ⟨S2048x1024, .f32⟩
  | .hbm, ⟨70, _⟩ => ⟨S2816x1024, .f32⟩
  | .hbm, ⟨71, _⟩ => ⟨S1024x2816, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x2816, .f32⟩
  | .hbm, ⟨101, _⟩ => ⟨S2048x2816, .f32⟩
  | .hbm, ⟨102, _⟩ => ⟨S2048x1024, .bf16⟩
  | .hbm, ⟨103, _⟩ => ⟨S2048x1024, .bf16⟩
  | .hbm, ⟨104, _⟩ => ⟨S2048x2816, .bf16⟩
  | .hbm, ⟨105, _⟩ => ⟨S2048x2816, .bf16⟩
  | .hbm, ⟨106, _⟩ => ⟨S2048x2816, .bf16⟩
  | .hbm, ⟨107, _⟩ => ⟨S2048x2816, .bf16⟩
  | .hbm, ⟨108, _⟩ => ⟨S2816x1024, .bf16⟩
  | .hbm, ⟨109, _⟩ => ⟨S2816x1024, .bf16⟩
  | .hbm, ⟨110, _⟩ => ⟨S2816x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v22_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v22_1 : Ref sig .tc := ⟨.hbm, 45, rfl⟩
abbrev main_v22_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74_0 : Ref sig .tc := ⟨.hbm, 108, rfl⟩
abbrev main_v74_1 : Ref sig .tc := ⟨.hbm, 109, rfl⟩
abbrev main_v74_2 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnWRefIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x2816, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S1024x2816, .f32⟩
  | .hbm, ⟨59, _⟩ => ⟨S2816x1024, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2048x2816, .f32⟩
  | .hbm, ⟨65, _⟩ => ⟨S2048x2816, .f32⟩
  | .hbm, ⟨66, _⟩ => ⟨S2048x2816, .f32⟩
  | .hbm, ⟨67, _⟩ => ⟨S2816x1024, .f32⟩
  | .hbm, ⟨68, _⟩ => ⟨S1024x2816, .f32⟩
  | .hbm, ⟨69, _⟩ => ⟨S2048x1024, .f32⟩
  | .hbm, ⟨70, _⟩ => ⟨S2816x1024, .f32⟩
  | .hbm, ⟨71, _⟩ => ⟨S1024x2816, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2816x1024, .f32⟩
  | .hbm, ⟨101, _⟩ => ⟨S2816x1024, .f32⟩
  | .hbm, ⟨102, _⟩ => ⟨S2816x1024, .bf16⟩
  | .hbm, ⟨103, _⟩ => ⟨S2816x1024, .bf16⟩
  | .hbm, ⟨104, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v22_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v22_1 : Ref sig .tc := ⟨.hbm, 45, rfl⟩
abbrev main_v22_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== MixOut.lean ====
abbrev S2048x1024 : Shape := ⟨2, ![2048, 1024]⟩
abbrev S1x2048x12x64 : Shape := ⟨4, ![1, 2048, 12, 64]⟩
abbrev S1024x1024 : Shape := ⟨2, ![1024, 1024]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S2048x768 : Shape := ⟨2, ![2048, 768]⟩
abbrev S2048x256 : Shape := ⟨2, ![2048, 256]⟩
abbrev S4x512x768 : Shape := ⟨3, ![4, 512, 768]⟩
abbrev S16x128x768 : Shape := ⟨3, ![16, 128, 768]⟩
abbrev S2048x128 : Shape := ⟨2, ![2048, 128]⟩
abbrev S4x512x128 : Shape := ⟨3, ![4, 512, 128]⟩
abbrev S16x128x128 : Shape := ⟨3, ![16, 128, 128]⟩
abbrev S256x1024 : Shape := ⟨2, ![256, 1024]⟩
abbrev S256x768 : Shape := ⟨2, ![256, 768]⟩
abbrev S256x256 : Shape := ⟨2, ![256, 256]⟩
abbrev S4x64x768 : Shape := ⟨3, ![4, 64, 768]⟩
abbrev S16x16x768 : Shape := ⟨3, ![16, 16, 768]⟩
abbrev S256x128 : Shape := ⟨2, ![256, 128]⟩
abbrev S4x64x128 : Shape := ⟨3, ![4, 64, 128]⟩
abbrev S16x16x128 : Shape := ⟨3, ![16, 16, 128]⟩
abbrev S256 : Shape := ⟨1, ![256]⟩
abbrev S256x1 : Shape := ⟨2, ![256, 1]⟩
abbrev S64x128 : Shape := ⟨2, ![64, 128]⟩
abbrev S1x64x128 : Shape := ⟨3, ![1, 64, 128]⟩
abbrev S16x128 : Shape := ⟨2, ![16, 128]⟩
abbrev S1x16x128 : Shape := ⟨3, ![1, 16, 128]⟩

abbrev nBuf : Space → Nat
  | .hbm => 130
  | .vmem => 22
  | .smem => 0
  | _ => 0

abbrev hbmTy0_0 (i : Nat) : BufTy := match i % 128 with
  | 0 => ⟨S2048x1024, .f32⟩
  | 1 => ⟨S1x2048x12x64, .f32⟩
  | 2 => ⟨S1x2048x12x64, .f32⟩
  | 3 => ⟨S1x2048x12x64, .f32⟩
  | 4 => ⟨S1024x1024, .f32⟩
  | 5 => ⟨S_, .f32⟩
  | 6 => ⟨S1x2048x12x64, .f32⟩
  | 7 => ⟨S1x2048x12x64, .f32⟩
  | 8 => ⟨S2048x12x64, .f32⟩
  | 9 => ⟨S12x2048x64, .f32⟩
  | 10 => ⟨S3x12x2048x64, .f32⟩
  | 11 => ⟨S2048x12x64, .f32⟩
  | 12 => ⟨S12x2048x64, .f32⟩
  | 13 => ⟨S3x12x2048x64, .f32⟩
  | 14 => ⟨S2048x12x64, .f32⟩
  | 15 => ⟨S12x2048x64, .f32⟩
  | 16 => ⟨S3x12x2048x64, .f32⟩
  | 17 => ⟨S3x12x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S2048x2048, .i1⟩
  | 41 => ⟨S_, .i32⟩
  | 42 => ⟨S2048x2048, .i32⟩
  | 43 => ⟨S2048x2048, .i1⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S2048x2048, .i1⟩
  | 56 => ⟨S_, .i32⟩
  | 57 => ⟨S2048x2048, .i32⟩
  | 58 => ⟨S2048x2048, .i1⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i1⟩
  | 70 => ⟨S2048x2048, .i1⟩
  | 71 => ⟨S1x2048x2048, .i1⟩
  | 72 => ⟨S1x2048x2048, .i1⟩
  | 73 => ⟨S1x2048x2048, .i1⟩
  | 74 => ⟨S3x2048x2048, .i1⟩
  | 75 => ⟨S3x1x2048x2048, .i1⟩
  | 76 => ⟨S_, .f32⟩
  | 77 => ⟨S_, .f32⟩
  | 78 => ⟨S3x12x2048x2048, .i1⟩
  | 79 => ⟨S3x12x2048x2048, .f32⟩
  | 80 => ⟨S3x12x2048x2048, .f32⟩
  | 81 => ⟨S_, .f32⟩
  | 82 => ⟨S3x12x2048, .f32⟩
  | 83 => ⟨S3x12x2048x1, .f32⟩
  | 84 => ⟨S3x12x2048x2048, .f32⟩
  | 85 => ⟨S3x12x2048x2048, .f32⟩
  | 86 => ⟨S3x12x2048x2048, .f32⟩
  | 87 => ⟨S3x12x2048x64, .f32⟩
  | 88 => ⟨S_, .f32⟩
  | 89 => ⟨S3x12x2048, .f32⟩
  | 90 => ⟨S_, .f32⟩
  | 91 => ⟨S12x2048, .f32⟩
  | 92 => ⟨S1x12x2048, .f32⟩
  | 93 => ⟨S3x12x2048, .f32⟩
  | 94 => ⟨S3x12x2048, .f32⟩
  | 95 => ⟨S3x12x2048, .f32⟩
  | 96 => ⟨S3x12x2048x1, .f32⟩
  | 97 => ⟨S3x12x2048x64, .f32⟩
  | 98 => ⟨S3x12x2048x64, .f32⟩
  | 99 => ⟨S3x12x2048, .f32⟩
  | 100 => ⟨S1x12x2048x64, .f32⟩
  | 101 => ⟨S12x2048x64, .f32⟩
  | 102 => ⟨S1x12x2048x64, .f32⟩
  | 103 => ⟨S12x2048x64, .f32⟩
  | 104 => ⟨S12x2048x64, .f32⟩
  | 105 => ⟨S1x12x2048x64, .f32⟩
  | 106 => ⟨S12x2048x64, .f32⟩
  | 107 => ⟨S12x2048x64, .f32⟩
  | 108 => ⟨S1x12x2048, .f32⟩
  | 109 => ⟨S12x2048, .f32⟩
  | 110 => ⟨S1x12x2048, .f32⟩
  | 111 => ⟨S12x2048, .f32⟩
  | 112 => ⟨S12x2048, .f32⟩
  | 113 => ⟨S1x12x2048, .f32⟩
  | 114 => ⟨S12x2048, .f32⟩
  | 115 => ⟨S12x2048, .f32⟩
  | 116 => ⟨S12x2048x1, .f32⟩
  | 117 => ⟨S12x2048x64, .f32⟩
  | 118 => ⟨S12x2048x64, .f32⟩
  | 119 => ⟨S2048x12x64, .f32⟩
  | 120 => ⟨S2048x768, .f32⟩
  | 121 => ⟨S1024x1024, .bf16⟩
  | 122 => ⟨S2048x1024, .bf16⟩
  | 123 => ⟨S2048x256, .f32⟩
  | 124 => ⟨S2048x768, .bf16⟩
  | 125 => ⟨S4x512x768, .bf16⟩
  | 126 => ⟨S16x128x768, .bf16⟩
  | 127 => ⟨S2048x128, .f32⟩
  | _ => ⟨S2048x1024, .f32⟩

abbrev hbmTy0_1 (i : Nat) : BufTy := match i % 128 with
  | 0 => ⟨S4x512x128, .f32⟩
  | 1 => ⟨S16x128x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x768, .f32⟩
  | .local _ .vmem, ⟨3, _⟩ => ⟨S256x768, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x256, .f32⟩
  | .local _ .vmem, ⟨8, _⟩ => ⟨S256x256, .f32⟩
  | .local _ .vmem, ⟨9, _⟩ => ⟨S256x768, .bf16⟩
  | .local _ .vmem, ⟨10, _⟩ => ⟨S256x768, .bf16⟩
  | .local _ .vmem, ⟨11, _⟩ => ⟨S4x64x768, .bf16⟩
  | .local _ .vmem, ⟨12, _⟩ => ⟨S4x64x768, .bf16⟩
  | .local _ .vmem, ⟨13, _⟩ => ⟨S16x16x768, .bf16⟩
  | .local _ .vmem, ⟨14, _⟩ => ⟨S16x16x768, .bf16⟩
  | .local _ .vmem, ⟨15, _⟩ => ⟨S256x128, .f32⟩
  | .local _ .vmem, ⟨16, _⟩ => ⟨S256x128, .f32⟩
  | .local _ .vmem, ⟨17, _⟩ => ⟨S4x64x128, .f32⟩
  | .local _ .vmem, ⟨18, _⟩ => ⟨S4x64x128, .f32⟩
  | .local _ .vmem, ⟨19, _⟩ => ⟨S16x16x128, .f32⟩
  | .local _ .vmem, ⟨20, _⟩ => ⟨S16x16x128, .f32⟩
  | .local _ .vmem, ⟨21, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_call0_c : Ref sig .tc := ⟨.hbm, 30, rfl⟩
abbrev main_call0_v0 : Ref sig .tc := ⟨.hbm, 31, rfl⟩
abbrev main_call0_c_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call1_c : Ref sig .tc := ⟨.hbm, 45, rfl⟩
abbrev main_call1_v0 : Ref sig .tc := ⟨.hbm, 46, rfl⟩
abbrev main_call1_c_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_call2_c : Ref sig .tc := ⟨.hbm, 60, rfl⟩
abbrev main_call2_v0 : Ref sig .tc := ⟨.hbm, 61, rfl⟩
abbrev main_call2_c_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_cst_11 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82_0 : Ref sig .tc := ⟨.hbm, 122, rfl⟩
abbrev main_v82_1 : Ref sig .tc := ⟨.hbm, 123, rfl⟩
abbrev main_v82_2 : Ref sig .tc := ⟨.hbm, 124, rfl⟩
abbrev main_v82_3 : Ref sig .tc := ⟨.hbm, 125, rfl⟩
abbrev main_v82_4 : Ref sig .tc := ⟨.hbm, 126, rfl⟩
abbrev main_v82_5 : Ref sig .tc := ⟨.hbm, 127, rfl⟩
abbrev main_v82_6 : Ref sig .tc := ⟨.hbm, 128, rfl⟩
abbrev main_v82_7 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutRefIdeal.lean ====
abbrev S2048x1024 : Shape := ⟨2, ![2048, 1024]⟩
abbrev S1x2048x12x64 : Shape := ⟨4, ![1, 2048, 12, 64]⟩
abbrev S1024x1024 : Shape := ⟨2, ![1024, 1024]⟩
abbrev S_ : Shape := ⟨0, ![]⟩
abbrev S2048x12x64 : Shape := ⟨3, ![2048, 12, 64]⟩
abbrev S12x2048x64 : Shape := ⟨3, ![12, 2048, 64]⟩
abbrev S3x12x2048x64 : Shape := ⟨4, ![3, 12, 2048, 64]⟩
abbrev S3x12x2048x2048 : Shape := ⟨4, ![3, 12, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S3x2048x2048 : Shape := ⟨3, ![3, 2048, 2048]⟩
abbrev S3x1x2048x2048 : Shape := ⟨4, ![3, 1, 2048, 2048]⟩
abbrev S3x12x2048 : Shape := ⟨3, ![3, 12, 2048]⟩
abbrev S3x12x2048x1 : Shape := ⟨4, ![3, 12, 2048, 1]⟩
abbrev S12x2048 : Shape := ⟨2, ![12, 2048]⟩
abbrev S1x12x2048 : Shape := ⟨3, ![1, 12, 2048]⟩
abbrev S1x12x2048x64 : Shape := ⟨4, ![1, 12, 2048, 64]⟩
abbrev S12x2048x1 : Shape := ⟨3, ![12, 2048, 1]⟩
abbrev S2048x768 : Shape := ⟨2, ![2048, 768]⟩
abbrev S2048x256 : Shape := ⟨2, ![2048, 256]⟩
abbrev S2048x12 : Shape := ⟨2, ![2048, 12]⟩
abbrev S2048x128 : Shape := ⟨2, ![2048, 128]⟩
abbrev S512x4x768 : Shape := ⟨3, ![512, 4, 768]⟩
abbrev S4x512x768 : Shape := ⟨3, ![4, 512, 768]⟩
abbrev S128x16x768 : Shape := ⟨3, ![128, 16, 768]⟩
abbrev S16x128x768 : Shape := ⟨3, ![16, 128, 768]⟩
abbrev S512x4x128 : Shape := ⟨3, ![512, 4, 128]⟩
abbrev S4x512x128 : Shape := ⟨3, ![4, 512, 128]⟩
abbrev S128x16x128 : Shape := ⟨3, ![128, 16, 128]⟩
abbrev S16x128x128 : Shape := ⟨3, ![16, 128, 128]⟩

abbrev nBuf : Space → Nat
  | .hbm => 147
  | .vmem => 0
  | .smem => 0
  | _ => 0

abbrev hbmTy0_0 (i : Nat) : BufTy := match i % 128 with
  | 0 => ⟨S2048x1024, .f32⟩
  | 1 => ⟨S1x2048x12x64, .f32⟩
  | 2 => ⟨S1x2048x12x64, .f32⟩
  | 3 => ⟨S1x2048x12x64, .f32⟩
  | 4 => ⟨S1024x1024, .f32⟩
  | 5 => ⟨S_, .f32⟩
  | 6 => ⟨S1x2048x12x64, .f32⟩
  | 7 => ⟨S1x2048x12x64, .f32⟩
  | 8 => ⟨S2048x12x64, .f32⟩
  | 9 => ⟨S12x2048x64, .f32⟩
  | 10 => ⟨S3x12x2048x64, .f32⟩
  | 11 => ⟨S2048x12x64, .f32⟩
  | 12 => ⟨S12x2048x64, .f32⟩
  | 13 => ⟨S3x12x2048x64, .f32⟩
  | 14 => ⟨S2048x12x64, .f32⟩
  | 15 => ⟨S12x2048x64, .f32⟩
  | 16 => ⟨S3x12x2048x64, .f32⟩
  | 17 => ⟨S3x12x2048x2048, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i32⟩
  | 25 => ⟨S2048x2048, .i32⟩
  | 26 => ⟨S_, .i32⟩
  | 27 => ⟨S2048x2048, .i32⟩
  | 28 => ⟨S2048x2048, .i1⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S2048x2048, .i1⟩
  | 41 => ⟨S_, .i32⟩
  | 42 => ⟨S2048x2048, .i32⟩
  | 43 => ⟨S2048x2048, .i1⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S2048x2048, .i1⟩
  | 56 => ⟨S_, .i32⟩
  | 57 => ⟨S2048x2048, .i32⟩
  | 58 => ⟨S2048x2048, .i1⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i1⟩
  | 70 => ⟨S2048x2048, .i1⟩
  | 71 => ⟨S1x2048x2048, .i1⟩
  | 72 => ⟨S1x2048x2048, .i1⟩
  | 73 => ⟨S1x2048x2048, .i1⟩
  | 74 => ⟨S3x2048x2048, .i1⟩
  | 75 => ⟨S3x1x2048x2048, .i1⟩
  | 76 => ⟨S_, .f32⟩
  | 77 => ⟨S_, .f32⟩
  | 78 => ⟨S3x12x2048x2048, .i1⟩
  | 79 => ⟨S3x12x2048x2048, .f32⟩
  | 80 => ⟨S3x12x2048x2048, .f32⟩
  | 81 => ⟨S_, .f32⟩
  | 82 => ⟨S3x12x2048, .f32⟩
  | 83 => ⟨S3x12x2048x1, .f32⟩
  | 84 => ⟨S3x12x2048x2048, .f32⟩
  | 85 => ⟨S3x12x2048x2048, .f32⟩
  | 86 => ⟨S3x12x2048x2048, .f32⟩
  | 87 => ⟨S3x12x2048x64, .f32⟩
  | 88 => ⟨S_, .f32⟩
  | 89 => ⟨S3x12x2048, .f32⟩
  | 90 => ⟨S_, .f32⟩
  | 91 => ⟨S12x2048, .f32⟩
  | 92 => ⟨S1x12x2048, .f32⟩
  | 93 => ⟨S3x12x2048, .f32⟩
  | 94 => ⟨S3x12x2048, .f32⟩
  | 95 => ⟨S3x12x2048, .f32⟩
  | 96 => ⟨S3x12x2048x1, .f32⟩
  | 97 => ⟨S3x12x2048x64, .f32⟩
  | 98 => ⟨S3x12x2048x64, .f32⟩
  | 99 => ⟨S3x12x2048, .f32⟩
  | 100 => ⟨S1x12x2048x64, .f32⟩
  | 101 => ⟨S12x2048x64, .f32⟩
  | 102 => ⟨S1x12x2048x64, .f32⟩
  | 103 => ⟨S12x2048x64, .f32⟩
  | 104 => ⟨S12x2048x64, .f32⟩
  | 105 => ⟨S1x12x2048x64, .f32⟩
  | 106 => ⟨S12x2048x64, .f32⟩
  | 107 => ⟨S12x2048x64, .f32⟩
  | 108 => ⟨S1x12x2048, .f32⟩
  | 109 => ⟨S12x2048, .f32⟩
  | 110 => ⟨S1x12x2048, .f32⟩
  | 111 => ⟨S12x2048, .f32⟩
  | 112 => ⟨S12x2048, .f32⟩
  | 113 => ⟨S1x12x2048, .f32⟩
  | 114 => ⟨S12x2048, .f32⟩
  | 115 => ⟨S12x2048, .f32⟩
  | 116 => ⟨S12x2048x1, .f32⟩
  | 117 => ⟨S12x2048x64, .f32⟩
  | 118 => ⟨S12x2048x64, .f32⟩
  | 119 => ⟨S2048x12x64, .f32⟩
  | 120 => ⟨S2048x768, .f32⟩
  | 121 => ⟨S_, .f32⟩
  | 122 => ⟨S2048x1024, .f32⟩
  | 123 => ⟨S2048x1024, .f32⟩
  | 124 => ⟨S1024x1024, .f32⟩
  | 125 => ⟨S1024x1024, .f32⟩
  | 126 => ⟨S2048x1024, .f32⟩
  | 127 => ⟨S2048x256, .f32⟩
  | _ => ⟨S2048x1024, .f32⟩

abbrev hbmTy0_1 (i : Nat) : BufTy := match i % 128 with
  | 0 => ⟨S2048x768, .f32⟩
  | 1 => ⟨S2048x12x64, .f32⟩
  | 2 => ⟨S2048x12x64, .f32⟩
  | 3 => ⟨S2048x12x64, .f32⟩
  | 4 => ⟨S_, .f32⟩
  | 5 => ⟨S2048x12, .f32⟩
  | 6 => ⟨S_, .i32⟩
  | 7 => ⟨S_, .f32⟩
  | 8 => ⟨S2048x128, .f32⟩
  | 9 => ⟨S2048x768, .bf16⟩
  | 10 => ⟨S2048x1024, .bf16⟩
  | 11 => ⟨S512x4x768, .bf16⟩
  | 12 => ⟨S4x512x768, .bf16⟩
  | 13 => ⟨S128x16x768, .bf16⟩
  | 14 => ⟨S16x128x768, .bf16⟩
  | 15 => ⟨S512x4x128, .f32⟩
  | 16 => ⟨S4x512x128, .f32⟩
  | 17 => ⟨S128x16x128, .f32⟩
  | 18 => ⟨S16x128x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_call0_c : Ref sig .tc := ⟨.hbm, 30, rfl⟩
abbrev main_call0_v0 : Ref sig .tc := ⟨.hbm, 31, rfl⟩
abbrev main_call0_c_0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call1_c : Ref sig .tc := ⟨.hbm, 45, rfl⟩
abbrev main_call1_v0 : Ref sig .tc := ⟨.hbm, 46, rfl⟩
abbrev main_call1_c_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_call2_c : Ref sig .tc := ⟨.hbm, 60, rfl⟩
abbrev main_call2_v0 : Ref sig .tc := ⟨.hbm, 61, rfl⟩
abbrev main_call2_c_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_cst_11 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_12 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_c_14 : Ref sig .tc := ⟨.hbm, 134, rfl⟩
abbrev main_call4_v0 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩

abbrev nD : Nat := 1
abbrev τ : Topo := Topo.v7x

variable {F : FTy → Type} [FloatOps F]
-- ==== Pool.lean ====
abbrev S2048x256 : Shape := ⟨2, ![2048, 256]⟩
abbrev S256x256 : Shape := ⟨2, ![256, 256]⟩
abbrev S1x256 : Shape := ⟨2, ![1, 256]⟩
abbrev S4x64x64 : Shape := ⟨3, ![4, 64, 64]⟩
abbrev S2064x256 : Shape := ⟨2, ![2064, 256]⟩
abbrev S8x256 : Shape := ⟨2, ![8, 256]⟩
abbrev S256 : Shape := ⟨1, ![256]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S2048x256, .f32⟩
  | .hbm, ⟨1, _⟩ => ⟨S2048x256, .bf16⟩
  | .hbm, ⟨2, _⟩ => ⟨S256x256, .f32⟩
  | .hbm, ⟨3, _⟩ => ⟨S1x256, .f32⟩
  | .hbm, ⟨4, _⟩ => ⟨S256x256, .bf16⟩
  | .hbm, ⟨5, _⟩ => ⟨S2048x256, .f32⟩
  | .hbm, ⟨6, _⟩ => ⟨S4x64x64, .f32⟩
  | .hbm, ⟨7, _⟩ => ⟨S1x256, .f32⟩
  | .local _ .vmem, ⟨0, _⟩ => ⟨S2048x256, .f32⟩
  | .local _ .vmem, ⟨1, _⟩ => ⟨S2048x256, .bf16⟩
  | .local _ .vmem, ⟨2, _⟩ => ⟨S256x256, .bf16⟩
  | .local _ .vmem, ⟨3, _⟩ => ⟨S1x256, .f32⟩
  | .local _ .vmem, ⟨4, _⟩ => ⟨S2048x256, .f32⟩
  | .local _ .vmem, ⟨5, _⟩ => ⟨S4x64x64, .f32⟩
  | .local _ .vmem, ⟨6, _⟩ => ⟨S1x256, .f32⟩
  | .local _ .vmem, ⟨7, _⟩ => ⟨S2064x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixIn.lean ====
abbrev S2048x1024 : Shape := ⟨2, ![2048, 1024]⟩
abbrev S1024 : Shape := ⟨1, ![1024]⟩
abbrev S1024x2560 : Shape := ⟨2, ![1024, 2560]⟩
abbrev S2048x128 : Shape := ⟨2, ![2048, 128]⟩
abbrev S2048x256 : Shape := ⟨2, ![2048, 256]⟩
abbrev S2048x768 : Shape := ⟨2, ![2048, 768]⟩
abbrev S4x512x768 : Shape := ⟨3, ![4, 512, 768]⟩
abbrev S16x128x768 : Shape := ⟨3, ![16, 128, 768]⟩
abbrev S1x1024 : Shape := ⟨2, ![1, 1024]⟩
abbrev S2560x1024 : Shape := ⟨2, ![2560, 1024]⟩
abbrev S2048x2560 : Shape := ⟨2, ![2048, 2560]⟩
abbrev S256x1024 : Shape := ⟨2, ![256, 1024]⟩
abbrev S256x128 : Shape := ⟨2, ![256, 128]⟩
abbrev S256x256 : Shape := ⟨2, ![256, 256]⟩
abbrev S256x768 : Shape := ⟨2, ![256, 768]⟩
abbrev S4x64x768 : Shape := ⟨3, ![4, 64, 768]⟩
abbrev S16x16x768 : Shape := ⟨3, ![16, 16, 768]⟩
abbrev S256x2560 : Shape := ⟨2, ![256, 2560]⟩
abbrev S256 : Shape := ⟨1, ![256]⟩
abbrev S256x1 : Shape := ⟨2, ![256, 1]⟩

abbrev nBuf : Space → Nat
  | .hbm => 23
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2560, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x256, .f32⟩
  | .hbm, ⟨8, _⟩ => ⟨S2048x768, .bf16⟩
  | .hbm, ⟨9, _⟩ => ⟨S2048x768, .bf16⟩
  | .hbm, ⟨10, _⟩ => ⟨S2048x768, .bf16⟩
  | .hbm, ⟨11, _⟩ => ⟨S4x512x768, .bf16⟩
  | .hbm, ⟨12, _⟩ => ⟨S4x512x768, .bf16⟩
  | .hbm, ⟨13, _⟩ => ⟨S4x512x768, .bf16⟩
  | .hbm, ⟨14, _⟩ => ⟨S16x128x768, .bf16⟩
  | .hbm, ⟨15, _⟩ => ⟨S16x128x768, .bf16⟩
  | .hbm, ⟨16, _⟩ => ⟨S16x128x768, .bf16⟩
  | .hbm, ⟨17, _⟩ => ⟨S1x1024, .f32⟩
  | .hbm, ⟨18, _⟩ => ⟨S2560x1024, .f32⟩
  | .hbm, ⟨19, _⟩ => ⟨S2560x1024, .bf16⟩
  | .hbm, ⟨20, _⟩ => ⟨S2048x1024, .f32⟩
  | .hbm, ⟨21, _⟩ => ⟨S2048x2560, .bf16⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2560x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S256x768, .bf16⟩
  | .local _ .vmem, ⟨15, _⟩ => ⟨S256x768, .bf16⟩
  | .local _ .vmem, ⟨16, _⟩ => ⟨S256x768, .bf16⟩
  | .local _ .vmem, ⟨17, _⟩ => ⟨S256x768, .bf16⟩
  | .local _ .vmem, ⟨18, _⟩ => ⟨S256x768, .bf16⟩
  | .local _ .vmem, ⟨19, _⟩ => ⟨S256x768, .bf16⟩
  | .local _ .vmem, ⟨20, _⟩ => ⟨S4x64x768, .bf16⟩
  | .local _ .vmem, ⟨21, _⟩ => ⟨S4x64x768, .bf16⟩
  | .local _ .vmem, ⟨22, _⟩ => ⟨S4x64x768, .bf16⟩
  | .local _ .vmem, ⟨23, _⟩ => ⟨S4x64x768, .bf16⟩
  | .local _ .vmem, ⟨24, _⟩ => ⟨S4x64x768, .bf16⟩
  | .local _ .vmem, ⟨25, _⟩ => ⟨S4x64x768, .bf16⟩
  | .local _ .vmem, ⟨26, _⟩ => ⟨S16x16x768, .bf16⟩
  | .local _ .vmem, ⟨27, _⟩ => ⟨S16x16x768, .bf16⟩
  | .local _ .vmem, ⟨28, _⟩ => ⟨S16x16x768, .bf16⟩
  | .local _ .vmem, ⟨29, _⟩ => ⟨S16x16x768, .bf16⟩
  | .local _ .vmem, ⟨30, _⟩ => ⟨S16x16x768, .bf16⟩
  | .local _ .vmem, ⟨31, _⟩ => ⟨S16x16x768, .bf16⟩
  | .local _ .vmem, ⟨32, _⟩ => ⟨S256x1024, .f32⟩
  | .local _ .vmem, ⟨33, _⟩ => ⟨S256x1024, .f32⟩
  | .local _ .vmem, ⟨34, _⟩ => ⟨S256x2560, .bf16⟩
  | .local _ .vmem, ⟨35, _⟩ => ⟨S256x2560, .bf16⟩
  | .local _ .vmem, ⟨36, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3_0 : Ref sig .tc := ⟨.hbm, 20, rfl⟩
abbrev main_v3_1 : Ref sig .tc := ⟨.hbm, 21, rfl⟩
abbrev main_v3_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x64x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x64x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x64x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x16x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x16x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x16x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2560 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Proof.Reals.lean ====
/-
  Facts about extended reals that are finite, used by every value proof of this directory.

  The programs are compared over the extended reals, where a product does not distribute over a sum at the infinities.
  Each value proof has finite arguments, so every intermediate value is the image of a real number: the lemmas here move
  that image outwards through sums, quotients, square roots, exponentials and comparisons, and read the finiteness
  precondition (`|x| < ∞`, all elements) at one index.
-/
module

public import Idealize.ShloMosaic.Lib.StableHlo
public import Idealize.ShloMosaic.PureOps
public import Idealize.ShloMosaic.PureOps.Ideal.Laws
public import Idealize.ShloMosaic.Lib.ValueIdx
public import Idealize.ShloMosaic.Lib.Pipeline.Value

@[expose] public section

noncomputable section

namespace Cert.Reals

open Idealize.ShloMosaic

/-- The image of a finite sum is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of finite values by a nonzero finite value is the real quotient. -/
theorem div_coe_coe {y : ℝ} (h : y ≠ 0) (x : ℝ) : Ideal.div (x : EReal) (y : EReal) = ((x / y : ℝ) : EReal) := by
  rw [Ideal.div_coe h, ← EReal.coe_mul, mul_one_div]

/-- The reciprocal square root of a positive value. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- The logarithm of a positive value. -/
theorem log_coe_pos {x : ℝ} (h : 0 < x) : Ideal.log (x : EReal) = ((Real.log x : ℝ) : EReal) := by
  rw [Ideal.log_coe, if_neg (not_le.mpr h)]

/-- A vector all of whose elements lie strictly between the infinities is the image of a real vector. -/
theorem exists_real {ι : Type*} (x : ι → EReal) (h : ∀ i, max (x i) (-(x i)) < ⊤) : ∃ y : ι → ℝ, x = fun i => (y i : EReal) := by
  refine ⟨fun i => (x i).toReal, funext fun i => (EReal.coe_toReal ?_ ?_).symm⟩
  · intro e
    have := h i
    simp [e] at this
  · intro e
    have := h i
    simp [e] at this

/-- A left fold of one-bit conjunctions ending at one started at one and met only ones. -/
theorem foldl_andi {ι : Type*} (f : ι → BitVec 1) : ∀ (l : List ι) (b : BitVec 1),
    l.foldl (fun r n => IntOp.andi r (f n)) b = 1#1 → b = 1#1 ∧ ∀ n ∈ l, f n = 1#1
  | [], b, h => ⟨h, by simp⟩
  | a :: l, b, h => by
    obtain ⟨hb, hl⟩ := foldl_andi f l _ h
    have key : ∀ x y : BitVec 1, IntOp.andi x y = 1#1 → x = 1#1 ∧ y = 1#1 := by decide
    obtain ⟨h1, h2⟩ := key _ _ hb
    exact ⟨h1, fun n hn => by
      rcases List.mem_cons.mp hn with rfl | hn
      · exact h2
      · exact hl n hn⟩

/-- A conjunction over every element that holds, holds at each. -/
theorem all_of_reduce {s t u : Shape} {axes : List (Fin s.rank)} (ht : t.rank = 0) (x : IVec s 1) (init : u.Idx → BitVec 1)
    (h : s.ReducesTo axes t) (hu : 0 < u.numel) (j : t.Idx) (e : Host.reduce IntOp.andi x init h hu j = 1#1) (i : s.Idx) :
    x i = 1#1 := by
  have hm := (foldl_andi (fun n => x (s.rowMajor.symm n)) _ _ e).2 (s.rowMajor i)
    (List.mem_filter.mpr ⟨List.mem_finRange _, by
      rw [decide_eq_true_eq]
      funext a
      exfalso
      have := a.isLt; omega⟩)
  rwa [Equiv.symm_apply_apply] at hm

/-- The f32 word of `+∞`. -/
theorem ofBits_inf : Ideal.ofBits .f32 0x7F800000#32 = (⊤ : EReal) := by
  simp [Ideal.ofBits, Ideal.ieee]

/-- `|x| < ∞`, as the precondition's comparison says it, read at an index. -/
theorem lt_top_of_cmp {x y : EReal} (hy : y = ⊤) (e : FloatOps.cmpf (F := Ideal) (φ := .f32) .olt (FloatOps.absf x) y = 1#1) :
    max x (-x) < ⊤ := by
  subst hy
  rw [Ideal.cmpf_def, Ideal.absf_def] at e
  by_contra hc
  rw [Ideal.cmp] at e
  simp [hc] at e

/-- The precondition's conjunct for one argument, all of whose elements are finite: the argument is a real vector's image. -/
theorem real_of_pre {s t u : Shape} {axes : List (Fin s.rank)} (ht : t.rank = 0) (x : FVec Ideal s .f32) (top : FVec Ideal s .f32)
    (htop : ∀ i, top i = Ideal.ofBits .f32 0x7F800000#32) (init : u.Idx → BitVec 1) (h : s.ReducesTo axes t) (hu : 0 < u.numel)
    (j : t.Idx) (e : Host.reduce IntOp.andi (cmpf .olt (Host.absf x) top) init h hu j = 1#1) :
    ∃ y : s.Idx → ℝ, x = fun i => (y i : EReal) :=
  exists_real x fun i => lt_top_of_cmp ((htop i).trans ofBits_inf) (all_of_reduce ht _ init h hu j e i)

/-- A conjunction of two one-bit vectors that is one at an index has both one there. -/
theorem andi_eq_one {s : Shape} (x y : IVec s 1) (j : s.Idx) (e : andi x y j = 1#1) : x j = 1#1 ∧ y j = 1#1 :=
  (by decide : ∀ a b : BitVec 1, IntOp.andi a b = 1#1 → a = 1#1 ∧ b = 1#1) _ _ e

/-- A host sum over axes of size one has one term. -/
theorem hostReduceAdd_one {s t : Shape} {axes : List (Fin s.rank)} (h : s.ReducesTo axes t) (v : s.Idx → EReal) (init : EReal) (j : t.Idx)
    (i : s.Idx) (hi : h.drop i = j) (hu : ∀ i', h.drop i' = j → i' = i) : Ideal.hostReduceAdd h v init j = init + v i := by
  unfold Ideal.hostReduceAdd
  congr 1
  have e : Finset.univ.filter (fun i => h.drop i = j) = {i} := by
    ext i'
    simp only [Finset.mem_filter, Finset.mem_univ, true_and, Finset.mem_singleton]
    exact ⟨hu i', fun e => e ▸ hi⟩
  rw [e, Finset.sum_singleton]

end Cert.Reals

end
-- ==== Proof.Norm.lean ====
/-
  The real functions of one row that the final norm, the loss and their gradients are made of, and the f32 constants of
  these programs as real numbers.
-/
module

public import proofs.«01_k».proof.Proof.Reals

@[expose] public section

noncomputable section

namespace Cert.Reals

open Idealize.ShloMosaic

/-- The norm's small constant: the f32 nearest to `1e-6`. -/
def eps : ℝ := 8796093 / 8796093022208

theorem eps_pos : 0 < eps := by unfold eps; norm_num

theorem ofBits_eps : Ideal.ofBits .f32 0x358637BD#32 = ((eps : ℝ) : EReal) := by
  simp [Ideal.ofBits, Ideal.ieee, -EReal.coe_mul, eps]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

variable {n : ℕ}

/-- A row's mean square plus the small constant. -/
def ms (x : Fin n → ℝ) : ℝ := (∑ k, x k * x k) / 1024 + eps

theorem ms_pos (x : Fin n → ℝ) : 0 < ms x := by
  have : 0 ≤ ∑ k, x k * x k := Finset.sum_nonneg fun k _ => mul_self_nonneg _
  unfold ms
  have := eps_pos
  positivity

/-- The norm's factor of a row. -/
def rs (x : Fin n → ℝ) : ℝ := (Real.sqrt (ms x))⁻¹

theorem rs_sq (x : Fin n → ℝ) : rs x * rs x * ms x = 1 := by
  have h := ms_pos x
  unfold rs
  rw [← mul_inv, Real.mul_self_sqrt h.le, inv_mul_cancel₀ h.ne']

/-- The error of a row: the normalised row times the gain, minus the target. -/
def err (x g t : Fin n → ℝ) (k : Fin n) : ℝ := x k * rs x * g k - t k

/-- The gradient at the norm's result: the error over the row's length. -/
def dy (x g t : Fin n → ℝ) (k : Fin n) : ℝ := err x g t k * (1 / 1024)

/-- A row's share of the loss, before the factor one half. -/
def sq (x g t : Fin n → ℝ) : ℝ := (∑ k, err x g t k * err x g t k) / 1024

/-- The gradient at the row. -/
def dx (x g t : Fin n → ℝ) (k : Fin n) : ℝ :=
  rs x * (dy x g t k * g k - x k * rs x * ((∑ l, dy x g t l * g l * (x l * rs x)) / 1024))

end Cert.Reals

end
-- ==== Proof.LossCases.lean ====
/-
  What the loss kernel leaves in its three output blocks at a grid point, as the values it stores (no arithmetic is done
  here): the first point clears the two running sums, the others add to what the point before left.
-/
module

public import proofs.«01_k».proof.Proof.Gen.LossIdeal.Value

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)

variable {F : FTy → Type} [FloatOps F]
variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S256x1024 .f32) (harg3 : arg3.IsWhole)
  (arg4 : Memref sig .tc .vmem S256x1024 .f32) (harg4 : arg4.IsWhole) (arg5 : Memref sig .tc .vmem S1x1024 .f32) (harg5 : arg5.IsWhole)
  (arg6 : Memref sig .tc .vmem S1x1024 .f32) (harg6 : arg6.IsWhole)
  (x0 : Vec F S256x1024 .f32) (x1 : Vec F S1x1024 .f32) (x2 : Vec F S256x1024 .f32) (xo4 xo5 : Vec F S1x1024 .f32)

theorem hz : (![0, 0] : Fin 2 → Nat) = fun _ => 0 := funext fun a => by fin_cases a <;> rfl

/-- The gradient's block at the first point. -/
theorem out_A_3 (hc : cond0_0 i) : out0_A_3 c i arg1 harg1 arg2 harg2 arg3 harg3 arg4 harg4 arg5 harg5 arg6 harg6 hc x0 x1 x2
    = k0_pay2 (k0_pay3 x1) (k0_pay5 x0) (k0_pay6 x0) (k0_pay8 x1 x0 x2) := by
  unfold out0_A_3
  rw [View.read_writes_eq_canon _ _ _ (cover0_A_3 c i arg1 harg1 arg2 harg2 arg3 harg3 arg4 harg4 arg5 harg5 arg6 harg6 hc x0 x1 x2)]
  unfold kernelRun0_A
  dsimp only
  sl_unfold_words
  rw [View.canon_unit_zero hz]
  simp only [View.readAt_eq_ld, harg1.read_unread, harg2.read_unread, harg3.read_unread, View.ld_unit_zero (S := S256x1024) hz,
    View.ld_unit_zero (S := S1x1024) hz]

/-- The gradient's block at a later point. -/
theorem out_B_3 (hc : ¬cond0_0 i) : out0_B_3 c i arg1 harg1 arg2 harg2 arg3 harg3 arg4 harg4 arg5 harg5 arg6 harg6 hc x0 x1 x2 xo4 xo5
    = k0_pay2 (k0_pay3 x1) (k0_pay5 x0) (k0_pay6 x0) (k0_pay8 x1 x0 x2) := by
  unfold out0_B_3
  rw [View.read_writes_eq_canon _ _ _ (cover0_B_3 c i arg1 harg1 arg2 harg2 arg3 harg3 arg4 harg4 arg5 harg5 arg6 harg6 hc x0 x1 x2 xo4 xo5)]
  unfold kernelRun0_B
  dsimp only
  sl_unfold_words
  rw [View.canon_unit_zero hz]
  simp only [View.readAt_eq_ld, harg1.read_unread, harg2.read_unread, harg3.read_unread, View.ld_unit_zero (S := S256x1024) hz,
    View.ld_unit_zero (S := S1x1024) hz]

/-- The loss at the first point. -/
theorem out_A_4 (hc : cond0_0 i) : out0_A_4 c i arg1 harg1 arg2 harg2 arg3 harg3 arg4 harg4 arg5 harg5 arg6 harg6 hc x0 x1 x2
    = k0_pay11 x1 x0 x2 k0_pay9 := by
  unfold out0_A_4
  rw [View.read_writes_eq_canon _ _ _ (cover0_A_4 c i arg1 harg1 arg2 harg2 arg3 harg3 arg4 harg4 arg5 harg5 arg6 harg6 hc x0 x1 x2)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, View.ld_unit_zero (S := S256x1024) hz,
    View.ld_unit_zero (S := S1x1024) hz]

/-- The loss at a later point. -/
theorem out_B_4 (hc : ¬cond0_0 i) : out0_B_4 c i arg1 harg1 arg2 harg2 arg3 harg3 arg4 harg4 arg5 harg5 arg6 harg6 hc x0 x1 x2 xo4 xo5
    = k0_pay11 x1 x0 x2 xo4 := by
  unfold out0_B_4
  rw [View.read_writes_eq_canon _ _ _ (cover0_B_4 c i arg1 harg1 arg2 harg2 arg3 harg3 arg4 harg4 arg5 harg5 arg6 harg6 hc x0 x1 x2 xo4 xo5)]
  unfold kernelRun0_B
  dsimp only
  sl_unfold_words
  rw [View.canon_unit_zero hz]
  simp only [View.readAt_eq_ld, harg1.read_unread, harg2.read_unread, harg3.read_unread, harg5.read_unread, View.ld_unit_zero (S := S256x1024) hz,
    View.ld_unit_zero (S := S1x1024) hz]

/-- The gain's gradient at the first point. -/
theorem out_A_5 (hc : cond0_0 i) : out0_A_5 c i arg1 harg1 arg2 harg2 arg3 harg3 arg4 harg4 arg5 harg5 arg6 harg6 hc x0 x1 x2
    = k0_pay1 (k0_pay6 x0) (k0_pay8 x1 x0 x2) k0_pay10 := by
  unfold out0_A_5
  rw [View.read_writes_eq_canon _ _ _ (cover0_A_5 c i arg1 harg1 arg2 harg2 arg3 harg3 arg4 harg4 arg5 harg5 arg6 harg6 hc x0 x1 x2)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, View.ld_unit_zero (S := S256x1024) hz,
    View.ld_unit_zero (S := S1x1024) hz]

/-- The gain's gradient at a later point. -/
theorem out_B_5 (hc : ¬cond0_0 i) : out0_B_5 c i arg1 harg1 arg2 harg2 arg3 harg3 arg4 harg4 arg5 harg5 arg6 harg6 hc x0 x1 x2 xo4 xo5
    = k0_pay1 (k0_pay6 x0) (k0_pay8 x1 x0 x2) xo5 := by
  unfold out0_B_5
  rw [View.read_writes_eq_canon _ _ _ (cover0_B_5 c i arg1 harg1 arg2 harg2 arg3 harg3 arg4 harg4 arg5 harg5 arg6 harg6 hc x0 x1 x2 xo4 xo5)]
  unfold kernelRun0_B
  dsimp only
  sl_unfold_words
  rw [View.canon_unit_zero hz]
  simp only [View.readAt_eq_ld, harg1.read_unread, harg2.read_unread, harg3.read_unread, harg6.read_unread, View.ld_unit_zero (S := S256x1024) hz,
    View.ld_unit_zero (S := S1x1024) hz]

end Cert.LossIdeal.Value

end
-- ==== Proof.LossKernel.lean ====
/-
  The loss kernel's stored values over finite arguments, as real functions of a block's rows.
-/
module

public import proofs.«01_k».proof.Proof.Norm
public import proofs.«01_k».proof.Proof.LossCases
public import Idealize.ShloMosaic.Lib.Pointwise

@[expose] public section

set_option maxRecDepth 16384

noncomputable section

namespace Cert.LossIdeal.Value

open Cert.LossIdeal Cert.LossIdeal.Gen Idealize.ShloMosaic Idealize.ShloMosaic.TcCoe Idealize.SL.Sem Cert.Reals
open Idealize.ShloMosaic.Pipeline (Dat)

/-- A block's row. -/
abbrev row (X : S256x1024.Idx → ℝ) (r : Fin 256) : Fin 1024 → ℝ := fun k => X (ix2 r k)
/-- The gain's row. -/
abbrev gain (G : S1x1024.Idx → ℝ) : Fin 1024 → ℝ := fun k => G (ix2 0 k)

theorem pay5 (X : S256x1024.Idx → ℝ) (r : Fin 256) (z : Fin 1) :
    k0_pay5 (F := Ideal) (fun i => (X i : EReal)) (ix2 r z) = ((rs (row X r) : ℝ) : EReal) := by
  pointwise [k0_pay5, k0_pay4]
  have h : (∑ x, X (ix2 r x) * X (ix2 r x)) / 1024 + eps = ms (row X r) := rfl
  simp only [ofBits_1024, ofBits_eps, ← EReal.coe_mul, ← coe_sum]
  rw [div_coe_coe (by norm_num), ← EReal.coe_add, h, rsqrt_coe_pos (ms_pos _)]
  rfl

theorem pay6 (X : S256x1024.Idx → ℝ) (r : Fin 256) (k : Fin 1024) :
    k0_pay6 (F := Ideal) (fun i => (X i : EReal)) (ix2 r k) = ((row X r k * rs (row X r) : ℝ) : EReal) := by
  pointwise [k0_pay6, k0_pay4, pay5]
  rw [← EReal.coe_mul]

theorem pay7 (X : S256x1024.Idx → ℝ) (G : S1x1024.Idx → ℝ) (T : S256x1024.Idx → ℝ) (r : Fin 256) (k : Fin 1024) :
    k0_pay7 (F := Ideal) (fun i => (G i : EReal)) (fun i => (X i : EReal)) (fun i => (T i : EReal)) (ix2 r k)
      = ((err (row X r) (gain G) (row T r) k : ℝ) : EReal) := by
  pointwise [k0_pay7, k0_pay3, pay6]
  simp only [← EReal.coe_mul, ← EReal.coe_sub]
  rfl

theorem pay8 (X : S256x1024.Idx → ℝ) (G : S1x1024.Idx → ℝ) (T : S256x1024.Idx → ℝ) (r : Fin 256) (k : Fin 1024) :
    k0_pay8 (F := Ideal) (fun i => (G i : EReal)) (fun i => (X i : EReal)) (fun i => (T i : EReal)) (ix2 r k)
      = ((dy (row X r) (gain G) (row T r) k : ℝ) : EReal) := by
  pointwise [k0_pay8, pay7]
  simp only [ofBits_inv1024, ← EReal.coe_mul]
  rfl

/-- The gradient's block that one point stores. -/
theorem pay2 (X : S256x1024.Idx → ℝ) (G : S1x1024.Idx → ℝ) (T : S256x1024.Idx → ℝ) (r : Fin 256) (k : Fin 1024) :
    k0_pay2 (F := Ideal) (k0_pay3 fun i => (G i : EReal)) (k0_pay5 fun i => (X i : EReal)) (k0_pay6 fun i => (X i : EReal))
        (k0_pay8 (fun i => (G i : EReal)) (fun i => (X i : EReal)) (fun i => (T i : EReal))) (ix2 r k)
      = ((dx (row X r) (gain G) (row T r) k : ℝ) : EReal) := by
  pointwise [k0_pay2, k0_pay3, pay5, pay6, pay8]
  simp only [ofBits_1024, ← EReal.coe_mul, ← coe_sum]
  rw [div_coe_coe (by norm_num)]
  simp only [← EReal.coe_mul, ← EReal.coe_sub]
  rfl

/-- What one point adds to the loss. -/
theorem pay11 (X : S256x1024.Idx → ℝ) (G : S1x1024.Idx → ℝ) (T : S256x1024.Idx → ℝ) (O : S1x1024.Idx → ℝ) (z : Fin 1) (k : Fin 1024) :
    k0_pay11 (F := Ideal) (fun i => (G i : EReal)) (fun i => (X i : EReal)) (fun i => (T i : EReal)) (fun i => (O i : EReal)) (ix2 z k)
      = ((O (ix2 z k) + 1 / 2 * ∑ r : Fin 256, sq (row X r) (gain G) (row T r) : ℝ) : EReal) := by
  pointwise [k0_pay11, pay7]
  simp only [ofBits_1024, ofBits_half, ← EReal.coe_mul, ← coe_sum, div_coe_coe (by norm_num : (1024 : ℝ) ≠ 0), Fin.sum_univ_one]
  simp only [← coe_sum, ← EReal.coe_mul, ← EReal.coe_add]
  rfl

/-- What one point adds to the gain's gradient. -/
theorem pay1 (X : S256x1024.Idx → ℝ) (G : S1x1024.Idx → ℝ) (T : S256x1024.Idx → ℝ) (O : S1x1024.Idx → ℝ) (z : Fin 1) (k : Fin 1024) :
    k0_pay1 (F := Ideal) (k0_pay6 fun i => (X i : EReal))
        (k0_pay8 (fun i => (G i : EReal)) (fun i => (X i : EReal)) (fun i => (T i : EReal))) (fun i => (O i : EReal)) (ix2 z k)
      = ((O (ix2 z k) + ∑ r : Fin 256, dy (row X r) (gain G) (row T r) k * (row X r k * rs (row X r)) : ℝ) : EReal) := by
  pointwise [k0_pay1, pay6, pay8]
  simp only [← EReal.coe_mul, ← coe_sum, ← EReal.coe_add]

theorem pay9 : k0_pay9 (F := Ideal) = fun _ => ((0 : ℝ) : EReal) := by
  funext i
  idx_vars i
  pointwise [k0_pay9]
  rfl

theorem pay10 : k0_pay10 (F := Ideal) = fun _ => ((0 : ℝ) : EReal) := by
  funext i
  idx_vars i
  pointwise [k0_pay10]
  rfl

/-! ## The points in order -/

variable (m : (ℓ : Loc nD τ sig) → Buf (Elt Ideal) ℓ) (c : Dev nD)
variable (A T : ℕ → Fin 1024 → ℝ) (g : Fin 1024 → ℝ)

/-- Rows `256 n` to `256 n + 255` as a block. -/
abbrev tile (A : ℕ → Fin 1024 → ℝ) (n : ℕ) : S256x1024.Idx → ℝ := fun i => A (256 * n + (i 0).val) (i 1)
/-- The gain as a block. -/
abbrev one (g : Fin 1024 → ℝ) : S1x1024.Idx → ℝ := fun i => g (i 1)

/-- The running sums after `n` points. -/
def lossUpTo (n : ℕ) : ℝ := ∑ t ∈ Finset.range n, 1 / 2 * ∑ r : Fin 256, sq (A (256 * t + r.val)) g (T (256 * t + r.val))
def gradUpTo (n : ℕ) (k : Fin 1024) : ℝ :=
  ∑ t ∈ Finset.range n, ∑ r : Fin 256, dy (A (256 * t + r.val)) g (T (256 * t + r.val)) k * (A (256 * t + r.val) k * rs (A (256 * t + r.val)))

theorem lossUpTo_zero : lossUpTo A T g 0 = 0 := rfl
theorem lossUpTo_succ (n : ℕ) : lossUpTo A T g (n + 1)
    = lossUpTo A T g n + 1 / 2 * ∑ r : Fin 256, sq (A (256 * n + r.val)) g (T (256 * n + r.val)) := Finset.sum_range_succ _ n
theorem gradUpTo_zero (k : Fin 1024) : gradUpTo A T g 0 k = 0 := rfl
theorem gradUpTo_succ (n : ℕ) (k : Fin 1024) : gradUpTo A T g (n + 1) k
    = gradUpTo A T g n k + ∑ r : Fin 256, dy (A (256 * n + r.val)) g (T (256 * n + r.val)) k
        * (A (256 * n + r.val) k * rs (A (256 * n + r.val))) := Finset.sum_range_succ _ n

/-- The input blocks of every point, as real vectors. -/
structure Blocks : Prop where
  x : ∀ t : Fin cfg0.N, (iblk m c 0 t : Vec Ideal S256x1024 .f32) = fun i => ((tile A t.val i : ℝ) : EReal)
  g : ∀ t : Fin cfg0.N, (iblk m c 1 t : Vec Ideal S1x1024 .f32) = fun i => ((one g i : ℝ) : EReal)
  t : ∀ t : Fin cfg0.N, (iblk m c 2 t : Vec Ideal S256x1024 .f32) = fun i => ((tile T t.val i : ℝ) : EReal)

/-- What the three blocks hold after point `n`. -/
theorem outsAt_eq (h : Blocks m c A T g) : ∀ (n : ℕ) (hn : n < cfg0.N), outsAt0 m c n hn =
    ((fun i => ((dx (A (256 * n + (i 0).val)) g (T (256 * n + (i 0).val)) (i 1) : ℝ) : EReal)),
      (fun _ => ((lossUpTo A T g (n + 1) : ℝ) : EReal)), (fun i => ((gradUpTo A T g (n + 1) (i 1) : ℝ) : EReal)))
  | 0, hn => by
    refine (outsAt0_A m c ⟨0, hn⟩ rfl).trans ?_
    rw [out_A_3, out_A_4, out_A_5, h.x, h.g, h.t, pay9, pay10]
    refine Prod.ext ?_ (Prod.ext ?_ ?_) <;> funext i <;> idx_vars i
    · exact pay2 _ _ _ _ _
    · refine (pay11 _ _ _ (fun _ => 0) _ _).trans (congrArg _ ?_)
      rw [lossUpTo_succ, lossUpTo_zero]
      rfl
    · refine (pay1 _ _ _ (fun _ => 0) _ _).trans (congrArg _ ?_)
      rw [gradUpTo_succ, gradUpTo_zero]
      rfl
  | n + 1, hn => by
    have hN : cfg0.N = 8 := N_0
    have hB : ¬(⟨n + 1, hn⟩ : Fin cfg0.N).val % 8 = 0 := by dsimp only; omega
    rw [outsAt0_B m c ⟨n + 1, hn⟩ hB, out_B_3, out_B_4, out_B_5, h.x, h.g, h.t]
    have ih := outsAt_eq h n (Nat.lt_of_succ_lt hn)
    simp only [Nat.add_sub_cancel, ih]
    refine Prod.ext ?_ (Prod.ext ?_ ?_) <;> funext i <;> idx_vars i
    · exact pay2 _ _ _ _ _
    · refine (pay11 _ _ _ (fun _ => lossUpTo A T g (n + 1)) _ _).trans (congrArg _ ?_)
      rw [lossUpTo_succ A T g (n + 1)]
      rfl
    · refine (pay1 _ _ _ (fun i => gradUpTo A T g (n + 1) (i 1)) _ _).trans (congrArg _ ?_)
      rw [gradUpTo_succ A T g (n + 1)]
      rfl

/-! ## The final arrays -/

theorem idx3 : ∀ t : Fin grid0.N, win0_3.index t 0 = t.val ∧ win0_3.index t 1 = 0 := by decide +kernel
theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx1 : ∀ t : Fin grid0.N, win0_1.index t 0 = 0 ∧ win0_1.index t 1 = 0 := by decide +kernel
theorem size3 : ∀ t : Fin grid0.N, win0_3.xsize (grid0.coords t) 0 = 256 ∧ win0_3.xsize (grid0.coords t) 1 = 1024 := by decide +kernel
theorem size4 : ∀ t : Fin grid0.N, win0_4.xsize (grid0.coords t) 0 = 1 ∧ win0_4.xsize (grid0.coords t) 1 = 1024 := by decide +kernel
theorem size5 : ∀ t : Fin grid0.N, win0_5.xsize (grid0.coords t) 0 = 1 ∧ win0_5.xsize (grid0.coords t) 1 = 1024 := by decide +kernel

theorem row_lt (i : S2048x1024.Idx) : (i 0).val < 2048 := (i 0).isLt

/-- The gradient's array. -/
theorem final3 (h : Blocks m c A T g) :
    (dats m 0 c).arrAt 3 cfg0.N = fun i => ((dx (A (i 0).val) g (T (i 0).val) (i 1) : ℝ) : EReal) := by
  refine (dats m 0 c).arrAt_eq_of_cover 3 _ (fun t hf => ?_) fun (i : S2048x1024.Idx) => ?_
  · rw [flushed3, outsAt_eq m c A T g h]
    funext j
    rw [View.read_apply]
    have e0 : (((cfg0.win 3).blk t).view.emb j 0).val = 256 * t.val + (j 0).val := by
      show win0_3.index t 0 * 256 + 1 * (j 0).val = _
      rw [(idx3 t).1]; omega
    have e1 : ((cfg0.win 3).blk t).view.emb j 1 = j 1 := Fin.ext (by
      show win0_3.index t 1 * 1024 + 1 * (j 1).val = _
      rw [(idx3 t).2]; omega)
    show ((dx (A (256 * t.val + (j 0).val)) g (T (256 * t.val + (j 0).val)) (j 1) : ℝ) : EReal)
      = ((dx (A (((cfg0.win 3).blk t).view.emb j 0).val) g (T (((cfg0.win 3).blk t).view.emb j 0).val) (((cfg0.win 3).blk t).view.emb j 1) : ℝ) : EReal)
    rw [e0, e1]
  · have hi := row_lt i
    have h1 : (i 1).val < 1024 := (i 1).isLt
    obtain ⟨t, ht⟩ : ∃ t : Fin cfg0.N, t.val = (i 0).val / 256 := ⟨⟨(i 0).val / 256, by rw [show cfg0.N = 8 from N_0]; omega⟩, rfl⟩
    refine ⟨t, flush0_3 _, ?_⟩
    show i ∈ ((View.whole main_v3_0).slice (win0_3.rect t)).set
    rw [View.set_slice_whole, Rect.mem_set_unit]
    intro a
    match a with
    | ⟨0, _⟩ =>
      show win0_3.index _ 0 * 256 ≤ (i 0).val ∧ (i 0).val < win0_3.index _ 0 * 256 + win0_3.xsize (grid0.coords _) 0
      rw [(idx3 _).1, (size3 _).1]; omega
    | ⟨1, _⟩ =>
      show win0_3.index _ 1 * 1024 ≤ (i 1).val ∧ (i 1).val < win0_3.index _ 1 * 1024 + win0_3.xsize (grid0.coords _) 1
      rw [(idx3 _).2, (size3 _).2]; omega

theorem last_of_flush {t : Fin cfg0.N} (h : t.val % 8 = 7) : t = t0_7 := by
  have hN : cfg0.N = 8 := N_0
  exact Fin.ext (by have := t.isLt; show t.val = 7; omega)

/-- The loss's array. -/
theorem final4 (h : Blocks m c A T g) : (dats m 0 c).arrAt 4 cfg0.N = fun _ => ((lossUpTo A T g 8 : ℝ) : EReal) := by
  refine (dats m 0 c).arrAt_eq_of_cover 4 _ (fun t hf => ?_) fun (i : S1x1024.Idx) => ?_
  · obtain rfl := last_of_flush ((flush0_4 t).mp hf)
    rw [flushed4, outsAt_eq m c A T g h]
    rfl
  · have h0 : (i 0).val < 1 := (i 0).isLt
    have h1 : (i 1).val < 1024 := (i 1).isLt
    refine ⟨t0_7, (flush0_4 _).mpr rfl, ?_⟩
    show i ∈ ((View.whole main_v3_1).slice (win0_4.rect t0_7)).set
    rw [View.set_slice_whole, Rect.mem_set_unit]
    intro a
    match a with
    | ⟨0, _⟩ =>
      show 0 * 1 ≤ (i 0).val ∧ (i 0).val < 0 * 1 + win0_4.xsize (grid0.coords _) 0
      rw [(size4 _).1]; omega
    | ⟨1, _⟩ =>
      show 0 * 1024 ≤ (i 1).val ∧ (i 1).val < 0 * 1024 + win0_4.xsize (grid0.coords _) 1
      rw [(size4 _).2]; omega

/-- The gain's gradient. -/
theorem final5 (h : Blocks m c A T g) : (dats m 0 c).arrAt 5 cfg0.N = fun i => ((gradUpTo A T g 8 (i 1) : ℝ) : EReal) := by
  refine (dats m 0 c).arrAt_eq_of_cover 5 _ (fun t hf => ?_) fun (i : S1x1024.Idx) => ?_
  · obtain rfl := last_of_flush ((flush0_5 t).mp hf)
    rw [flushed5, outsAt_eq m c A T g h]
    funext j
    rw [View.read_apply]
    have e1 : ((cfg0.win 5).blk t0_7).view.emb j 1 = j 1 := Fin.ext (by
      show 0 * 1024 + 1 * (j 1).val = _
      omega)
    show ((gradUpTo A T g 8 (j 1) : ℝ) : EReal) = ((gradUpTo A T g 8 (((cfg0.win 5).blk t0_7).view.emb j 1) : ℝ) : EReal)
    rw [e1]
  · have h0 : (i 0).val < 1 := (i 0).isLt
    have h1 : (i 1).val < 1024 := (i 1).isLt
    refine ⟨t0_7, (flush0_5 _).mpr rfl, ?_⟩
    show i ∈ ((View.whole main_v3_2).slice (win0_5.rect t0_7)).set
    rw [View.set_slice_whole, Rect.mem_set_unit]
    intro a
    match a with
    | ⟨0, _⟩ =>
      show 0 * 1 ≤ (i 0).val ∧ (i 0).val < 0 * 1 + win0_5.xsize (grid0.coords _) 0
      rw [(size5 _).1]; omega
    | ⟨1, _⟩ =>
      show 0 * 1024 ≤ (i 1).val ∧ (i 1).val < 0 * 1024 + win0_5.xsize (grid0.coords _) 1
      rw [(size5 _).2]; omega

/-! ## The arguments' blocks -/

theorem V0 : V m c main_v0 = shapeCast S2048x1024 (m ((c : Thread nD τ).loc main_arg0)) shapeCasts_S1x2048x1024_S2048x1024 := by
  show StableHlo.after hostOps0 _ (Proc.devRef .tc main_v0) = _
  after_results
  rfl
theorem V1 : V m c main_v1 = shapeCast S1x1024 (m ((c : Thread nD τ).loc main_arg1)) shapeCasts_S1024_S1x1024 := by
  show StableHlo.after hostOps0 _ (Proc.devRef .tc main_v1) = _
  after_results
  rfl
theorem V2 : V m c main_v2 = shapeCast S2048x1024 (m ((c : Thread nD τ).loc main_arg2)) shapeCasts_S1x2048x1024_S2048x1024 := by
  show StableHlo.after hostOps0 _ (Proc.devRef .tc main_v2) = _
  after_results
  rfl

/-- A real array's rows, by number. -/
def rows (x : S1x2048x1024.Idx → ℝ) (n : ℕ) (k : Fin 1024) : ℝ := if h : n < 2048 then x (ix3 0 ⟨n, h⟩ k) else 0

theorem flat (x : Vec Ideal S1x2048x1024 .f32) (i : Fin 2048) (k : Fin 1024) :
    shapeCast S2048x1024 x shapeCasts_S1x2048x1024_S2048x1024 (ix2 i k) = x (ix3 0 i k) := by
  pointwise

theorem flat1 (x : Vec Ideal S1024 .f32) (z : Fin 1) (k : Fin 1024) :
    shapeCast S1x1024 x shapeCasts_S1024_S1x1024 (ix2 z k) = x (ix1 k) := by
  pointwise

theorem point_lt (p : Fin cfg0.N) : p.val < 8 := by
  have h := p.isLt
  have hN : cfg0.N = 8 := N_0
  omega

theorem emb0 (p : Fin cfg0.N) (j0 : Fin 256) (j1 : Fin 1024) : ((cfg0.win 0).blk p).view.emb (ix2 j0 j1)
    = ix2 (⟨256 * p.val + j0.val, by have := point_lt p; omega⟩ : Fin 2048) j1 := by
  funext a
  refine Fin.ext ?_
  match a with
  | ⟨0, _⟩ => show win0_0.index p 0 * 256 + 1 * j0.val = 256 * p.val + j0.val; rw [(idx0 p).1]; omega
  | ⟨1, _⟩ => show win0_0.index p 1 * 1024 + 1 * j1.val = j1.val; rw [(idx0 p).2]; omega

theorem emb2 (p : Fin cfg0.N) (j0 : Fin 256) (j1 : Fin 1024) : ((cfg0.win 2).blk p).view.emb (ix2 j0 j1)
    = ix2 (⟨256 * p.val + j0.val, by have := point_lt p; omega⟩ : Fin 2048) j1 := by
  funext a
  refine Fin.ext ?_
  match a with
  | ⟨0, _⟩ => show win0_2.index p 0 * 256 + 1 * j0.val = 256 * p.val + j0.val; rw [(idx2 p).1]; omega
  | ⟨1, _⟩ => show win0_2.index p 1 * 1024 + 1 * j1.val = j1.val; rw [(idx2 p).2]; omega

theorem emb1 (p : Fin cfg0.N) (j0 : Fin 1) (j1 : Fin 1024) : ((cfg0.win 1).blk p).view.emb (ix2 j0 j1) = ix2 j0 j1 := by
  funext a
  refine Fin.ext ?_
  match a with
  | ⟨0, _⟩ => show win0_1.index p 0 * 1 + 1 * j0.val = j0.val; rw [(idx1 p).1]; omega
  | ⟨1, _⟩ => show win0_1.index p 1 * 1024 + 1 * j1.val = j1.val; rw [(idx1 p).2]; omega

/-- The blocks of real arguments. -/
theorem blocks (x : S1x2048x1024.Idx → ℝ) (g : S1024.Idx → ℝ) (t : S1x2048x1024.Idx → ℝ)
    (hx : m ((c : Thread nD τ).loc main_arg0) = fun i => (x i : EReal)) (hg : m ((c : Thread nD τ).loc main_arg1) = fun i => (g i : EReal))
    (ht : m ((c : Thread nD τ).loc main_arg2) = fun i => (t i : EReal)) : Blocks m c (rows x) (rows t) (fun k => g (ix1 k)) where
  x p := by
    funext j
    idx_vars j
    show V m c main_v0 (((cfg0.win 0).blk p).view.emb (ix2 j0 j1)) = ((rows x (256 * p.val + j0.val) j1 : ℝ) : EReal)
    rw [V0, hx, emb0, rows, dif_pos (by have := point_lt p; omega)]
    exact flat _ _ _
  g p := by
    funext j
    idx_vars j
    show V m c main_v1 (((cfg0.win 1).blk p).view.emb (ix2 j0 j1)) = ((g (ix1 j1) : ℝ) : EReal)
    rw [V1, hg, emb1]
    exact flat1 _ _ _
  t p := by
    funext j
    idx_vars j
    show V m c main_v2 (((cfg0.win 2).blk p).view.emb (ix2 j0 j1)) = ((rows t (256 * p.val + j0.val) j1 : ℝ) : EReal)
    rw [V2, ht, emb2, rows, dif_pos (by have := point_lt p; omega)]
    exact flat _ _ _

/-! ## The sums over all rows -/

theorem sum_rows (f : ℕ → ℝ) : ∑ t ∈ Finset.range 8, ∑ r : Fin 256, f (256 * t + r.val) = ∑ i : Fin 2048, f i.val := by
  rw [Fin.sum_univ_tiles 8 256 rfl fun i : Fin 2048 => f i.val, Finset.sum_range]
  simp only [Nat.mul_comm 256]

theorem lossUpTo_all : lossUpTo A T g 8 = 1 / 2 * ∑ i : Fin 2048, sq (A i.val) g (T i.val) := by
  rw [← sum_rows fun i => sq (A i) g (T i), Finset.mul_sum]
  rfl

theorem gradUpTo_all (k : Fin 1024) : gradUpTo A T g 8 k = ∑ i : Fin 2048, dy (A i.val) g (T i.val) k * (A i.val k * rs (A i.val)) := by
  rw [← sum_rows fun i => dy (A i) g (T i) k * (A i k * rs (A i))]
  rfl

end Cert.LossIdeal.Value

end
-- ==== Proof.LossRef.lean ====
/-
  The loss reference's stages over finite arguments, as real functions of a row.
-/
module

public import proofs.«01_k».proof.Proof.Norm
public import proofs.«01_k».proof.Proof.Gen.LossRefIdeal.Read
public import Idealize.ShloMosaic.Lib.Pointwise

@[expose] public section

set_option maxRecDepth 16384

noncomputable section

namespace Cert.LossRefIdeal.Read

open Cert.LossRefIdeal Cert.LossRefIdeal.Gen Idealize.ShloMosaic Idealize.ShloMosaic.TcCoe Idealize.SL.Sem Cert.Reals

variable (x : S1x2048x1024.Idx → ℝ) (g : S1024.Idx → ℝ) (t : S1x2048x1024.Idx → ℝ)

/-- A row. -/
abbrev row (x : S1x2048x1024.Idx → ℝ) (i : Fin 2048) : Fin 1024 → ℝ := fun k => x (ix3 0 i k)
/-- The gain. -/
abbrev gain (g : S1024.Idx → ℝ) : Fin 1024 → ℝ := fun k => g (ix1 k)
/-- A real array as the programs' contents. -/
abbrev up {s : Shape} (x : s.Idx → ℝ) : Vec Ideal s .f32 := fun i => ((x i : ℝ) : EReal)

theorem v6 (z : Fin 1) (i : Fin 2048) (y : Fin 1) : val_main_v6 (F := Ideal) (up x) (ix3 z i y) = ((ms (row x i) : ℝ) : EReal) := by
  pointwise [val_main_v6, val_main_v5, val_main_v4, val_main_v3, val_main_v2, val_main_v1, val_main_v0, val_main_cst, val_main_cst_0, val_main_cst_1]
  simp only [ofBits_1024, ofBits_eps, ← EReal.coe_mul, ← coe_sum]
  rw [div_coe_coe (by norm_num), ← EReal.coe_add]
  rfl

theorem v7 (z : Fin 1) (i : Fin 2048) (y : Fin 1) : val_main_v7 (F := Ideal) (up x) (ix3 z i y) = ((rs (row x i) : ℝ) : EReal) := by
  pointwise [val_main_v7, v6]
  exact rsqrt_coe_pos (ms_pos _)

theorem v12 (z : Fin 1) (i : Fin 2048) (k : Fin 1024) :
    val_main_v12 (F := Ideal) (up x) (ix3 z i k) = ((row x i k * rs (row x i) : ℝ) : EReal) := by
  obtain rfl : z = 0 := Subsingleton.elim _ _
  pointwise [val_main_v12, val_main_v11, v7]
  rw [← EReal.coe_mul]

theorem v16 (z : Fin 1) (i : Fin 2048) (k : Fin 1024) :
    val_main_v16 (F := Ideal) (up x) (up g) (up t) (ix3 z i k) = ((err (row x i) (gain g) (row t i) k : ℝ) : EReal) := by
  obtain rfl : z = 0 := Subsingleton.elim _ _
  pointwise [val_main_v16, val_main_v15, val_main_v14, val_main_v13, v12]
  simp only [← EReal.coe_mul, ← EReal.coe_sub]
  rfl

theorem v24 (i : S_.Idx) :
    val_main_v24 (F := Ideal) (up x) (up g) (up t) i = ((1 / 2 * ∑ i, sq (row x i) (gain g) (row t i) : ℝ) : EReal) := by
  pointwise [val_main_v24, val_main_cst_7, val_main_v23, val_main_cst_6, val_main_v22, val_main_v21, val_main_cst_5, val_main_v20, val_main_cst_4, val_main_v17, v16]
  simp only [ofBits_1024, ofBits_half, ← EReal.coe_mul, ← coe_sum, div_coe_coe (by norm_num : (1024 : ℝ) ≠ 0), Fin.sum_univ_one]
  rfl

theorem v30 (z : Fin 1) (i : Fin 2048) (k : Fin 1024) :
    val_main_v30 (F := Ideal) (up x) (up g) (up t) (ix3 z i k) = ((dy (row x i) (gain g) (row t i) k : ℝ) : EReal) := by
  pointwise [val_main_v30, val_main_v29, val_main_v28, val_main_v27, val_main_cst_10, val_main_v26, val_main_v25, val_main_cst_9, val_main_cst_8, val_main_v19, val_main_v18, val_main_cst_3, v16]
  simp only [ofBits_1024, ofBits_half, ofBits_one, ofBits_two, ← EReal.coe_mul, div_coe_coe (by norm_num : (1024 : ℝ) ≠ 0)]
  refine congrArg _ ?_
  rw [dy]
  ring

theorem v34 (z y : Fin 1) (k : Fin 1024) :
    val_main_v34 (F := Ideal) (up x) (up g) (up t) (ix3 z y k)
      = ((∑ i, dy (row x i) (gain g) (row t i) k * (row x i k * rs (row x i)) : ℝ) : EReal) := by
  obtain rfl : z = 0 := Subsingleton.elim _ _
  obtain rfl : y = 0 := Subsingleton.elim _ _
  pointwise [val_main_v34, val_main_v33, val_main_cst_11, val_main_v32, v12, v30]
  simp only [← EReal.coe_mul, ← coe_sum]
  exact congrArg _ (Finset.sum_congr rfl fun i _ => mul_comm _ _)

/-- The gain's gradient. -/
theorem v55 (z : Fin 1) (k : Fin 1024) :
    val_main_v55 (F := Ideal) (up x) (up g) (up t) (ix2 z k)
      = ((∑ i, dy (row x i) (gain g) (row t i) k * (row x i k * rs (row x i)) : ℝ) : EReal) := by
  have e : val_main_v37 (F := Ideal) (up x) (up g) (up t) (ix1 k) = val_main_v34 (F := Ideal) (up x) (up g) (up t) (ix3 0 0 k) := by
    refine (hostReduceAdd_one _ _ _ _ (ix3 0 0 k) ?_ ?_).trans ?_
    · funext a
      match a with
      | ⟨0, _⟩ => rfl
    · intro i e
      idx_vars i
      obtain rfl : i0 = 0 := Subsingleton.elim _ _
      obtain rfl : i1 = 0 := Subsingleton.elim _ _
      obtain rfl : i2 = k := congrFun e 0
      rfl
    · pointwise [val_main_cst_12]
  pointwise [val_main_v55, e, v34]

theorem v36 (z : Fin 1) (i : Fin 2048) (k : Fin 1024) :
    val_main_v36 (F := Ideal) (up x) (up g) (up t) (ix3 z i k) = ((dy (row x i) (gain g) (row t i) k * g (ix1 k) : ℝ) : EReal) := by
  pointwise [val_main_v36, val_main_v35, val_main_v13, v30]
  rw [← EReal.coe_mul]

theorem v45 (z : Fin 1) (i : Fin 2048) (y : Fin 1) :
    val_main_v45 (F := Ideal) (up x) (up g) (up t) (ix3 z i y)
      = (((∑ k, row x i k * (dy (row x i) (gain g) (row t i) k * g (ix1 k))) * (-(1 / 2) * (rs (row x i) / ms (row x i))) / 1024 : ℝ) : EReal) := by
  obtain rfl : z = 0 := Subsingleton.elim _ _
  pointwise [val_main_v45, val_main_v44, val_main_cst_14, val_main_v43, val_main_v40, val_main_v39, val_main_cst_13, val_main_v38,
    val_main_v10, val_main_v9, val_main_cst_2, val_main_v8, v7, v6, v36]
  simp only [ofBits_1024, ofBits_neg_half, ← EReal.coe_mul, ← coe_sum, div_coe_coe (by norm_num : (1024 : ℝ) ≠ 0), div_coe_coe (ms_pos _).ne']

/-- The gradient at the input. -/
theorem v53 (i : Fin 2048) (k : Fin 1024) :
    val_main_v53 (F := Ideal) (up x) (up g) (up t) (ix2 i k) = ((dx (row x i) (gain g) (row t i) k : ℝ) : EReal) := by
  have e : val_main_v46 (F := Ideal) (up x) (up g) (up t) (ix1 i) = val_main_v45 (F := Ideal) (up x) (up g) (up t) (ix3 0 i 0) := by
    refine (hostReduceAdd_one _ _ _ _ (ix3 0 i 0) ?_ ?_).trans ?_
    · funext a
      match a with
      | ⟨0, _⟩ => rfl
    · intro j e
      idx_vars j
      obtain rfl : j0 = 0 := Subsingleton.elim _ _
      obtain rfl : j2 = 0 := Subsingleton.elim _ _
      obtain rfl : j1 = i := congrFun e 0
      rfl
    · pointwise [val_main_cst_15]
  pointwise [val_main_v53, val_main_v52, val_main_v51, val_main_v50, val_main_v49, val_main_v48, val_main_v47, val_main_v42, val_main_v41, e, v45, v7, v36]
  simp only [← EReal.coe_mul, ← EReal.coe_add]
  refine congrArg _ ?_
  have h := rs_sq (row x i)
  have hm := (ms_pos (row x i)).ne'
  have hr : rs (row x i) / ms (row x i) = rs (row x i) * rs (row x i) * rs (row x i) := by
    rw [div_eq_iff hm]
    linear_combination (-(rs (row x i))) * h
  have hs : ∑ l, dy (row x i) (gain g) (row t i) l * g (ix1 l) * (row x i l * rs (row x i))
      = (∑ l, row x i l * (dy (row x i) (gain g) (row t i) l * g (ix1 l))) * rs (row x i) := by
    rw [Finset.sum_mul]
    exact Finset.sum_congr rfl fun l _ => by ring
  rw [dx, hs, hr]
  show _ = rs (row x i) * (dy (row x i) (gain g) (row t i) k * g (ix1 k) - row x i k * rs (row x i) * _)
  ring

/-- The loss, at every place of its row. -/
theorem v54 (z : Fin 1) (k : Fin 1024) :
    val_main_v54 (F := Ideal) (up x) (up g) (up t) (ix2 z k) = ((1 / 2 * ∑ i, sq (row x i) (gain g) (row t i) : ℝ) : EReal) := by
  pointwise [val_main_v54, v24]

end Cert.LossRefIdeal.Read

end
-- ==== Proof.LossClaim.lean ====
/-
  The loss head: the frames of its three programs, and the kernel's three results (the gradient at the input, the loss, the
  gain's gradient) equal to the reference's over finite arguments.
-/
module

public import proofs.«01_k».proof.Defs
public import proofs.«01_k».proof.Proof.LossKernel
public import proofs.«01_k».proof.Proof.LossRef
public import proofs.«01_k».proof.Proof.Gen.Loss.Frame
public import proofs.«01_k».proof.Proof.Gen.LossRefIdeal.Run
public import proofs.«01_k».proof.Proof.Gen.Pre_loss_finite
public import Idealize.ShloMosaic.Lib.Quiescent

@[expose] public section

set_option maxRecDepth 16384

noncomputable section

namespace Cert.LossClaim

open Idealize.ShloMosaic Idealize.ShloMosaic.TcCoe Idealize.SL.Sem Cert.Reals

theorem frame_kernel_ideal : Cert.quiescent_LossIdeal (hLossIdeal := Cert.LossIdeal.Gen.facts) := fun m ρ _ => Cert.LossIdeal.Gen.frame m ρ

theorem frame_kernel : Cert.quiescent_Loss (hLoss := Cert.Loss.Gen.facts) := fun m ρ _ => Cert.Loss.Gen.frame m ρ

theorem frame_ref : Cert.quiescent_LossRefIdeal (hLossRefIdeal := Cert.LossRefIdeal.Gen.facts) := fun m ρ _ =>
  (θ_run Cert.LossRefIdeal.defs _ _).mono
    (fun _ h => ⟨fun c => (h c).2.2.2, sem_eq_zero_of_no_sems rfl _⟩) (Cert.LossRefIdeal.Value.run m ρ)

/-- The precondition's three arguments as real arrays. -/
theorem real_args (x : FVec Ideal Cert.Pre_loss_finite.S1x2048x1024 .f32) (g : FVec Ideal Cert.Pre_loss_finite.S1024 .f32)
    (t : FVec Ideal Cert.Pre_loss_finite.S1x2048x1024 .f32)
    (h : @Cert.Pre_loss_finite.fn Cert.Pre_loss_finite.Gen.facts Ideal _ x g t = fun _ => 1#1) :
    (∃ X : Cert.Pre_loss_finite.S1x2048x1024.Idx → ℝ, x = fun i => (X i : EReal))
      ∧ (∃ G : Cert.Pre_loss_finite.S1024.Idx → ℝ, g = fun i => (G i : EReal))
      ∧ (∃ T : Cert.Pre_loss_finite.S1x2048x1024.Idx → ℝ, t = fun i => (T i : EReal)) := by
  have e := congrFun h (Shape.Idx.first (by decide))
  unfold Cert.Pre_loss_finite.fn at e
  dsimp only at e
  obtain ⟨e, et⟩ := andi_eq_one _ _ _ e
  obtain ⟨ex, eg⟩ := andi_eq_one _ _ _ e
  exact ⟨real_of_pre rfl x _ (fun _ => rfl) _ _ _ _ ex, real_of_pre rfl g _ (fun _ => rfl) _ _ _ _ eg, real_of_pre rfl t _ (fun _ => rfl) _ _ _ _ et⟩

theorem algebraic : Cert.algebraic_LossIdeal_LossRefIdeal_pre_loss_finite (hLossIdeal := Cert.LossIdeal.Gen.facts)
    (hLossRefIdeal := Cert.LossRefIdeal.Gen.facts) (hPre_loss_finite := Cert.Pre_loss_finite.Gen.facts) := by
  intro m ρ m' ρ' hpre hargs
  refine ⟨_, _, _, Cert.LossIdeal.Value.run_blocks m ρ, (θ_run Cert.LossRefIdeal.defs _ _).mono (fun r h c => ?_) (Cert.LossRefIdeal.Value.run m' ρ')⟩
  obtain ⟨h0, h1, h2, h3⟩ := h c
  obtain ⟨a0, a1, a2⟩ := hargs c
  obtain ⟨⟨X, hX⟩, ⟨G, hG⟩, ⟨T, hT⟩⟩ := real_args _ _ _ (hpre c)
  have hb := Cert.LossIdeal.Value.blocks m c X G T hX hG hT
  have hrow : ∀ (Y : Cert.LossIdeal.S1x2048x1024.Idx → ℝ) (i : Fin 2048), Cert.LossIdeal.Value.rows Y i.val = Cert.LossRefIdeal.Read.row Y i := by
    intro Y i
    funext k
    rw [Cert.LossIdeal.Value.rows, dif_pos i.isLt]
  refine ⟨h0.trans ?_, h1.trans ?_, h2.trans ?_, h3⟩
  · rw [Cert.LossIdeal.Value.final3 m c _ _ _ hb, Cert.LossRefIdeal.Read.val_main_v53_eq, a0, a1, a2, hX, hG, hT]
    funext i
    idx_vars i
    refine (Cert.LossRefIdeal.Read.v53 X G T i0 i1).trans ?_
    show _ = ((dx (Cert.LossIdeal.Value.rows X i0.val) _ (Cert.LossIdeal.Value.rows T i0.val) i1 : ℝ) : EReal)
    rw [hrow, hrow]
  · rw [Cert.LossIdeal.Value.final4 m c _ _ _ hb, Cert.LossRefIdeal.Read.val_main_v54_eq, a0, a1, a2, hX, hG, hT]
    funext i
    idx_vars i
    refine (Cert.LossRefIdeal.Read.v54 X G T i0 i1).trans ?_
    rw [Cert.LossIdeal.Value.lossUpTo_all]
    simp only [hrow]
  · rw [Cert.LossIdeal.Value.final5 m c _ _ _ hb, Cert.LossRefIdeal.Read.val_main_v55_eq, a0, a1, a2, hX, hG, hT]
    funext i
    idx_vars i
    refine (Cert.LossRefIdeal.Read.v55 X G T i0 i1).trans ?_
    show _ = ((Cert.LossIdeal.Value.gradUpTo _ _ _ 8 i1 : ℝ) : EReal)
    rw [Cert.LossIdeal.Value.gradUpTo_all]
    simp only [hrow]

end Cert.LossClaim

end
-- ==== Proof.AttnBlock.lean ====
/-
  One query block of the attention's backward kernel: 128 rows of a pair of heads against a window of `kw` key rows, as the
  kernel's own operations, and what they compute over finite arguments. The two heads of a pair share the lanes of a row, so
  the block stacks the rows twice, each time with the other head's lanes zeroed.
-/
module

public import proofs.«01_k».proof.Proof.Reals
public import Idealize.ShloMosaic.Lib.Pointwise
public import Idealize.ShloMosaic.Lib.MatmulPlain
public import Idealize.ShloMosaic.Lib.ValueLayout

@[expose] public section

noncomputable section

namespace Cert.Attn

open Idealize.ShloMosaic Cert.Reals

abbrev s2 (a b : ℕ) : Shape := ⟨2, ![a, b]⟩
abbrev s3 (a b c : ℕ) : Shape := ⟨3, ![a, b, c]⟩
abbrev s1 (a : ℕ) : Shape := ⟨1, ![a]⟩

/-- `[K,M]ᵀ × [K,N]`: both operands contracted on their rows. -/
def rowsDot (K M N : ℕ) : DotDims (s2 K M) (s2 K N) (s2 M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rowsDot_apply {K M N : ℕ} {φ₁ φ₂ : FTy} (prec : Option ContractPrecision)
    (lhs : FVec Ideal (s2 K M) φ₁) (rhs : FVec Ideal (s2 K N) φ₂) (acc : FVec Ideal (s2 M N) .f32) (r : Fin M) (c : Fin N) :
    FloatOps.matmul (rowsDot K M N) prec lhs rhs acc (ix2 r c) = acc (ix2 r c) + ∑ k : Fin K, lhs (ix2 k r) * rhs (ix2 k c) := by
  refine Ideal.matmul_apply₁_of (rowsDot K M N) (a := 0) rfl (K := K) rfl lhs rhs acc (ix2 r c) (fun k => ix2 k r) (fun k => ix2 k c)
    (fun k => ?_) (fun k => ?_) <;> funext a <;> refine Fin.ext ?_ <;> match a with
    | ⟨0, _⟩ => rfl
    | ⟨1, _⟩ => rfl

/-! ## The operations -/

section Ops
variable {F : FTy → Type} [FloatOps F] {kw : ℕ}

/-- The lane numbers, and which lanes belong to the pair's first head. -/
def lanes : IVec (s2 128 128) 32 := iota .tc (s2 128 128) 32 [1]
def first : IVec (s2 128 128) 1 := cmpi .slt lanes (broadcast (s2 128 128) 64#32)

theorem stack_rows : Shape.Concatenates [s2 128 128, s2 128 128] (s2 256 128) 0 := by decide
theorem stack_cols : Shape.Concatenates [s2 128 1, s2 128 1] (s2 256 1) 0 := by decide

/-- The rows once with the first head's lanes, once with the second's. -/
def stack (x : Vec F (s2 128 128) .bf16) : FVec F (s2 256 128) .bf16 :=
  concatenate (s2 256 128) 0
    [⟨s2 128 128, select first (shapeCast (s2 128 128) x) (broadcast (s2 128 128) (Scalar.ofBits .bf16 0x0000#16 : F .bf16))⟩,
     ⟨s2 128 128, select first (broadcast (s2 128 128) (Scalar.ofBits .bf16 0x0000#16 : F .bf16)) (shapeCast (s2 128 128) x)⟩] stack_rows

/-- One lane of the rows, by a masked sum. -/
def lane (n : BitVec 32) (x : Vec F (s2 128 128) .f32) : FVec F (s2 128 1) .f32 :=
  shapeCast (s2 128 1) (multiReduction .add [1] (s1 128)
    (select (cmpi .eq lanes (broadcast (s2 128 128) n)) (shapeCast (s2 128 128) x)
      (broadcast (s2 128 128) (Scalar.ofBits .f32 0x00000000#32 : F .f32))) 0x00000000#32)

/-- The saved numbers of the pair's two heads, one head after the other. -/
def cols (pair : BitVec 32) (x : Vec F (s2 128 128) .f32) : FVec F (s2 256 1) .f32 :=
  concatenate (s2 256 1) 0 [⟨s2 128 1, lane (Scalar.muli 2#32 pair) x⟩,
    ⟨s2 128 1, lane (Scalar.addi (Scalar.muli 2#32 pair) 1#32) x⟩] stack_cols

theorem cast_rows : (s2 kw 128).ShapeCasts (s2 kw 128) := rfl
theorem cast_bias : (s3 1 256 kw).ShapeCasts (s2 256 kw) := by
  simp [Shape.ShapeCasts, Shape.numel, Fin.prod_univ_succ]
theorem cols_broadcast : (s2 256 1).Broadcasts (s2 256 kw) := by
  refine ⟨le_rfl, fun a => ?_⟩
  fin_cases a
  · exact .inr fun _ => rfl
  · exact .inl rfl

/-- The attention's weights: `exp (q kᵀ + bias − lse)`. -/
def weights (q : FVec F (s2 256 128) .bf16) (lse : FVec F (s2 256 1) .f32) (k : Vec F (s2 kw 128) .bf16)
    (bias : Vec F (s3 1 256 kw) .f32) : FVec F (s2 256 kw) .f32 :=
  exp (subf (addf (matmul (DotDims.transposedRhs 256 128 kw) none q (shapeCast (s2 kw 128) k cast_rows)
    (constant (s2 256 kw) .f32 0x00000000#32)) (shapeCast (s2 256 kw) bias cast_bias)) (broadcastTo (s2 256 kw) lse cols_broadcast))

/-- The gradient at the scores. -/
def dscores (q g : FVec F (s2 256 128) .bf16) (lse delta : FVec F (s2 256 1) .f32) (k v : Vec F (s2 kw 128) .bf16)
    (bias : Vec F (s3 1 256 kw) .f32) : FVec F (s2 256 kw) .bf16 :=
  truncf .bf16 (mulf (weights q lse k bias) (subf (matmul (DotDims.transposedRhs 256 128 kw) none g (shapeCast (s2 kw 128) v cast_rows)
    (constant (s2 256 kw) .f32 0x00000000#32)) (broadcastTo (s2 256 kw) delta cols_broadcast)))

/-- The block's gradient at the queries. -/
def dqBlock (q g : FVec F (s2 256 128) .bf16) (lse delta : FVec F (s2 256 1) .f32) (k v : Vec F (s2 kw 128) .bf16)
    (bias : Vec F (s3 1 256 kw) .f32) : FVec F (s2 128 128) .bf16 :=
  let d := matmul (DotDims.plain 256 kw 128) none (dscores q g lse delta k v bias) (shapeCast (s2 kw 128) k cast_rows)
    (constant (s2 256 128) .f32 0x00000000#32)
  truncf .bf16 (select first (extractStridedSlice (s2 128 128) ![0, 0] d) (extractStridedSlice (s2 128 128) ![128, 0] d))

/-- What the block adds to the gradient at the keys. -/
def dkBlock (q g : FVec F (s2 256 128) .bf16) (lse delta : FVec F (s2 256 1) .f32) (k v : Vec F (s2 kw 128) .bf16)
    (bias : Vec F (s3 1 256 kw) .f32) : FVec F (s2 kw 128) .f32 :=
  matmul (rowsDot 256 kw 128) none (dscores q g lse delta k v bias) q (constant (s2 kw 128) .f32 0x00000000#32)

/-- What the block adds to the gradient at the values. -/
def dvBlock (q g : FVec F (s2 256 128) .bf16) (lse : FVec F (s2 256 1) .f32) (k : Vec F (s2 kw 128) .bf16)
    (bias : Vec F (s3 1 256 kw) .f32) : FVec F (s2 kw 128) .f32 :=
  matmul (rowsDot 256 kw 128) none (truncf .bf16 (weights q lse k bias)) g (constant (s2 kw 128) .f32 0x00000000#32)

end Ops

/-! ## Over finite arguments -/

/-- A real array as the programs' contents. -/
abbrev up {s : Shape} (x : s.Idx → ℝ) : s.Idx → EReal := fun i => ((x i : ℝ) : EReal)

/-- The head of the pair that a lane belongs to, a head's lanes, and the stacked row of a head. -/
def hd (l : Fin 128) : Fin 2 := ⟨l.val / 64, by have := l.isLt; omega⟩
def ln (h : Fin 2) (d : Fin 64) : Fin 128 := ⟨64 * h.val + d.val, by have := h.isLt; have := d.isLt; omega⟩
def st (h : Fin 2) (r : Fin 128) : Fin 256 := ⟨128 * h.val + r.val, by have := h.isLt; have := r.isLt; omega⟩

theorem first_apply (r l : Fin 128) : first (ix2 r l) = if hd l = 0 then 1#1 else 0#1 := by
  pointwise [first, lanes]
  revert l; decide

theorem stack_apply (X : (s2 128 128).Idx → ℝ) (h : Fin 2) (r l : Fin 128) :
    stack (F := Ideal) (up X) (ix2 (st h r) l) = ((if hd l = h then X (ix2 r l) else 0 : ℝ) : EReal) := by
  have hr := r.isLt
  rw [show (st h r) = ⟨128 * h.val + r.val, (st h r).isLt⟩ from rfl]
  pointwise [stack, first_apply]
  have h2 : ∀ x : Fin 2, x = 0 ∨ x = 1 := by decide
  rcases h2 h with rfl | rfl
  · rw [dif_pos (by simp)]
    rcases h2 (hd l) with e | e <;> simp [e, Scalar.select]
  · rw [dif_neg (by simp)]
    rcases h2 (hd l) with e | e <;> simp [e, Scalar.select]

theorem sum_hd {M : Type*} [AddCommMonoid M] (h : Fin 2) (f : Fin 128 → M) :
    (∑ l, if hd l = h then f l else 0) = ∑ d : Fin 64, f (ln h d) := by
  rw [← Equiv.sum_comp (finCongr (show 64 + 64 = 128 from rfl)), Fin.sum_univ_add]
  have h2 : ∀ x : Fin 2, x = 0 ∨ x = 1 := by decide
  have lo : ∀ d : Fin 64, finCongr (show 64 + 64 = 128 from rfl) (Fin.castAdd 64 d) = ln 0 d := fun d => Fin.ext (by simp [ln])
  have hi : ∀ d : Fin 64, finCongr (show 64 + 64 = 128 from rfl) (Fin.natAdd 64 d) = ln 1 d := fun d => Fin.ext rfl
  have el : ∀ k : Fin 2, ∀ d : Fin 64, hd (ln k d) = k := by decide
  simp only [lo, hi, el]
  rcases h2 h with rfl | rfl <;> simp

theorem sum_st {M : Type*} [AddCommMonoid M] (f : Fin 256 → M) : ∑ r, f r = ∑ h : Fin 2, ∑ r : Fin 128, f (st h r) := by
  rw [← Equiv.sum_comp (finCongr (show 128 + 128 = 256 from rfl)), Fin.sum_univ_add, Fin.sum_univ_two]
  refine congrArg₂ (· + ·) (Finset.sum_congr rfl fun r _ => congrArg f (Fin.ext ?_)) (Finset.sum_congr rfl fun r _ => congrArg f (Fin.ext ?_))
  · simp [st]
  · rfl

variable {kw : ℕ}

theorem nt_apply (q : (s2 256 128).Idx → EReal) (k : (s2 kw 128).Idx → EReal) (acc : (s2 256 kw).Idx → EReal) (r : Fin 256) (c : Fin kw) :
    Ideal.matmul (DotDims.transposedRhs 256 128 kw) q k acc (ix2 r c) = acc (ix2 r c) + ∑ l, q (ix2 r l) * k (ix2 c l) :=
  Ideal.matmul_transposedRhs_apply (φ₁ := .bf16) (φ₂ := .bf16) none q k acc r c
theorem nn_apply (s : (s2 256 kw).Idx → EReal) (k : (s2 kw 128).Idx → EReal) (acc : (s2 256 128).Idx → EReal) (r : Fin 256) (l : Fin 128) :
    Ideal.matmul (DotDims.plain 256 kw 128) s k acc (ix2 r l) = acc (ix2 r l) + ∑ c, s (ix2 r c) * k (ix2 c l) :=
  Ideal.matmul_plain_apply (φ₁ := .bf16) (φ₂ := .bf16) none s k acc r l
theorem tn_apply (s : (s2 256 kw).Idx → EReal) (q : (s2 256 128).Idx → EReal) (acc : (s2 kw 128).Idx → EReal) (c : Fin kw) (l : Fin 128) :
    Ideal.matmul (rowsDot 256 kw 128) s q acc (ix2 c l) = acc (ix2 c l) + ∑ r, s (ix2 r c) * q (ix2 r l) :=
  rowsDot_apply (φ₁ := .bf16) (φ₂ := .bf16) none s q acc c l
theorem bias_apply (b : (s3 1 256 kw).Idx → EReal) (r : Fin 256) (c : Fin kw) : b (Shape.reshapeEquiv cast_bias (ix2 r c)) = b (ix3 0 r c) := by
  exact congrArg b (Idealize.ShloMosaic.ValueIdx.reshapeEquiv_ix2_1ab cast_bias r c)

section Values
variable (X Y : (s2 128 128).Idx → ℝ) (K V : (s2 kw 128).Idx → ℝ) (L D : Fin 2 → Fin 128 → ℝ) (valid : Fin 128 → Fin kw → Prop)
  [∀ r c, Decidable (valid r c)]

/-- The block's weights and its gradient at the scores. -/
def blkP (h : Fin 2) (r : Fin 128) (c : Fin kw) : ℝ :=
  if valid r c then Real.exp ((∑ d, X (ix2 r (ln h d)) * K (ix2 c (ln h d))) - L h r) else 0
def blkS (h : Fin 2) (r : Fin 128) (c : Fin kw) : ℝ :=
  blkP X K L valid h r c * ((∑ d, Y (ix2 r (ln h d)) * V (ix2 c (ln h d))) - D h r)

variable {L D valid} {lse delta : FVec Ideal (s2 256 1) .f32} {bias : FVec Ideal (s3 1 256 kw) .f32}
  (hl : ∀ h r, lse (ix2 (st h r) 0) = ((L h r : ℝ) : EReal)) (hd' : ∀ h r, delta (ix2 (st h r) 0) = ((D h r : ℝ) : EReal))
  (hb : ∀ h r c, bias (ix3 0 (st h r) c) = if valid r c then (0 : EReal) else ⊥)

theorem dot_stack (X : (s2 128 128).Idx → ℝ) (K : (s2 kw 128).Idx → ℝ) (h : Fin 2) (r : Fin 128) (c : Fin kw) :
    ∑ l, stack (F := Ideal) (up X) (ix2 (st h r) l) * (K (ix2 c l) : EReal)
      = ((∑ d, X (ix2 r (ln h d)) * K (ix2 c (ln h d)) : ℝ) : EReal) := by
  rw [← sum_hd h fun l => X (ix2 r l) * K (ix2 c l), coe_sum]
  refine Finset.sum_congr rfl fun l _ => ?_
  rw [stack_apply, ← EReal.coe_mul, ite_mul, zero_mul]

include hl hb in
theorem weights_apply (h : Fin 2) (r : Fin 128) (c : Fin kw) :
    weights (F := Ideal) (stack (up X)) lse (up K) bias (ix2 (st h r) c) = ((blkP X K L valid h r c : ℝ) : EReal) := by
  pointwise [weights, nt_apply, bias_apply]
  rw [hl, hb, dot_stack]
  unfold blkP
  split
  · rw [add_zero, ← EReal.coe_sub, Ideal.exp_coe]
  · rw [EReal.add_bot, EReal.bot_sub, Ideal.exp_bot, EReal.coe_zero]

include hl hd' hb in
theorem dscores_apply (h : Fin 2) (r : Fin 128) (c : Fin kw) :
    dscores (F := Ideal) (stack (up X)) (stack (up Y)) lse delta (up K) (up V) bias (ix2 (st h r) c)
      = ((blkS X Y K V L D valid h r c : ℝ) : EReal) := by
  pointwise [dscores, nt_apply]
  rw [weights_apply X K hl hb, hd', dot_stack, ← EReal.coe_sub, ← EReal.coe_mul]
  rfl

include hl hd' hb in
theorem dqBlock_apply (r l : Fin 128) :
    dqBlock (F := Ideal) (stack (up X)) (stack (up Y)) lse delta (up K) (up V) bias (ix2 r l)
      = ((∑ c, blkS X Y K V L D valid (hd l) r c * K (ix2 c l) : ℝ) : EReal) := by
  pointwise [dqBlock, nn_apply, first_apply]
  have h2 : ∀ x : Fin 2, x = 0 ∨ x = 1 := by decide
  have key : ∀ h, ∑ c, dscores (F := Ideal) (stack (up X)) (stack (up Y)) lse delta (up K) (up V) bias (ix2 (st h r) c) * (K (ix2 c l) : EReal)
      = ((∑ c, blkS X Y K V L D valid h r c * K (ix2 c l) : ℝ) : EReal) := fun h => by
    rw [coe_sum]
    exact Finset.sum_congr rfl fun c _ => by rw [dscores_apply X Y K V hl hd' hb, EReal.coe_mul]
  rcases h2 (hd l) with e | e
  · rw [e, if_pos rfl, ← key 0]
    refine (if_pos rfl).trans (Finset.sum_congr rfl fun c _ => ?_)
    rw [show (⟨r.val, by have := r.isLt; omega⟩ : Fin 256) = st 0 r from Fin.ext (by simp [st])]
  · rw [e, if_neg (by decide), ← key 1]
    exact (if_neg (by decide)).trans rfl

theorem rows_sum (P : Fin 2 → Fin 128 → ℝ) (X : (s2 128 128).Idx → ℝ) (l : Fin 128) :
    ∑ h : Fin 2, ∑ r : Fin 128, ((P h r : ℝ) : EReal) * stack (F := Ideal) (up X) (ix2 (st h r) l)
      = ((∑ r, P (hd l) r * X (ix2 r l) : ℝ) : EReal) := by
  simp only [stack_apply, ← EReal.coe_mul, ← coe_sum, mul_ite, mul_zero]
  refine congrArg _ ?_
  rw [Finset.sum_comm]
  exact Finset.sum_congr rfl fun r _ => by simp

include hl hd' hb in
theorem dkBlock_apply (c : Fin kw) (l : Fin 128) :
    dkBlock (F := Ideal) (stack (up X)) (stack (up Y)) lse delta (up K) (up V) bias (ix2 c l)
      = ((∑ r, blkS X Y K V L D valid (hd l) r c * X (ix2 r l) : ℝ) : EReal) := by
  pointwise [dkBlock, tn_apply]
  rw [sum_st, ← rows_sum (fun h r => blkS X Y K V L D valid h r c) X l]
  refine Finset.sum_congr rfl fun h _ => Finset.sum_congr rfl fun r _ => ?_
  rw [dscores_apply X Y K V hl hd' hb]

include hl hb in
theorem dvBlock_apply (c : Fin kw) (l : Fin 128) :
    dvBlock (F := Ideal) (stack (up X)) (stack (up Y)) lse (up K) bias (ix2 c l)
      = ((∑ r, blkP X K L valid (hd l) r c * Y (ix2 r l) : ℝ) : EReal) := by
  pointwise [dvBlock, tn_apply]
  rw [sum_st, ← rows_sum (fun h r => blkP X K L valid h r c) Y l]
  refine Finset.sum_congr rfl fun h _ => Finset.sum_congr rfl fun r _ => ?_
  rw [weights_apply X K hl hb]

end Values

/-- The saved numbers of head `h` of a pair are lane `2 · pair + h`. -/
theorem cols_apply (pair : ℕ) (hp : pair < 6) (x : (s2 128 128).Idx → EReal) (h : Fin 2) (r : Fin 128) :
    cols (F := Ideal) (BitVec.ofNat 32 pair) x (ix2 (st h r) 0) = x (ix2 r ⟨2 * pair + h.val, by have := h.isLt; omega⟩) := by
  have hl : ∀ (n : ℕ) (hn : n < 128), lane (F := Ideal) (BitVec.ofNat 32 n) x (ix2 r 0) = x (ix2 r ⟨n, hn⟩) := fun n hn => by
    pointwise [lane, lanes]
    rw [Finset.sum_eq_single (⟨n, hn⟩ : Fin 128)]
    · simp [IntOp.cmpi, Scalar.select]
    · intro b _ hne
      have : BitVec.ofNat 32 b.val = BitVec.ofNat 32 n ↔ False := by
        refine ⟨fun e => ?_, False.elim⟩
        refine hne (Fin.ext ?_)
        have := congrArg BitVec.toNat e
        simp only [BitVec.toNat_ofNat] at this
        show b.val = n
        have := b.isLt
        omega
      refine if_neg fun e => this.mp ?_
      have eq : ∀ a : Bool, BitVec.ofBool a = 1#1 → a = true := by decide
      simpa using eq _ e
    · simp
  have hr := r.isLt
  rw [show (st h r) = ⟨128 * h.val + r.val, (st h r).isLt⟩ from rfl]
  pointwise [cols]
  have h2 : ∀ x : Fin 2, x = 0 ∨ x = 1 := by decide
  rcases h2 h with rfl | rfl
  · rw [dif_pos (by simp)]
    rw [show Scalar.muli 2#32 (BitVec.ofNat 32 pair) = BitVec.ofNat 32 (2 * pair) from by
      apply BitVec.eq_of_toNat_eq; simp [Scalar.muli, IntOp.muli]]
    have := hl (2 * pair) (by omega)
    simpa using this
  · rw [dif_neg (by simp)]
    rw [show Scalar.addi (Scalar.muli 2#32 (BitVec.ofNat 32 pair)) 1#32 = BitVec.ofNat 32 (2 * pair + 1) from by
      apply BitVec.eq_of_toNat_eq; simp [Scalar.muli, IntOp.muli, Scalar.addi, IntOp.addi]]
    have := hl (2 * pair + 1) (by omega)
    simpa using this

end Cert.Attn

end
-- ==== Proof.AttnRun.lean ====
/-
  The attention's backward kernel over one pair of heads: sixteen blocks of query rows in turn. Each block reads its rows and a
  window of key rows, writes its rows of the query gradient, and adds to the window's rows of two running sums, the key and the
  value gradients. What the three arrays hold at the end, over finite arguments, for any window that holds every key a query sees.
-/
module

public import proofs.«01_k».proof.Proof.AttnBlock
public import Idealize.ShloMosaic.Lib.Pipeline.Value
public import Idealize.ShloMosaic.Lib.Pipeline.ValueKit.Tiles

@[expose] public section

noncomputable section

namespace Cert.Attn

open Idealize.ShloMosaic Idealize.SL.Sem Cert.Reals

variable {F : FTy → Type} [FloatOps F] [Named F] {sig : RefSig} {kw : ℕ} (ks : ℕ → ℕ) (hk : ∀ b, ks b + kw ≤ 2048)

/-! ## The rows and the window of a block -/

theorem rows_inb (b : ℕ) : ∀ x, (![128 * (b % 16), 0] : Fin 2 → ℕ) x + (s2 128 128).size x ≤ (s2 2048 128).size x := by
  intro x; fin_cases x
  · show 128 * (b % 16) + 128 ≤ 2048; omega
  · exact le_rfl
include hk in
theorem win_inb (b : ℕ) : ∀ x, (![ks b, 0] : Fin 2 → ℕ) x + (s2 kw 128).size x ≤ (s2 2048 128).size x := by
  intro x; fin_cases x
  · exact hk b
  · exact le_rfl

abbrev rowR (b : ℕ) : Rect (s2 2048 128) := Rect.unit ![128 * (b % 16), 0] (s2 128 128).size (rows_inb b)
abbrev winR (b : ℕ) : Rect (s2 2048 128) := Rect.unit ![ks b, 0] (s2 kw 128).size (win_inb ks hk b)

def rowIx (b : ℕ) (r : Fin 128) : Fin 2048 := ⟨128 * (b % 16) + r.val, by have := r.isLt; omega⟩
def winIx (b : ℕ) (c : Fin kw) : Fin 2048 := ⟨ks b + c.val, by have := c.isLt; have := hk b; omega⟩

theorem rowR_emb (b : ℕ) (r l : Fin 128) : (rowR b).emb (ix2 r l) = ix2 (rowIx b r) l := by
  funext a; apply Fin.ext; fin_cases a
  · exact Rect.idx_unit_val _ _ _ _ _
  · exact (Rect.idx_unit_val _ _ _ _ _).trans (Nat.zero_add _)
theorem winR_emb (b : ℕ) (c : Fin kw) (l : Fin 128) : (winR ks hk b).emb (ix2 c l) = ix2 (winIx ks hk b c) l := by
  funext a; apply Fin.ext; fin_cases a
  · exact Rect.idx_unit_val _ _ _ _ _
  · exact (Rect.idx_unit_val _ _ _ _ _).trans (Nat.zero_add _)

variable {e : EltTy} {arg : Memref sig .tc .vmem (s2 2048 128) e}

/-- The rows and the window a block loads. -/
def rows (harg : arg.IsWhole) (x : Vec F (s2 2048 128) e) (b : ℕ) : Vec F (s2 128 128) e :=
  View.readAt (Elt F) arg.view (rowR b).toLoadRect (harg.unread x)
def wind (harg : arg.IsWhole) (x : Vec F (s2 2048 128) e) (b : ℕ) : Vec F (s2 kw 128) e :=
  View.readAt (Elt F) arg.view (winR ks hk b).toLoadRect (harg.unread x)

theorem rows_eq (harg : arg.IsWhole) (x : Vec F (s2 2048 128) e) (b : ℕ) :
    rows harg x b = fun j => x (ix2 (rowIx b (j 0)) (j 1)) := by
  unfold rows
  rw [View.readAt_eq_ld, harg.read_unread]
  funext j
  rw [show j = ix2 (j 0) (j 1) from eq_ix2 j]
  exact congrArg x (rowR_emb b (j 0) (j 1))
theorem wind_eq (harg : arg.IsWhole) (x : Vec F (s2 2048 128) e) (b : ℕ) :
    wind ks hk harg x b = fun j => x (ix2 (winIx ks hk b (j 0)) (j 1)) := by
  unfold wind
  rw [View.readAt_eq_ld, harg.read_unread]
  funext j
  rw [show j = ix2 (j 0) (j 1) from eq_ix2 j]
  exact congrArg x (winR_emb ks hk b (j 0) (j 1))

/-- The same of a real array. -/
def rowsR (x : (s2 2048 128).Idx → ℝ) (b : ℕ) : (s2 128 128).Idx → ℝ := fun j => x (ix2 (rowIx b (j 0)) (j 1))
def winsR (x : (s2 2048 128).Idx → ℝ) (b : ℕ) : (s2 kw 128).Idx → ℝ := fun j => x (ix2 (winIx ks hk b (j 0)) (j 1))
theorem rows_up {arg : Memref sig .tc .vmem (s2 2048 128) .bf16} (harg : arg.IsWhole) (x : (s2 2048 128).Idx → ℝ) (b : ℕ) :
    rows (F := Ideal) harg (up x) b = up (rowsR x b) := rows_eq harg _ b
theorem wind_up {arg : Memref sig .tc .vmem (s2 2048 128) .bf16} (harg : arg.IsWhole) (x : (s2 2048 128).Idx → ℝ) (b : ℕ) :
    wind (F := Ideal) ks hk harg (up x) b = up (winsR ks hk x b) := wind_eq ks hk harg _ b

/-! ## Sixteen blocks of rows, and a running sum over the windows -/

/-- The blocks' rows, the last block's first. -/
def blocksOf (P : ℕ → FVec F (s2 128 128) .bf16) : List (View.Piece (Elt F) (s2 2048 128) .bf16) :=
  [15, 14, 13, 12, 11, 10, 9, 8, 7, 6, 5, 4, 3, 2, 1, 0].map fun b => ⟨rowR b, P b⟩

theorem canon_blocks (P : ℕ → FVec F (s2 128 128) .bf16) (G : (s2 2048 128).Idx → Elt F .bf16)
    (h : ∀ b, b < 16 → ∀ r l, P b (ix2 r l) = G (ix2 (rowIx b r) l)) (y : (s2 2048 128).Idx) : View.canon (blocksOf P) y = G y := by
  refine View.canon_apply_of_pieces G _ (fun p hp x => ?_) y ?_
  · obtain ⟨b, hb, rfl⟩ := List.mem_map.1 hp
    have hb : b < 16 := (by decide : ∀ b ∈ [15, 14, 13, 12, 11, 10, 9, 8, 7, 6, 5, 4, 3, 2, 1, 0], b < 16) b hb
    have e : ∀ z : (s2 128 128).Idx, P b z = G ((rowR b).emb z) := fun z => by
      obtain ⟨r, l, rfl⟩ : ∃ r l, z = ix2 (n0 := 128) (n1 := 128) r l := ⟨_, _, eq_ix2 z⟩
      exact (h b hb r l).trans (congrArg G (rowR_emb b r l).symm)
    exact e x
  · have hy : (y 0).val < 2048 := (y 0).isLt
    refine ⟨_, List.mem_map.2 ⟨(y 0).val / 128, ?_, rfl⟩, (Rect.mem_set_unit (s := s2 2048 128) (inb := rows_inb _)).2 fun a => ?_⟩
    · have : (y 0).val / 128 < 16 := by omega
      generalize (y 0).val / 128 = b at this
      revert b; decide
    · fin_cases a
      · show 128 * ((y 0).val / 128 % 16) ≤ (y 0).val ∧ (y 0).val < 128 * ((y 0).val / 128 % 16) + 128
        omega
      · exact ⟨Nat.zero_le _, (y 1).isLt.trans_le (Nat.le_add_left _ _)⟩

/-- The running sum's stores after `n` blocks, the last first. -/
def acc (v : View sig .tc .vmem (s2 2048 128) .f32) (D : ℕ → FVec F (s2 kw 128) .f32) : ℕ → List (View.Piece (Elt F) (s2 2048 128) .f32)
  | 0 => [⟨Rect.unit ![0, 0] (s2 2048 128).size (by decide), constant (s2 2048 128) .f32 0x00000000#32⟩]
  | b + 1 => ⟨winR ks hk b, shapeCast (s2 kw 128) (addf (v.readCov (acc v D b) (winR ks hk b).toLoadRect) (D b)) cast_rows⟩ :: acc v D b

theorem canon_acc (v : View sig .tc .vmem (s2 2048 128) .f32) (D : ℕ → FVec Ideal (s2 kw 128) .f32) (d : ℕ → Fin kw → Fin 128 → ℝ)
    (hD : ∀ b, b < 16 → ∀ c l, D b (ix2 c l) = ((d b c l : ℝ) : EReal)) (κ : Fin 2048) (l : Fin 128) : ∀ n, n ≤ 16 →
    View.canon (acc ks hk v D n) (ix2 κ l)
      = ((∑ b ∈ Finset.range n, ∑ c, if winIx ks hk b c = κ then d b c l else 0 : ℝ) : EReal) := by
  intro n
  induction n with
  | zero =>
    intro _
    unfold acc
    rw [View.canon_unit_zero (funext fun a => by fin_cases a <;> rfl)]
    simp only [Finset.range_zero, Finset.sum_empty, EReal.coe_zero]
    exact Ideal.ofBits_zero_f32
  | succ b ih =>
    intro hb
    rw [Finset.sum_range_succ]
    unfold acc
    by_cases hm : ks b ≤ κ.val ∧ κ.val < ks b + kw
    · have e : winIx ks hk b ⟨κ.val - ks b, by omega⟩ = κ := Fin.ext (show ks b + (κ.val - ks b) = κ.val by omega)
      generalize (⟨κ.val - ks b, by omega⟩ : Fin kw) = c at e
      rw [← e, ← winR_emb, View.canon_cons_emb]
      show addf _ _ (Shape.reshapeEquiv cast_rows _) = _
      rw [Shape.reshapeEquiv_self]
      show (show EReal from v.readCov (acc ks hk v D b) (winR ks hk b).toLoadRect (ix2 c l)) + (show EReal from D b (ix2 c l)) = _
      rw [View.readCov_eq_canon', hD b (by omega)]
      show View.canon (acc ks hk v D b) ((winR ks hk b).emb (ix2 c l)) + _ = _
      rw [winR_emb, e, ih (by omega), EReal.coe_add]
      congr 2
      rw [Finset.sum_eq_single c]
      · rw [if_pos e]
      · intro c' _ hne
        refine if_neg fun e' => hne (Fin.ext ?_)
        have := congrArg Fin.val (e'.trans e.symm)
        simp only [winIx] at this
        omega
      · exact fun h => (h (Finset.mem_univ _)).elim
    · rw [View.canon_cons_of_not_mem, ih (by omega)]
      · rw [Finset.sum_eq_zero (s := Finset.univ), add_zero]
        intro c _
        refine if_neg fun e => hm ?_
        have := congrArg Fin.val e
        simp only [winIx] at this
        have := c.isLt
        omega
      · intro h
        exact hm ((Rect.mem_set_unit (s := s2 2048 128) (inb := win_inb ks hk b)).1 h 0)

/-! ## The three gradients of a pair of heads, over its whole sequence -/

section Values
variable (xq xg xk xv : (s2 2048 128).Idx → ℝ) (L D : Fin 2 → Fin 2048 → ℝ) (V : ℕ → ℕ → Prop) [∀ i j, Decidable (V i j)]

/-- The weight a query row gives a key row, in each head, and the gradient at the score. -/
def PF (h : Fin 2) (ρ κ : Fin 2048) : ℝ :=
  if V ρ.val κ.val then Real.exp ((∑ d, xq (ix2 ρ (ln h d)) * xk (ix2 κ (ln h d))) - L h ρ) else 0
def SF (h : Fin 2) (ρ κ : Fin 2048) : ℝ :=
  PF xq xk L V h ρ κ * ((∑ d, xg (ix2 ρ (ln h d)) * xv (ix2 κ (ln h d))) - D h ρ)

variable {argq argk argv argg : Memref sig .tc .vmem (s2 2048 128) .bf16} {argl argd : Memref sig .tc .vmem (s2 2048 128) .f32}
  (hq : argq.IsWhole) (hkk : argk.IsWhole) (hv : argv.IsWhole) (hg : argg.IsWhole) (hl : argl.IsWhole) (hd' : argd.IsWhole)
  (pair : ℕ) (B : ℕ → Vec F (s3 1 256 kw) .f32)
  (x0 x1 x2 x3 : Vec F (s2 2048 128) .bf16) (x4 x5 : Vec F (s2 2048 128) .f32)

/-- What block `b` writes of the query gradient, and adds to the key and the value gradients. -/
def dqOf (b : ℕ) : FVec F (s2 128 128) .bf16 :=
  dqBlock (stack (rows hq x0 b)) (stack (rows hg x3 b)) (cols (BitVec.ofNat 32 pair) (rows hl x4 b))
    (cols (BitVec.ofNat 32 pair) (rows hd' x5 b)) (wind ks hk hkk x1 b) (wind ks hk hv x2 b) (B b)
def dkOf (b : ℕ) : FVec F (s2 kw 128) .f32 :=
  dkBlock (stack (rows hq x0 b)) (stack (rows hg x3 b)) (cols (BitVec.ofNat 32 pair) (rows hl x4 b))
    (cols (BitVec.ofNat 32 pair) (rows hd' x5 b)) (wind ks hk hkk x1 b) (wind ks hk hv x2 b) (B b)
def dvOf (b : ℕ) : FVec F (s2 kw 128) .f32 :=
  dvBlock (stack (rows hq x0 b)) (stack (rows hg x3 b)) (cols (BitVec.ofNat 32 pair) (rows hl x4 b)) (wind ks hk hkk x1 b) (B b)

theorem col_lt {pair : ℕ} (hp : pair < 6) (h : Fin 2) : 2 * pair + h.val < 128 := by have := h.isLt; omega

variable {L D V} {B : ℕ → Vec Ideal (s3 1 256 kw) .f32} {x4 x5 : Vec Ideal (s2 2048 128) .f32} (hp : pair < 6)
  (h4 : ∀ (h : Fin 2) ρ, x4 (ix2 ρ ⟨2 * pair + h.val, col_lt hp h⟩) = ((L h ρ : ℝ) : EReal))
  (h5 : ∀ (h : Fin 2) ρ, x5 (ix2 ρ ⟨2 * pair + h.val, col_lt hp h⟩) = ((D h ρ : ℝ) : EReal))
  (hB : ∀ b, b < 16 → ∀ h r c, B b (ix3 0 (st h r) c) = if V (rowIx b r).val (winIx ks hk b c).val then (0 : EReal) else ⊥)
  (hV : ∀ b, b < 16 → ∀ (r : Fin 128) κ, κ < 2048 → V (rowIx b r).val κ → ks b ≤ κ ∧ κ < ks b + kw)

include hV in
/-- A sum over the window is a sum over all key rows, for what vanishes outside the band. -/
theorem sum_win (b : ℕ) (hb : b < 16) (r : Fin 128) (f : Fin 2048 → ℝ) (hf : ∀ κ, ¬V (rowIx b r).val κ.val → f κ = 0) :
    ∑ c, f (winIx ks hk b c) = ∑ κ, f κ := by
  refine Finset.sum_bij_ne_zero (fun c _ _ => winIx ks hk b c) (fun _ _ _ => Finset.mem_univ _) (fun c _ _ c' _ _ e => ?_)
    (fun κ _ hne => ?_) (fun _ _ _ => rfl)
  · have := congrArg Fin.val e
    simp only [winIx] at this
    exact Fin.ext (by omega)
  · have hw := hV b hb r κ.val κ.isLt (by by_contra h; exact hne (hf κ h))
    have e : winIx ks hk b ⟨κ.val - ks b, by omega⟩ = κ := Fin.ext (show ks b + (κ.val - ks b) = κ.val by omega)
    exact ⟨_, Finset.mem_univ _, by rwa [e], e⟩

theorem PF_off (h : Fin 2) (ρ κ : Fin 2048) (hn : ¬V ρ.val κ.val) : PF xq xk L V h ρ κ = 0 := if_neg hn

include hp h4 h5 hB in
theorem dqOf_apply (b : ℕ) (hb : b < 16) (r l : Fin 128) :
    dqOf ks hk hq hkk hv hg hl hd' pair B (up xq) (up xk) (up xv) (up xg) x4 x5 b (ix2 r l)
      = ((∑ c, SF xq xg xk xv L D V (hd l) (rowIx b r) (winIx ks hk b c) * xk (ix2 (winIx ks hk b c) l) : ℝ) : EReal) := by
  unfold dqOf
  rw [rows_up, rows_up, wind_up, wind_up]
  exact dqBlock_apply (rowsR xq b) (rowsR xg b) (winsR ks hk xk b) (winsR ks hk xv b)
    (L := fun h r => L h (rowIx b r)) (D := fun h r => D h (rowIx b r)) (valid := fun r c => V (rowIx b r).val (winIx ks hk b c).val)
    (fun h r => by rw [cols_apply pair hp, rows_eq]; exact h4 h _) (fun h r => by rw [cols_apply pair hp, rows_eq]; exact h5 h _) (hB b hb) r l

include hp h4 h5 hB in
theorem dkOf_apply (b : ℕ) (hb : b < 16) (c : Fin kw) (l : Fin 128) :
    dkOf ks hk hq hkk hv hg hl hd' pair B (up xq) (up xk) (up xv) (up xg) x4 x5 b (ix2 c l)
      = ((∑ r, SF xq xg xk xv L D V (hd l) (rowIx b r) (winIx ks hk b c) * xq (ix2 (rowIx b r) l) : ℝ) : EReal) := by
  unfold dkOf
  rw [rows_up, rows_up, wind_up, wind_up]
  exact dkBlock_apply (rowsR xq b) (rowsR xg b) (winsR ks hk xk b) (winsR ks hk xv b)
    (L := fun h r => L h (rowIx b r)) (D := fun h r => D h (rowIx b r)) (valid := fun r c => V (rowIx b r).val (winIx ks hk b c).val)
    (fun h r => by rw [cols_apply pair hp, rows_eq]; exact h4 h _) (fun h r => by rw [cols_apply pair hp, rows_eq]; exact h5 h _) (hB b hb) c l

include hp h4 hB in
theorem dvOf_apply (b : ℕ) (hb : b < 16) (c : Fin kw) (l : Fin 128) :
    dvOf ks hk hq hkk hg hl pair B (up xq) (up xk) (up xg) x4 b (ix2 c l)
      = ((∑ r, PF xq xk L V (hd l) (rowIx b r) (winIx ks hk b c) * xg (ix2 (rowIx b r) l) : ℝ) : EReal) := by
  unfold dvOf
  rw [rows_up, rows_up, wind_up]
  exact dvBlock_apply (rowsR xq b) (rowsR xg b) (winsR ks hk xk b)
    (L := fun h r => L h (rowIx b r)) (valid := fun r c => V (rowIx b r).val (winIx ks hk b c).val)
    (fun h r => by rw [cols_apply pair hp, rows_eq]; exact h4 h _) (hB b hb) c l

include hp h4 h5 hB hV in
/-- The query gradient's rows. -/
theorem dq_canon (ρ : Fin 2048) (l : Fin 128) :
    View.canon (blocksOf (dqOf ks hk hq hkk hv hg hl hd' pair B (up xq) (up xk) (up xv) (up xg) x4 x5)) (ix2 ρ l)
      = ((∑ κ, SF xq xg xk xv L D V (hd l) ρ κ * xk (ix2 κ l) : ℝ) : EReal) := by
  refine canon_blocks (F := Ideal) _ (fun y => ((∑ κ, SF xq xg xk xv L D V (hd (y 1)) (y 0) κ * xk (ix2 κ (y 1)) : ℝ) : EReal))
    (fun b hb r l => ?_) (ix2 ρ l)
  rw [dqOf_apply ks hk xq xg xk xv hq hkk hv hg hl hd' pair hp h4 h5 hB b hb]
  refine congrArg _ (sum_win ks hk hV b hb r (fun κ => SF xq xg xk xv L D V (hd l) (rowIx b r) κ * xk (ix2 κ l)) fun κ hn => ?_)
  unfold SF
  rw [PF_off xq xk _ _ _ hn, zero_mul, zero_mul]

include hV in
/-- A running sum over the blocks and their windows is a sum over all query rows. -/
theorem sum_blocks (f : Fin 2048 → Fin 2048 → ℝ) (hf : ∀ ρ κ : Fin 2048, ¬V ρ.val κ.val → f ρ κ = 0) (κ : Fin 2048) :
    (∑ b ∈ Finset.range 16, ∑ c, if winIx ks hk b c = κ then ∑ r, f (rowIx b r) (winIx ks hk b c) else 0) = ∑ ρ, f ρ κ := by
  have hw : ∀ b ∈ Finset.range 16, (∑ c, if winIx ks hk b c = κ then ∑ r, f (rowIx b r) (winIx ks hk b c) else 0) = ∑ r, f (rowIx b r) κ := by
    intro b hb
    have hb := Finset.mem_range.1 hb
    have : ∀ c, (if winIx ks hk b c = κ then ∑ r, f (rowIx b r) (winIx ks hk b c) else 0)
        = ∑ r, if winIx ks hk b c = κ then f (rowIx b r) (winIx ks hk b c) else 0 := fun c => by split <;> simp
    simp only [this]
    rw [Finset.sum_comm]
    refine Finset.sum_congr rfl fun r _ => ?_
    rw [sum_win ks hk hV b hb r (fun κ' => if κ' = κ then f (rowIx b r) κ' else 0) fun κ' hn => by rw [hf _ _ hn, ite_self]]
    simp
  rw [Finset.sum_congr rfl hw, Finset.sum_range]
  rw [← Equiv.sum_comp (finProdFinEquiv (m := 16) (n := 128)), Fintype.sum_prod_type]
  refine Finset.sum_congr rfl fun b _ => Finset.sum_congr rfl fun r _ => congrArg (f · κ) (Fin.ext ?_)
  show 128 * (b.val % 16) + r.val = r.val + 128 * b.val
  have := b.isLt
  omega

include hp h4 h5 hB hV in
/-- The key gradient's rows. -/
theorem dk_canon (v : View sig .tc .vmem (s2 2048 128) .f32) (κ : Fin 2048) (l : Fin 128) :
    View.canon (acc ks hk v (dkOf ks hk hq hkk hv hg hl hd' pair B (up xq) (up xk) (up xv) (up xg) x4 x5) 16) (ix2 κ l)
      = ((∑ ρ, SF xq xg xk xv L D V (hd l) ρ κ * xq (ix2 ρ l) : ℝ) : EReal) := by
  rw [canon_acc ks hk v _ _ (fun b hb c l => dkOf_apply ks hk xq xg xk xv hq hkk hv hg hl hd' pair hp h4 h5 hB b hb c l) κ l 16 le_rfl]
  refine congrArg _ (sum_blocks ks hk hV (fun ρ κ => SF xq xg xk xv L D V (hd l) ρ κ * xq (ix2 ρ l)) (fun ρ κ hn => ?_) κ)
  unfold SF
  rw [PF_off xq xk _ _ _ hn, zero_mul, zero_mul]

include hp h4 hB hV in
/-- The value gradient's rows. -/
theorem dv_canon (v : View sig .tc .vmem (s2 2048 128) .f32) (κ : Fin 2048) (l : Fin 128) :
    View.canon (acc ks hk v (dvOf ks hk hq hkk hg hl pair B (up xq) (up xk) (up xg) x4) 16) (ix2 κ l)
      = ((∑ ρ, PF xq xk L V (hd l) ρ κ * xg (ix2 ρ l) : ℝ) : EReal) := by
  rw [canon_acc ks hk v _ _ (fun b hb c l => dvOf_apply ks hk xq xg xk hq hkk hg hl pair hp h4 hB b hb c l) κ l 16 le_rfl]
  refine congrArg _ (sum_blocks ks hk hV (fun ρ κ => PF xq xk L V (hd l) ρ κ * xg (ix2 ρ l)) (fun ρ κ hn => ?_) κ)
  rw [PF_off xq xk _ _ _ hn, zero_mul]

end Values

end Cert.Attn

end
-- ==== Proof.AttnBand.lean ====
/-
  The bands the attention's backward kernel keeps in its first scratch: for a window that starts at the block's own rows, one
  radius earlier or two, zero where a key lies within the radius of the query and the mask's number elsewhere.
-/
module

public import proofs.«01_k».proof.Proof.AttnRun

@[expose] public section

noncomputable section

namespace Cert.Attn

open Idealize.ShloMosaic Idealize.SL.Sem Cert.Reals

variable {F : FTy → Type} [FloatOps F] [Named F] {sig : RefSig} {kw : ℕ}

theorem band_cast : (s2 256 kw).ShapeCasts (s3 1 256 kw) := by
  simp [Shape.ShapeCasts, Shape.numel, Fin.prod_univ_succ]
theorem band_broadcast : (s2 256 kw).Broadcasts (s2 256 kw) := ⟨le_rfl, fun a => .inr fun _ => rfl⟩

theorem band_rows : (s2 256 kw).Iotas .tc 32 [0] := ⟨by simp, fun _ => ⟨.inr rfl, le_rfl⟩, fun h => (h rfl).elim⟩
theorem band_lanes : (s2 256 kw).Iotas .tc 32 [1] := ⟨by simp, fun _ => ⟨.inr rfl, le_rfl⟩, fun h => (h rfl).elim⟩

/-- The row within a block, of a row of the two stacked copies. -/
def rowIn : IVec (s2 256 kw) 32 :=
  let n : BitVec 32 := Scalar.select (Scalar.cmpi .eq 128#32 0#32) 1#32 128#32
  have r : IVec (s2 256 kw) 32 := remsi (iota .tc (s2 256 kw) 32 [0] band_rows) (broadcast (s2 256 kw) n)
  select (andi (xori (cmpi .slt r (broadcast (s2 256 kw) 0#32))
      (broadcastTo (s2 256 kw) (broadcast (s2 256 kw) (Scalar.cmpi .slt n 0#32)) band_broadcast)) (cmpi .ne r (broadcast (s2 256 kw) 0#32)))
    (addi r (broadcast (s2 256 kw) n)) r

/-- The band of a window that starts `shift` rows before the block. -/
def band (shift : BitVec 32) (x : F .f32) : FVec F (s3 1 256 kw) .f32 :=
  shapeCast (s3 1 256 kw) (select (cmpi .sle (absi (subi (addi (rowIn) (broadcast (s2 256 kw) shift)) (iota .tc (s2 256 kw) 32 [1] band_lanes)))
    (broadcast (s2 256 kw) 64#32)) (broadcast (s2 256 kw) (Scalar.ofBits .f32 0x00000000#32 : F .f32)) (broadcast (s2 256 kw) x)) band_cast

theorem band_index (r : Fin 256) (c : Fin kw) : Shape.reshapeEquiv band_cast (ix3 0 r c) = ix2 r c := by
  have e : Shape.reshapeEquiv cast_bias (ix2 r c) = ix3 0 r c := Idealize.ShloMosaic.ValueIdx.reshapeEquiv_ix2_1ab cast_bias r c
  rw [← e, Shape.reshapeEquiv_reshapeEquiv, Shape.reshapeEquiv_self]

theorem rowIn_apply (h : Fin 2) (r : Fin 128) (c : Fin kw) : rowIn (ix2 (st h r) c) = BitVec.ofNat 32 r.val := by
  pointwise [rowIn]
  revert h r
  decide

theorem near_pos : ∀ n : Fin 512, IntOp.cmpi .sle (IntOp.absi (BitVec.ofNat 32 n.val)) 64#32 = if n.val ≤ 64 then 1#1 else 0#1 := by decide
theorem near_neg : ∀ n : Fin 512, IntOp.cmpi .sle (IntOp.absi (-BitVec.ofNat 32 n.val)) 64#32 = if n.val ≤ 64 then 1#1 else 0#1 := by decide

/-- The comparison of a distance with the radius, as numbers. -/
theorem near_word (a s c : ℕ) (ha : a < 256) (hs : s < 256) (hc : c < 256) :
    IntOp.cmpi .sle (IntOp.absi (IntOp.subi (IntOp.addi (BitVec.ofNat 32 a) (BitVec.ofNat 32 s)) (BitVec.ofNat 32 c))) 64#32
      = if a + s ≤ c + 64 ∧ c ≤ a + s + 64 then 1#1 else 0#1 := by
  by_cases h : c ≤ a + s
  · have e : IntOp.subi (IntOp.addi (BitVec.ofNat 32 a) (BitVec.ofNat 32 s)) (BitVec.ofNat 32 c) = BitVec.ofNat 32 (a + s - c) := by
      apply BitVec.eq_of_toNat_eq
      simp only [IntOp.subi, IntOp.addi, BitVec.toNat_sub, BitVec.toNat_add, BitVec.toNat_ofNat]
      omega
    rw [e, near_pos ⟨a + s - c, by omega⟩]
    exact if_congr (by simp only; omega) rfl rfl
  · have e : IntOp.subi (IntOp.addi (BitVec.ofNat 32 a) (BitVec.ofNat 32 s)) (BitVec.ofNat 32 c) = -BitVec.ofNat 32 (c - (a + s)) := by
      apply BitVec.eq_of_toNat_eq
      simp only [IntOp.subi, IntOp.addi, BitVec.toNat_sub, BitVec.toNat_add, BitVec.toNat_neg, BitVec.toNat_ofNat]
      omega
    rw [e, near_neg ⟨c - (a + s), by omega⟩]
    exact if_congr (by simp only; omega) rfl rfl

theorem band_apply (s : ℕ) (hs : s ≤ 128) (hkw : kw ≤ 256) (x : Ideal .f32) (h : Fin 2) (r : Fin 128) (c : Fin kw) :
    band (F := Ideal) (BitVec.ofNat 32 s) x (ix3 0 (st h r) c)
      = if r.val + s ≤ c.val + 64 ∧ c.val ≤ r.val + s + 64 then (0 : EReal) else x := by
  have hr := r.isLt
  have hc := c.isLt
  pointwise [band, rowIn_apply, band_index]
  rw [near_word _ _ _ (by omega) (by omega) (by omega)]
  split
  · exact if_pos rfl
  · exact if_neg (by decide)

/-! ## The scratch -/

/-- The scratch's bands, the last stored first: three, or one. -/
theorem bands_inb {n k : ℕ} (h : k < n) : ∀ x, (![k, 0, 0] : Fin 3 → ℕ) x + (s3 1 256 kw).size x ≤ (s3 n 256 kw).size x := by
  intro x; fin_cases x
  · show k + 1 ≤ n
    omega
  · show 0 + 256 ≤ 256
    omega
  · show 0 + kw ≤ kw
    omega
abbrev bandR {n k : ℕ} (h : k < n) : Rect (s3 n 256 kw) := Rect.unit ![k, 0, 0] (s3 1 256 kw).size (bands_inb h)

def bands3 (x : F .f32) : List (View.Piece (Elt F) (s3 3 256 kw) .f32) :=
  [⟨bandR (by decide : 2 < 3), band 128#32 x⟩, ⟨bandR (by decide : 1 < 3), band 64#32 x⟩, ⟨bandR (by decide : 0 < 3), band 0#32 x⟩]
def bands1 (x : F .f32) : List (View.Piece (Elt F) (s3 1 256 kw) .f32) := [⟨bandR (by decide : 0 < 1), band 0#32 x⟩]

theorem bandR_emb {n k : ℕ} (h : k < n) (r : Fin 256) (c : Fin kw) : (bandR (kw := kw) h).emb (ix3 0 r c) = ix3 ⟨k, h⟩ r c := by
  funext a; apply Fin.ext; fin_cases a
  · exact Rect.idx_unit_val _ _ _ _ _
  · exact (Rect.idx_unit_val _ _ _ _ _).trans (Nat.zero_add _)
  · exact (Rect.idx_unit_val _ _ _ _ _).trans (Nat.zero_add _)

theorem canon_band_self {n k : ℕ} (h : k < n) (w : FVec F (s3 1 256 kw) .f32) (L : List (View.Piece (Elt F) (s3 n 256 kw) .f32)) (r : Fin 256)
    (c : Fin kw) : View.canon (⟨bandR h, w⟩ :: L) (ix3 ⟨k, h⟩ r c) = w (ix3 0 r c) := by
  rw [← bandR_emb h r c, View.canon_cons_emb]
theorem canon_band_off {n k j : ℕ} (hj : j < n) (h : k < n) (hne : j ≠ k) (w : FVec F (s3 1 256 kw) .f32)
    (L : List (View.Piece (Elt F) (s3 n 256 kw) .f32)) (r : Fin 256) (c : Fin kw) :
    View.canon (⟨bandR hj, w⟩ :: L) (ix3 ⟨k, h⟩ r c) = View.canon L (ix3 ⟨k, h⟩ r c) := by
  refine View.canon_cons_of_not_mem _ _ fun hm => ?_
  have := (Rect.mem_set_unit (s := s3 n 256 kw) (inb := bands_inb hj)).1 hm 0
  have h1 : j ≤ k := this.1
  have h2 : k < j + 1 := this.2
  omega

/-- What a load of band `k` reads. -/
theorem readCov_bands3 (v : View sig .tc .vmem (s3 3 256 kw) .f32) (x : F .f32) {k : ℕ} (h : k < 3) (r : Fin 256) (c : Fin kw) :
    v.readCov (bands3 x) (bandR h).toLoadRect (ix3 0 r c) = band (BitVec.ofNat 32 (64 * k)) x (ix3 0 r c) := by
  rw [View.readCov_eq_canon']
  show View.canon (bands3 x) ((bandR h).emb (ix3 0 r c)) = _
  rw [bandR_emb]
  unfold bands3
  match k, h with
  | 0, h => exact (canon_band_off (by decide) h (by decide) _ _ r c).trans ((canon_band_off (by decide) h (by decide) _ _ r c).trans (canon_band_self h _ _ r c))
  | 1, h => exact (canon_band_off (by decide) h (by decide) _ _ r c).trans (canon_band_self h _ _ r c)
  | 2, h => exact canon_band_self h _ _ r c

theorem readCov_bands1 (v : View sig .tc .vmem (s3 1 256 kw) .f32) (x : F .f32) (r : Fin 256) (c : Fin kw) :
    v.readCov (bands1 x) (bandR (by decide : 0 < 1)).toLoadRect (ix3 0 r c) = band 0#32 x (ix3 0 r c) := by
  rw [View.readCov_eq_canon']
  show View.canon (bands1 x) ((bandR _).emb (ix3 0 r c)) = _
  exact View.canon_cons_emb _ _ _ _

/-! ## A branch's windows: its rows come in classes of `lc`, each class's windows stay within it -/

/-- Where block `b`'s window starts, the band it reads, and which keys a query sees. -/
def kstart (lc kw b : ℕ) : ℕ := b % 16 / (lc / 128) * lc + min (128 * (b % 16 % (lc / 128)) - 64) (lc - kw)
def bandIx (lc kw b : ℕ) : ℕ := (128 * (b % 16) - kstart lc kw b) / 64
def Near (lc ρ κ : ℕ) : Prop := ρ / lc = κ / lc ∧ ρ ≤ κ + 64 ∧ κ ≤ ρ + 64
instance (lc ρ κ : ℕ) : Decidable (Near lc ρ κ) := inferInstanceAs (Decidable (_ ∧ _))

/-- What the three layouts share: the windows lie within the array, hold every key their rows see, and the band says which. -/
structure Windows (lc kw n : ℕ) : Prop where
  small : kw ≤ 256
  inb : ∀ b, kstart lc kw b + kw ≤ 2048
  ix : ∀ b, bandIx lc kw b < n
  shift : ∀ b, 64 * bandIx lc kw b ≤ 128
  holds : ∀ b r κ, r < 128 → κ < 2048 → Near lc (128 * (b % 16) + r) κ → kstart lc kw b ≤ κ ∧ κ < kstart lc kw b + kw
  band : ∀ b r c, r < 128 → c < kw → ((r + 64 * bandIx lc kw b ≤ c + 64 ∧ c ≤ r + 64 * bandIx lc kw b + 64)
    ↔ Near lc (128 * (b % 16) + r) (kstart lc kw b + c))

theorem windows_2048 : Windows 2048 256 3 := by
  constructor <;> (try intro b) <;> (try intro r) <;> (try intro κ) <;> (try unfold Near) <;> (try unfold bandIx) <;> (try unfold kstart) <;> omega
theorem windows_512 : Windows 512 256 3 := by
  constructor <;> (try intro b) <;> (try intro r) <;> (try intro κ) <;> (try unfold Near) <;> (try unfold bandIx) <;> (try unfold kstart) <;> omega
theorem windows_128 : Windows 128 128 1 := by
  constructor <;> (try intro b) <;> (try intro r) <;> (try intro κ) <;> (try unfold Near) <;> (try unfold bandIx) <;> (try unfold kstart) <;> omega

variable {lc : ℕ}

/-- The band block `b` loads, and what it holds when the mask's number is minus infinity. -/
def bandOf3 (W : Windows lc kw 3) (v : View sig .tc .vmem (s3 3 256 kw) .f32) (x : F .f32) (b : ℕ) : Vec F (s3 1 256 kw) .f32 :=
  v.readCov (bands3 x) (bandR (W.ix b)).toLoadRect
def bandOf1 (v : View sig .tc .vmem (s3 1 256 kw) .f32) (x : F .f32) (b : ℕ) : Vec F (s3 1 256 kw) .f32 :=
  v.readCov (bands1 x) (bandR (by decide : 0 < 1)).toLoadRect

theorem bandOf3_apply (W : Windows lc kw 3) (v : View sig .tc .vmem (s3 3 256 kw) .f32) (b : ℕ) (h : Fin 2) (r : Fin 128) (c : Fin kw) :
    bandOf3 (F := Ideal) W v (⊥ : EReal) b (ix3 0 (st h r) c)
      = if Near lc (rowIx b r).val (winIx (kstart lc kw) W.inb b c).val then (0 : EReal) else ⊥ := by
  refine (readCov_bands3 v _ (W.ix b) _ c).trans ((band_apply _ (W.shift b) W.small _ h r c).trans ?_)
  exact if_congr (W.band b r.val c.val r.isLt c.isLt) rfl rfl
theorem bandOf1_apply (W : Windows lc kw 1) (v : View sig .tc .vmem (s3 1 256 kw) .f32) (b : ℕ) (h : Fin 2) (r : Fin 128) (c : Fin kw) :
    bandOf1 (F := Ideal) v (⊥ : EReal) b (ix3 0 (st h r) c)
      = if Near lc (rowIx b r).val (winIx (kstart lc kw) W.inb b c).val then (0 : EReal) else ⊥ := by
  refine (readCov_bands1 v _ _ c).trans ((band_apply 0 (by omega) W.small _ h r c).trans ?_)
  have h0 : bandIx lc kw b = 0 := by have := W.ix b; omega
  have := W.band b r.val c.val r.isLt c.isLt
  rw [h0] at this
  exact if_congr this rfl rfl

end Cert.Attn

end
-- ==== Proof.Attn2048Cases.lean ====
/-
  The attention's backward kernel at dilation 1, over one pair of heads: its stores are the blocks' rows of the query gradient and
  the two running sums, and what its three output blocks then hold.
-/
module

public import proofs.«01_k».proof.Proof.Gen.Attn2048Ideal.Value
public import proofs.«01_k».proof.Proof.AttnBand

@[expose] public section

set_option maxRecDepth 16384

noncomputable section

namespace Cert.Attn2048Ideal.Value

open Cert.Attn2048Ideal Cert.Attn2048Ideal.Gen Idealize.ShloMosaic Idealize.ShloMosaic.TcCoe Idealize.SL.Sem
open Cert.Attn

variable {F : FTy → Type} [FloatOps F] [Named F]
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S3x256x256 .f32) (harg10 : arg10.IsWhole) (arg11 : Memref sig .tc .vmem S2048x128 .f32) (harg11 : arg11.IsWhole)
  (arg12 : Memref sig .tc .vmem S2048x128 .f32) (harg12 : arg12.IsWhole)
  (x0 x1 x2 x3 : Vec F S2048x128 .bf16) (x4 x5 : Vec F S2048x128 .f32)

abbrev wins : Windows 2048 256 3 := windows_2048
abbrev bandsOf (v : View sig .tc .vmem S3x256x256 .f32) : ℕ → Vec F (s3 1 256 256) .f32 := bandOf3 wins v (Named.named κ "mask" 0xF149F2CA#32)
abbrev dqs : ℕ → FVec F (s2 128 128) .bf16 :=
  dqOf (kstart 2048 256) wins.inb harg1 harg2 harg3 harg4 harg5 harg6 (i 0).val (bandsOf arg10.view) x0 x1 x2 x3 x4 x5
abbrev dks : ℕ → FVec F (s2 256 128) .f32 :=
  dkOf (kstart 2048 256) wins.inb harg1 harg2 harg3 harg4 harg5 harg6 (i 0).val (bandsOf arg10.view) x0 x1 x2 x3 x4 x5
abbrev dvs : ℕ → FVec F (s2 256 128) .f32 :=
  dvOf (kstart 2048 256) wins.inb harg1 harg2 harg4 harg5 (i 0).val (bandsOf arg10.view) x0 x1 x3 x4

theorem hz : (![0, 0] : Fin 2 → Nat) = fun _ => 0 := funext fun a => by fin_cases a <;> rfl

theorem out_dq : out0_A_6 c i arg1 harg1 arg2 harg2 arg3 harg3 arg4 harg4 arg5 harg5 arg6 harg6 arg7 harg7 arg8 harg8 arg9 harg9 arg10 harg10
    arg11 harg11 arg12 harg12 x0 x1 x2 x3 x4 x5 = View.canon (blocksOf (dqs i arg1 harg1 arg2 harg2 arg3 harg3 arg4 harg4 arg5 harg5 arg6 harg6 arg10 x0 x1 x2 x3 x4 x5)) :=
  View.read_writes_eq_canon _ _ _ (cover0_A_6 c i arg1 harg1 arg2 harg2 arg3 harg3 arg4 harg4 arg5 harg5 arg6 harg6 arg7 harg7 arg8 harg8 arg9 harg9
    arg10 harg10 arg11 harg11 arg12 harg12 x0 x1 x2 x3 x4 x5)

/-- The two running sums end in one store of the whole block. -/
theorem stored (v : View sig .tc .vmem S2048x128 .f32) (L : List (View.Piece (Elt F) S2048x128 .f32)) :
    View.canon [(⟨Rect.unit ![0, 0] S2048x128.size inb_S2048x128_S2048x128_0_0, truncf .bf16 (v.readCov L
      (Rect.unit ![0, 0] S2048x128.size inb_S2048x128_S2048x128_0_0).toLoadRect) bitsLt_bf16_f32⟩ : View.Piece (Elt F) S2048x128 .bf16)]
      = truncf .bf16 (show FVec F S2048x128 .f32 from View.canon L) bitsLt_bf16_f32 := by
  rw [View.canon_unit_zero hz, View.readCov_eq_canon' v]
  exact congrArg (fun x => truncf .bf16 x bitsLt_bf16_f32) (View.ld_unit_zero (S := S2048x128) hz _ _)

theorem sum_dk : kernelRun0_A.sl.HS1_17 c i arg1 harg1 arg2 harg2 arg3 harg3 arg4 harg4 arg5 harg5 arg6 harg6 arg10 arg11 x0 x1 x2 x3 x4 x5
    = acc (kstart 2048 256) wins.inb arg11.view (dks i arg1 harg1 arg2 harg2 arg3 harg3 arg4 harg4 arg5 harg5 arg6 harg6 arg10 x0 x1 x2 x3 x4 x5) 16 := by
  sl_kernel_rfl
theorem sum_dv : kernelRun0_A.sl.HS2_17 c i arg1 harg1 arg2 harg2 arg4 harg4 arg5 harg5 arg10 arg12 x0 x1 x3 x4
    = acc (kstart 2048 256) wins.inb arg12.view (dvs i arg1 harg1 arg2 harg2 arg4 harg4 arg5 harg5 arg10 x0 x1 x3 x4) 16 := by
  sl_kernel_rfl

theorem out_dk : out0_A_7 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 2048 256) wins.inb arg11.view
      (dks i arg1 harg1 arg2 harg2 arg3 harg3 arg4 harg4 arg5 harg5 arg6 harg6 arg10 x0 x1 x2 x3 x4 x5) 16)) bitsLt_bf16_f32 := by
  rw [← sum_dk c, ← stored arg11.view]
  exact View.read_writes_eq_canon _ _ _ (cover0_A_7 c i arg1 harg1 arg2 harg2 arg3 harg3 arg4 harg4 arg5 harg5 arg6 harg6 arg7 harg7 arg8 harg8 arg9 harg9 arg10 harg10
    arg11 harg11 arg12 harg12 x0 x1 x2 x3 x4 x5)

theorem out_dv : out0_A_8 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 2048 256) wins.inb arg12.view
      (dvs i arg1 harg1 arg2 harg2 arg4 harg4 arg5 harg5 arg10 x0 x1 x3 x4) 16)) bitsLt_bf16_f32 := by
  rw [← sum_dv c, ← stored arg12.view]
  exact View.read_writes_eq_canon _ _ _ (cover0_A_8 c i arg1 harg1 arg2 harg2 arg3 harg3 arg4 harg4 arg5 harg5 arg6 harg6 arg7 harg7 arg8 harg8 arg9 harg9 arg10 harg10
    arg11 harg11 arg12 harg12 x0 x1 x2 x3 x4 x5)

end Cert.Attn2048Ideal.Value

end
-- ==== Proof.AttnMath.lean ====
/-
  The mixture of dilated attentions over finite arguments, as real functions of a head's tokens: three branches, each with its own
  mask, share one normaliser. `dq`, `dk` and `dv` are one branch's shares of the gradients at the query (already scaled by 1/8),
  the key and the value. The second half says what the stabilised form, with a largest score subtracted in each branch and the
  largest of these over the branches, comes to.
-/
module

public import proofs.«01_k».proof.Proof.Reals

@[expose] public section

noncomputable section

namespace Cert.Attn

/-- A branch's dilation. -/
def dil : Fin 3 → ℕ := ![1, 4, 16]
/-- The pairs of tokens a branch of dilation `n` keeps. -/
def Valid (n i j : ℕ) : Prop := (i ≤ j + 64 * n ∧ j ≤ i + 64 * n) ∧ i % n = j % n
instance (n i j : ℕ) : Decidable (Valid n i j) := inferInstanceAs (Decidable (_ ∧ _))
theorem Valid.self (n i : ℕ) : Valid n i i := ⟨⟨by omega, by omega⟩, rfl⟩

abbrev Tokens := Fin 12 → Fin 2048 → Fin 64 → ℝ

section Plain
variable (q k v g : Tokens) (p : Fin 3) (h : Fin 12) (i j : Fin 2048) (d : Fin 64)

def sc : ℝ := ∑ d, q h i d * k h j d
def ew : ℝ := if Valid (dil p) i.val j.val then Real.exp (sc q k h i j) else 0
def den : ℝ := ∑ p, ∑ j, ew q k p h i j
def mix : ℝ := (∑ p, ∑ j, ew q k p h i j * v h j d) / den q k h i
def delta : ℝ := ∑ d, g h i d * mix q k v h i d
def pr : ℝ := ew q k p h i j / den q k h i
def ds : ℝ := pr q k p h i j * ((∑ d, g h i d * v h j d) - delta q k v g h i)
def dq : ℝ := ∑ j, ds q k v g p h i j * k h j d
def dk : ℝ := ∑ i, ds q k v g p h i j * q h i d
def dv : ℝ := ∑ i, pr q k p h i j * g h i d

theorem ew_nonneg : 0 ≤ ew q k p h i j := by unfold ew; split <;> positivity
theorem ew_self : 0 < ew q k p h i i := by unfold ew; rw [if_pos (Valid.self _ _)]; positivity
theorem den_pos : 0 < den q k h i :=
  Finset.sum_pos (fun p _ => Finset.sum_pos' (fun j _ => ew_nonneg q k p h i j) ⟨i, Finset.mem_univ _, ew_self q k p h i⟩) ⟨0, Finset.mem_univ _⟩

/-- A score less the logarithm of the normaliser. -/
theorem pr_eq : pr q k p h i j = if Valid (dil p) i.val j.val then Real.exp (sc q k h i j - Real.log (den q k h i)) else 0 := by
  unfold pr ew
  split
  · rw [Real.exp_sub, Real.exp_log (den_pos q k h i)]
  · rw [zero_div]
end Plain

/-! ## One row of the stabilised form -/

section Row
variable (M : Fin 3 → ℝ) (T D : ℝ) (e E : Fin 3 → Fin 2048 → ℝ) (v : Fin 2048 → Fin 64 → ℝ) (g : Fin 64 → ℝ)

/-- The branch's numerator and denominator. -/
def num1 (p : Fin 3) (d : Fin 64) : ℝ := ∑ j, E p j * v j d
def den1 (p : Fin 3) : ℝ := ∑ j, E p j
/-- The weighted sums over the branches. -/
def num3 (d : Fin 64) : ℝ := Real.exp (M 0 - T) * num1 E v 0 d + Real.exp (M 1 - T) * num1 E v 1 d + Real.exp (M 2 - T) * num1 E v 2 d
def den3 : ℝ := Real.exp (M 0 - T) * den1 E 0 + Real.exp (M 1 - T) * den1 E 1 + Real.exp (M 2 - T) * den1 E 2
/-- The gradient at the weighted denominator. -/
def dden : ℝ := -∑ d, g d * (1 / (D * D)) * num3 M T E v d
/-- The gradient at a branch's largest score, apart from the scores' own. -/
def dtop (p : Fin 3) : ℝ := (dden M T D E v g * den1 E p + ∑ d, g d / D * num1 E v p d) * Real.exp (M p - T)
/-- The gradient at a branch's score. -/
def dsc (p : Fin 3) (j : Fin 2048) : ℝ :=
  (Real.exp (M p - T) * dden M T D E v g + ∑ d, Real.exp (M p - T) * (g d / D) * v j d) * E p j

variable (hE : ∀ p j, Real.exp (M p) * E p j = e p j)
include hE

theorem weight_mul (p : Fin 3) (j : Fin 2048) : Real.exp (M p - T) * E p j = Real.exp (-T) * e p j := by
  rw [← hE, sub_eq_add_neg, Real.exp_add]; ring

theorem num3_eq (d : Fin 64) : num3 M T E v d = Real.exp (-T) * ∑ p, ∑ j, e p j * v j d := by
  have h : ∀ p, Real.exp (M p - T) * num1 E v p d = Real.exp (-T) * ∑ j, e p j * v j d := fun p => by
    unfold num1
    rw [Finset.mul_sum, Finset.mul_sum]
    refine Finset.sum_congr rfl fun j _ => ?_
    rw [← mul_assoc, weight_mul M T e E hE, mul_assoc]
  rw [num3, h, h, h, Fin.sum_univ_three]
  ring

theorem den3_eq : den3 M T E = Real.exp (-T) * ∑ p, ∑ j, e p j := by
  have h : ∀ p, Real.exp (M p - T) * den1 E p = Real.exp (-T) * ∑ j, e p j := fun p => by
    unfold den1
    rw [Finset.mul_sum, Finset.mul_sum]
    exact Finset.sum_congr rfl fun j _ => weight_mul M T e E hE p j
  rw [den3, h, h, h, Fin.sum_univ_three]
  ring

variable (hD : D = den3 M T E) (hD0 : D ≠ 0)
include hD hD0
omit hE in
theorem sum_num3 : ∑ d, g d / D * num3 M T E v d = -(D * dden M T D E v g) := by
  rw [dden, mul_neg, neg_neg, Finset.mul_sum]
  refine Finset.sum_congr rfl fun d _ => ?_
  field_simp

omit hE in
/-- The gradients at the largest scores, added over the branches, cancel. -/
theorem dtop_sum : ∑ p, -dtop M T D E v g p = 0 := by
  have h : ∀ p, dtop M T D E v g p = dden M T D E v g * (Real.exp (M p - T) * den1 E p)
      + ∑ d, g d / D * (Real.exp (M p - T) * num1 E v p d) := fun p => by
    rw [dtop, add_mul, Finset.sum_mul]
    refine congrArg₂ _ (by ring) (Finset.sum_congr rfl fun d _ => by ring)
  have s := sum_num3 M T D E v g hD hD0
  simp only [num3, mul_add, Finset.sum_add_distrib] at s
  have e3 : D = Real.exp (M 0 - T) * den1 E 0 + Real.exp (M 1 - T) * den1 E 1 + Real.exp (M 2 - T) * den1 E 2 := hD
  rw [Fin.sum_univ_three, h, h, h]
  linear_combination (-1 : ℝ) * s + dden M T D E v g * e3

omit hE hD hD0 in
/-- A branch's largest score takes back what its scores pass on. -/
theorem dtop_add (p : Fin 3) : dtop M T D E v g p + ∑ j, -dsc M T D E v g p j = 0 := by
  rw [Finset.sum_neg_distrib, ← sub_eq_add_neg, sub_eq_zero]
  unfold dtop dsc den1 num1
  simp only [add_mul, Finset.sum_add_distrib, Finset.sum_mul, Finset.mul_sum]
  refine congrArg₂ _ (Finset.sum_congr rfl fun j _ => by ring) ?_
  rw [Finset.sum_comm]
  exact Finset.sum_congr rfl fun j _ => Finset.sum_congr rfl fun d _ => by ring

/-- The gradient at a score. -/
theorem dsc_eq (p : Fin 3) (j : Fin 2048) :
    dsc M T D E v g p j = e p j / (∑ p, ∑ j, e p j) * ((∑ d, g d * v j d) - ∑ d, g d * ((∑ p, ∑ j, e p j * v j d) / ∑ p, ∑ j, e p j)) := by
  have hd := den3_eq M T e E hE
  have ht := (Real.exp_pos (-T)).ne'
  rw [← hD] at hd
  have hs : (∑ p, ∑ j, e p j) ≠ 0 := fun h => hD0 (by rw [hd, h, mul_zero])
  have h1 : dden M T D E v g = -((∑ d, g d * ((∑ p, ∑ j, e p j * v j d) / ∑ p, ∑ j, e p j)) / D) := by
    rw [dden, Finset.sum_div]
    refine congrArg _ (Finset.sum_congr rfl fun d _ => ?_)
    rw [num3_eq M T e E v hE, hd]
    field_simp
  have h2 : ∑ d, Real.exp (M p - T) * (g d / D) * v j d = Real.exp (M p - T) * ((∑ d, g d * v j d) / D) := by
    rw [Finset.sum_div, Finset.mul_sum]
    exact Finset.sum_congr rfl fun d _ => by ring
  rw [dsc, h1, h2]
  have h3 := weight_mul M T e E hE p j
  generalize (∑ d, g d * ((∑ p, ∑ j, e p j * v j d) / ∑ p, ∑ j, e p j)) = y
  generalize (∑ d, g d * v j d) = x
  have : (Real.exp (M p - T) * -(y / D) + Real.exp (M p - T) * (x / D)) * E p j = (Real.exp (M p - T) * E p j) * ((x - y) / D) := by ring
  rw [this, h3, hd]
  field_simp

/-- A weight. -/
theorem weight_eq (p : Fin 3) (j : Fin 2048) (x : ℝ) : Real.exp (M p - T) * (x / D) * E p j = e p j / (∑ p, ∑ j, e p j) * x := by
  have hd := den3_eq M T e E hE
  rw [← hD] at hd
  have ht := (Real.exp_pos (-T)).ne'
  have hs : (∑ p, ∑ j, e p j) ≠ 0 := fun h => hD0 (by rw [hd, h, mul_zero])
  have : Real.exp (M p - T) * (x / D) * E p j = (Real.exp (M p - T) * E p j) * (x / D) := by ring
  rw [this, weight_mul M T e E hE, hd]
  field_simp

omit hD hD0 in
/-- The quotient of the weighted sums. -/
theorem quot_eq (d : Fin 64) : num3 M T E v d / den3 M T E = (∑ p, ∑ j, e p j * v j d) / ∑ p, ∑ j, e p j := by
  rw [num3_eq M T e E v hE, den3_eq M T e E hE, mul_div_mul_left _ _ (Real.exp_pos _).ne']

omit hD hD0 in
/-- The logarithm of the normaliser. -/
theorem log_den3 (hs : 0 < ∑ p, ∑ j, e p j) : T + Real.log (den3 M T E) = Real.log (∑ p, ∑ j, e p j) := by
  rw [den3_eq M T e E hE, Real.log_mul (Real.exp_pos _).ne' hs.ne', Real.log_exp]
  ring

end Row

end Cert.Attn

end
-- ==== Proof.AttnRef.lean ====
/-
  The attention reference's stages over finite arguments: the branches' scores and masks, the stabilised weights and their sums.
-/
module

public import proofs.«01_k».proof.Proof.AttnMath
public import proofs.«01_k».proof.Proof.Gen.Attn2048RefIdeal.Read
public import Idealize.ShloMosaic.Lib.Pointwise
public import Idealize.ShloMosaic.Lib.Routing.BitFacts
public import Idealize.ShloMosaic.Lib.Affine

@[expose] public section

set_option maxRecDepth 16384

noncomputable section

namespace Cert.Attn2048RefIdeal.Read

open Cert.Attn2048RefIdeal Cert.Attn2048RefIdeal.Gen Idealize.ShloMosaic Idealize.ShloMosaic.TcCoe Idealize.SL.Sem Cert.Reals Cert.Attn

variable (a b c e : S1x2048x12x64.Idx → ℝ)

/-- A real array as the programs' contents. -/
abbrev up {s : Shape} (x : s.Idx → ℝ) : Vec Ideal s .f32 := fun i => ((x i : ℝ) : EReal)
/-- An argument's heads; the query's are scaled. -/
abbrev hd (x : S1x2048x12x64.Idx → ℝ) : Tokens := fun h i d => x (ix4 0 i h d)
abbrev hq (x : S1x2048x12x64.Idx → ℝ) : Tokens := fun h i d => x (ix4 0 i h d) / 8

theorem ofBits_8 : Ideal.ofBits .f32 0x41000000#32 = ((8 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]

theorem v4 (p : Fin 3) (h : Fin 12) (i : Fin 2048) (d : Fin 64) :
    val_main_v4 (F := Ideal) (up a) (ix4 p h i d) = ((hq a h i d : ℝ) : EReal) := by
  pointwise [val_main_v4, val_main_v3, val_main_v2, val_main_v1, val_main_v0, val_main_cst]
  rw [ofBits_8, div_coe_coe (by norm_num)]
theorem v7 (p : Fin 3) (h : Fin 12) (i : Fin 2048) (d : Fin 64) :
    val_main_v7 (F := Ideal) (up b) (ix4 p h i d) = ((hd b h i d : ℝ) : EReal) := by
  pointwise [val_main_v7, val_main_v6, val_main_v5]
theorem v10 (p : Fin 3) (h : Fin 12) (i : Fin 2048) (d : Fin 64) :
    val_main_v10 (F := Ideal) (up c) (ix4 p h i d) = ((hd c h i d : ℝ) : EReal) := by
  pointwise [val_main_v10, val_main_v9, val_main_v8]
theorem v93 (h : Fin 12) (i : Fin 2048) (d : Fin 64) :
    val_main_v93 (F := Ideal) (up e) (ix3 h i d) = ((hd e h i d : ℝ) : EReal) := by
  pointwise [val_main_v93, val_main_v92]

theorem v11 (p : Fin 3) (h : Fin 12) (i j : Fin 2048) :
    val_main_v11 (F := Ideal) (up a) (up b) (ix4 p h i j) = ((sc (hq a) (hd b) h i j : ℝ) : EReal) := by
  pointwise [val_main_v11, v4, v7]
  simp only [← EReal.coe_mul, ← coe_sum]
  rfl

theorem mulf_coe (x y : ℝ) : FloatOps.mulf (F := Ideal) (φ := .f32) (x : EReal) (y : EReal) = ((x * y : ℝ) : EReal) := (EReal.coe_mul x y).symm
theorem addf_coe (x y : ℝ) : FloatOps.addf (F := Ideal) (φ := .f32) (x : EReal) (y : EReal) = ((x + y : ℝ) : EReal) := (EReal.coe_add x y).symm
theorem negf_coe (x : ℝ) : FloatOps.hostNegf (F := Ideal) (φ := .f32) (x : EReal) = ((-x : ℝ) : EReal) := (EReal.coe_neg x).symm
theorem divf_coe {x y : ℝ} (h : y ≠ 0) : FloatOps.hostDivf (F := Ideal) (φ := .f32) (x : EReal) (y : EReal) = ((x / y : ℝ) : EReal) := div_coe_coe h x
theorem zero_mulf (x : EReal) : FloatOps.mulf (F := Ideal) (φ := .f32) ((0 : ℝ) : EReal) x = ((0 : ℝ) : EReal) := by
  show ((0 : ℝ) : EReal) * x = _
  rw [EReal.coe_zero, zero_mul]

/-! ## The mask -/

/-- The distance of two tokens. -/
theorem gap (i j : Fin 2048) : IntOp.absi (IntOp.subi (BitVec.ofNat 32 j.val) (BitVec.ofNat 32 i.val))
    = BitVec.ofNat 32 (max i.val j.val - min i.val j.val) := by
  have hi := i.isLt
  have hj := j.isLt
  unfold IntOp.absi IntOp.subi
  split
  · rename_i h
    apply BitVec.eq_of_toNat_eq
    rw [BitVec.msb_eq_decide] at h
    simp only [BitVec.toNat_neg, BitVec.toNat_sub, BitVec.toNat_ofNat] at h ⊢
    simp at h
    omega
  · rename_i h
    apply BitVec.eq_of_toNat_eq
    rw [BitVec.msb_eq_decide] at h
    simp only [BitVec.toNat_sub, BitVec.toNat_ofNat] at h ⊢
    simp at h
    omega

theorem bit (g w n : ℕ) (hg : g < 2048) (hw : w < 2048) (hn : n < 2048) (h0 : 0 < n) :
    IntOp.andi (IntOp.cmpi .sle (BitVec.ofNat 32 g) (BitVec.ofNat 32 w)) (IntOp.cmpi .eq (IntOp.remsi .host (BitVec.ofNat 32 g) (BitVec.ofNat 32 n)) 0#32)
      = BitVec.ofBool (decide (g ≤ w ∧ g % n = 0)) := by
  have h1 : ∀ x : ℕ, x < 2048 → (BitVec.ofNat 32 x).toInt = x := fun x hx => by
    rw [BitVec.toInt_ofNat']
    simp [Int.bmod]
    omega
  have hr : IntOp.remsi .host (BitVec.ofNat 32 g) (BitVec.ofNat 32 n) = BitVec.ofNat 32 (g % n) := by
    rw [IntOp.remsi_of_pos _ (by rw [h1 n hn]; exact_mod_cast h0), Routing.srem_ofNat32 (by omega) (by omega)]
  have hc : IntOp.cmpi .sle (BitVec.ofNat 32 g) (BitVec.ofNat 32 w) = BitVec.ofBool (decide (g ≤ w)) := by
    show BitVec.ofBool (BitVec.sle _ _) = _
    rw [BitVec.sle, h1 g hg, h1 w hw]
    exact congrArg _ (decide_eq_decide.2 (by omega))
  have hm : g % n < 2048 := lt_of_le_of_lt (Nat.mod_le _ _) hg
  have he : IntOp.cmpi .eq (BitVec.ofNat 32 (g % n)) 0#32 = BitVec.ofBool (decide (g % n = 0)) := by
    show BitVec.ofBool (_ == _) = _
    congr 1
    rw [Bool.eq_iff_iff, beq_iff_eq, decide_eq_true_eq]
    refine ⟨fun h => ?_, fun h => by rw [h]⟩
    have := congrArg BitVec.toNat h
    simp at this
    omega
  rw [hr, hc, he, Bool.decide_and]
  generalize decide (g ≤ w) = x
  generalize decide (g % n = 0) = y
  revert x y
  decide

theorem valid_gap (n : ℕ) (i j : Fin 2048) (hn : n = 1 ∨ n = 4 ∨ n = 16) :
    (max i.val j.val - min i.val j.val ≤ 64 * n ∧ (max i.val j.val - min i.val j.val) % n = 0) ↔ Valid n i.val j.val := by
  unfold Valid
  rcases hn with rfl | rfl | rfl <;> omega

theorem v41 (p : Fin 3) (i j : Fin 2048) :
    val_main_v41 (F := Ideal) (ix3 p i j) = BitVec.ofBool (decide (Valid (dil p) i.val j.val)) := by
  have hg : ∀ i j : Fin 2048, max i.val j.val - min i.val j.val < 2048 := fun i j => by have := i.isLt; have := j.isLt; omega
  fin_cases p
  · pointwise [val_main_v41, val_main_v38, val_main_v25, val_main_v24, val_main_v23, val_main_c_1, val_main_v22, val_main_call0_v3, val_main_call0_v2,
      val_main_call0_v1, val_main_call0_c_0, val_main_call0_v0, val_main_call0_c, val_main_c_0, val_main_v21, val_main_v20, val_main_c, val_main_v19,
      val_main_v18, val_main_v17, val_main_v16, val_main_v15, val_main_v14, val_main_v13, val_main_v12]
    rw [gap]
    exact (bit _ 64 1 (hg i j) (by omega) (by omega) (by omega)).trans (congrArg _ (decide_eq_decide.2 (valid_gap 1 i j (by omega))))
  · pointwise [val_main_v41, val_main_v39, val_main_v31, val_main_v30, val_main_v29, val_main_c_4, val_main_v28, val_main_call1_v3, val_main_call1_v2,
      val_main_call1_v1, val_main_call1_c_0, val_main_call1_v0, val_main_call1_c, val_main_c_3, val_main_v27, val_main_v26, val_main_c_2, val_main_v19,
      val_main_v18, val_main_v17, val_main_v16, val_main_v15, val_main_v14, val_main_v13, val_main_v12]
    rw [gap]
    exact (bit _ 256 4 (hg i j) (by omega) (by omega) (by omega)).trans (congrArg _ (decide_eq_decide.2 (valid_gap 4 i j (by omega))))
  · pointwise [val_main_v41, val_main_v40, val_main_v37, val_main_v36, val_main_v35, val_main_c_7, val_main_v34, val_main_call2_v3, val_main_call2_v2,
      val_main_call2_v1, val_main_call2_c_0, val_main_call2_v0, val_main_call2_c, val_main_c_6, val_main_v33, val_main_v32, val_main_c_5, val_main_v19,
      val_main_v18, val_main_v17, val_main_v16, val_main_v15, val_main_v14, val_main_v13, val_main_v12]
    rw [gap]
    exact (bit _ 1024 16 (hg i j) (by omega) (by omega) (by omega)).trans (congrArg _ (decide_eq_decide.2 (valid_gap 16 i j (by omega))))

theorem v43_1 (p : Fin 3) (h : Fin 12) (i j : Fin 2048) :
    val_main_v43_1 (F := Ideal) (ix4 p h i j) = BitVec.ofBool (decide (Valid (dil p) i.val j.val)) := by
  pointwise [val_main_v43_1, val_main_v42, v41]

theorem v43_0 (p : Fin 3) (h : Fin 12) (i j : Fin 2048) :
    val_main_v43_0 (F := Ideal) (up a) (up b) (ix4 p h i j)
      = if Valid (dil p) i.val j.val then ((sc (hq a) (hd b) h i j : ℝ) : EReal) else ⊥ := by
  pointwise [val_main_v43_0, v43_1, v11, val_main_call3_v2, val_main_call3_v0, val_main_cst_8]
  exact if_congr Iff.rfl rfl ofBits_bot

/-! ## The stabilised weights -/

/-- The largest of values some of which are finite, the rest minus infinity. -/
theorem max_attained {n : ℕ} (f : Fin n → EReal) (r : Fin n → ℝ) (P : Fin n → Prop) [DecidablePred P] (hf : ∀ x, f x = if P x then ((r x : ℝ) : EReal) else ⊥)
    (j : Fin n) (hj : P j) : ∃ x, P x ∧ Finset.univ.fold max (⊥ : EReal) f = ((r x : ℝ) : EReal) := by
  have e : Finset.univ.fold max (⊥ : EReal) f = Finset.univ.sup f := rfl
  obtain ⟨x, -, hx⟩ := Finset.exists_mem_eq_sup Finset.univ ⟨j, Finset.mem_univ j⟩ f
  rw [e, hx, hf x]
  by_cases hp : P x
  · exact ⟨x, hp, if_pos hp⟩
  · have := Finset.le_sup (f := f) (Finset.mem_univ j)
    rw [hx, hf x, if_neg hp, hf j, if_pos hj] at this
    exact absurd (le_bot_iff.1 this) (EReal.coe_ne_bot _)

/-- A count of places, at least one of which counts. -/
theorem count_pos {n : ℕ} (P : Fin n → Prop) {inst : DecidablePred P} (j : Fin n) (hj : P j) :
    ∃ C : ℝ, C ≠ 0 ∧ ∑ x, FloatOps.uitofp (F := Ideal) .f32 (BitVec.ofBool (decide (P x))) = ((C : ℝ) : EReal) := by
  refine ⟨∑ x, if P x then 1 else 0, (Finset.sum_pos' (fun x _ => by split <;> norm_num) ⟨j, Finset.mem_univ j, by rw [if_pos hj]; norm_num⟩).ne', ?_⟩
  rw [coe_sum]
  refine Finset.sum_congr rfl fun x _ => ?_
  show (((BitVec.ofBool (decide (P x))).toNat : ℝ) : EReal) = _
  by_cases h : P x <;> simp [h]

theorem exists_top1 (p : Fin 3) (h : Fin 12) (i : Fin 2048) : ∃ j : Fin 2048, Valid (dil p) i.val j.val ∧
    val_main_v44 (F := Ideal) (up a) (up b) (ix3 p h i) = ((sc (hq a) (hd b) h i j : ℝ) : EReal) := by
  pointwise [val_main_v44, val_main_cst_9, v43_0]
  rw [ofBits_bot]
  exact max_attained _ _ (fun j : Fin 2048 => Valid (dil p) i.val j.val) (fun _ => rfl) i (Valid.self _ _)
/-- A branch's largest score. -/
@[irreducible] def top1 (p : Fin 3) (h : Fin 12) (i : Fin 2048) : ℝ := sc (hq a) (hd b) h i (exists_top1 a b p h i).choose
theorem v44 (p : Fin 3) (h : Fin 12) (i : Fin 2048) : val_main_v44 (F := Ideal) (up a) (up b) (ix3 p h i) = ((top1 a b p h i : ℝ) : EReal) := by
  unfold top1
  exact (exists_top1 a b p h i).choose_spec.2
theorem top1_eq (p : Fin 3) (h : Fin 12) (i : Fin 2048) : ∃ j : Fin 2048, Valid (dil p) i.val j.val ∧ top1 a b p h i = sc (hq a) (hd b) h i j :=
  ⟨_, (exists_top1 a b p h i).choose_spec.1, by rw [top1]⟩

theorem exists_top3 (h : Fin 12) (i : Fin 2048) : ∃ p : Fin 3,
    val_main_v56 (F := Ideal) (up a) (up b) (ix2 h i) = ((top1 a b p h i : ℝ) : EReal) := by
  pointwise [val_main_v56, val_main_cst_12, v44]
  rw [ofBits_bot]
  obtain ⟨p, -, h⟩ := max_attained _ (fun p => top1 a b p h i) (fun _ : Fin 3 => True) (fun _ => (if_pos trivial).symm) 0 trivial
  exact ⟨p, h⟩
/-- The largest over the branches. -/
@[irreducible] def top3 (h : Fin 12) (i : Fin 2048) : ℝ := top1 a b (exists_top3 a b h i).choose h i
theorem v56 (h : Fin 12) (i : Fin 2048) : val_main_v56 (F := Ideal) (up a) (up b) (ix2 h i) = ((top3 a b h i : ℝ) : EReal) := by
  unfold top3
  exact (exists_top3 a b h i).choose_spec

/-- The stabilised weights. -/
def E (h : Fin 12) (i : Fin 2048) (p : Fin 3) (j : Fin 2048) : ℝ :=
  if Valid (dil p) i.val j.val then Real.exp (sc (hq a) (hd b) h i j - top1 a b p h i) else 0
abbrev M (h : Fin 12) (i : Fin 2048) : Fin 3 → ℝ := fun p => top1 a b p h i
theorem exp_E (h : Fin 12) (i : Fin 2048) (p : Fin 3) (j : Fin 2048) : Real.exp (M a b h i p) * E a b h i p j = ew (hq a) (hd b) p h i j := by
  unfold E ew
  split
  · rw [← Real.exp_add, add_sub_cancel]
  · rw [mul_zero]
/-- A branch's weight among the three, its weighted sums, and the three branches' together. -/
def wt (p : Fin 3) (h : Fin 12) (i : Fin 2048) : ℝ := Real.exp (M a b h i p - top3 a b h i)
def n1 (p : Fin 3) (h : Fin 12) (i : Fin 2048) (d : Fin 64) : ℝ := num1 (E a b h i) (hd c h) p d
def d1 (p : Fin 3) (h : Fin 12) (i : Fin 2048) : ℝ := den1 (E a b h i) p
def nm (h : Fin 12) (i : Fin 2048) (d : Fin 64) : ℝ := num3 (M a b h i) (top3 a b h i) (E a b h i) (hd c h) d
def D (h : Fin 12) (i : Fin 2048) : ℝ := den3 (M a b h i) (top3 a b h i) (E a b h i)
theorem nm_eq (h : Fin 12) (i : Fin 2048) (d : Fin 64) :
    nm a b c h i d = wt a b 0 h i * n1 a b c 0 h i d + wt a b 1 h i * n1 a b c 1 h i d + wt a b 2 h i * n1 a b c 2 h i d := rfl
theorem D_eq3 (h : Fin 12) (i : Fin 2048) : D a b h i = wt a b 0 h i * d1 a b 0 h i + wt a b 1 h i * d1 a b 1 h i + wt a b 2 h i * d1 a b 2 h i := rfl
theorem D_eq (h : Fin 12) (i : Fin 2048) : D a b h i = Real.exp (-top3 a b h i) * den (hq a) (hd b) h i :=
  den3_eq _ _ _ _ (exp_E a b h i)
theorem D_pos (h : Fin 12) (i : Fin 2048) : 0 < D a b h i := by
  rw [D_eq]
  exact mul_pos (Real.exp_pos _) (den_pos _ _ _ _)
/-- The gradients at the three branches' normaliser, at its quotient, at a branch's largest score and at a score. -/
def dd (h : Fin 12) (i : Fin 2048) : ℝ := dden (M a b h i) (top3 a b h i) (D a b h i) (E a b h i) (hd c h) (hd e h i)
def gd (h : Fin 12) (i : Fin 2048) (d : Fin 64) : ℝ := hd e h i d / D a b h i
def dt (p : Fin 3) (h : Fin 12) (i : Fin 2048) : ℝ := dtop (M a b h i) (top3 a b h i) (D a b h i) (E a b h i) (hd c h) (hd e h i) p
def dc (p : Fin 3) (h : Fin 12) (i j : Fin 2048) : ℝ := dsc (M a b h i) (top3 a b h i) (D a b h i) (E a b h i) (hd c h) (hd e h i) p j
theorem dd_eq (h : Fin 12) (i : Fin 2048) : dd a b c e h i = -∑ d, hd e h i d * (1 / (D a b h i * D a b h i)) * nm a b c h i d := rfl
theorem dt_eq (p : Fin 3) (h : Fin 12) (i : Fin 2048) :
    dt a b c e p h i = (dd a b c e h i * d1 a b p h i + ∑ d, gd a b e h i d * n1 a b c p h i d) * wt a b p h i := rfl
theorem dc_eq (p : Fin 3) (h : Fin 12) (i j : Fin 2048) :
    dc a b c e p h i j = (wt a b p h i * dd a b c e h i + ∑ d, wt a b p h i * gd a b e h i d * hd c h j d) * E a b h i p j := rfl

theorem v47 (p : Fin 3) (h : Fin 12) (i j : Fin 2048) : val_main_v47 (F := Ideal) (up a) (up b) (ix4 p h i j) = BitVec.ofBool (decide
    ((if Valid (dil p) i.val j.val then ((sc (hq a) (hd b) h i j : ℝ) : EReal) else ⊥) = ((top1 a b p h i : ℝ) : EReal))) := by
  pointwise [val_main_v47, val_main_v46, val_main_v45, v43_0, v44]
theorem v49 (p : Fin 3) (h : Fin 12) (i : Fin 2048) : ∃ C : ℝ, C ≠ 0 ∧ val_main_v49 (F := Ideal) (up a) (up b) (ix3 p h i) = ((C : ℝ) : EReal) := by
  obtain ⟨j, hj, he⟩ := top1_eq a b p h i
  pointwise [val_main_v49, val_main_v48, val_main_cst_10, v47]
  exact count_pos (fun j : Fin 2048 => (if Valid (dil p) i.val j.val then ((sc (hq a) (hd b) h i j : ℝ) : EReal) else ⊥) = ((top1 a b p h i : ℝ) : EReal)) j
    (by rw [if_pos hj, he])
theorem v57 (z : Fin 1) (h : Fin 12) (i : Fin 2048) : val_main_v57 (F := Ideal) (up a) (up b) (ix3 z h i) = ((top3 a b h i : ℝ) : EReal) := by
  pointwise [val_main_v57, v56]
theorem v58 (p : Fin 3) (h : Fin 12) (i : Fin 2048) : val_main_v58 (F := Ideal) (up a) (up b) (ix3 p h i) = ((top3 a b h i : ℝ) : EReal) := by
  pointwise [val_main_v58, v57]
theorem cmp_eq (x y : EReal) : FloatOps.cmpf (F := Ideal) (φ := .f32) .oeq x y = BitVec.ofBool (decide (x = y)) := rfl
theorem v59 (p : Fin 3) (h : Fin 12) (i : Fin 2048) : val_main_v59 (F := Ideal) (up a) (up b) (ix3 p h i)
    = BitVec.ofBool (decide (((top1 a b p h i : ℝ) : EReal) = ((top3 a b h i : ℝ) : EReal))) := by
  rw [val_main_v59_apply]
  rw [v44, v58]
  exact cmp_eq _ _
theorem v61 (h : Fin 12) (i : Fin 2048) : ∃ C : ℝ, C ≠ 0 ∧ val_main_v61 (F := Ideal) (up a) (up b) (ix2 h i) = ((C : ℝ) : EReal) := by
  have hj : ((top1 a b (exists_top3 a b h i).choose h i : ℝ) : EReal) = ((top3 a b h i : ℝ) : EReal) := by rw [top3]
  pointwise [val_main_v61, val_main_v60, val_main_cst_13, v59]
  exact count_pos (fun p : Fin 3 => ((top1 a b p h i : ℝ) : EReal) = ((top3 a b h i : ℝ) : EReal)) _ hj

theorem v53 (p : Fin 3) (h : Fin 12) (i j : Fin 2048) : val_main_v53 (F := Ideal) (up a) (up b) (ix4 p h i j) = ((E a b h i p j : ℝ) : EReal) := by
  pointwise [val_main_v53, val_main_v52, val_main_v51, val_main_v50, v43_0, v44]
  unfold E
  split
  · rw [← EReal.coe_sub, Ideal.exp_coe]
  · rw [EReal.bot_sub, Ideal.exp_bot]
    rfl
theorem v54 (p : Fin 3) (h : Fin 12) (i : Fin 2048) (d : Fin 64) :
    val_main_v54 (F := Ideal) (up a) (up b) (up c) (ix4 p h i d) = ((n1 a b c p h i d : ℝ) : EReal) := by
  pointwise [val_main_v54, v53, v10]
  simp only [← EReal.coe_mul, ← coe_sum]
  rfl
theorem v55 (p : Fin 3) (h : Fin 12) (i : Fin 2048) :
    val_main_v55 (F := Ideal) (up a) (up b) (ix3 p h i) = ((d1 a b p h i : ℝ) : EReal) := by
  pointwise [val_main_v55, val_main_cst_11, v53]
  simp only [← coe_sum]
  rfl
theorem v63 (p : Fin 3) (h : Fin 12) (i : Fin 2048) : val_main_v63 (F := Ideal) (up a) (up b) (ix3 p h i) = ((top3 a b h i : ℝ) : EReal) := by
  have e (z : Fin 1) : val_main_v62 (F := Ideal) (up a) (up b) (ix3 z h i) = ((top3 a b h i : ℝ) : EReal) := by pointwise [val_main_v62, v56]
  pointwise [val_main_v63, e]
theorem exp_sub (x y : ℝ) : Ideal.exp ((x : EReal) - (y : EReal)) = ((Real.exp (x - y) : ℝ) : EReal) := by rw [← EReal.coe_sub, Ideal.exp_coe]
theorem v65 (p : Fin 3) (h : Fin 12) (i : Fin 2048) : val_main_v65 (F := Ideal) (up a) (up b) (ix3 p h i) = ((wt a b p h i : ℝ) : EReal) := by
  rw [val_main_v65_apply, val_main_v64_apply, v44, v63]
  exact exp_sub _ _
theorem v67 (p : Fin 3) (h : Fin 12) (i : Fin 2048) (d : Fin 64) : val_main_v67 (F := Ideal) (up a) (up b) (ix4 p h i d) = ((wt a b p h i : ℝ) : EReal) := by
  pointwise [val_main_v67, val_main_v66, v65]
theorem v68 (p : Fin 3) (h : Fin 12) (i : Fin 2048) (d : Fin 64) : val_main_v68 (F := Ideal) (up a) (up b) (up c) (ix4 p h i d) = ((wt a b p h i * n1 a b c p h i d : ℝ) : EReal) := by
  rw [val_main_v68_apply, v67, v54, mulf_coe]
theorem v69 (p : Fin 3) (h : Fin 12) (i : Fin 2048) : val_main_v69 (F := Ideal) (up a) (up b) (ix3 p h i) = ((wt a b p h i * d1 a b p h i : ℝ) : EReal) := by
  rw [val_main_v69_apply, v65, v55, mulf_coe]
theorem v71 (h : Fin 12) (i : Fin 2048) (d : Fin 64) : val_main_v71 (F := Ideal) (up a) (up b) (up c) (ix3 h i d) = ((wt a b 0 h i * n1 a b c 0 h i d : ℝ) : EReal) := by
  pointwise [val_main_v71, val_main_v70, v68]
theorem v73 (h : Fin 12) (i : Fin 2048) (d : Fin 64) : val_main_v73 (F := Ideal) (up a) (up b) (up c) (ix3 h i d) = ((wt a b 1 h i * n1 a b c 1 h i d : ℝ) : EReal) := by
  pointwise [val_main_v73, val_main_v72, v68]
theorem v76 (h : Fin 12) (i : Fin 2048) (d : Fin 64) : val_main_v76 (F := Ideal) (up a) (up b) (up c) (ix3 h i d) = ((wt a b 2 h i * n1 a b c 2 h i d : ℝ) : EReal) := by
  pointwise [val_main_v76, val_main_v75, v68]
theorem v74 (h : Fin 12) (i : Fin 2048) (d : Fin 64) : val_main_v74 (F := Ideal) (up a) (up b) (up c) (ix3 h i d) = ((wt a b 0 h i * n1 a b c 0 h i d + wt a b 1 h i * n1 a b c 1 h i d : ℝ) : EReal) := by
  rw [val_main_v74_apply, v71, v73, addf_coe]
theorem v77 (h : Fin 12) (i : Fin 2048) (d : Fin 64) : val_main_v77 (F := Ideal) (up a) (up b) (up c) (ix3 h i d) = ((nm a b c h i d : ℝ) : EReal) := by
  rw [val_main_v77_apply, v74, v76, addf_coe, nm_eq]
theorem v79 (h : Fin 12) (i : Fin 2048) : val_main_v79 (F := Ideal) (up a) (up b) (ix2 h i) = ((wt a b 0 h i * d1 a b 0 h i : ℝ) : EReal) := by
  pointwise [val_main_v79, val_main_v78, v69]
theorem v81 (h : Fin 12) (i : Fin 2048) : val_main_v81 (F := Ideal) (up a) (up b) (ix2 h i) = ((wt a b 1 h i * d1 a b 1 h i : ℝ) : EReal) := by
  pointwise [val_main_v81, val_main_v80, v69]
theorem v84 (h : Fin 12) (i : Fin 2048) : val_main_v84 (F := Ideal) (up a) (up b) (ix2 h i) = ((wt a b 2 h i * d1 a b 2 h i : ℝ) : EReal) := by
  pointwise [val_main_v84, val_main_v83, v69]
theorem v82 (h : Fin 12) (i : Fin 2048) : val_main_v82 (F := Ideal) (up a) (up b) (ix2 h i) = ((wt a b 0 h i * d1 a b 0 h i + wt a b 1 h i * d1 a b 1 h i : ℝ) : EReal) := by
  rw [val_main_v82_apply, v79, v81, addf_coe]
theorem v85 (h : Fin 12) (i : Fin 2048) : val_main_v85 (F := Ideal) (up a) (up b) (ix2 h i) = ((D a b h i : ℝ) : EReal) := by
  rw [val_main_v85_apply, v82, v84, addf_coe, D_eq3]
theorem v86 (h : Fin 12) (i : Fin 2048) (z : Fin 1) : val_main_v86 (F := Ideal) (up a) (up b) (ix3 h i z) = ((D a b h i : ℝ) : EReal) := by
  pointwise [val_main_v86, v85]

/-! ## The gradients -/

theorem v89 (h : Fin 12) (i : Fin 2048) (z : Fin 1) : val_main_v89 (F := Ideal) (up a) (up b) (ix3 h i z) = ((D a b h i * D a b h i : ℝ) : EReal) := by
  rw [val_main_v89_apply, v86, mulf_coe]
theorem v90 (h : Fin 12) (i : Fin 2048) (z : Fin 1) : val_main_v90 (F := Ideal)  (ix3 h i z) = ((1 : ℝ) : EReal) := by
  pointwise [val_main_v90, val_main_cst_14]
  rfl
theorem v91 (h : Fin 12) (i : Fin 2048) (z : Fin 1) : val_main_v91 (F := Ideal) (up a) (up b) (ix3 h i z) = ((1 / (D a b h i * D a b h i) : ℝ) : EReal) := by
  rw [val_main_v91_apply, v90, v89, divf_coe (mul_pos (D_pos a b h i) (D_pos a b h i)).ne']
theorem v94 (h : Fin 12) (i : Fin 2048) (d : Fin 64) : val_main_v94 (F := Ideal) (up a) (up b) (ix3 h i d) = ((1 / (D a b h i * D a b h i) : ℝ) : EReal) := by
  pointwise [val_main_v94, v91]
theorem v95 (h : Fin 12) (i : Fin 2048) (d : Fin 64) : val_main_v95 (F := Ideal) (up a) (up b) (up e) (ix3 h i d) = ((hd e h i d * (1 / (D a b h i * D a b h i)) : ℝ) : EReal) := by
  rw [val_main_v95_apply, v93, v94, mulf_coe]
theorem v96 (h : Fin 12) (i : Fin 2048) (d : Fin 64) : val_main_v96 (F := Ideal) (up a) (up b) (up c) (up e) (ix3 h i d) = ((hd e h i d * (1 / (D a b h i * D a b h i)) * nm a b c h i d : ℝ) : EReal) := by
  rw [val_main_v96_apply, v95, v77, mulf_coe]
theorem v97 (h : Fin 12) (i : Fin 2048) : val_main_v97 (F := Ideal) (up a) (up b) (up c) (up e) (ix2 h i) = ((∑ d, hd e h i d * (1 / (D a b h i * D a b h i)) * nm a b c h i d : ℝ) : EReal) := by
  pointwise [val_main_v97, val_main_cst_15, v96]
  simp only [← coe_sum]
theorem v98 (h : Fin 12) (i : Fin 2048) (z : Fin 1) : val_main_v98 (F := Ideal) (up a) (up b) (up c) (up e) (ix3 h i z) = ((∑ d, hd e h i d * (1 / (D a b h i * D a b h i)) * nm a b c h i d : ℝ) : EReal) := by
  pointwise [val_main_v98, v97]
theorem v99 (h : Fin 12) (i : Fin 2048) (z : Fin 1) : val_main_v99 (F := Ideal) (up a) (up b) (up c) (up e) (ix3 h i z) = ((dd a b c e h i : ℝ) : EReal) := by
  rw [val_main_v99_apply, v98, negf_coe, dd_eq]
theorem v102 (h : Fin 12) (i : Fin 2048) : val_main_v102 (F := Ideal) (up a) (up b) (up c) (up e) (ix2 h i) = ((dd a b c e h i : ℝ) : EReal) := by
  pointwise [val_main_v102, val_main_cst_16, v99]
  exact Fin.sum_univ_one _
theorem v100 (h : Fin 12) (i : Fin 2048) (d : Fin 64) : val_main_v100 (F := Ideal) (up a) (up b) (ix3 h i d) = ((D a b h i : ℝ) : EReal) := by
  pointwise [val_main_v100, v86]
theorem v101 (h : Fin 12) (i : Fin 2048) (d : Fin 64) : val_main_v101 (F := Ideal) (up a) (up b) (up e) (ix3 h i d) = ((gd a b e h i d : ℝ) : EReal) := by
  rw [val_main_v101_apply, v93, v100, divf_coe (D_pos a b h i).ne', gd]
theorem v104 (p : Fin 3) (h : Fin 12) (i : Fin 2048) : val_main_v104 (F := Ideal) (up a) (up b) (up c) (up e) (ix3 p h i) = ((if p = 2 then dd a b c e h i else 0 : ℝ) : EReal) := by
  fin_cases p <;> pointwise [val_main_v104, val_main_cst_17, val_main_v103, v102] <;> simp
theorem v106 (p : Fin 3) (h : Fin 12) (i : Fin 2048) : val_main_v106 (F := Ideal) (up a) (up b) (up c) (up e) (ix3 p h i) = ((if p = 1 then dd a b c e h i else 0 : ℝ) : EReal) := by
  fin_cases p <;> pointwise [val_main_v106, val_main_cst_18, val_main_v105, v102] <;> simp
theorem v109 (p : Fin 3) (h : Fin 12) (i : Fin 2048) : val_main_v109 (F := Ideal) (up a) (up b) (up c) (up e) (ix3 p h i) = ((if p = 0 then dd a b c e h i else 0 : ℝ) : EReal) := by
  fin_cases p <;> pointwise [val_main_v109, val_main_cst_19, val_main_v108, v102] <;> simp
theorem v107 (p : Fin 3) (h : Fin 12) (i : Fin 2048) : val_main_v107 (F := Ideal) (up a) (up b) (up c) (up e) (ix3 p h i) = (((if p = 2 then dd a b c e h i else 0) + (if p = 1 then dd a b c e h i else 0) : ℝ) : EReal) := by
  rw [val_main_v107_apply, v104, v106, addf_coe]
theorem v110 (p : Fin 3) (h : Fin 12) (i : Fin 2048) : val_main_v110 (F := Ideal) (up a) (up b) (up c) (up e) (ix3 p h i) = ((dd a b c e h i : ℝ) : EReal) := by
  rw [val_main_v110_apply, v107, v109, addf_coe]
  fin_cases p <;> simp
theorem v112 (p : Fin 3) (h : Fin 12) (i : Fin 2048) (d : Fin 64) : val_main_v112 (F := Ideal) (up a) (up b) (up e) (ix4 p h i d) = ((if p = 2 then gd a b e h i d else 0 : ℝ) : EReal) := by
  fin_cases p <;> pointwise [val_main_v112, val_main_cst_20, val_main_v111, v101] <;> simp
theorem v114 (p : Fin 3) (h : Fin 12) (i : Fin 2048) (d : Fin 64) : val_main_v114 (F := Ideal) (up a) (up b) (up e) (ix4 p h i d) = ((if p = 1 then gd a b e h i d else 0 : ℝ) : EReal) := by
  fin_cases p <;> pointwise [val_main_v114, val_main_cst_21, val_main_v113, v101] <;> simp
theorem v117 (p : Fin 3) (h : Fin 12) (i : Fin 2048) (d : Fin 64) : val_main_v117 (F := Ideal) (up a) (up b) (up e) (ix4 p h i d) = ((if p = 0 then gd a b e h i d else 0 : ℝ) : EReal) := by
  fin_cases p <;> pointwise [val_main_v117, val_main_cst_22, val_main_v116, v101] <;> simp
theorem v115 (p : Fin 3) (h : Fin 12) (i : Fin 2048) (d : Fin 64) : val_main_v115 (F := Ideal) (up a) (up b) (up e) (ix4 p h i d) = (((if p = 2 then gd a b e h i d else 0) + (if p = 1 then gd a b e h i d else 0) : ℝ) : EReal) := by
  rw [val_main_v115_apply, v112, v114, addf_coe]
theorem v118 (p : Fin 3) (h : Fin 12) (i : Fin 2048) (d : Fin 64) : val_main_v118 (F := Ideal) (up a) (up b) (up e) (ix4 p h i d) = ((gd a b e h i d : ℝ) : EReal) := by
  rw [val_main_v118_apply, v115, v117, addf_coe]
  fin_cases p <;> simp
theorem v119 (p : Fin 3) (h : Fin 12) (i : Fin 2048) : val_main_v119 (F := Ideal) (up a) (up b) (up c) (up e) (ix3 p h i) = ((wt a b p h i * dd a b c e h i : ℝ) : EReal) := by
  rw [val_main_v119_apply, v65, v110, mulf_coe]
theorem v120 (p : Fin 3) (h : Fin 12) (i : Fin 2048) : val_main_v120 (F := Ideal) (up a) (up b) (up c) (up e) (ix3 p h i) = ((dd a b c e h i * d1 a b p h i : ℝ) : EReal) := by
  rw [val_main_v120_apply, v110, v55, mulf_coe]
theorem v121 (p : Fin 3) (h : Fin 12) (i : Fin 2048) (d : Fin 64) : val_main_v121 (F := Ideal) (up a) (up b) (ix4 p h i d) = ((wt a b p h i : ℝ) : EReal) := by
  pointwise [val_main_v121, val_main_v66, v65]
theorem v122 (p : Fin 3) (h : Fin 12) (i : Fin 2048) (d : Fin 64) : val_main_v122 (F := Ideal) (up a) (up b) (up e) (ix4 p h i d) = ((wt a b p h i * gd a b e h i d : ℝ) : EReal) := by
  rw [val_main_v122_apply, v121, v118, mulf_coe]
theorem v123 (p : Fin 3) (h : Fin 12) (i : Fin 2048) (d : Fin 64) : val_main_v123 (F := Ideal) (up a) (up b) (up c) (up e) (ix4 p h i d) = ((gd a b e h i d * n1 a b c p h i d : ℝ) : EReal) := by
  rw [val_main_v123_apply, v118, v54, mulf_coe]
theorem v124 (p : Fin 3) (h : Fin 12) (i : Fin 2048) : val_main_v124 (F := Ideal) (up a) (up b) (up c) (up e) (ix3 p h i) = ((∑ d, gd a b e h i d * n1 a b c p h i d : ℝ) : EReal) := by
  pointwise [val_main_v124, val_main_cst_23, v123]
  simp only [← coe_sum]
theorem v125 (p : Fin 3) (h : Fin 12) (i : Fin 2048) (z : Fin 1) : val_main_v125 (F := Ideal) (up a) (up b) (up c) (up e) (ix4 p h i z) = ((∑ d, gd a b e h i d * n1 a b c p h i d : ℝ) : EReal) := by
  pointwise [val_main_v125, v124]
theorem v126 (p : Fin 3) (h : Fin 12) (i : Fin 2048) : val_main_v126 (F := Ideal) (up a) (up b) (up c) (up e) (ix3 p h i) = ((∑ d, gd a b e h i d * n1 a b c p h i d : ℝ) : EReal) := by
  pointwise [val_main_v126, val_main_cst_24, v125]
  exact Fin.sum_univ_one _
theorem v127 (p : Fin 3) (h : Fin 12) (i : Fin 2048) : val_main_v127 (F := Ideal) (up a) (up b) (up c) (up e) (ix3 p h i) = ((dd a b c e h i * d1 a b p h i + ∑ d, gd a b e h i d * n1 a b c p h i d : ℝ) : EReal) := by
  rw [val_main_v127_apply, v120, v126, addf_coe]
theorem v128 (p : Fin 3) (h : Fin 12) (i : Fin 2048) : val_main_v128 (F := Ideal) (up a) (up b) (up c) (up e) (ix3 p h i) = ((dt a b c e p h i : ℝ) : EReal) := by
  rw [val_main_v128_apply, v127, v65, mulf_coe, dt_eq]
theorem v129 (p : Fin 3) (h : Fin 12) (i : Fin 2048) : val_main_v129 (F := Ideal) (up a) (up b) (up c) (up e) (ix3 p h i) = ((-dt a b c e p h i : ℝ) : EReal) := by
  rw [val_main_v129_apply, v128, negf_coe]
theorem v130 (h : Fin 12) (i : Fin 2048) : val_main_v130 (F := Ideal) (up a) (up b) (up c) (up e) (ix2 h i) = ((0 : ℝ) : EReal) := by
  have h0 : ∑ p, -dt a b c e p h i = 0 := dtop_sum _ _ _ _ _ _ rfl (D_pos a b h i).ne'
  pointwise [val_main_v130, val_main_cst_25, v129]
  rw [← coe_sum, h0]
theorem v131 (z : Fin 1) (h : Fin 12) (i : Fin 2048) : val_main_v131 (F := Ideal) (up a) (up b) (up c) (up e) (ix3 z h i) = ((0 : ℝ) : EReal) := by
  pointwise [val_main_v131, v130]
theorem v132 (h : Fin 12) (i : Fin 2048) : val_main_v132 (F := Ideal) (up a) (up b) (up c) (up e) (ix2 h i) = ((0 : ℝ) : EReal) := by
  pointwise [val_main_v132, val_main_cst_26, v131]
  exact Fin.sum_univ_one _
theorem v133 (h : Fin 12) (i : Fin 2048) : val_main_v133 (F := Ideal) (up a) (up b) (up c) (up e) (ix2 h i) = ((0 : ℝ) : EReal) := by
  obtain ⟨C, h0, hC⟩ := v61 a b h i
  rw [val_main_v133_apply, v132, hC, divf_coe h0, zero_div]
theorem v134 (p : Fin 3) (h : Fin 12) (i : Fin 2048) : val_main_v134 (F := Ideal) (up a) (up b) (up c) (up e) (ix3 p h i) = ((0 : ℝ) : EReal) := by
  pointwise [val_main_v134, v133]
theorem v135 (p : Fin 3) (h : Fin 12) (i : Fin 2048) : val_main_v135 (F := Ideal) (up a) (up b) (up c) (up e) (ix3 p h i) = ((0 : ℝ) : EReal) := by
  rw [val_main_v135_apply, v134, zero_mulf]
theorem v136 (p : Fin 3) (h : Fin 12) (i : Fin 2048) : val_main_v136 (F := Ideal) (up a) (up b) (up c) (up e) (ix3 p h i) = ((dt a b c e p h i : ℝ) : EReal) := by
  rw [val_main_v136_apply, v128, v135, addf_coe, add_zero]
theorem v137 (p : Fin 3) (h : Fin 12) (i : Fin 2048) (j : Fin 2048) : val_main_v137 (F := Ideal) (up a) (up b) (up c) (up e) (ix4 p h i j) = ((wt a b p h i * dd a b c e h i : ℝ) : EReal) := by
  pointwise [val_main_v137, v119]
theorem v140 (p : Fin 3) (h : Fin 12) (i : Fin 2048) (j : Fin 2048) : val_main_v140 (F := Ideal) (up a) (up b) (up c) (up e) (ix4 p h i j) = ((∑ d, wt a b p h i * gd a b e h i d * hd c h j d : ℝ) : EReal) := by
  pointwise [val_main_v140, v122, v10]
  simp only [← EReal.coe_mul, ← coe_sum]
theorem v141 (p : Fin 3) (h : Fin 12) (i : Fin 2048) (j : Fin 2048) : val_main_v141 (F := Ideal) (up a) (up b) (up c) (up e) (ix4 p h i j) = ((wt a b p h i * dd a b c e h i + ∑ d, wt a b p h i * gd a b e h i d * hd c h j d : ℝ) : EReal) := by
  rw [val_main_v141_apply, v137, v140, addf_coe]
theorem v142 (p : Fin 3) (h : Fin 12) (i : Fin 2048) (j : Fin 2048) : val_main_v142 (F := Ideal) (up a) (up b) (up c) (up e) (ix4 p h i j) = ((dc a b c e p h i j : ℝ) : EReal) := by
  rw [val_main_v142_apply, v141, v53, mulf_coe, dc_eq]
theorem v143 (p : Fin 3) (h : Fin 12) (i : Fin 2048) (j : Fin 2048) : val_main_v143 (F := Ideal) (up a) (up b) (up c) (up e) (ix4 p h i j) = ((-dc a b c e p h i j : ℝ) : EReal) := by
  rw [val_main_v143_apply, v142, negf_coe]
theorem v144 (p : Fin 3) (h : Fin 12) (i : Fin 2048) : val_main_v144 (F := Ideal) (up a) (up b) (up c) (up e) (ix3 p h i) = ((∑ j, -dc a b c e p h i j : ℝ) : EReal) := by
  pointwise [val_main_v144, val_main_cst_27, v143]
  simp only [← coe_sum]
theorem v145 (p : Fin 3) (h : Fin 12) (i : Fin 2048) (z : Fin 1) : val_main_v145 (F := Ideal) (up a) (up b) (up c) (up e) (ix4 p h i z) = ((∑ j, -dc a b c e p h i j : ℝ) : EReal) := by
  pointwise [val_main_v145, v144]
theorem v146 (p : Fin 3) (h : Fin 12) (i : Fin 2048) : val_main_v146 (F := Ideal) (up a) (up b) (up c) (up e) (ix3 p h i) = ((∑ j, -dc a b c e p h i j : ℝ) : EReal) := by
  pointwise [val_main_v146, val_main_cst_28, v145]
  exact Fin.sum_univ_one _
theorem v147 (p : Fin 3) (h : Fin 12) (i : Fin 2048) : val_main_v147 (F := Ideal) (up a) (up b) (up c) (up e) (ix3 p h i) = ((0 : ℝ) : EReal) := by
  have h0 : dt a b c e p h i + ∑ j, -dc a b c e p h i j = 0 := dtop_add _ _ _ _ _ _ p
  rw [val_main_v147_apply, v136, v146, addf_coe, h0]
theorem v148 (p : Fin 3) (h : Fin 12) (i : Fin 2048) : val_main_v148 (F := Ideal) (up a) (up b) (up c) (up e) (ix3 p h i) = ((0 : ℝ) : EReal) := by
  obtain ⟨C, h0, hC⟩ := v49 a b p h i
  rw [val_main_v148_apply, v147, hC, divf_coe h0, zero_div]
theorem v149 (p : Fin 3) (h : Fin 12) (i : Fin 2048) (j : Fin 2048) : val_main_v149 (F := Ideal) (up a) (up b) (up c) (up e) (ix4 p h i j) = ((0 : ℝ) : EReal) := by
  pointwise [val_main_v149, v148]
theorem v150 (p : Fin 3) (h : Fin 12) (i : Fin 2048) (j : Fin 2048) : val_main_v150 (F := Ideal) (up a) (up b) (up c) (up e) (ix4 p h i j) = ((0 : ℝ) : EReal) := by
  rw [val_main_v150_apply, v149, zero_mulf]
theorem v151 (p : Fin 3) (h : Fin 12) (i : Fin 2048) (j : Fin 2048) : val_main_v151 (F := Ideal) (up a) (up b) (up c) (up e) (ix4 p h i j) = ((dc a b c e p h i j : ℝ) : EReal) := by
  rw [val_main_v151_apply, v142, v150, addf_coe, add_zero]

theorem dc_ds (p : Fin 3) (h : Fin 12) (i j : Fin 2048) : dc a b c e p h i j = ds (hq a) (hd b) (hd c) (hd e) p h i j :=
  dsc_eq _ _ _ _ _ _ _ (exp_E a b h i) rfl (D_pos a b h i).ne' p j
theorem v152 (p : Fin 3) (h : Fin 12) (i j : Fin 2048) : val_main_v152 (F := Ideal) (up a) (up b) (up c) (up e) (ix4 p h i j)
    = ((ds (hq a) (hd b) (hd c) (hd e) p h i j : ℝ) : EReal) := by
  have h0 : ¬Valid (dil p) i.val j.val → ds (hq a) (hd b) (hd c) (hd e) p h i j = 0 := fun hn => by
    rw [ds, pr, ew, if_neg hn, zero_div, zero_mul]
  pointwise [val_main_v152, v151, v43_1, val_main_call4_v0, val_main_call4_cst]
  rw [dc_ds]
  split
  · rfl
  · rename_i hn
    rw [h0 hn]
    rfl

theorem v154 (p : Fin 3) (h : Fin 12) (i : Fin 2048) (d : Fin 64) : val_main_v154 (F := Ideal) (up a) (up b) (up c) (up e) (ix4 p h i d)
    = ((dq (hq a) (hd b) (hd c) (hd e) p h i d : ℝ) : EReal) := by
  have e1 := v152 a b c e
  unfold dq
  generalize ds (hq a) (hd b) (hd c) (hd e) = W at *
  pointwise [val_main_v154, e1, v7]
  simp only [← EReal.coe_mul, ← coe_sum]
theorem v153 (p : Fin 3) (h : Fin 12) (j : Fin 2048) (d : Fin 64) : val_main_v153 (F := Ideal) (up a) (up b) (up c) (up e) (ix4 p h j d)
    = ((dk (hq a) (hd b) (hd c) (hd e) p h j d : ℝ) : EReal) := by
  have e1 := v152 a b c e
  unfold dk
  generalize ds (hq a) (hd b) (hd c) (hd e) = W at *
  pointwise [val_main_v153, e1, v4]
  simp only [← EReal.coe_mul, ← coe_sum]
theorem v139 (p : Fin 3) (h : Fin 12) (j : Fin 2048) (d : Fin 64) : val_main_v139 (F := Ideal) (up a) (up b) (up e) (ix4 p h j d)
    = ((dv (hq a) (hd b) (hd e) p h j d : ℝ) : EReal) := by
  have e1 := v122 a b e
  have e2 := v53 a b
  have hs : dv (hq a) (hd b) (hd e) p h j d = ∑ i, wt a b p h i * gd a b e h i d * E a b h i p j :=
    Finset.sum_congr rfl fun i _ => (weight_eq _ _ _ _ _ (exp_E a b h i) rfl (D_pos a b h i).ne' p j _).symm
  rw [hs]
  generalize wt a b = W at *
  generalize gd a b e = N at *
  generalize E a b = N1 at *
  pointwise [val_main_v139, val_main_v138, e1, e2]
  simp only [← EReal.coe_mul, ← coe_sum]

/-! ## What the backward kernel is given -/

theorem lse_eq (h : Fin 12) (i : Fin 2048) : top3 a b h i + Real.log (D a b h i) = Real.log (den (hq a) (hd b) h i) :=
  log_den3 _ _ _ _ (exp_E a b h i) (den_pos _ _ _ _)
theorem quot (h : Fin 12) (i : Fin 2048) (d : Fin 64) :
    nm a b c h i d / D a b h i = mix (hq a) (hd b) (hd c) h i d :=
  quot_eq _ _ _ _ _ (exp_E a b h i) d

theorem v87 (h : Fin 12) (i : Fin 2048) (d : Fin 64) : val_main_v87 (F := Ideal) (up a) (up b) (ix3 h i d) = ((D a b h i : ℝ) : EReal) := by
  pointwise [val_main_v87, val_main_v86, v85]
theorem v88 (h : Fin 12) (i : Fin 2048) (d : Fin 64) :
    val_main_v88 (F := Ideal) (up a) (up b) (up c) (ix3 h i d) = ((mix (hq a) (hd b) (hd c) h i d : ℝ) : EReal) := by
  rw [val_main_v88_apply, v77, v87, divf_coe (D_pos a b h i).ne', quot]
theorem add_log_at {s : Shape} (x y : FVec Ideal s .f32) (j : s.Idx) {p q : ℝ} (hx : x j = ((p : ℝ) : EReal)) (hy : y j = ((q : ℝ) : EReal))
    (hq : 0 < q) : addf x (Host.log y) j = ((p + Real.log q : ℝ) : EReal) := by
  show x j + Ideal.log (y j) = _
  rw [hx, hy, log_coe_pos hq, ← EReal.coe_add]
theorem mul_at {s : Shape} (x y : FVec Ideal s .f32) (j : s.Idx) {p q : ℝ} (hx : x j = ((p : ℝ) : EReal)) (hy : y j = ((q : ℝ) : EReal)) :
    mulf x y j = ((p * q : ℝ) : EReal) := by
  show FloatOps.mulf (x j) (y j) = _
  rw [hx, hy, mulf_coe]
theorem log_at (h : Fin 12) (i : Fin 2048) :
    (addf (val_main_v56 (F := Ideal) (up a) (up b)) (Host.log (val_main_v85 (F := Ideal) (up a) (up b))) : FVec Ideal S12x2048 .f32) (ix2 h i)
      = ((Real.log (den (hq a) (hd b) h i) : ℝ) : EReal) := by
  rw [← lse_eq]
  exact add_log_at _ _ _ (v56 a b h i) (v85 a b h i) (D_pos a b h i)
theorem dot_at (h : Fin 12) (i : Fin 2048) (d : Fin 64) :
    (mulf (val_main_v93 (F := Ideal) (up e)) (val_main_v88 (F := Ideal) (up a) (up b) (up c)) : FVec Ideal S12x2048x64 .f32) (ix3 h i d)
      = ((hd e h i d * mix (hq a) (hd b) (hd c) h i d : ℝ) : EReal) := by
  exact mul_at _ _ _ (v93 e h i d) (v88 a b c h i d)

end Cert.Attn2048RefIdeal.Read

end
-- ==== Proof.AttnRows.lean ====
/-
  The attention backward kernel's rows are the tokens taken by residue: row `ρ` of a layout of `n` segments of `lc` rows is
  token `(ρ % lc) * n + ρ / lc`. Its three sums over rows, for a pair of heads, are the branch's gradients at tokens.
-/
module

public import proofs.«01_k».proof.Proof.AttnMath
public import proofs.«01_k».proof.Proof.AttnBand

@[expose] public section

noncomputable section

namespace Cert.Attn

open Idealize.ShloMosaic

section Tok
variable (lc n : ℕ) (hl : lc * n = 2048)

include hl in
theorem tok_lt (ρ : Fin 2048) : ρ.val % lc * n + ρ.val / lc < 2048 := by
  have h0 : 0 < lc := Nat.pos_of_ne_zero (by rintro rfl; omega)
  have h1 := Nat.mod_lt ρ.val h0
  have h2 : ρ.val / lc < n := Nat.div_lt_of_lt_mul (by rw [hl]; exact ρ.isLt)
  calc ρ.val % lc * n + ρ.val / lc < ρ.val % lc * n + n := by omega
    _ = (ρ.val % lc + 1) * n := by ring
    _ ≤ lc * n := Nat.mul_le_mul_right _ h1
    _ = 2048 := hl

/-- The token in a row. -/
def tok (ρ : Fin 2048) : Fin 2048 := ⟨ρ.val % lc * n + ρ.val / lc, tok_lt lc n hl ρ⟩

theorem tok_mod (ρ : Fin 2048) : (tok lc n hl ρ).val % n = ρ.val / lc := by
  have h2 : ρ.val / lc < n := Nat.div_lt_of_lt_mul (by rw [hl]; exact ρ.isLt)
  show (ρ.val % lc * n + ρ.val / lc) % n = _
  rw [Nat.add_comm, Nat.add_mul_mod_self_right, Nat.mod_eq_of_lt h2]
theorem tok_div (ρ : Fin 2048) : (tok lc n hl ρ).val / n = ρ.val % lc := by
  have h2 : ρ.val / lc < n := Nat.div_lt_of_lt_mul (by rw [hl]; exact ρ.isLt)
  show (ρ.val % lc * n + ρ.val / lc) / n = _
  rw [Nat.add_comm, Nat.add_mul_div_right _ _ (Nat.lt_of_le_of_lt (Nat.zero_le _) h2), Nat.div_eq_of_lt h2, Nat.zero_add]

theorem tok_injective : Function.Injective (tok lc n hl) := by
  intro ρ κ h
  have h1 := tok_mod lc n hl ρ
  have h2 := tok_div lc n hl ρ
  rw [h] at h1 h2
  rw [tok_mod] at h1
  rw [tok_div] at h2
  refine Fin.ext ?_
  rw [← Nat.div_add_mod ρ.val lc, ← Nat.div_add_mod κ.val lc, h1, h2]

/-- Rows and tokens, one to one. -/
def tokens : Fin 2048 ≃ Fin 2048 := Equiv.ofBijective _ (Finite.injective_iff_bijective.1 (tok_injective lc n hl))

theorem sum_tok (f : Fin 2048 → ℝ) : ∑ ρ, f (tok lc n hl ρ) = ∑ i, f i := (tokens lc n hl).sum_comp f

theorem near_iff (ρ κ : Fin 2048) : Near lc ρ.val κ.val ↔ Valid n (tok lc n hl ρ).val (tok lc n hl κ).val := by
  have hn : 0 < n := Nat.pos_of_ne_zero (by rintro rfl; omega)
  unfold Near Valid
  rw [tok_mod, tok_mod, and_comm]
  refine and_congr_left fun h => ?_
  have e1 := Nat.div_add_mod ρ.val lc
  have e2 := Nat.div_add_mod κ.val lc
  have m (u v a : ℕ) : u * n + a ≤ v * n + a + 64 * n ↔ u ≤ v + 64 := by
    rw [show v * n + a + 64 * n = (v + 64) * n + a by ring, Nat.add_le_add_iff_right, Nat.mul_le_mul_right_iff hn]
  show _ ↔ ρ.val % lc * n + ρ.val / lc ≤ κ.val % lc * n + κ.val / lc + 64 * n ∧ κ.val % lc * n + κ.val / lc ≤ ρ.val % lc * n + ρ.val / lc + 64 * n
  rw [h, m, m]
  rw [h] at e1
  generalize lc * (κ.val / lc) = x at *
  omega

end Tok

/-! ## Pairs of heads -/

/-- The heads of pair `t`; a lane's place in its head. -/
def head (t : Fin 6) (h : Fin 2) : Fin 12 := ⟨2 * t.val + h.val, by have := t.isLt; have := h.isLt; omega⟩
def place (l : Fin 128) : Fin 64 := ⟨l.val % 64, by omega⟩

theorem hd_ln (h : Fin 2) (d : Fin 64) : hd (ln h d) = h := Fin.ext (by show (64 * h.val + d.val) / 64 = _; omega)
theorem place_ln (h : Fin 2) (d : Fin 64) : place (ln h d) = d := Fin.ext (by show (64 * h.val + d.val) % 64 = _; omega)

section Sums
variable (lc : ℕ) (p : Fin 3) (hl : lc * dil p = 2048) (q k v g : Tokens) (t : Fin 6)

/-- A pair's heads laid out by rows. -/
def rowsOf (x : Tokens) : (s2 2048 128).Idx → ℝ := fun j => x (head t (hd (j 1))) (tok lc (dil p) hl (j 0)) (place (j 1))
/-- What the kernel is given of the forward pass: the logarithm of the normaliser and the row's dot product. -/
def logOf (h : Fin 2) (ρ : Fin 2048) : ℝ := Real.log (den q k (head t h) (tok lc (dil p) hl ρ))
def dotOf (h : Fin 2) (ρ : Fin 2048) : ℝ := delta q k v g (head t h) (tok lc (dil p) hl ρ)

theorem PF_eq (h : Fin 2) (ρ κ : Fin 2048) : PF (rowsOf lc p hl t q) (rowsOf lc p hl t k) (logOf lc p hl q k t) (Near lc) h ρ κ
    = pr q k p (head t h) (tok lc (dil p) hl ρ) (tok lc (dil p) hl κ) := by
  rw [pr_eq]
  refine if_congr (near_iff lc (dil p) hl ρ κ) ?_ rfl
  refine congrArg Real.exp (congrArg (· - _) ?_)
  refine Finset.sum_congr rfl fun d _ => ?_
  show q (head t (hd (ln h d))) _ (place (ln h d)) * k (head t (hd (ln h d))) _ (place (ln h d)) = _
  rw [hd_ln, place_ln]
  rfl

theorem SF_eq (h : Fin 2) (ρ κ : Fin 2048) : SF (rowsOf lc p hl t q) (rowsOf lc p hl t g) (rowsOf lc p hl t k) (rowsOf lc p hl t v)
    (logOf lc p hl q k t) (dotOf lc p hl q k v g t) (Near lc) h ρ κ
    = ds q k v g p (head t h) (tok lc (dil p) hl ρ) (tok lc (dil p) hl κ) := by
  unfold SF ds
  rw [PF_eq]
  refine congrArg (_ * ·) (congrArg (· - _) ?_)
  refine Finset.sum_congr rfl fun d _ => ?_
  show g (head t (hd (ln h d))) _ (place (ln h d)) * v (head t (hd (ln h d))) _ (place (ln h d)) = _
  rw [hd_ln, place_ln]
  rfl

theorem dq_rows (ρ : Fin 2048) (l : Fin 128) :
    (∑ κ, SF (rowsOf lc p hl t q) (rowsOf lc p hl t g) (rowsOf lc p hl t k) (rowsOf lc p hl t v)
      (logOf lc p hl q k t) (dotOf lc p hl q k v g t) (Near lc) (hd l) ρ κ * rowsOf lc p hl t k (ix2 κ l))
      = rowsOf lc p hl t (dq q k v g p) (ix2 ρ l) := by
  simp only [SF_eq]
  exact sum_tok lc (dil p) hl fun j => ds q k v g p (head t (hd l)) (tok lc (dil p) hl ρ) j * k (head t (hd l)) j (place l)
theorem dk_rows (κ : Fin 2048) (l : Fin 128) :
    (∑ ρ, SF (rowsOf lc p hl t q) (rowsOf lc p hl t g) (rowsOf lc p hl t k) (rowsOf lc p hl t v)
      (logOf lc p hl q k t) (dotOf lc p hl q k v g t) (Near lc) (hd l) ρ κ * rowsOf lc p hl t q (ix2 ρ l))
      = rowsOf lc p hl t (dk q k v g p) (ix2 κ l) := by
  simp only [SF_eq]
  exact sum_tok lc (dil p) hl fun i => ds q k v g p (head t (hd l)) i (tok lc (dil p) hl κ) * q (head t (hd l)) i (place l)
theorem dv_rows (κ : Fin 2048) (l : Fin 128) :
    (∑ ρ, PF (rowsOf lc p hl t q) (rowsOf lc p hl t k) (logOf lc p hl q k t) (Near lc) (hd l) ρ κ * rowsOf lc p hl t g (ix2 ρ l))
      = rowsOf lc p hl t (dv q k g p) (ix2 κ l) := by
  simp only [PF_eq]
  exact sum_tok lc (dil p) hl fun i => pr q k p (head t (hd l)) i (tok lc (dil p) hl κ) * g (head t (hd l)) i (place l)

/-- A branch's gradients as the arrays of all heads. -/
def arrayOf (x : Tokens) : (s2 2048 768).Idx → ℝ := fun j =>
  x ⟨(j 1).val / 64, by have : (j 1).val < 768 := (j 1).isLt; omega⟩ (tok lc (dil p) hl (j 0)) ⟨(j 1).val % 64, by omega⟩

theorem rowsOf_eq (x : Tokens) (ρ : Fin 2048) (l : Fin 128) :
    rowsOf lc p hl t x (ix2 ρ l) = arrayOf lc p hl x (ix2 ρ ⟨128 * t.val + l.val, by have := t.isLt; have := l.isLt; omega⟩) := by
  have e1 : head t (hd l) = ⟨(128 * t.val + l.val) / 64, by have := t.isLt; have := l.isLt; omega⟩ :=
    Fin.ext (by show 2 * t.val + l.val / 64 = (128 * t.val + l.val) / 64; omega)
  have e2 : place l = ⟨(128 * t.val + l.val) % 64, by omega⟩ := Fin.ext (by show l.val % 64 = (128 * t.val + l.val) % 64; omega)
  show x (head t (hd l)) _ (place l) = x _ _ _
  rw [e1, e2]
  rfl

end Sums

end Cert.Attn

end
-- ==== Proof.Attn2048Host.lean ====
/-
  What the attention backward kernel's windows hold over finite arguments (segment 2048), and the reference's three results.
-/
module

public import proofs.«01_k».proof.Proof.AttnRef
public import proofs.«01_k».proof.Proof.AttnRows
public import proofs.«01_k».proof.Proof.Gen.Attn2048Ideal.Frame.Runs
public import Idealize.ShloMosaic.Lib.StableHlo.RunRead
public import Idealize.ShloMosaic.Lib.Pointwise

@[expose] public section

set_option maxRecDepth 16384

noncomputable section

namespace Cert.Attn2048Ideal.Value

open Idealize.ShloMosaic Idealize.ShloMosaic.StableHlo Idealize.ShloMosaic.TcCoe Cert.Attn2048Ideal.Gen Cert.Reals
open Cert.Attn (arrayOf tok dil den delta mix dq dk dv Tokens)
open Cert.Attn2048RefIdeal.Read (up hd hq)

abbrev hl : 2048 * dil 0 = 2048 := rfl

theorem row_eq (ρ : Fin 2048) : tok 2048 (dil 0) hl ρ = ρ := Fin.ext (by show ρ.val % 2048 * 1 + ρ.val / 2048 = ρ.val; omega)
theorem arrayOf_ix2 (y : Tokens) (ρ : Fin 2048) (l : Fin 768) :
    arrayOf 2048 0 hl y (ix2 ρ l) = y ⟨l.val / 64, by omega⟩ (ρ) ⟨l.val % 64, by omega⟩ := by
  show y _ (tok 2048 (dil 0) hl ρ) _ = _
  rw [row_eq]
  rfl

section Layout
variable (X : Valuation τ sig (Elt Ideal)) (x : S1x2048x12x64.Idx → ℝ) (ρ : Fin 2048) (l : Fin 768)

theorem ofBits_eighth : Ideal.ofBits .f32 0x3E000000#32 = ((1 / 8 : ℝ) : EReal) := by
  simp [Ideal.ofBits, Ideal.ieee, -EReal.coe_mul]; norm_num

theorem q_of (hx : X (Proc.devRef .tc main_arg0) = up x) :
    (StableHlo.after hostOps0_12 X (Proc.devRef .tc main_v95) : Vec Ideal S2048x768 .bf16) (ix2 ρ l)
      = ((arrayOf 2048 0 hl (hq x) (ix2 ρ l) : ℝ) : EReal) := by
  rw [arrayOf_ix2]
  after_reads_simp
  rw [hx]
  pointwise
  rw [ofBits_eighth, ← EReal.coe_mul]
  show ((x (ix4 _ _ _ _) * (1 / 8) : ℝ) : EReal) = ((x (ix4 _ _ _ _) / 8 : ℝ) : EReal)
  rw [mul_one_div]
  all_goals rfl
theorem k_of (hx : X (Proc.devRef .tc main_arg1) = up x) :
    (StableHlo.after hostOps0_12 X (Proc.devRef .tc main_v100) : Vec Ideal S2048x768 .bf16) (ix2 ρ l)
      = ((arrayOf 2048 0 hl (hd x) (ix2 ρ l) : ℝ) : EReal) := by
  rw [arrayOf_ix2]
  after_reads_simp
  rw [hx]
  pointwise
  all_goals rfl
theorem v_of (hx : X (Proc.devRef .tc main_arg2) = up x) :
    (StableHlo.after hostOps0_12 X (Proc.devRef .tc main_v105) : Vec Ideal S2048x768 .bf16) (ix2 ρ l)
      = ((arrayOf 2048 0 hl (hd x) (ix2 ρ l) : ℝ) : EReal) := by
  rw [arrayOf_ix2]
  after_reads_simp
  rw [hx]
  pointwise
  all_goals rfl
theorem g_of (hx : X (Proc.devRef .tc main_arg3) = up x) :
    (StableHlo.after hostOps0_12 X (Proc.devRef .tc main_v110) : Vec Ideal S2048x768 .bf16) (ix2 ρ l)
      = ((arrayOf 2048 0 hl (hd x) (ix2 ρ l) : ℝ) : EReal) := by
  rw [arrayOf_ix2]
  after_reads_simp
  rw [hx]
  pointwise
  all_goals rfl
theorem pad_of (Y : Vec Ideal S2048x12 .f32) (z : Vec Ideal S_ .f32) (i : Fin 2048) (m : Fin 12) :
    pad S2048x128 ![0, 0] ![0, 116] ![0, 0] Y z pads_S2048x12_S2048x128_000_01160 h_S_ (ix2 i ⟨m.val, by omega⟩) = Y (ix2 i m) := by
  pointwise
theorem swap_of (Y : Vec Ideal S12x2048 .f32) (i : Fin 2048) (m : Fin 12) :
    transpose S2048x12 [1, 0] Y transposes_S12x2048_S2048x12_1_0 (ix2 i m) = Y (ix2 m i) := by
  pointwise
theorem lse_of (L : Fin 12 → Fin 2048 → ℝ)
    (h : ∀ (i : Fin 2048) (h : Fin 12), (X (Proc.devRef .tc main_v85) : Vec Ideal S2048x12 .f32) (ix2 i h) = ((L h i : ℝ) : EReal)) (m : Fin 12) :
    (StableHlo.after hostOps0_12 (StableHlo.after hostOps0_11 (StableHlo.after hostOps0_10 (StableHlo.after hostOps0_9 X))) (Proc.devRef .tc main_v113)
      : Vec Ideal S2048x128 .f32) (ix2 ρ ⟨m.val, by omega⟩) = ((L m (tok 2048 (dil 0) hl ρ) : ℝ) : EReal) := by
  rw [row_eq]
  after_reads_simp
  pointwise
  exact (pad_of _ _ _ _).trans (h _ _)
theorem delta_of (L : Fin 12 → Fin 2048 → ℝ)
    (h : ∀ (h : Fin 12) (i : Fin 2048), (X (Proc.devRef .tc main_v84) : Vec Ideal S12x2048 .f32) (ix2 h i) = ((L h i : ℝ) : EReal)) (m : Fin 12) :
    (StableHlo.after hostOps0_12 (StableHlo.after hostOps0_11 (StableHlo.after hostOps0_10 (StableHlo.after hostOps0_9 X))) (Proc.devRef .tc main_v116)
      : Vec Ideal S2048x128 .f32) (ix2 ρ ⟨m.val, by omega⟩) = ((L m (tok 2048 (dil 0) hl ρ) : ℝ) : EReal) := by
  rw [row_eq]
  after_reads_simp
  pointwise
  exact (pad_of _ _ _ _).trans ((swap_of _ _ _).trans (h _ _))
end Layout

section Stages
variable (X : Valuation τ sig (Elt Ideal)) (a b c e : S1x2048x12x64.Idx → ℝ)
open Cert.Attn2048RefIdeal.Read (val_main_v43_0 val_main_v10 val_main_v56 val_main_v85 val_main_v88 val_main_v93)

/-- The buffers after the masked scores, and after the statistics. -/
def X8 : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 X)))))))
def X12 : Valuation τ sig (Elt Ideal) :=
  StableHlo.after hostOps0_11 (StableHlo.after hostOps0_10 (StableHlo.after hostOps0_9 (StableHlo.after hostOps0_8 (X8 X))))

theorem X8_v43 (h0 : X (Proc.devRef .tc main_arg0) = up a) (h1 : X (Proc.devRef .tc main_arg1) = up b) :
    X8 X (Proc.devRef .tc main_v43) = val_main_v43_0 (F := Ideal) (up a) (up b) := by
  unfold X8
  after_reads_simp
  rw [h0, h1]
  sl_kernel_rfl
theorem X8_v10 (h2 : X (Proc.devRef .tc main_arg2) = up c) : X8 X (Proc.devRef .tc main_v10) = val_main_v10 (F := Ideal) (up c) := by
  unfold X8
  after_reads_simp
  rw [h2]
  rfl
theorem X8_arg3 : X8 X (Proc.devRef .tc main_arg3) = X (Proc.devRef .tc main_arg3) := by
  unfold X8
  after_reads_simp
theorem X8_arg0 : X8 X (Proc.devRef .tc main_arg0) = X (Proc.devRef .tc main_arg0) := by
  unfold X8
  after_reads_simp
theorem X8_arg1 : X8 X (Proc.devRef .tc main_arg1) = X (Proc.devRef .tc main_arg1) := by
  unfold X8
  after_reads_simp
theorem X8_arg2 : X8 X (Proc.devRef .tc main_arg2) = X (Proc.devRef .tc main_arg2) := by
  unfold X8
  after_reads_simp
theorem X12_arg0 : X12 X (Proc.devRef .tc main_arg0) = X (Proc.devRef .tc main_arg0) := by
  unfold X12
  rw [← X8_arg0 X]
  generalize X8 X = Y
  after_reads_simp
theorem X12_arg1 : X12 X (Proc.devRef .tc main_arg1) = X (Proc.devRef .tc main_arg1) := by
  unfold X12
  rw [← X8_arg1 X]
  generalize X8 X = Y
  after_reads_simp
theorem X12_arg2 : X12 X (Proc.devRef .tc main_arg2) = X (Proc.devRef .tc main_arg2) := by
  unfold X12
  rw [← X8_arg2 X]
  generalize X8 X = Y
  after_reads_simp
theorem X12_arg3 : X12 X (Proc.devRef .tc main_arg3) = X (Proc.devRef .tc main_arg3) := by
  unfold X12
  rw [← X8_arg3 X]
  generalize X8 X = Y
  after_reads_simp

theorem lse_tree (h0 : X (Proc.devRef .tc main_v43) = val_main_v43_0 (F := Ideal) (up a) (up b)) :
    (StableHlo.after hostOps0_8 X (Proc.devRef .tc main_v85) : Vec Ideal S2048x12 .f32)
      = (transpose S2048x12 [1, 0] (addf (val_main_v56 (F := Ideal) (up a) (up b)) (Host.log (val_main_v85 (F := Ideal) (up a) (up b)))
          : FVec Ideal S12x2048 .f32) transposes_S12x2048_S2048x12_1_0) := by
  after_reads_simp
  rw [h0]
  sl_kernel_rfl
theorem delta_tree (h0 : X (Proc.devRef .tc main_v43) = val_main_v43_0 (F := Ideal) (up a) (up b))
    (h1 : X (Proc.devRef .tc main_v10) = val_main_v10 (F := Ideal) (up c)) (h3 : X (Proc.devRef .tc main_arg3) = up e) :
    (StableHlo.after hostOps0_8 X (Proc.devRef .tc main_v84) : Vec Ideal S12x2048 .f32)
      = Host.reduceAdd (mulf (val_main_v93 (F := Ideal) (up e)) (val_main_v88 (F := Ideal) (up a) (up b) (up c)))
          (constant (F := Ideal) S_ .f32 0x00000000#32) reducesTo_S12x2048x64_S12x2048_d2 h_S_ := by
  after_reads_simp
  rw [h0, h1, h3]
  sl_kernel_rfl

theorem sum_of (P : Vec Ideal S12x2048x64 .f32) (w : Fin 12 → Fin 2048 → Fin 64 → ℝ) (hP : ∀ h i d, P (ix3 h i d) = ((w h i d : ℝ) : EReal))
    (h : Fin 12) (i : Fin 2048) :
    (Host.reduceAdd P (constant (F := Ideal) S_ .f32 0x00000000#32) reducesTo_S12x2048x64_S12x2048_d2 h_S_ : Vec Ideal S12x2048 .f32) (ix2 h i)
      = ((∑ d, w h i d : ℝ) : EReal) := by
  pointwise [hP]
  simp only [← coe_sum]

variable (h0 : X (Proc.devRef .tc main_arg0) = up a) (h1 : X (Proc.devRef .tc main_arg1) = up b)
  (h2 : X (Proc.devRef .tc main_arg2) = up c) (h3 : X (Proc.devRef .tc main_arg3) = up e)

include h0 h1 in
theorem win_lse (ρ : Fin 2048) (m : Fin 12) :
    (StableHlo.after hostOps0_12 (X12 X) (Proc.devRef .tc main_v113) : Vec Ideal S2048x128 .f32) (ix2 ρ ⟨m.val, by omega⟩)
      = ((Real.log (den (hq a) (hd b) m (tok 2048 (dil 0) hl ρ)) : ℝ) : EReal) := by
  refine lse_of (StableHlo.after hostOps0_8 (X8 X)) ρ (fun h i => Real.log (den (hq a) (hd b) h i)) (fun i h => ?_) m
  rw [lse_tree (X8 X) a b (X8_v43 X a b h0 h1), swap_of]
  exact Cert.Attn2048RefIdeal.Read.log_at a b h i
include h0 h1 h2 h3 in
theorem win_delta (ρ : Fin 2048) (m : Fin 12) :
    (StableHlo.after hostOps0_12 (X12 X) (Proc.devRef .tc main_v116) : Vec Ideal S2048x128 .f32) (ix2 ρ ⟨m.val, by omega⟩)
      = ((delta (hq a) (hd b) (hd c) (hd e) m (tok 2048 (dil 0) hl ρ) : ℝ) : EReal) := by
  refine delta_of (StableHlo.after hostOps0_8 (X8 X)) ρ (fun h i => delta (hq a) (hd b) (hd c) (hd e) h i) (fun h i => ?_) m
  rw [delta_tree (X8 X) a b c e (X8_v43 X a b h0 h1) (X8_v10 X c h2) ((X8_arg3 X).trans h3)]
  exact sum_of _ _ (Cert.Attn2048RefIdeal.Read.dot_at a b c e) h i
include h0 in
theorem win_q : (StableHlo.after hostOps0_12 (X12 X) (Proc.devRef .tc main_v95) : Vec Ideal S2048x768 .bf16)
    = Cert.Attn.up (arrayOf 2048 0 hl (hq a)) := by
  funext i
  obtain ⟨r, l, rfl⟩ : ∃ r l, i = ix2 r l := ⟨_, _, eq_ix2 i⟩
  exact q_of (X12 X) a r l ((X12_arg0 X).trans h0)
include h1 in
theorem win_k : (StableHlo.after hostOps0_12 (X12 X) (Proc.devRef .tc main_v100) : Vec Ideal S2048x768 .bf16)
    = Cert.Attn.up (arrayOf 2048 0 hl (hd b)) := by
  funext i
  obtain ⟨r, l, rfl⟩ : ∃ r l, i = ix2 r l := ⟨_, _, eq_ix2 i⟩
  exact k_of (X12 X) b r l ((X12_arg1 X).trans h1)
include h2 in
theorem win_v : (StableHlo.after hostOps0_12 (X12 X) (Proc.devRef .tc main_v105) : Vec Ideal S2048x768 .bf16)
    = Cert.Attn.up (arrayOf 2048 0 hl (hd c)) := by
  funext i
  obtain ⟨r, l, rfl⟩ : ∃ r l, i = ix2 r l := ⟨_, _, eq_ix2 i⟩
  exact v_of (X12 X) c r l ((X12_arg2 X).trans h2)
include h3 in
theorem win_g : (StableHlo.after hostOps0_12 (X12 X) (Proc.devRef .tc main_v110) : Vec Ideal S2048x768 .bf16)
    = Cert.Attn.up (arrayOf 2048 0 hl (hd e)) := by
  funext i
  obtain ⟨r, l, rfl⟩ : ∃ r l, i = ix2 r l := ⟨_, _, eq_ix2 i⟩
  exact g_of (X12 X) e r l ((X12_arg3 X).trans h3)
end Stages

/-! ## The launch's buffers -/

theorem after_append {l₁ l₂ : List (HloOp τ sig (Elt Ideal))} (X : Valuation τ sig (Elt Ideal)) :
    StableHlo.after (l₁ ++ l₂) X = StableHlo.after l₂ (StableHlo.after l₁ X) := by
  induction l₁ generalizing X with
  | nil => rfl
  | cons op l ih => exact ih _

variable (m : (ℓ : Loc nD τ sig) → Buf (Elt Ideal) ℓ)
theorem V_eq (c : Dev nD) (b : Ref sig .tc) :
    V m c b = StableHlo.after hostOps0_12 (X12 fun b => m (c, b)) b := by
  unfold V X12 X8
  rw [List.flatten_cons, after_append, List.flatten_cons, after_append, List.flatten_cons, after_append, List.flatten_cons, after_append,
    List.flatten_cons, after_append, List.flatten_cons, after_append, List.flatten_cons, after_append, List.flatten_cons, after_append,
    List.flatten_cons, after_append, List.flatten_cons, after_append, List.flatten_cons, after_append, List.flatten_cons, after_append,
    List.flatten_cons, after_append]
  rfl

end Cert.Attn2048Ideal.Value

end
-- ==== Proof.Attn2048Kernel.lean ====
/-
  The attention backward kernel's arrays over finite arguments (segment 2048): each pair of heads' output blocks are its columns of the
  branch's query, key and value gradients.
-/
module

public import proofs.«01_k».proof.Proof.Attn2048Cases
public import proofs.«01_k».proof.Proof.Attn2048Host

@[expose] public section

set_option maxRecDepth 16384

noncomputable section

namespace Cert.Attn2048Ideal.Value

open Cert.Attn2048Ideal Cert.Attn2048Ideal.Gen Idealize.ShloMosaic Idealize.ShloMosaic.TcCoe Idealize.SL.Sem
open Cert.Attn (arrayOf rowsOf rowsOf_eq logOf dotOf tok dil den delta mix dq dk dv dq_rows dk_rows dv_rows Tokens kstart Near bandOf3_apply
  dq_canon dk_canon dv_canon head rowIx winIx st)
open Cert.Attn2048RefIdeal.Read (hd hq)

section Blocks
variable
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S3x256x256 .f32) (harg10 : arg10.IsWhole) (arg11 : Memref sig .tc .vmem S2048x128 .f32) (harg11 : arg11.IsWhole)
  (arg12 : Memref sig .tc .vmem S2048x128 .f32) (harg12 : arg12.IsWhole)
  (q k v g : Tokens) (x4 x5 : Vec Ideal S2048x128 .f32) (t : Fin 6) (hi : (i 0).val = t.val)
  (h4 : ∀ (h : Fin 2) (ρ : Fin 2048), x4 (ix2 ρ ⟨2 * t.val + h.val, by omega⟩) = ((logOf 2048 0 hl q k t h ρ : ℝ) : EReal))
  (h5 : ∀ (h : Fin 2) (ρ : Fin 2048), x5 (ix2 ρ ⟨2 * t.val + h.val, by omega⟩) = ((dotOf 2048 0 hl q k v g t h ρ : ℝ) : EReal))

theorem bands_apply (V : View sig .tc .vmem S3x256x256 .f32) (b : ℕ) (h : Fin 2) (r : Fin 128) (c : Fin 256) :
    bandsOf (F := Ideal) V b (ix3 0 (st h r) c) = if Near 2048 (rowIx b r).val (winIx (kstart 2048 256) wins.inb b c).val then (0 : EReal) else ⊥ :=
  bandOf3_apply wins V b h r c
theorem holds (b : ℕ) (hb : b < 16) (r : Fin 128) (κ : ℕ) (hκ : κ < 2048) (hn : Near 2048 (rowIx b r).val κ) :
    kstart 2048 256 b ≤ κ ∧ κ < kstart 2048 256 b + 256 := wins.holds b r.val κ r.isLt hκ hn

include hi h4 h5 in
theorem dq_block (ρ : Fin 2048) (l : Fin 128) :
    out0_A_6 c i arg1 harg1 arg2 harg2 arg3 harg3 arg4 harg4 arg5 harg5 arg6 harg6 arg7 harg7 arg8 harg8 arg9 harg9 arg10 harg10
      arg11 harg11 arg12 harg12 (Cert.Attn.up (rowsOf 2048 0 hl t q)) (Cert.Attn.up (rowsOf 2048 0 hl t k)) (Cert.Attn.up (rowsOf 2048 0 hl t v))
      (Cert.Attn.up (rowsOf 2048 0 hl t g)) x4 x5 (ix2 ρ l) = ((rowsOf 2048 0 hl t (dq q k v g 0) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dq]
  exact (dq_canon (kstart 2048 256) wins.inb (rowsOf 2048 0 hl t q) (rowsOf 2048 0 hl t g) (rowsOf 2048 0 hl t k) (rowsOf 2048 0 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds ρ l).trans
    (congrArg _ (dq_rows 2048 0 hl q k v g t ρ l))
include hi h4 h5 in
theorem dk_block (ρ : Fin 2048) (l : Fin 128) :
    out0_A_7 c i arg1 harg1 arg2 harg2 arg3 harg3 arg4 harg4 arg5 harg5 arg6 harg6 arg7 harg7 arg8 harg8 arg9 harg9 arg10 harg10
      arg11 harg11 arg12 harg12 (Cert.Attn.up (rowsOf 2048 0 hl t q)) (Cert.Attn.up (rowsOf 2048 0 hl t k)) (Cert.Attn.up (rowsOf 2048 0 hl t v))
      (Cert.Attn.up (rowsOf 2048 0 hl t g)) x4 x5 (ix2 ρ l) = ((rowsOf 2048 0 hl t (dk q k v g 0) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dk]
  exact (dk_canon (kstart 2048 256) wins.inb (rowsOf 2048 0 hl t q) (rowsOf 2048 0 hl t g) (rowsOf 2048 0 hl t k) (rowsOf 2048 0 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds arg11.view ρ l).trans
    (congrArg _ (dk_rows 2048 0 hl q k v g t ρ l))
include hi h4 in
theorem dv_block (ρ : Fin 2048) (l : Fin 128) :
    out0_A_8 c i arg1 harg1 arg2 harg2 arg3 harg3 arg4 harg4 arg5 harg5 arg6 harg6 arg7 harg7 arg8 harg8 arg9 harg9 arg10 harg10
      arg11 harg11 arg12 harg12 (Cert.Attn.up (rowsOf 2048 0 hl t q)) (Cert.Attn.up (rowsOf 2048 0 hl t k)) (Cert.Attn.up (rowsOf 2048 0 hl t v))
      (Cert.Attn.up (rowsOf 2048 0 hl t g)) x4 x5 (ix2 ρ l) = ((rowsOf 2048 0 hl t (dv q k g 0) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dv]
  exact (dv_canon (kstart 2048 256) wins.inb (rowsOf 2048 0 hl t q) (rowsOf 2048 0 hl t g) (rowsOf 2048 0 hl t k)
    harg1 harg2 harg4 harg5 (i 0).val hp (fun h ρ => (congrArg (fun z => x4 (ix2 ρ z)) (hc h)).trans (h4 h ρ))
    (fun b _ => bands_apply arg10.view b) holds arg12.view ρ l).trans
    (congrArg _ (dv_rows 2048 0 hl q k g t ρ l))
end Blocks

section Arrays
variable (m : (ℓ : Loc nD τ sig) → Buf (Elt Ideal) ℓ) (c : Dev nD) (a b v e : S1x2048x12x64.Idx → ℝ)
  (h0 : m ((c : Thread nD τ).loc main_arg0) = Cert.Attn2048RefIdeal.Read.up a) (h1 : m ((c : Thread nD τ).loc main_arg1) = Cert.Attn2048RefIdeal.Read.up b)
  (h2 : m ((c : Thread nD τ).loc main_arg2) = Cert.Attn2048RefIdeal.Read.up v) (h3 : m ((c : Thread nD τ).loc main_arg3) = Cert.Attn2048RefIdeal.Read.up e)

theorem point_lt (t : Fin cfg0.N) : t.val < 6 := by
  have h := t.isLt
  have hN : cfg0.N = 6 := N_0
  omega
def pt (t : Fin cfg0.N) : Fin 6 := ⟨t.val, point_lt t⟩
theorem coord : ∀ t : Fin grid0.N, (grid0.coords t 0).val = t.val := by decide +kernel
theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = t.val := by decide +kernel
theorem idx7 : ∀ t : Fin grid0.N, win0_7.index t 0 = 0 ∧ win0_7.index t 1 = t.val := by decide +kernel
theorem idx8 : ∀ t : Fin grid0.N, win0_8.index t 0 = 0 ∧ win0_8.index t 1 = t.val := by decide +kernel
theorem size6 : ∀ t : Fin grid0.N, win0_6.xsize (grid0.coords t) 0 = 2048 ∧ win0_6.xsize (grid0.coords t) 1 = 128 := by decide +kernel
theorem size7 : ∀ t : Fin grid0.N, win0_7.xsize (grid0.coords t) 0 = 2048 ∧ win0_7.xsize (grid0.coords t) 1 = 128 := by decide +kernel
theorem size8 : ∀ t : Fin grid0.N, win0_8.xsize (grid0.coords t) 0 = 2048 ∧ win0_8.xsize (grid0.coords t) 1 = 128 := by decide +kernel

theorem emb0 (t : Fin cfg0.N) (r : Fin 2048) (l : Fin 128) : ((cfg0.win 0).blk t).view.emb (ix2 r l)
    = ix2 r (⟨128 * (pt t).val + l.val, by have := (pt t).isLt; omega⟩ : Fin 768) := by
  funext a
  refine Fin.ext ?_
  match a with
  | ⟨0, _⟩ => show win0_0.index t 0 * 2048 + 1 * r.val = r.val; rw [(idx0 t).1]; omega
  | ⟨1, _⟩ => show win0_0.index t 1 * 128 + 1 * l.val = 128 * t.val + l.val; rw [(idx0 t).2]; omega
theorem emb1 (t : Fin cfg0.N) (r : Fin 2048) (l : Fin 128) : ((cfg0.win 1).blk t).view.emb (ix2 r l)
    = ix2 r (⟨128 * (pt t).val + l.val, by have := (pt t).isLt; omega⟩ : Fin 768) := by
  funext a
  refine Fin.ext ?_
  match a with
  | ⟨0, _⟩ => show win0_1.index t 0 * 2048 + 1 * r.val = r.val; rw [(idx1 t).1]; omega
  | ⟨1, _⟩ => show win0_1.index t 1 * 128 + 1 * l.val = 128 * t.val + l.val; rw [(idx1 t).2]; omega
theorem emb2 (t : Fin cfg0.N) (r : Fin 2048) (l : Fin 128) : ((cfg0.win 2).blk t).view.emb (ix2 r l)
    = ix2 r (⟨128 * (pt t).val + l.val, by have := (pt t).isLt; omega⟩ : Fin 768) := by
  funext a
  refine Fin.ext ?_
  match a with
  | ⟨0, _⟩ => show win0_2.index t 0 * 2048 + 1 * r.val = r.val; rw [(idx2 t).1]; omega
  | ⟨1, _⟩ => show win0_2.index t 1 * 128 + 1 * l.val = 128 * t.val + l.val; rw [(idx2 t).2]; omega
theorem emb3 (t : Fin cfg0.N) (r : Fin 2048) (l : Fin 128) : ((cfg0.win 3).blk t).view.emb (ix2 r l)
    = ix2 r (⟨128 * (pt t).val + l.val, by have := (pt t).isLt; omega⟩ : Fin 768) := by
  funext a
  refine Fin.ext ?_
  match a with
  | ⟨0, _⟩ => show win0_3.index t 0 * 2048 + 1 * r.val = r.val; rw [(idx3 t).1]; omega
  | ⟨1, _⟩ => show win0_3.index t 1 * 128 + 1 * l.val = 128 * t.val + l.val; rw [(idx3 t).2]; omega
theorem emb4 (t : Fin cfg0.N) (r : Fin 2048) (l : Fin 128) : ((cfg0.win 4).blk t).view.emb (ix2 r l) = ix2 r l := by
  funext a
  refine Fin.ext ?_
  match a with
  | ⟨0, _⟩ => show win0_4.index t 0 * 2048 + 1 * r.val = r.val; rw [(idx4 t).1]; omega
  | ⟨1, _⟩ => show win0_4.index t 1 * 128 + 1 * l.val = l.val; rw [(idx4 t).2]; omega
theorem emb5 (t : Fin cfg0.N) (r : Fin 2048) (l : Fin 128) : ((cfg0.win 5).blk t).view.emb (ix2 r l) = ix2 r l := by
  funext a
  refine Fin.ext ?_
  match a with
  | ⟨0, _⟩ => show win0_5.index t 0 * 2048 + 1 * r.val = r.val; rw [(idx5 t).1]; omega
  | ⟨1, _⟩ => show win0_5.index t 1 * 128 + 1 * l.val = l.val; rw [(idx5 t).2]; omega
include h0 in
theorem blk0 (t : Fin cfg0.N) : (iblk m c 0 t : S2048x128.Idx → EReal) = Cert.Attn.up (rowsOf 2048 0 hl (pt t) (hq a)) := by
  funext j
  obtain ⟨r, l, rfl⟩ : ∃ r l, j = ix2 r l := ⟨_, _, eq_ix2 j⟩
  show V m c main_v95 (((cfg0.win 0).blk t).view.emb (ix2 r l)) = ((rowsOf 2048 0 hl (pt t) (hq a) (ix2 r l) : ℝ) : EReal)
  rw [emb0, V_eq, win_q _ a h0, rowsOf_eq]
  all_goals rfl
include h1 in
theorem blk1 (t : Fin cfg0.N) : (iblk m c 1 t : S2048x128.Idx → EReal) = Cert.Attn.up (rowsOf 2048 0 hl (pt t) (hd b)) := by
  funext j
  obtain ⟨r, l, rfl⟩ : ∃ r l, j = ix2 r l := ⟨_, _, eq_ix2 j⟩
  show V m c main_v100 (((cfg0.win 1).blk t).view.emb (ix2 r l)) = ((rowsOf 2048 0 hl (pt t) (hd b) (ix2 r l) : ℝ) : EReal)
  rw [emb1, V_eq, win_k _ b h1, rowsOf_eq]
  all_goals rfl
include h2 in
theorem blk2 (t : Fin cfg0.N) : (iblk m c 2 t : S2048x128.Idx → EReal) = Cert.Attn.up (rowsOf 2048 0 hl (pt t) (hd v)) := by
  funext j
  obtain ⟨r, l, rfl⟩ : ∃ r l, j = ix2 r l := ⟨_, _, eq_ix2 j⟩
  show V m c main_v105 (((cfg0.win 2).blk t).view.emb (ix2 r l)) = ((rowsOf 2048 0 hl (pt t) (hd v) (ix2 r l) : ℝ) : EReal)
  rw [emb2, V_eq, win_v _ v h2, rowsOf_eq]
  all_goals rfl
include h3 in
theorem blk3 (t : Fin cfg0.N) : (iblk m c 3 t : S2048x128.Idx → EReal) = Cert.Attn.up (rowsOf 2048 0 hl (pt t) (hd e)) := by
  funext j
  obtain ⟨r, l, rfl⟩ : ∃ r l, j = ix2 r l := ⟨_, _, eq_ix2 j⟩
  show V m c main_v110 (((cfg0.win 3).blk t).view.emb (ix2 r l)) = ((rowsOf 2048 0 hl (pt t) (hd e) (ix2 r l) : ℝ) : EReal)
  rw [emb3, V_eq, win_g _ e h3, rowsOf_eq]
  all_goals rfl
include h0 h1 in
theorem blk4 (t : Fin cfg0.N) (h : Fin 2) (ρ : Fin 2048) : (iblk m c 4 t : S2048x128.Idx → EReal) (ix2 ρ ⟨2 * (pt t).val + h.val, by have := (pt t).isLt; omega⟩)
    = ((logOf 2048 0 hl (hq a) (hd b) (pt t) h ρ : ℝ) : EReal) := by
  show V m c main_v113 (((cfg0.win 4).blk t).view.emb (ix2 ρ ⟨2 * (pt t).val + h.val, by have := (pt t).isLt; omega⟩)) = _
  rw [emb4, V_eq]
  exact win_lse _ a b h0 h1 ρ (head (pt t) h)
include h0 h1 h2 h3 in
theorem blk5 (t : Fin cfg0.N) (h : Fin 2) (ρ : Fin 2048) : (iblk m c 5 t : S2048x128.Idx → EReal) (ix2 ρ ⟨2 * (pt t).val + h.val, by have := (pt t).isLt; omega⟩)
    = ((dotOf 2048 0 hl (hq a) (hd b) (hd v) (hd e) (pt t) h ρ : ℝ) : EReal) := by
  show V m c main_v116 (((cfg0.win 5).blk t).view.emb (ix2 ρ ⟨2 * (pt t).val + h.val, by have := (pt t).isLt; omega⟩)) = _
  rw [emb5, V_eq]
  exact win_delta _ a b v e h0 h1 h2 h3 ρ (head (pt t) h)

theorem emb6 (t : Fin cfg0.N) (r : Fin 2048) (l : Fin 128) : ((cfg0.win 6).blk t).view.emb (ix2 r l)
    = ix2 r (⟨128 * (pt t).val + l.val, by have := (pt t).isLt; omega⟩ : Fin 768) := by
  funext a
  refine Fin.ext ?_
  match a with
  | ⟨0, _⟩ => show win0_6.index t 0 * 2048 + 1 * r.val = r.val; rw [(idx6 t).1]; omega
  | ⟨1, _⟩ => show win0_6.index t 1 * 128 + 1 * l.val = 128 * t.val + l.val; rw [(idx6 t).2]; omega
include h0 h1 h2 h3 in
theorem final_dq : (dats m 0 c).arrAt 6 cfg0.N = (fun j => ((arrayOf 2048 0 hl (dq (hq a) (hd b) (hd v) (hd e) 0) j : ℝ) : EReal) : S2048x768.Idx → EReal) := by
  refine (dats m 0 c).arrAt_eq_of_cover 6 _ (fun t hf => ?_) fun (i : S2048x768.Idx) => ?_
  · rw [flushed6_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb6]
    refine (dq_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_6 _, ?_⟩
    show i ∈ ((View.whole main_v117_0).slice (win0_6.rect t)).set
    rw [View.set_slice_whole, Rect.mem_set_unit]
    intro a
    match a with
    | ⟨0, _⟩ =>
      show win0_6.index _ 0 * 2048 ≤ (i 0).val ∧ (i 0).val < win0_6.index _ 0 * 2048 + win0_6.xsize (grid0.coords _) 0
      rw [(idx6 _).1, (size6 _).1]; omega
    | ⟨1, _⟩ =>
      show win0_6.index _ 1 * 128 ≤ (i 1).val ∧ (i 1).val < win0_6.index _ 1 * 128 + win0_6.xsize (grid0.coords _) 1
      rw [(idx6 _).2, (size6 _).2]; omega
theorem emb7 (t : Fin cfg0.N) (r : Fin 2048) (l : Fin 128) : ((cfg0.win 7).blk t).view.emb (ix2 r l)
    = ix2 r (⟨128 * (pt t).val + l.val, by have := (pt t).isLt; omega⟩ : Fin 768) := by
  funext a
  refine Fin.ext ?_
  match a with
  | ⟨0, _⟩ => show win0_7.index t 0 * 2048 + 1 * r.val = r.val; rw [(idx7 t).1]; omega
  | ⟨1, _⟩ => show win0_7.index t 1 * 128 + 1 * l.val = 128 * t.val + l.val; rw [(idx7 t).2]; omega
include h0 h1 h2 h3 in
theorem final_dk : (dats m 0 c).arrAt 7 cfg0.N = (fun j => ((arrayOf 2048 0 hl (dk (hq a) (hd b) (hd v) (hd e) 0) j : ℝ) : EReal) : S2048x768.Idx → EReal) := by
  refine (dats m 0 c).arrAt_eq_of_cover 7 _ (fun t hf => ?_) fun (i : S2048x768.Idx) => ?_
  · rw [flushed7_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb7]
    refine (dk_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_7 _, ?_⟩
    show i ∈ ((View.whole main_v117_1).slice (win0_7.rect t)).set
    rw [View.set_slice_whole, Rect.mem_set_unit]
    intro a
    match a with
    | ⟨0, _⟩ =>
      show win0_7.index _ 0 * 2048 ≤ (i 0).val ∧ (i 0).val < win0_7.index _ 0 * 2048 + win0_7.xsize (grid0.coords _) 0
      rw [(idx7 _).1, (size7 _).1]; omega
    | ⟨1, _⟩ =>
      show win0_7.index _ 1 * 128 ≤ (i 1).val ∧ (i 1).val < win0_7.index _ 1 * 128 + win0_7.xsize (grid0.coords _) 1
      rw [(idx7 _).2, (size7 _).2]; omega
theorem emb8 (t : Fin cfg0.N) (r : Fin 2048) (l : Fin 128) : ((cfg0.win 8).blk t).view.emb (ix2 r l)
    = ix2 r (⟨128 * (pt t).val + l.val, by have := (pt t).isLt; omega⟩ : Fin 768) := by
  funext a
  refine Fin.ext ?_
  match a with
  | ⟨0, _⟩ => show win0_8.index t 0 * 2048 + 1 * r.val = r.val; rw [(idx8 t).1]; omega
  | ⟨1, _⟩ => show win0_8.index t 1 * 128 + 1 * l.val = 128 * t.val + l.val; rw [(idx8 t).2]; omega
include h0 h1 h2 h3 in
theorem final_dv : (dats m 0 c).arrAt 8 cfg0.N = (fun j => ((arrayOf 2048 0 hl (dv (hq a) (hd b) (hd e) 0) j : ℝ) : EReal) : S2048x768.Idx → EReal) := by
  refine (dats m 0 c).arrAt_eq_of_cover 8 _ (fun t hf => ?_) fun (i : S2048x768.Idx) => ?_
  · rw [flushed8_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb8]
    refine (dv_block _ (grid0.coords t) _ _ _ _ _ _ _ _ _ _ _ _ _ _ _ _ _ _ _ _ _ _ _ _ (hq a) (hd b) (hd v) (hd e) _ _ (pt t) (coord t)
      (blk4 m c a b h0 h1 t)  r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_8 _, ?_⟩
    show i ∈ ((View.whole main_v117_2).slice (win0_8.rect t)).set
    rw [View.set_slice_whole, Rect.mem_set_unit]
    intro a
    match a with
    | ⟨0, _⟩ =>
      show win0_8.index _ 0 * 2048 ≤ (i 0).val ∧ (i 0).val < win0_8.index _ 0 * 2048 + win0_8.xsize (grid0.coords _) 0
      rw [(idx8 _).1, (size8 _).1]; omega
    | ⟨1, _⟩ =>
      show win0_8.index _ 1 * 128 ≤ (i 1).val ∧ (i 1).val < win0_8.index _ 1 * 128 + win0_8.xsize (grid0.coords _) 1
      rw [(idx8 _).2, (size8 _).2]; omega
end Arrays

end Cert.Attn2048Ideal.Value

end
-- ==== Proof.Attn2048Claim.lean ====
/-
  The attention backward kernel (segment 2048): the frames of its programs, the mask it names, and its three results (the gradients at
  the query, the keys and the values) equal to the reference's over finite arguments.
-/
module

public import proofs.«01_k».proof.Defs
public import proofs.«01_k».proof.Proof.Attn2048Kernel
public import proofs.«01_k».proof.Proof.Gen.Attn2048.Frame
public import proofs.«01_k».proof.Proof.Gen.Attn2048RefIdeal.Run
public import proofs.«01_k».proof.Proof.Gen.Pre_attn_finite
public import Idealize.ShloMosaic.Lib.Quiescent

@[expose] public section

set_option maxRecDepth 16384

noncomputable section

namespace Cert.Attn2048Claim

open Idealize.ShloMosaic Idealize.ShloMosaic.TcCoe Idealize.SL.Sem Cert.Reals
open Cert.Attn (arrayOf tok dil dq dk dv)
open Cert.Attn2048RefIdeal.Read (up hd hq)
open Cert.Attn2048Ideal.Value (hl arrayOf_ix2 row_eq)

theorem frame_kernel_ideal : Cert.quiescent_Attn2048Ideal (hAttn2048Ideal := Cert.Attn2048Ideal.Gen.facts) := fun m ρ _ => Cert.Attn2048Ideal.Gen.frame m ρ

theorem frame_kernel : Cert.quiescent_Attn2048 (hAttn2048 := Cert.Attn2048.Gen.facts) := fun m ρ _ => Cert.Attn2048.Gen.frame m ρ

theorem frame_ref : Cert.quiescent_Attn2048RefIdeal (hAttn2048RefIdeal := Cert.Attn2048RefIdeal.Gen.facts) := fun m ρ _ =>
  (θ_run Cert.Attn2048RefIdeal.defs _ _).mono
    (fun _ h => ⟨fun c => (h c).2.2.2, sem_eq_zero_of_no_sems rfl _⟩) (Cert.Attn2048RefIdeal.Value.run m ρ)

/-- The branch's rows of a gradient over all branches, in the order of the kernel's rows. -/
theorem ref_rows {G : Vec Ideal Cert.Attn2048RefIdeal.S3x12x2048x64 .f32} {y : Fin 3 → Cert.Attn.Tokens}
    (hG : ∀ p h i d, G (ix4 p h i d) = ((y p h i d : ℝ) : EReal)) (r : Fin 2048) (l : Fin 768) :
    (truncf .bf16 (shapeCast Cert.Attn2048RefIdeal.S2048x768 (transpose Cert.Attn2048RefIdeal.S1x2048x768 [1, 0, 2]
      (shapeCast Cert.Attn2048RefIdeal.S2048x1x768 (transpose Cert.Attn2048RefIdeal.S2048x12x64 [1, 0, 2]
        (shapeCast Cert.Attn2048RefIdeal.S12x2048x64 (extractStridedSlice Cert.Attn2048RefIdeal.S1x12x2048x64 ![0, 0, 0, 0] G
          Cert.Attn2048RefIdeal.Gen.slices_S3x12x2048x64_S1x12x2048x64_0_0_0_0) Cert.Attn2048RefIdeal.Gen.shapeCasts_S1x12x2048x64_S12x2048x64)
        Cert.Attn2048RefIdeal.Gen.transposes_S12x2048x64_S2048x12x64_1_0_2) Cert.Attn2048RefIdeal.Gen.shapeCasts_S2048x12x64_S2048x1x768)
      Cert.Attn2048RefIdeal.Gen.transposes_S2048x1x768_S1x2048x768_1_0_2) Cert.Attn2048RefIdeal.Gen.shapeCasts_S1x2048x768_S2048x768 : FVec Ideal Cert.Attn2048RefIdeal.S2048x768 .f32)
      Cert.Attn2048RefIdeal.Gen.bitsLt_bf16_f32 : FVec Ideal Cert.Attn2048RefIdeal.S2048x768 .bf16) (ix2 r l)
      = ((arrayOf 2048 0 hl (y 0) (ix2 r l) : ℝ) : EReal) := by
  rw [arrayOf_ix2]
  pointwise [hG]
  all_goals rfl

variable (a b v e : Cert.Attn2048RefIdeal.S1x2048x12x64.Idx → ℝ)
theorem ref_dq (r : Fin 2048) (l : Fin 768) : Cert.Attn2048RefIdeal.Read.val_main_v161 (F := Ideal) (up a) (up b) (up v) (up e) (ix2 r l)
    = ((arrayOf 2048 0 hl (dq (hq a) (hd b) (hd v) (hd e) 0) (ix2 r l) : ℝ) : EReal) :=
  ref_rows (y := dq (hq a) (hd b) (hd v) (hd e)) (G := Cert.Attn2048RefIdeal.Read.val_main_v154 (F := Ideal) (up a) (up b) (up v) (up e)) (fun p h i d =>
    (congrFun (show Cert.Attn2048RefIdeal.Read.val_main_v154 (F := Ideal) (up a) (up b) (up v) (up e)
      = Cert.Attn2048RefIdeal.Read.val_main_v154 (F := Ideal) (up a) (up b) (up v) (up e) by sl_kernel_rfl) _).trans
    (Cert.Attn2048RefIdeal.Read.v154 a b v e p h i d)) r l
theorem ref_dk (r : Fin 2048) (l : Fin 768) : Cert.Attn2048RefIdeal.Read.val_main_v168 (F := Ideal) (up a) (up b) (up v) (up e) (ix2 r l)
    = ((arrayOf 2048 0 hl (dk (hq a) (hd b) (hd v) (hd e) 0) (ix2 r l) : ℝ) : EReal) :=
  ref_rows (y := dk (hq a) (hd b) (hd v) (hd e)) (G := Cert.Attn2048RefIdeal.Read.val_main_v153 (F := Ideal) (up a) (up b) (up v) (up e)) (fun p h i d =>
    (congrFun (show Cert.Attn2048RefIdeal.Read.val_main_v153 (F := Ideal) (up a) (up b) (up v) (up e)
      = Cert.Attn2048RefIdeal.Read.val_main_v153 (F := Ideal) (up a) (up b) (up v) (up e) by sl_kernel_rfl) _).trans
    (Cert.Attn2048RefIdeal.Read.v153 a b v e p h i d)) r l
theorem ref_dv (r : Fin 2048) (l : Fin 768) : Cert.Attn2048RefIdeal.Read.val_main_v175 (F := Ideal) (up a) (up b) (up e) (ix2 r l)
    = ((arrayOf 2048 0 hl (dv (hq a) (hd b) (hd e) 0) (ix2 r l) : ℝ) : EReal) :=
  ref_rows (y := dv (hq a) (hd b) (hd e)) (G := Cert.Attn2048RefIdeal.Read.val_main_v139 (F := Ideal) (up a) (up b) (up e)) (fun p h i d =>
    (congrFun (show Cert.Attn2048RefIdeal.Read.val_main_v139 (F := Ideal) (up a) (up b) (up e)
      = Cert.Attn2048RefIdeal.Read.val_main_v139 (F := Ideal) (up a) (up b) (up e) by sl_kernel_rfl) _).trans
    (Cert.Attn2048RefIdeal.Read.v139 a b e p h i d)) r l

/-- The precondition's four arguments as real arrays. -/
theorem real_args (x y z w : FVec Ideal Cert.Pre_attn_finite.S1x2048x12x64 .f32)
    (h : @Cert.Pre_attn_finite.fn Cert.Pre_attn_finite.Gen.facts Ideal _ x y z w = fun _ => 1#1) :
    (∃ X : Cert.Pre_attn_finite.S1x2048x12x64.Idx → ℝ, x = fun i => (X i : EReal))
      ∧ (∃ X : Cert.Pre_attn_finite.S1x2048x12x64.Idx → ℝ, y = fun i => (X i : EReal))
      ∧ (∃ X : Cert.Pre_attn_finite.S1x2048x12x64.Idx → ℝ, z = fun i => (X i : EReal))
      ∧ (∃ X : Cert.Pre_attn_finite.S1x2048x12x64.Idx → ℝ, w = fun i => (X i : EReal)) := by
  have e := congrFun h (Shape.Idx.first (by decide))
  unfold Cert.Pre_attn_finite.fn at e
  dsimp only at e
  obtain ⟨exy, ezw⟩ := andi_eq_one _ _ _ e
  obtain ⟨ex, ey⟩ := andi_eq_one _ _ _ exy
  obtain ⟨ez, ew⟩ := andi_eq_one _ _ _ ezw
  exact ⟨real_of_pre rfl x _ (fun _ => rfl) _ _ _ _ ex, real_of_pre rfl y _ (fun _ => rfl) _ _ _ _ ey, real_of_pre rfl z _ (fun _ => rfl) _ _ _ _ ez,
    real_of_pre rfl w _ (fun _ => rfl) _ _ _ _ ew⟩

theorem algebraic : Cert.algebraic_Attn2048Ideal_Attn2048RefIdeal_pre_attn_finite (hAttn2048Ideal := Cert.Attn2048Ideal.Gen.facts)
    (hAttn2048RefIdeal := Cert.Attn2048RefIdeal.Gen.facts) (hPre_attn_finite := Cert.Pre_attn_finite.Gen.facts) := by
  intro m ρ m' ρ' hpre hargs
  refine ⟨_, _, _, Cert.Attn2048Ideal.Value.run_blocks m ρ, (θ_run Cert.Attn2048RefIdeal.defs _ _).mono (fun r h c => ?_) (Cert.Attn2048RefIdeal.Value.run m' ρ')⟩
  obtain ⟨r0, r1, r2, r3⟩ := h c
  obtain ⟨a0, a1, a2, a3⟩ := hargs c
  obtain ⟨⟨a, h0⟩, ⟨b, h1⟩, ⟨v, h2⟩, ⟨e, h3⟩⟩ := real_args _ _ _ _ (hpre c)
  refine ⟨r0.trans ?_, r1.trans ?_, r2.trans ?_, r3⟩
  · rw [Cert.Attn2048Ideal.Value.final_dq m c a b v e h0 h1 h2 h3, Cert.Attn2048RefIdeal.Read.val_main_v161_eq]
    show Cert.Attn2048RefIdeal.Read.val_main_v161 (F := Ideal) (m' ((c.tc : Thread Cert.Attn2048RefIdeal.nD Cert.Attn2048RefIdeal.τ).loc Cert.Attn2048RefIdeal.main_arg0))
      (m' ((c.tc : Thread Cert.Attn2048RefIdeal.nD Cert.Attn2048RefIdeal.τ).loc Cert.Attn2048RefIdeal.main_arg1)) (m' ((c.tc : Thread Cert.Attn2048RefIdeal.nD Cert.Attn2048RefIdeal.τ).loc Cert.Attn2048RefIdeal.main_arg2))
      (m' ((c.tc : Thread Cert.Attn2048RefIdeal.nD Cert.Attn2048RefIdeal.τ).loc Cert.Attn2048RefIdeal.main_arg3)) = _
    rw [a0, a1, a2, a3, h0, h1, h2, h3]
    funext i
    idx_vars i
    exact ref_dq a b v e i0 i1
  · rw [Cert.Attn2048Ideal.Value.final_dk m c a b v e h0 h1 h2 h3, Cert.Attn2048RefIdeal.Read.val_main_v168_eq]
    show Cert.Attn2048RefIdeal.Read.val_main_v168 (F := Ideal) (m' ((c.tc : Thread Cert.Attn2048RefIdeal.nD Cert.Attn2048RefIdeal.τ).loc Cert.Attn2048RefIdeal.main_arg0))
      (m' ((c.tc : Thread Cert.Attn2048RefIdeal.nD Cert.Attn2048RefIdeal.τ).loc Cert.Attn2048RefIdeal.main_arg1)) (m' ((c.tc : Thread Cert.Attn2048RefIdeal.nD Cert.Attn2048RefIdeal.τ).loc Cert.Attn2048RefIdeal.main_arg2))
      (m' ((c.tc : Thread Cert.Attn2048RefIdeal.nD Cert.Attn2048RefIdeal.τ).loc Cert.Attn2048RefIdeal.main_arg3)) = _
    rw [a0, a1, a2, a3, h0, h1, h2, h3]
    funext i
    idx_vars i
    exact ref_dk a b v e i0 i1
  · rw [Cert.Attn2048Ideal.Value.final_dv m c a b v e h0 h1 h2 h3, Cert.Attn2048RefIdeal.Read.val_main_v175_eq]
    show Cert.Attn2048RefIdeal.Read.val_main_v175 (F := Ideal) (m' ((c.tc : Thread Cert.Attn2048RefIdeal.nD Cert.Attn2048RefIdeal.τ).loc Cert.Attn2048RefIdeal.main_arg0))
      (m' ((c.tc : Thread Cert.Attn2048RefIdeal.nD Cert.Attn2048RefIdeal.τ).loc Cert.Attn2048RefIdeal.main_arg1)) (m' ((c.tc : Thread Cert.Attn2048RefIdeal.nD Cert.Attn2048RefIdeal.τ).loc Cert.Attn2048RefIdeal.main_arg3)) = _
    rw [a0, a1, a3, h0, h1, h3]
    funext i
    idx_vars i
    exact ref_dv a b e i0 i1

end Cert.Attn2048Claim

end
-- ==== Proof.Attn512Cases.lean ====
/-
  The attention's backward kernel at dilation 4, over one pair of heads: its stores are the blocks' rows of the query gradient and
  the two running sums, and what its three output blocks then hold.
-/
module

public import proofs.«01_k».proof.Proof.Gen.Attn512Ideal.Value
public import proofs.«01_k».proof.Proof.AttnBand

@[expose] public section

set_option maxRecDepth 16384

noncomputable section

namespace Cert.Attn512Ideal.Value

open Cert.Attn512Ideal Cert.Attn512Ideal.Gen Idealize.ShloMosaic Idealize.ShloMosaic.TcCoe Idealize.SL.Sem
open Cert.Attn

variable {F : FTy → Type} [FloatOps F] [Named F]
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S3x256x256 .f32) (harg10 : arg10.IsWhole) (arg11 : Memref sig .tc .vmem S2048x128 .f32) (harg11 : arg11.IsWhole)
  (arg12 : Memref sig .tc .vmem S2048x128 .f32) (harg12 : arg12.IsWhole)
  (x0 x1 x2 x3 : Vec F S2048x128 .bf16) (x4 x5 : Vec F S2048x128 .f32)

abbrev wins : Windows 512 256 3 := windows_512
abbrev bandsOf (v : View sig .tc .vmem S3x256x256 .f32) : ℕ → Vec F (s3 1 256 256) .f32 := bandOf3 wins v (Named.named κ "mask" 0xF149F2CA#32)
abbrev dqs : ℕ → FVec F (s2 128 128) .bf16 :=
  dqOf (kstart 512 256) wins.inb harg1 harg2 harg3 harg4 harg5 harg6 (i 0).val (bandsOf arg10.view) x0 x1 x2 x3 x4 x5
abbrev dks : ℕ → FVec F (s2 256 128) .f32 :=
  dkOf (kstart 512 256) wins.inb harg1 harg2 harg3 harg4 harg5 harg6 (i 0).val (bandsOf arg10.view) x0 x1 x2 x3 x4 x5
abbrev dvs : ℕ → FVec F (s2 256 128) .f32 :=
  dvOf (kstart 512 256) wins.inb harg1 harg2 harg4 harg5 (i 0).val (bandsOf arg10.view) x0 x1 x3 x4

theorem hz : (![0, 0] : Fin 2 → Nat) = fun _ => 0 := funext fun a => by fin_cases a <;> rfl

theorem out_dq : out0_A_6 c i arg1 harg1 arg2 harg2 arg3 harg3 arg4 harg4 arg5 harg5 arg6 harg6 arg7 harg7 arg8 harg8 arg9 harg9 arg10 harg10
    arg11 harg11 arg12 harg12 x0 x1 x2 x3 x4 x5 = View.canon (blocksOf (dqs i arg1 harg1 arg2 harg2 arg3 harg3 arg4 harg4 arg5 harg5 arg6 harg6 arg10 x0 x1 x2 x3 x4 x5)) :=
  View.read_writes_eq_canon _ _ _ (cover0_A_6 c i arg1 harg1 arg2 harg2 arg3 harg3 arg4 harg4 arg5 harg5 arg6 harg6 arg7 harg7 arg8 harg8 arg9 harg9
    arg10 harg10 arg11 harg11 arg12 harg12 x0 x1 x2 x3 x4 x5)

/-- The two running sums end in one store of the whole block. -/
theorem stored (v : View sig .tc .vmem S2048x128 .f32) (L : List (View.Piece (Elt F) S2048x128 .f32)) :
    View.canon [(⟨Rect.unit ![0, 0] S2048x128.size inb_S2048x128_S2048x128_0_0, truncf .bf16 (v.readCov L
      (Rect.unit ![0, 0] S2048x128.size inb_S2048x128_S2048x128_0_0).toLoadRect) bitsLt_bf16_f32⟩ : View.Piece (Elt F) S2048x128 .bf16)]
      = truncf .bf16 (show FVec F S2048x128 .f32 from View.canon L) bitsLt_bf16_f32 := by
  rw [View.canon_unit_zero hz, View.readCov_eq_canon' v]
  exact congrArg (fun x => truncf .bf16 x bitsLt_bf16_f32) (View.ld_unit_zero (S := S2048x128) hz _ _)

theorem sum_dk : kernelRun0_A.sl.HS1_17 c i arg1 harg1 arg2 harg2 arg3 harg3 arg4 harg4 arg5 harg5 arg6 harg6 arg10 arg11 x0 x1 x2 x3 x4 x5
    = acc (kstart 512 256) wins.inb arg11.view (dks i arg1 harg1 arg2 harg2 arg3 harg3 arg4 harg4 arg5 harg5 arg6 harg6 arg10 x0 x1 x2 x3 x4 x5) 16 := by
  sl_kernel_rfl
theorem sum_dv : kernelRun0_A.sl.HS2_17 c i arg1 harg1 arg2 harg2 arg4 harg4 arg5 harg5 arg10 arg12 x0 x1 x3 x4
    = acc (kstart 512 256) wins.inb arg12.view (dvs i arg1 harg1 arg2 harg2 arg4 harg4 arg5 harg5 arg10 x0 x1 x3 x4) 16 := by
  sl_kernel_rfl

theorem out_dk : out0_A_7 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 512 256) wins.inb arg11.view
      (dks i arg1 harg1 arg2 harg2 arg3 harg3 arg4 harg4 arg5 harg5 arg6 harg6 arg10 x0 x1 x2 x3 x4 x5) 16)) bitsLt_bf16_f32 := by
  rw [← sum_dk c, ← stored arg11.view]
  exact View.read_writes_eq_canon _ _ _ (cover0_A_7 c i arg1 harg1 arg2 harg2 arg3 harg3 arg4 harg4 arg5 harg5 arg6 harg6 arg7 harg7 arg8 harg8 arg9 harg9 arg10 harg10
    arg11 harg11 arg12 harg12 x0 x1 x2 x3 x4 x5)

theorem out_dv : out0_A_8 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 512 256) wins.inb arg12.view
      (dvs i arg1 harg1 arg2 harg2 arg4 harg4 arg5 harg5 arg10 x0 x1 x3 x4) 16)) bitsLt_bf16_f32 := by
  rw [← sum_dv c, ← stored arg12.view]
  exact View.read_writes_eq_canon _ _ _ (cover0_A_8 c i arg1 harg1 arg2 harg2 arg3 harg3 arg4 harg4 arg5 harg5 arg6 harg6 arg7 harg7 arg8 harg8 arg9 harg9 arg10 harg10
    arg11 harg11 arg12 harg12 x0 x1 x2 x3 x4 x5)

end Cert.Attn512Ideal.Value

end
-- ==== Proof.Attn512Host.lean ====
/-
  What the attention backward kernel's windows hold over finite arguments (segment 512), and the reference's three results.
-/
module

public import proofs.«01_k».proof.Proof.AttnRef
public import proofs.«01_k».proof.Proof.AttnRows
public import proofs.«01_k».proof.Proof.Gen.Attn512RefIdeal.Read
public import proofs.«01_k».proof.Proof.Gen.Attn512Ideal.Frame.Runs
public import Idealize.ShloMosaic.Lib.StableHlo.RunRead
public import Idealize.ShloMosaic.Lib.Pointwise

@[expose] public section

set_option maxRecDepth 16384

noncomputable section

namespace Cert.Attn512Ideal.Value

open Idealize.ShloMosaic Idealize.ShloMosaic.StableHlo Idealize.ShloMosaic.TcCoe Cert.Attn512Ideal.Gen Cert.Reals
open Cert.Attn (arrayOf tok dil den delta mix dq dk dv Tokens)
open Cert.Attn2048RefIdeal.Read (up hd hq)

abbrev hl : 512 * dil 1 = 2048 := rfl

theorem row_eq (ρ : Fin 2048) : tok 512 (dil 1) hl ρ = tok 512 (dil 1) hl ρ := rfl
theorem arrayOf_ix2 (y : Tokens) (ρ : Fin 2048) (l : Fin 768) :
    arrayOf 512 1 hl y (ix2 ρ l) = y ⟨l.val / 64, by omega⟩ (tok 512 (dil 1) hl ρ) ⟨l.val % 64, by omega⟩ := by
  show y _ (tok 512 (dil 1) hl ρ) _ = _
  rw [row_eq]
  rfl

section Layout
variable (X : Valuation τ sig (Elt Ideal)) (x : S1x2048x12x64.Idx → ℝ) (ρ : Fin 2048) (l : Fin 768)

theorem ofBits_eighth : Ideal.ofBits .f32 0x3E000000#32 = ((1 / 8 : ℝ) : EReal) := by
  simp [Ideal.ofBits, Ideal.ieee, -EReal.coe_mul]; norm_num

theorem q_of (hx : X (Proc.devRef .tc main_arg0) = up x) :
    (StableHlo.after hostOps0_12 X (Proc.devRef .tc main_v95) : Vec Ideal S2048x768 .bf16) (ix2 ρ l)
      = ((arrayOf 512 1 hl (hq x) (ix2 ρ l) : ℝ) : EReal) := by
  rw [arrayOf_ix2]
  after_reads_simp
  rw [hx]
  pointwise
  rw [ofBits_eighth, ← EReal.coe_mul]
  show ((x (ix4 _ _ _ _) * (1 / 8) : ℝ) : EReal) = ((x (ix4 _ _ _ _) / 8 : ℝ) : EReal)
  rw [mul_one_div]
  all_goals rfl
theorem k_of (hx : X (Proc.devRef .tc main_arg1) = up x) :
    (StableHlo.after hostOps0_12 X (Proc.devRef .tc main_v100) : Vec Ideal S2048x768 .bf16) (ix2 ρ l)
      = ((arrayOf 512 1 hl (hd x) (ix2 ρ l) : ℝ) : EReal) := by
  rw [arrayOf_ix2]
  after_reads_simp
  rw [hx]
  pointwise
  all_goals rfl
theorem v_of (hx : X (Proc.devRef .tc main_arg2) = up x) :
    (StableHlo.after hostOps0_12 X (Proc.devRef .tc main_v105) : Vec Ideal S2048x768 .bf16) (ix2 ρ l)
      = ((arrayOf 512 1 hl (hd x) (ix2 ρ l) : ℝ) : EReal) := by
  rw [arrayOf_ix2]
  after_reads_simp
  rw [hx]
  pointwise
  all_goals rfl
theorem g_of (hx : X (Proc.devRef .tc main_arg3) = up x) :
    (StableHlo.after hostOps0_12 X (Proc.devRef .tc main_v110) : Vec Ideal S2048x768 .bf16) (ix2 ρ l)
      = ((arrayOf 512 1 hl (hd x) (ix2 ρ l) : ℝ) : EReal) := by
  rw [arrayOf_ix2]
  after_reads_simp
  rw [hx]
  pointwise
  all_goals rfl
theorem pad_of (Y : Vec Ideal S2048x12 .f32) (z : Vec Ideal S_ .f32) (i : Fin 2048) (m : Fin 12) :
    pad S2048x128 ![0, 0] ![0, 116] ![0, 0] Y z pads_S2048x12_S2048x128_000_01160 h_S_ (ix2 i ⟨m.val, by omega⟩) = Y (ix2 i m) := by
  pointwise
theorem swap_of (Y : Vec Ideal S12x2048 .f32) (i : Fin 2048) (m : Fin 12) :
    transpose S2048x12 [1, 0] Y transposes_S12x2048_S2048x12_1_0 (ix2 i m) = Y (ix2 m i) := by
  pointwise
theorem lse_of (L : Fin 12 → Fin 2048 → ℝ)
    (h : ∀ (i : Fin 2048) (h : Fin 12), (X (Proc.devRef .tc main_v85) : Vec Ideal S2048x12 .f32) (ix2 i h) = ((L h i : ℝ) : EReal)) (m : Fin 12) :
    (StableHlo.after hostOps0_12 (StableHlo.after hostOps0_11 (StableHlo.after hostOps0_10 (StableHlo.after hostOps0_9 X))) (Proc.devRef .tc main_v113)
      : Vec Ideal S2048x128 .f32) (ix2 ρ ⟨m.val, by omega⟩) = ((L m (tok 512 (dil 1) hl ρ) : ℝ) : EReal) := by
  rw [row_eq]
  after_reads_simp
  pointwise
  exact (pad_of _ _ _ _).trans (h _ _)
theorem delta_of (L : Fin 12 → Fin 2048 → ℝ)
    (h : ∀ (h : Fin 12) (i : Fin 2048), (X (Proc.devRef .tc main_v84) : Vec Ideal S12x2048 .f32) (ix2 h i) = ((L h i : ℝ) : EReal)) (m : Fin 12) :
    (StableHlo.after hostOps0_12 (StableHlo.after hostOps0_11 (StableHlo.after hostOps0_10 (StableHlo.after hostOps0_9 X))) (Proc.devRef .tc main_v116)
      : Vec Ideal S2048x128 .f32) (ix2 ρ ⟨m.val, by omega⟩) = ((L m (tok 512 (dil 1) hl ρ) : ℝ) : EReal) := by
  rw [row_eq]
  after_reads_simp
  pointwise
  exact (pad_of _ _ _ _).trans ((swap_of _ _ _).trans (h _ _))
end Layout

section Stages
variable (X : Valuation τ sig (Elt Ideal)) (a b c e : S1x2048x12x64.Idx → ℝ)
open Cert.Attn2048RefIdeal.Read (val_main_v43_0 val_main_v10 val_main_v56 val_main_v85 val_main_v88 val_main_v93)

/-- The buffers after the masked scores, and after the statistics. -/
def X8 : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 X)))))))
def X12 : Valuation τ sig (Elt Ideal) :=
  StableHlo.after hostOps0_11 (StableHlo.after hostOps0_10 (StableHlo.after hostOps0_9 (StableHlo.after hostOps0_8 (X8 X))))

theorem X8_v43 (h0 : X (Proc.devRef .tc main_arg0) = up a) (h1 : X (Proc.devRef .tc main_arg1) = up b) :
    X8 X (Proc.devRef .tc main_v43) = val_main_v43_0 (F := Ideal) (up a) (up b) := by
  unfold X8
  after_reads_simp
  rw [h0, h1]
  sl_kernel_rfl
theorem X8_v10 (h2 : X (Proc.devRef .tc main_arg2) = up c) : X8 X (Proc.devRef .tc main_v10) = val_main_v10 (F := Ideal) (up c) := by
  unfold X8
  after_reads_simp
  rw [h2]
  rfl
theorem X8_arg3 : X8 X (Proc.devRef .tc main_arg3) = X (Proc.devRef .tc main_arg3) := by
  unfold X8
  after_reads_simp
theorem X8_arg0 : X8 X (Proc.devRef .tc main_arg0) = X (Proc.devRef .tc main_arg0) := by
  unfold X8
  after_reads_simp
theorem X8_arg1 : X8 X (Proc.devRef .tc main_arg1) = X (Proc.devRef .tc main_arg1) := by
  unfold X8
  after_reads_simp
theorem X8_arg2 : X8 X (Proc.devRef .tc main_arg2) = X (Proc.devRef .tc main_arg2) := by
  unfold X8
  after_reads_simp
theorem X12_arg0 : X12 X (Proc.devRef .tc main_arg0) = X (Proc.devRef .tc main_arg0) := by
  unfold X12
  rw [← X8_arg0 X]
  generalize X8 X = Y
  after_reads_simp
theorem X12_arg1 : X12 X (Proc.devRef .tc main_arg1) = X (Proc.devRef .tc main_arg1) := by
  unfold X12
  rw [← X8_arg1 X]
  generalize X8 X = Y
  after_reads_simp
theorem X12_arg2 : X12 X (Proc.devRef .tc main_arg2) = X (Proc.devRef .tc main_arg2) := by
  unfold X12
  rw [← X8_arg2 X]
  generalize X8 X = Y
  after_reads_simp
theorem X12_arg3 : X12 X (Proc.devRef .tc main_arg3) = X (Proc.devRef .tc main_arg3) := by
  unfold X12
  rw [← X8_arg3 X]
  generalize X8 X = Y
  after_reads_simp

theorem lse_tree (h0 : X (Proc.devRef .tc main_v43) = val_main_v43_0 (F := Ideal) (up a) (up b)) :
    (StableHlo.after hostOps0_8 X (Proc.devRef .tc main_v85) : Vec Ideal S2048x12 .f32)
      = (transpose S2048x12 [1, 0] (addf (val_main_v56 (F := Ideal) (up a) (up b)) (Host.log (val_main_v85 (F := Ideal) (up a) (up b)))
          : FVec Ideal S12x2048 .f32) transposes_S12x2048_S2048x12_1_0) := by
  after_reads_simp
  rw [h0]
  sl_kernel_rfl
theorem delta_tree (h0 : X (Proc.devRef .tc main_v43) = val_main_v43_0 (F := Ideal) (up a) (up b))
    (h1 : X (Proc.devRef .tc main_v10) = val_main_v10 (F := Ideal) (up c)) (h3 : X (Proc.devRef .tc main_arg3) = up e) :
    (StableHlo.after hostOps0_8 X (Proc.devRef .tc main_v84) : Vec Ideal S12x2048 .f32)
      = Host.reduceAdd (mulf (val_main_v93 (F := Ideal) (up e)) (val_main_v88 (F := Ideal) (up a) (up b) (up c)))
          (constant (F := Ideal) S_ .f32 0x00000000#32) reducesTo_S12x2048x64_S12x2048_d2 h_S_ := by
  after_reads_simp
  rw [h0, h1, h3]
  sl_kernel_rfl

theorem sum_of (P : Vec Ideal S12x2048x64 .f32) (w : Fin 12 → Fin 2048 → Fin 64 → ℝ) (hP : ∀ h i d, P (ix3 h i d) = ((w h i d : ℝ) : EReal))
    (h : Fin 12) (i : Fin 2048) :
    (Host.reduceAdd P (constant (F := Ideal) S_ .f32 0x00000000#32) reducesTo_S12x2048x64_S12x2048_d2 h_S_ : Vec Ideal S12x2048 .f32) (ix2 h i)
      = ((∑ d, w h i d : ℝ) : EReal) := by
  pointwise [hP]
  simp only [← coe_sum]

variable (h0 : X (Proc.devRef .tc main_arg0) = up a) (h1 : X (Proc.devRef .tc main_arg1) = up b)
  (h2 : X (Proc.devRef .tc main_arg2) = up c) (h3 : X (Proc.devRef .tc main_arg3) = up e)

include h0 h1 in
theorem win_lse (ρ : Fin 2048) (m : Fin 12) :
    (StableHlo.after hostOps0_12 (X12 X) (Proc.devRef .tc main_v113) : Vec Ideal S2048x128 .f32) (ix2 ρ ⟨m.val, by omega⟩)
      = ((Real.log (den (hq a) (hd b) m (tok 512 (dil 1) hl ρ)) : ℝ) : EReal) := by
  refine lse_of (StableHlo.after hostOps0_8 (X8 X)) ρ (fun h i => Real.log (den (hq a) (hd b) h i)) (fun i h => ?_) m
  rw [lse_tree (X8 X) a b (X8_v43 X a b h0 h1), swap_of]
  exact Cert.Attn2048RefIdeal.Read.log_at a b h i
include h0 h1 h2 h3 in
theorem win_delta (ρ : Fin 2048) (m : Fin 12) :
    (StableHlo.after hostOps0_12 (X12 X) (Proc.devRef .tc main_v116) : Vec Ideal S2048x128 .f32) (ix2 ρ ⟨m.val, by omega⟩)
      = ((delta (hq a) (hd b) (hd c) (hd e) m (tok 512 (dil 1) hl ρ) : ℝ) : EReal) := by
  refine delta_of (StableHlo.after hostOps0_8 (X8 X)) ρ (fun h i => delta (hq a) (hd b) (hd c) (hd e) h i) (fun h i => ?_) m
  rw [delta_tree (X8 X) a b c e (X8_v43 X a b h0 h1) (X8_v10 X c h2) ((X8_arg3 X).trans h3)]
  exact sum_of _ _ (Cert.Attn2048RefIdeal.Read.dot_at a b c e) h i
include h0 in
theorem win_q : (StableHlo.after hostOps0_12 (X12 X) (Proc.devRef .tc main_v95) : Vec Ideal S2048x768 .bf16)
    = Cert.Attn.up (arrayOf 512 1 hl (hq a)) := by
  funext i
  obtain ⟨r, l, rfl⟩ : ∃ r l, i = ix2 r l := ⟨_, _, eq_ix2 i⟩
  exact q_of (X12 X) a r l ((X12_arg0 X).trans h0)
include h1 in
theorem win_k : (StableHlo.after hostOps0_12 (X12 X) (Proc.devRef .tc main_v100) : Vec Ideal S2048x768 .bf16)
    = Cert.Attn.up (arrayOf 512 1 hl (hd b)) := by
  funext i
  obtain ⟨r, l, rfl⟩ : ∃ r l, i = ix2 r l := ⟨_, _, eq_ix2 i⟩
  exact k_of (X12 X) b r l ((X12_arg1 X).trans h1)
include h2 in
theorem win_v : (StableHlo.after hostOps0_12 (X12 X) (Proc.devRef .tc main_v105) : Vec Ideal S2048x768 .bf16)
    = Cert.Attn.up (arrayOf 512 1 hl (hd c)) := by
  funext i
  obtain ⟨r, l, rfl⟩ : ∃ r l, i = ix2 r l := ⟨_, _, eq_ix2 i⟩
  exact v_of (X12 X) c r l ((X12_arg2 X).trans h2)
include h3 in
theorem win_g : (StableHlo.after hostOps0_12 (X12 X) (Proc.devRef .tc main_v110) : Vec Ideal S2048x768 .bf16)
    = Cert.Attn.up (arrayOf 512 1 hl (hd e)) := by
  funext i
  obtain ⟨r, l, rfl⟩ : ∃ r l, i = ix2 r l := ⟨_, _, eq_ix2 i⟩
  exact g_of (X12 X) e r l ((X12_arg3 X).trans h3)
end Stages

/-! ## The launch's buffers -/

theorem after_append {l₁ l₂ : List (HloOp τ sig (Elt Ideal))} (X : Valuation τ sig (Elt Ideal)) :
    StableHlo.after (l₁ ++ l₂) X = StableHlo.after l₂ (StableHlo.after l₁ X) := by
  induction l₁ generalizing X with
  | nil => rfl
  | cons op l ih => exact ih _

variable (m : (ℓ : Loc nD τ sig) → Buf (Elt Ideal) ℓ)
theorem V_eq (c : Dev nD) (b : Ref sig .tc) :
    V m c b = StableHlo.after hostOps0_12 (X12 fun b => m (c, b)) b := by
  unfold V X12 X8
  rw [List.flatten_cons, after_append, List.flatten_cons, after_append, List.flatten_cons, after_append, List.flatten_cons, after_append,
    List.flatten_cons, after_append, List.flatten_cons, after_append, List.flatten_cons, after_append, List.flatten_cons, after_append,
    List.flatten_cons, after_append, List.flatten_cons, after_append, List.flatten_cons, after_append, List.flatten_cons, after_append,
    List.flatten_cons, after_append]
  rfl

end Cert.Attn512Ideal.Value

end
-- ==== Proof.Attn512Kernel.lean ====
/-
  The attention backward kernel's arrays over finite arguments (segment 512): each pair of heads' output blocks are its columns of the
  branch's query, key and value gradients.
-/
module

public import proofs.«01_k».proof.Proof.Attn512Cases
public import proofs.«01_k».proof.Proof.Attn512Host

@[expose] public section

set_option maxRecDepth 16384

noncomputable section

namespace Cert.Attn512Ideal.Value

open Cert.Attn512Ideal Cert.Attn512Ideal.Gen Idealize.ShloMosaic Idealize.ShloMosaic.TcCoe Idealize.SL.Sem
open Cert.Attn (arrayOf rowsOf rowsOf_eq logOf dotOf tok dil den delta mix dq dk dv dq_rows dk_rows dv_rows Tokens kstart Near bandOf3_apply
  dq_canon dk_canon dv_canon head rowIx winIx st)
open Cert.Attn2048RefIdeal.Read (hd hq)

section Blocks
variable
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S3x256x256 .f32) (harg10 : arg10.IsWhole) (arg11 : Memref sig .tc .vmem S2048x128 .f32) (harg11 : arg11.IsWhole)
  (arg12 : Memref sig .tc .vmem S2048x128 .f32) (harg12 : arg12.IsWhole)
  (q k v g : Tokens) (x4 x5 : Vec Ideal S2048x128 .f32) (t : Fin 6) (hi : (i 0).val = t.val)
  (h4 : ∀ (h : Fin 2) (ρ : Fin 2048), x4 (ix2 ρ ⟨2 * t.val + h.val, by omega⟩) = ((logOf 512 1 hl q k t h ρ : ℝ) : EReal))
  (h5 : ∀ (h : Fin 2) (ρ : Fin 2048), x5 (ix2 ρ ⟨2 * t.val + h.val, by omega⟩) = ((dotOf 512 1 hl q k v g t h ρ : ℝ) : EReal))

theorem bands_apply (V : View sig .tc .vmem S3x256x256 .f32) (b : ℕ) (h : Fin 2) (r : Fin 128) (c : Fin 256) :
    bandsOf (F := Ideal) V b (ix3 0 (st h r) c) = if Near 512 (rowIx b r).val (winIx (kstart 512 256) wins.inb b c).val then (0 : EReal) else ⊥ :=
  bandOf3_apply wins V b h r c
theorem holds (b : ℕ) (hb : b < 16) (r : Fin 128) (κ : ℕ) (hκ : κ < 2048) (hn : Near 512 (rowIx b r).val κ) :
    kstart 512 256 b ≤ κ ∧ κ < kstart 512 256 b + 256 := wins.holds b r.val κ r.isLt hκ hn

include hi h4 h5 in
theorem dq_block (ρ : Fin 2048) (l : Fin 128) :
    out0_A_6 c i arg1 harg1 arg2 harg2 arg3 harg3 arg4 harg4 arg5 harg5 arg6 harg6 arg7 harg7 arg8 harg8 arg9 harg9 arg10 harg10
      arg11 harg11 arg12 harg12 (Cert.Attn.up (rowsOf 512 1 hl t q)) (Cert.Attn.up (rowsOf 512 1 hl t k)) (Cert.Attn.up (rowsOf 512 1 hl t v))
      (Cert.Attn.up (rowsOf 512 1 hl t g)) x4 x5 (ix2 ρ l) = ((rowsOf 512 1 hl t (dq q k v g 1) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dq]
  exact (dq_canon (kstart 512 256) wins.inb (rowsOf 512 1 hl t q) (rowsOf 512 1 hl t g) (rowsOf 512 1 hl t k) (rowsOf 512 1 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds ρ l).trans
    (congrArg _ (dq_rows 512 1 hl q k v g t ρ l))
include hi h4 h5 in
theorem dk_block (ρ : Fin 2048) (l : Fin 128) :
    out0_A_7 c i arg1 harg1 arg2 harg2 arg3 harg3 arg4 harg4 arg5 harg5 arg6 harg6 arg7 harg7 arg8 harg8 arg9 harg9 arg10 harg10
      arg11 harg11 arg12 harg12 (Cert.Attn.up (rowsOf 512 1 hl t q)) (Cert.Attn.up (rowsOf 512 1 hl t k)) (Cert.Attn.up (rowsOf 512 1 hl t v))
      (Cert.Attn.up (rowsOf 512 1 hl t g)) x4 x5 (ix2 ρ l) = ((rowsOf 512 1 hl t (dk q k v g 1) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dk]
  exact (dk_canon (kstart 512 256) wins.inb (rowsOf 512 1 hl t q) (rowsOf 512 1 hl t g) (rowsOf 512 1 hl t k) (rowsOf 512 1 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds arg11.view ρ l).trans
    (congrArg _ (dk_rows 512 1 hl q k v g t ρ l))
include hi h4 in
theorem dv_block (ρ : Fin 2048) (l : Fin 128) :
    out0_A_8 c i arg1 harg1 arg2 harg2 arg3 harg3 arg4 harg4 arg5 harg5 arg6 harg6 arg7 harg7 arg8 harg8 arg9 harg9 arg10 harg10
      arg11 harg11 arg12 harg12 (Cert.Attn.up (rowsOf 512 1 hl t q)) (Cert.Attn.up (rowsOf 512 1 hl t k)) (Cert.Attn.up (rowsOf 512 1 hl t v))
      (Cert.Attn.up (rowsOf 512 1 hl t g)) x4 x5 (ix2 ρ l) = ((rowsOf 512 1 hl t (dv q k g 1) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dv]
  exact (dv_canon (kstart 512 256) wins.inb (rowsOf 512 1 hl t q) (rowsOf 512 1 hl t g) (rowsOf 512 1 hl t k)
    harg1 harg2 harg4 harg5 (i 0).val hp (fun h ρ => (congrArg (fun z => x4 (ix2 ρ z)) (hc h)).trans (h4 h ρ))
    (fun b _ => bands_apply arg10.view b) holds arg12.view ρ l).trans
    (congrArg _ (dv_rows 512 1 hl q k g t ρ l))
end Blocks

section Arrays
variable (m : (ℓ : Loc nD τ sig) → Buf (Elt Ideal) ℓ) (c : Dev nD) (a b v e : S1x2048x12x64.Idx → ℝ)
  (h0 : m ((c : Thread nD τ).loc main_arg0) = Cert.Attn2048RefIdeal.Read.up a) (h1 : m ((c : Thread nD τ).loc main_arg1) = Cert.Attn2048RefIdeal.Read.up b)
  (h2 : m ((c : Thread nD τ).loc main_arg2) = Cert.Attn2048RefIdeal.Read.up v) (h3 : m ((c : Thread nD τ).loc main_arg3) = Cert.Attn2048RefIdeal.Read.up e)

theorem point_lt (t : Fin cfg0.N) : t.val < 6 := by
  have h := t.isLt
  have hN : cfg0.N = 6 := N_0
  omega
def pt (t : Fin cfg0.N) : Fin 6 := ⟨t.val, point_lt t⟩
theorem coord : ∀ t : Fin grid0.N, (grid0.coords t 0).val = t.val := by decide +kernel
theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = t.val := by decide +kernel
theorem idx7 : ∀ t : Fin grid0.N, win0_7.index t 0 = 0 ∧ win0_7.index t 1 = t.val := by decide +kernel
theorem idx8 : ∀ t : Fin grid0.N, win0_8.index t 0 = 0 ∧ win0_8.index t 1 = t.val := by decide +kernel
theorem size6 : ∀ t : Fin grid0.N, win0_6.xsize (grid0.coords t) 0 = 2048 ∧ win0_6.xsize (grid0.coords t) 1 = 128 := by decide +kernel
theorem size7 : ∀ t : Fin grid0.N, win0_7.xsize (grid0.coords t) 0 = 2048 ∧ win0_7.xsize (grid0.coords t) 1 = 128 := by decide +kernel
theorem size8 : ∀ t : Fin grid0.N, win0_8.xsize (grid0.coords t) 0 = 2048 ∧ win0_8.xsize (grid0.coords t) 1 = 128 := by decide +kernel

theorem emb0 (t : Fin cfg0.N) (r : Fin 2048) (l : Fin 128) : ((cfg0.win 0).blk t).view.emb (ix2 r l)
    = ix2 r (⟨128 * (pt t).val + l.val, by have := (pt t).isLt; omega⟩ : Fin 768) := by
  funext a
  refine Fin.ext ?_
  match a with
  | ⟨0, _⟩ => show win0_0.index t 0 * 2048 + 1 * r.val = r.val; rw [(idx0 t).1]; omega
  | ⟨1, _⟩ => show win0_0.index t 1 * 128 + 1 * l.val = 128 * t.val + l.val; rw [(idx0 t).2]; omega
theorem emb1 (t : Fin cfg0.N) (r : Fin 2048) (l : Fin 128) : ((cfg0.win 1).blk t).view.emb (ix2 r l)
    = ix2 r (⟨128 * (pt t).val + l.val, by have := (pt t).isLt; omega⟩ : Fin 768) := by
  funext a
  refine Fin.ext ?_
  match a with
  | ⟨0, _⟩ => show win0_1.index t 0 * 2048 + 1 * r.val = r.val; rw [(idx1 t).1]; omega
  | ⟨1, _⟩ => show win0_1.index t 1 * 128 + 1 * l.val = 128 * t.val + l.val; rw [(idx1 t).2]; omega
theorem emb2 (t : Fin cfg0.N) (r : Fin 2048) (l : Fin 128) : ((cfg0.win 2).blk t).view.emb (ix2 r l)
    = ix2 r (⟨128 * (pt t).val + l.val, by have := (pt t).isLt; omega⟩ : Fin 768) := by
  funext a
  refine Fin.ext ?_
  match a with
  | ⟨0, _⟩ => show win0_2.index t 0 * 2048 + 1 * r.val = r.val; rw [(idx2 t).1]; omega
  | ⟨1, _⟩ => show win0_2.index t 1 * 128 + 1 * l.val = 128 * t.val + l.val; rw [(idx2 t).2]; omega
theorem emb3 (t : Fin cfg0.N) (r : Fin 2048) (l : Fin 128) : ((cfg0.win 3).blk t).view.emb (ix2 r l)
    = ix2 r (⟨128 * (pt t).val + l.val, by have := (pt t).isLt; omega⟩ : Fin 768) := by
  funext a
  refine Fin.ext ?_
  match a with
  | ⟨0, _⟩ => show win0_3.index t 0 * 2048 + 1 * r.val = r.val; rw [(idx3 t).1]; omega
  | ⟨1, _⟩ => show win0_3.index t 1 * 128 + 1 * l.val = 128 * t.val + l.val; rw [(idx3 t).2]; omega
theorem emb4 (t : Fin cfg0.N) (r : Fin 2048) (l : Fin 128) : ((cfg0.win 4).blk t).view.emb (ix2 r l) = ix2 r l := by
  funext a
  refine Fin.ext ?_
  match a with
  | ⟨0, _⟩ => show win0_4.index t 0 * 2048 + 1 * r.val = r.val; rw [(idx4 t).1]; omega
  | ⟨1, _⟩ => show win0_4.index t 1 * 128 + 1 * l.val = l.val; rw [(idx4 t).2]; omega
theorem emb5 (t : Fin cfg0.N) (r : Fin 2048) (l : Fin 128) : ((cfg0.win 5).blk t).view.emb (ix2 r l) = ix2 r l := by
  funext a
  refine Fin.ext ?_
  match a with
  | ⟨0, _⟩ => show win0_5.index t 0 * 2048 + 1 * r.val = r.val; rw [(idx5 t).1]; omega
  | ⟨1, _⟩ => show win0_5.index t 1 * 128 + 1 * l.val = l.val; rw [(idx5 t).2]; omega
include h0 in
theorem blk0 (t : Fin cfg0.N) : (iblk m c 0 t : S2048x128.Idx → EReal) = Cert.Attn.up (rowsOf 512 1 hl (pt t) (hq a)) := by
  funext j
  obtain ⟨r, l, rfl⟩ : ∃ r l, j = ix2 r l := ⟨_, _, eq_ix2 j⟩
  show V m c main_v95 (((cfg0.win 0).blk t).view.emb (ix2 r l)) = ((rowsOf 512 1 hl (pt t) (hq a) (ix2 r l) : ℝ) : EReal)
  rw [emb0, V_eq, win_q _ a h0, rowsOf_eq]
  all_goals rfl
include h1 in
theorem blk1 (t : Fin cfg0.N) : (iblk m c 1 t : S2048x128.Idx → EReal) = Cert.Attn.up (rowsOf 512 1 hl (pt t) (hd b)) := by
  funext j
  obtain ⟨r, l, rfl⟩ : ∃ r l, j = ix2 r l := ⟨_, _, eq_ix2 j⟩
  show V m c main_v100 (((cfg0.win 1).blk t).view.emb (ix2 r l)) = ((rowsOf 512 1 hl (pt t) (hd b) (ix2 r l) : ℝ) : EReal)
  rw [emb1, V_eq, win_k _ b h1, rowsOf_eq]
  all_goals rfl
include h2 in
theorem blk2 (t : Fin cfg0.N) : (iblk m c 2 t : S2048x128.Idx → EReal) = Cert.Attn.up (rowsOf 512 1 hl (pt t) (hd v)) := by
  funext j
  obtain ⟨r, l, rfl⟩ : ∃ r l, j = ix2 r l := ⟨_, _, eq_ix2 j⟩
  show V m c main_v105 (((cfg0.win 2).blk t).view.emb (ix2 r l)) = ((rowsOf 512 1 hl (pt t) (hd v) (ix2 r l) : ℝ) : EReal)
  rw [emb2, V_eq, win_v _ v h2, rowsOf_eq]
  all_goals rfl
include h3 in
theorem blk3 (t : Fin cfg0.N) : (iblk m c 3 t : S2048x128.Idx → EReal) = Cert.Attn.up (rowsOf 512 1 hl (pt t) (hd e)) := by
  funext j
  obtain ⟨r, l, rfl⟩ : ∃ r l, j = ix2 r l := ⟨_, _, eq_ix2 j⟩
  show V m c main_v110 (((cfg0.win 3).blk t).view.emb (ix2 r l)) = ((rowsOf 512 1 hl (pt t) (hd e) (ix2 r l) : ℝ) : EReal)
  rw [emb3, V_eq, win_g _ e h3, rowsOf_eq]
  all_goals rfl
include h0 h1 in
theorem blk4 (t : Fin cfg0.N) (h : Fin 2) (ρ : Fin 2048) : (iblk m c 4 t : S2048x128.Idx → EReal) (ix2 ρ ⟨2 * (pt t).val + h.val, by have := (pt t).isLt; omega⟩)
    = ((logOf 512 1 hl (hq a) (hd b) (pt t) h ρ : ℝ) : EReal) := by
  show V m c main_v113 (((cfg0.win 4).blk t).view.emb (ix2 ρ ⟨2 * (pt t).val + h.val, by have := (pt t).isLt; omega⟩)) = _
  rw [emb4, V_eq]
  exact win_lse _ a b h0 h1 ρ (head (pt t) h)
include h0 h1 h2 h3 in
theorem blk5 (t : Fin cfg0.N) (h : Fin 2) (ρ : Fin 2048) : (iblk m c 5 t : S2048x128.Idx → EReal) (ix2 ρ ⟨2 * (pt t).val + h.val, by have := (pt t).isLt; omega⟩)
    = ((dotOf 512 1 hl (hq a) (hd b) (hd v) (hd e) (pt t) h ρ : ℝ) : EReal) := by
  show V m c main_v116 (((cfg0.win 5).blk t).view.emb (ix2 ρ ⟨2 * (pt t).val + h.val, by have := (pt t).isLt; omega⟩)) = _
  rw [emb5, V_eq]
  exact win_delta _ a b v e h0 h1 h2 h3 ρ (head (pt t) h)

theorem emb6 (t : Fin cfg0.N) (r : Fin 2048) (l : Fin 128) : ((cfg0.win 6).blk t).view.emb (ix2 r l)
    = ix2 r (⟨128 * (pt t).val + l.val, by have := (pt t).isLt; omega⟩ : Fin 768) := by
  funext a
  refine Fin.ext ?_
  match a with
  | ⟨0, _⟩ => show win0_6.index t 0 * 2048 + 1 * r.val = r.val; rw [(idx6 t).1]; omega
  | ⟨1, _⟩ => show win0_6.index t 1 * 128 + 1 * l.val = 128 * t.val + l.val; rw [(idx6 t).2]; omega
include h0 h1 h2 h3 in
theorem final_dq : (dats m 0 c).arrAt 6 cfg0.N = (fun j => ((arrayOf 512 1 hl (dq (hq a) (hd b) (hd v) (hd e) 1) j : ℝ) : EReal) : S2048x768.Idx → EReal) := by
  refine (dats m 0 c).arrAt_eq_of_cover 6 _ (fun t hf => ?_) fun (i : S2048x768.Idx) => ?_
  · rw [flushed6_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb6]
    refine (dq_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_6 _, ?_⟩
    show i ∈ ((View.whole main_v117_0).slice (win0_6.rect t)).set
    rw [View.set_slice_whole, Rect.mem_set_unit]
    intro a
    match a with
    | ⟨0, _⟩ =>
      show win0_6.index _ 0 * 2048 ≤ (i 0).val ∧ (i 0).val < win0_6.index _ 0 * 2048 + win0_6.xsize (grid0.coords _) 0
      rw [(idx6 _).1, (size6 _).1]; omega
    | ⟨1, _⟩ =>
      show win0_6.index _ 1 * 128 ≤ (i 1).val ∧ (i 1).val < win0_6.index _ 1 * 128 + win0_6.xsize (grid0.coords _) 1
      rw [(idx6 _).2, (size6 _).2]; omega
theorem emb7 (t : Fin cfg0.N) (r : Fin 2048) (l : Fin 128) : ((cfg0.win 7).blk t).view.emb (ix2 r l)
    = ix2 r (⟨128 * (pt t).val + l.val, by have := (pt t).isLt; omega⟩ : Fin 768) := by
  funext a
  refine Fin.ext ?_
  match a with
  | ⟨0, _⟩ => show win0_7.index t 0 * 2048 + 1 * r.val = r.val; rw [(idx7 t).1]; omega
  | ⟨1, _⟩ => show win0_7.index t 1 * 128 + 1 * l.val = 128 * t.val + l.val; rw [(idx7 t).2]; omega
include h0 h1 h2 h3 in
theorem final_dk : (dats m 0 c).arrAt 7 cfg0.N = (fun j => ((arrayOf 512 1 hl (dk (hq a) (hd b) (hd v) (hd e) 1) j : ℝ) : EReal) : S2048x768.Idx → EReal) := by
  refine (dats m 0 c).arrAt_eq_of_cover 7 _ (fun t hf => ?_) fun (i : S2048x768.Idx) => ?_
  · rw [flushed7_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb7]
    refine (dk_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_7 _, ?_⟩
    show i ∈ ((View.whole main_v117_1).slice (win0_7.rect t)).set
    rw [View.set_slice_whole, Rect.mem_set_unit]
    intro a
    match a with
    | ⟨0, _⟩ =>
      show win0_7.index _ 0 * 2048 ≤ (i 0).val ∧ (i 0).val < win0_7.index _ 0 * 2048 + win0_7.xsize (grid0.coords _) 0
      rw [(idx7 _).1, (size7 _).1]; omega
    | ⟨1, _⟩ =>
      show win0_7.index _ 1 * 128 ≤ (i 1).val ∧ (i 1).val < win0_7.index _ 1 * 128 + win0_7.xsize (grid0.coords _) 1
      rw [(idx7 _).2, (size7 _).2]; omega
theorem emb8 (t : Fin cfg0.N) (r : Fin 2048) (l : Fin 128) : ((cfg0.win 8).blk t).view.emb (ix2 r l)
    = ix2 r (⟨128 * (pt t).val + l.val, by have := (pt t).isLt; omega⟩ : Fin 768) := by
  funext a
  refine Fin.ext ?_
  match a with
  | ⟨0, _⟩ => show win0_8.index t 0 * 2048 + 1 * r.val = r.val; rw [(idx8 t).1]; omega
  | ⟨1, _⟩ => show win0_8.index t 1 * 128 + 1 * l.val = 128 * t.val + l.val; rw [(idx8 t).2]; omega
include h0 h1 h2 h3 in
theorem final_dv : (dats m 0 c).arrAt 8 cfg0.N = (fun j => ((arrayOf 512 1 hl (dv (hq a) (hd b) (hd e) 1) j : ℝ) : EReal) : S2048x768.Idx → EReal) := by
  refine (dats m 0 c).arrAt_eq_of_cover 8 _ (fun t hf => ?_) fun (i : S2048x768.Idx) => ?_
  · rw [flushed8_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb8]
    refine (dv_block _ (grid0.coords t) _ _ _ _ _ _ _ _ _ _ _ _ _ _ _ _ _ _ _ _ _ _ _ _ (hq a) (hd b) (hd v) (hd e) _ _ (pt t) (coord t)
      (blk4 m c a b h0 h1 t)  r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_8 _, ?_⟩
    show i ∈ ((View.whole main_v117_2).slice (win0_8.rect t)).set
    rw [View.set_slice_whole, Rect.mem_set_unit]
    intro a
    match a with
    | ⟨0, _⟩ =>
      show win0_8.index _ 0 * 2048 ≤ (i 0).val ∧ (i 0).val < win0_8.index _ 0 * 2048 + win0_8.xsize (grid0.coords _) 0
      rw [(idx8 _).1, (size8 _).1]; omega
    | ⟨1, _⟩ =>
      show win0_8.index _ 1 * 128 ≤ (i 1).val ∧ (i 1).val < win0_8.index _ 1 * 128 + win0_8.xsize (grid0.coords _) 1
      rw [(idx8 _).2, (size8 _).2]; omega
end Arrays

end Cert.Attn512Ideal.Value

end
-- ==== Proof.Attn512Claim.lean ====
/-
  The attention backward kernel (segment 512): the frames of its programs, the mask it names, and its three results (the gradients at
  the query, the keys and the values) equal to the reference's over finite arguments.
-/
module

public import proofs.«01_k».proof.Defs
public import proofs.«01_k».proof.Proof.Attn512Kernel
public import proofs.«01_k».proof.Proof.Gen.Attn512.Frame
public import proofs.«01_k».proof.Proof.Gen.Attn512RefIdeal.Run
public import proofs.«01_k».proof.Proof.Gen.Pre_attn_finite
public import Idealize.ShloMosaic.Lib.Quiescent

@[expose] public section

set_option maxRecDepth 16384

noncomputable section

namespace Cert.Attn512Claim

open Idealize.ShloMosaic Idealize.ShloMosaic.TcCoe Idealize.SL.Sem Cert.Reals
open Cert.Attn (arrayOf tok dil dq dk dv)
open Cert.Attn2048RefIdeal.Read (up hd hq)
open Cert.Attn512Ideal.Value (hl arrayOf_ix2 row_eq)

theorem frame_kernel_ideal : Cert.quiescent_Attn512Ideal (hAttn512Ideal := Cert.Attn512Ideal.Gen.facts) := fun m ρ _ => Cert.Attn512Ideal.Gen.frame m ρ

theorem frame_kernel : Cert.quiescent_Attn512 (hAttn512 := Cert.Attn512.Gen.facts) := fun m ρ _ => Cert.Attn512.Gen.frame m ρ

theorem frame_ref : Cert.quiescent_Attn512RefIdeal (hAttn512RefIdeal := Cert.Attn512RefIdeal.Gen.facts) := fun m ρ _ =>
  (θ_run Cert.Attn512RefIdeal.defs _ _).mono
    (fun _ h => ⟨fun c => (h c).2.2.2, sem_eq_zero_of_no_sems rfl _⟩) (Cert.Attn512RefIdeal.Value.run m ρ)

/-- The branch's rows of a gradient over all branches, in the order of the kernel's rows. -/
theorem ref_rows {G : Vec Ideal Cert.Attn512RefIdeal.S3x12x2048x64 .f32} {y : Fin 3 → Cert.Attn.Tokens}
    (hG : ∀ p h i d, G (ix4 p h i d) = ((y p h i d : ℝ) : EReal)) (r : Fin 2048) (l : Fin 768) :
    (truncf .bf16 (shapeCast Cert.Attn512RefIdeal.S2048x768 (transpose Cert.Attn512RefIdeal.S4x512x768 [1, 0, 2]
      (shapeCast Cert.Attn512RefIdeal.S512x4x768 (transpose Cert.Attn512RefIdeal.S2048x12x64 [1, 0, 2]
        (shapeCast Cert.Attn512RefIdeal.S12x2048x64 (extractStridedSlice Cert.Attn512RefIdeal.S1x12x2048x64 ![1, 0, 0, 0] G
          Cert.Attn512RefIdeal.Gen.slices_S3x12x2048x64_S1x12x2048x64_1_0_0_0) Cert.Attn512RefIdeal.Gen.shapeCasts_S1x12x2048x64_S12x2048x64)
        Cert.Attn512RefIdeal.Gen.transposes_S12x2048x64_S2048x12x64_1_0_2) Cert.Attn512RefIdeal.Gen.shapeCasts_S2048x12x64_S512x4x768)
      Cert.Attn512RefIdeal.Gen.transposes_S512x4x768_S4x512x768_1_0_2) Cert.Attn512RefIdeal.Gen.shapeCasts_S4x512x768_S2048x768 : FVec Ideal Cert.Attn512RefIdeal.S2048x768 .f32)
      Cert.Attn512RefIdeal.Gen.bitsLt_bf16_f32 : FVec Ideal Cert.Attn512RefIdeal.S2048x768 .bf16) (ix2 r l)
      = ((arrayOf 512 1 hl (y 1) (ix2 r l) : ℝ) : EReal) := by
  rw [arrayOf_ix2]
  pointwise [hG]
  all_goals rfl

variable (a b v e : Cert.Attn512RefIdeal.S1x2048x12x64.Idx → ℝ)
theorem ref_dq (r : Fin 2048) (l : Fin 768) : Cert.Attn512RefIdeal.Read.val_main_v161 (F := Ideal) (up a) (up b) (up v) (up e) (ix2 r l)
    = ((arrayOf 512 1 hl (dq (hq a) (hd b) (hd v) (hd e) 1) (ix2 r l) : ℝ) : EReal) :=
  ref_rows (y := dq (hq a) (hd b) (hd v) (hd e)) (G := Cert.Attn512RefIdeal.Read.val_main_v154 (F := Ideal) (up a) (up b) (up v) (up e)) (fun p h i d =>
    (congrFun (show Cert.Attn512RefIdeal.Read.val_main_v154 (F := Ideal) (up a) (up b) (up v) (up e)
      = Cert.Attn2048RefIdeal.Read.val_main_v154 (F := Ideal) (up a) (up b) (up v) (up e) by sl_kernel_rfl) _).trans
    (Cert.Attn2048RefIdeal.Read.v154 a b v e p h i d)) r l
theorem ref_dk (r : Fin 2048) (l : Fin 768) : Cert.Attn512RefIdeal.Read.val_main_v168 (F := Ideal) (up a) (up b) (up v) (up e) (ix2 r l)
    = ((arrayOf 512 1 hl (dk (hq a) (hd b) (hd v) (hd e) 1) (ix2 r l) : ℝ) : EReal) :=
  ref_rows (y := dk (hq a) (hd b) (hd v) (hd e)) (G := Cert.Attn512RefIdeal.Read.val_main_v153 (F := Ideal) (up a) (up b) (up v) (up e)) (fun p h i d =>
    (congrFun (show Cert.Attn512RefIdeal.Read.val_main_v153 (F := Ideal) (up a) (up b) (up v) (up e)
      = Cert.Attn2048RefIdeal.Read.val_main_v153 (F := Ideal) (up a) (up b) (up v) (up e) by sl_kernel_rfl) _).trans
    (Cert.Attn2048RefIdeal.Read.v153 a b v e p h i d)) r l
theorem ref_dv (r : Fin 2048) (l : Fin 768) : Cert.Attn512RefIdeal.Read.val_main_v175 (F := Ideal) (up a) (up b) (up e) (ix2 r l)
    = ((arrayOf 512 1 hl (dv (hq a) (hd b) (hd e) 1) (ix2 r l) : ℝ) : EReal) :=
  ref_rows (y := dv (hq a) (hd b) (hd e)) (G := Cert.Attn512RefIdeal.Read.val_main_v139 (F := Ideal) (up a) (up b) (up e)) (fun p h i d =>
    (congrFun (show Cert.Attn512RefIdeal.Read.val_main_v139 (F := Ideal) (up a) (up b) (up e)
      = Cert.Attn2048RefIdeal.Read.val_main_v139 (F := Ideal) (up a) (up b) (up e) by sl_kernel_rfl) _).trans
    (Cert.Attn2048RefIdeal.Read.v139 a b e p h i d)) r l

/-- The precondition's four arguments as real arrays. -/
theorem real_args (x y z w : FVec Ideal Cert.Pre_attn_finite.S1x2048x12x64 .f32)
    (h : @Cert.Pre_attn_finite.fn Cert.Pre_attn_finite.Gen.facts Ideal _ x y z w = fun _ => 1#1) :
    (∃ X : Cert.Pre_attn_finite.S1x2048x12x64.Idx → ℝ, x = fun i => (X i : EReal))
      ∧ (∃ X : Cert.Pre_attn_finite.S1x2048x12x64.Idx → ℝ, y = fun i => (X i : EReal))
      ∧ (∃ X : Cert.Pre_attn_finite.S1x2048x12x64.Idx → ℝ, z = fun i => (X i : EReal))
      ∧ (∃ X : Cert.Pre_attn_finite.S1x2048x12x64.Idx → ℝ, w = fun i => (X i : EReal)) := by
  have e := congrFun h (Shape.Idx.first (by decide))
  unfold Cert.Pre_attn_finite.fn at e
  dsimp only at e
  obtain ⟨exy, ezw⟩ := andi_eq_one _ _ _ e
  obtain ⟨ex, ey⟩ := andi_eq_one _ _ _ exy
  obtain ⟨ez, ew⟩ := andi_eq_one _ _ _ ezw
  exact ⟨real_of_pre rfl x _ (fun _ => rfl) _ _ _ _ ex, real_of_pre rfl y _ (fun _ => rfl) _ _ _ _ ey, real_of_pre rfl z _ (fun _ => rfl) _ _ _ _ ez,
    real_of_pre rfl w _ (fun _ => rfl) _ _ _ _ ew⟩

theorem algebraic : Cert.algebraic_Attn512Ideal_Attn512RefIdeal_pre_attn_finite (hAttn512Ideal := Cert.Attn512Ideal.Gen.facts)
    (hAttn512RefIdeal := Cert.Attn512RefIdeal.Gen.facts) (hPre_attn_finite := Cert.Pre_attn_finite.Gen.facts) := by
  intro m ρ m' ρ' hpre hargs
  refine ⟨_, _, _, Cert.Attn512Ideal.Value.run_blocks m ρ, (θ_run Cert.Attn512RefIdeal.defs _ _).mono (fun r h c => ?_) (Cert.Attn512RefIdeal.Value.run m' ρ')⟩
  obtain ⟨r0, r1, r2, r3⟩ := h c
  obtain ⟨a0, a1, a2, a3⟩ := hargs c
  obtain ⟨⟨a, h0⟩, ⟨b, h1⟩, ⟨v, h2⟩, ⟨e, h3⟩⟩ := real_args _ _ _ _ (hpre c)
  refine ⟨r0.trans ?_, r1.trans ?_, r2.trans ?_, r3⟩
  · rw [Cert.Attn512Ideal.Value.final_dq m c a b v e h0 h1 h2 h3, Cert.Attn512RefIdeal.Read.val_main_v161_eq]
    show Cert.Attn512RefIdeal.Read.val_main_v161 (F := Ideal) (m' ((c.tc : Thread Cert.Attn512RefIdeal.nD Cert.Attn512RefIdeal.τ).loc Cert.Attn512RefIdeal.main_arg0))
      (m' ((c.tc : Thread Cert.Attn512RefIdeal.nD Cert.Attn512RefIdeal.τ).loc Cert.Attn512RefIdeal.main_arg1)) (m' ((c.tc : Thread Cert.Attn512RefIdeal.nD Cert.Attn512RefIdeal.τ).loc Cert.Attn512RefIdeal.main_arg2))
      (m' ((c.tc : Thread Cert.Attn512RefIdeal.nD Cert.Attn512RefIdeal.τ).loc Cert.Attn512RefIdeal.main_arg3)) = _
    rw [a0, a1, a2, a3, h0, h1, h2, h3]
    funext i
    idx_vars i
    exact ref_dq a b v e i0 i1
  · rw [Cert.Attn512Ideal.Value.final_dk m c a b v e h0 h1 h2 h3, Cert.Attn512RefIdeal.Read.val_main_v168_eq]
    show Cert.Attn512RefIdeal.Read.val_main_v168 (F := Ideal) (m' ((c.tc : Thread Cert.Attn512RefIdeal.nD Cert.Attn512RefIdeal.τ).loc Cert.Attn512RefIdeal.main_arg0))
      (m' ((c.tc : Thread Cert.Attn512RefIdeal.nD Cert.Attn512RefIdeal.τ).loc Cert.Attn512RefIdeal.main_arg1)) (m' ((c.tc : Thread Cert.Attn512RefIdeal.nD Cert.Attn512RefIdeal.τ).loc Cert.Attn512RefIdeal.main_arg2))
      (m' ((c.tc : Thread Cert.Attn512RefIdeal.nD Cert.Attn512RefIdeal.τ).loc Cert.Attn512RefIdeal.main_arg3)) = _
    rw [a0, a1, a2, a3, h0, h1, h2, h3]
    funext i
    idx_vars i
    exact ref_dk a b v e i0 i1
  · rw [Cert.Attn512Ideal.Value.final_dv m c a b v e h0 h1 h2 h3, Cert.Attn512RefIdeal.Read.val_main_v175_eq]
    show Cert.Attn512RefIdeal.Read.val_main_v175 (F := Ideal) (m' ((c.tc : Thread Cert.Attn512RefIdeal.nD Cert.Attn512RefIdeal.τ).loc Cert.Attn512RefIdeal.main_arg0))
      (m' ((c.tc : Thread Cert.Attn512RefIdeal.nD Cert.Attn512RefIdeal.τ).loc Cert.Attn512RefIdeal.main_arg1)) (m' ((c.tc : Thread Cert.Attn512RefIdeal.nD Cert.Attn512RefIdeal.τ).loc Cert.Attn512RefIdeal.main_arg3)) = _
    rw [a0, a1, a3, h0, h1, h3]
    funext i
    idx_vars i
    exact ref_dv a b e i0 i1

end Cert.Attn512Claim

end
-- ==== Proof.Attn128Cases.lean ====
/-
  The attention's backward kernel at dilation 16, over one pair of heads: its stores are the blocks' rows of the query gradient and
  the two running sums, and what its three output blocks then hold.
-/
module

public import proofs.«01_k».proof.Proof.Gen.Attn128Ideal.Value
public import proofs.«01_k».proof.Proof.AttnBand

@[expose] public section

set_option maxRecDepth 16384

noncomputable section

namespace Cert.Attn128Ideal.Value

open Cert.Attn128Ideal Cert.Attn128Ideal.Gen Idealize.ShloMosaic Idealize.ShloMosaic.TcCoe Idealize.SL.Sem
open Cert.Attn

variable {F : FTy → Type} [FloatOps F] [Named F]
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S1x256x128 .f32) (harg10 : arg10.IsWhole) (arg11 : Memref sig .tc .vmem S2048x128 .f32) (harg11 : arg11.IsWhole)
  (arg12 : Memref sig .tc .vmem S2048x128 .f32) (harg12 : arg12.IsWhole)
  (x0 x1 x2 x3 : Vec F S2048x128 .bf16) (x4 x5 : Vec F S2048x128 .f32)

abbrev wins : Windows 128 128 1 := windows_128
abbrev bandsOf (v : View sig .tc .vmem S1x256x128 .f32) : ℕ → Vec F (s3 1 256 128) .f32 := bandOf1 v (Named.named κ "mask" 0xF149F2CA#32)
abbrev dqs : ℕ → FVec F (s2 128 128) .bf16 :=
  dqOf (kstart 128 128) wins.inb harg1 harg2 harg3 harg4 harg5 harg6 (i 0).val (bandsOf arg10.view) x0 x1 x2 x3 x4 x5
abbrev dks : ℕ → FVec F (s2 128 128) .f32 :=
  dkOf (kstart 128 128) wins.inb harg1 harg2 harg3 harg4 harg5 harg6 (i 0).val (bandsOf arg10.view) x0 x1 x2 x3 x4 x5
abbrev dvs : ℕ → FVec F (s2 128 128) .f32 :=
  dvOf (kstart 128 128) wins.inb harg1 harg2 harg4 harg5 (i 0).val (bandsOf arg10.view) x0 x1 x3 x4

theorem hz : (![0, 0] : Fin 2 → Nat) = fun _ => 0 := funext fun a => by fin_cases a <;> rfl

theorem out_dq : out0_A_6 c i arg1 harg1 arg2 harg2 arg3 harg3 arg4 harg4 arg5 harg5 arg6 harg6 arg7 harg7 arg8 harg8 arg9 harg9 arg10 harg10
    arg11 harg11 arg12 harg12 x0 x1 x2 x3 x4 x5 = View.canon (blocksOf (dqs i arg1 harg1 arg2 harg2 arg3 harg3 arg4 harg4 arg5 harg5 arg6 harg6 arg10 x0 x1 x2 x3 x4 x5)) :=
  View.read_writes_eq_canon _ _ _ (cover0_A_6 c i arg1 harg1 arg2 harg2 arg3 harg3 arg4 harg4 arg5 harg5 arg6 harg6 arg7 harg7 arg8 harg8 arg9 harg9
    arg10 harg10 arg11 harg11 arg12 harg12 x0 x1 x2 x3 x4 x5)

/-- The two running sums end in one store of the whole block. -/
theorem stored (v : View sig .tc .vmem S2048x128 .f32) (L : List (View.Piece (Elt F) S2048x128 .f32)) :
    View.canon [(⟨Rect.unit ![0, 0] S2048x128.size inb_S2048x128_S2048x128_0_0, truncf .bf16 (v.readCov L
      (Rect.unit ![0, 0] S2048x128.size inb_S2048x128_S2048x128_0_0).toLoadRect) bitsLt_bf16_f32⟩ : View.Piece (Elt F) S2048x128 .bf16)]
      = truncf .bf16 (show FVec F S2048x128 .f32 from View.canon L) bitsLt_bf16_f32 := by
  rw [View.canon_unit_zero hz, View.readCov_eq_canon' v]
  exact congrArg (fun x => truncf .bf16 x bitsLt_bf16_f32) (View.ld_unit_zero (S := S2048x128) hz _ _)

theorem sum_dk : kernelRun0_A.sl.HS1_17 c i arg1 harg1 arg2 harg2 arg3 harg3 arg4 harg4 arg5 harg5 arg6 harg6 arg10 arg11 x0 x1 x2 x3 x4 x5
    = acc (kstart 128 128) wins.inb arg11.view (dks i arg1 harg1 arg2 harg2 arg3 harg3 arg4 harg4 arg5 harg5 arg6 harg6 arg10 x0 x1 x2 x3 x4 x5) 16 := by
  sl_kernel_rfl
theorem sum_dv : kernelRun0_A.sl.HS2_17 c i arg1 harg1 arg2 harg2 arg4 harg4 arg5 harg5 arg10 arg12 x0 x1 x3 x4
    = acc (kstart 128 128) wins.inb arg12.view (dvs i arg1 harg1 arg2 harg2 arg4 harg4 arg5 harg5 arg10 x0 x1 x3 x4) 16 := by
  sl_kernel_rfl

theorem out_dk : out0_A_7 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 128 128) wins.inb arg11.view
      (dks i arg1 harg1 arg2 harg2 arg3 harg3 arg4 harg4 arg5 harg5 arg6 harg6 arg10 x0 x1 x2 x3 x4 x5) 16)) bitsLt_bf16_f32 := by
  rw [← sum_dk c, ← stored arg11.view]
  exact View.read_writes_eq_canon _ _ _ (cover0_A_7 c i arg1 harg1 arg2 harg2 arg3 harg3 arg4 harg4 arg5 harg5 arg6 harg6 arg7 harg7 arg8 harg8 arg9 harg9 arg10 harg10
    arg11 harg11 arg12 harg12 x0 x1 x2 x3 x4 x5)

theorem out_dv : out0_A_8 c i arg1 harg1 arg2 harg2 arg3 harg3 arg4 harg4 arg5 harg5 arg6 harg6 arg7 harg7 arg8 harg8 arg9 harg9 arg10 harg10
    arg11 harg11 arg12 harg12 x0 x1 x2 x3 x4 x5
    = truncf .bf16 (show FVec F S2048x128 .f32 from View.canon (acc (kstart 128 128) wins.inb arg12.view
      (dvs i arg1 harg1 arg2 harg2 arg4 harg4 arg5 harg5 arg10 x0 x1 x3 x4) 16)) bitsLt_bf16_f32 := by
  rw [← sum_dv c, ← stored arg12.view]
  exact View.read_writes_eq_canon _ _ _ (cover0_A_8 c i arg1 harg1 arg2 harg2 arg3 harg3 arg4 harg4 arg5 harg5 arg6 harg6 arg7 harg7 arg8 harg8 arg9 harg9 arg10 harg10
    arg11 harg11 arg12 harg12 x0 x1 x2 x3 x4 x5)

end Cert.Attn128Ideal.Value

end
-- ==== Proof.Attn128Host.lean ====
/-
  What the attention backward kernel's windows hold over finite arguments (segment 128), and the reference's three results.
-/
module

public import proofs.«01_k».proof.Proof.AttnRef
public import proofs.«01_k».proof.Proof.AttnRows
public import proofs.«01_k».proof.Proof.Gen.Attn128RefIdeal.Read
public import proofs.«01_k».proof.Proof.Gen.Attn128Ideal.Frame.Runs
public import Idealize.ShloMosaic.Lib.StableHlo.RunRead
public import Idealize.ShloMosaic.Lib.Pointwise

@[expose] public section

set_option maxRecDepth 16384

noncomputable section

namespace Cert.Attn128Ideal.Value

open Idealize.ShloMosaic Idealize.ShloMosaic.StableHlo Idealize.ShloMosaic.TcCoe Cert.Attn128Ideal.Gen Cert.Reals
open Cert.Attn (arrayOf tok dil den delta mix dq dk dv Tokens)
open Cert.Attn2048RefIdeal.Read (up hd hq)

abbrev hl : 128 * dil 2 = 2048 := rfl

theorem row_eq (ρ : Fin 2048) : tok 128 (dil 2) hl ρ = tok 128 (dil 2) hl ρ := rfl
theorem arrayOf_ix2 (y : Tokens) (ρ : Fin 2048) (l : Fin 768) :
    arrayOf 128 2 hl y (ix2 ρ l) = y ⟨l.val / 64, by omega⟩ (tok 128 (dil 2) hl ρ) ⟨l.val % 64, by omega⟩ := by
  show y _ (tok 128 (dil 2) hl ρ) _ = _
  rw [row_eq]
  rfl

section Layout
variable (X : Valuation τ sig (Elt Ideal)) (x : S1x2048x12x64.Idx → ℝ) (ρ : Fin 2048) (l : Fin 768)

theorem ofBits_eighth : Ideal.ofBits .f32 0x3E000000#32 = ((1 / 8 : ℝ) : EReal) := by
  simp [Ideal.ofBits, Ideal.ieee, -EReal.coe_mul]; norm_num

theorem q_of (hx : X (Proc.devRef .tc main_arg0) = up x) :
    (StableHlo.after hostOps0_12 X (Proc.devRef .tc main_v95) : Vec Ideal S2048x768 .bf16) (ix2 ρ l)
      = ((arrayOf 128 2 hl (hq x) (ix2 ρ l) : ℝ) : EReal) := by
  rw [arrayOf_ix2]
  after_reads_simp
  rw [hx]
  pointwise
  rw [ofBits_eighth, ← EReal.coe_mul]
  show ((x (ix4 _ _ _ _) * (1 / 8) : ℝ) : EReal) = ((x (ix4 _ _ _ _) / 8 : ℝ) : EReal)
  rw [mul_one_div]
  all_goals rfl
theorem k_of (hx : X (Proc.devRef .tc main_arg1) = up x) :
    (StableHlo.after hostOps0_12 X (Proc.devRef .tc main_v100) : Vec Ideal S2048x768 .bf16) (ix2 ρ l)
      = ((arrayOf 128 2 hl (hd x) (ix2 ρ l) : ℝ) : EReal) := by
  rw [arrayOf_ix2]
  after_reads_simp
  rw [hx]
  pointwise
  all_goals rfl
theorem v_of (hx : X (Proc.devRef .tc main_arg2) = up x) :
    (StableHlo.after hostOps0_12 X (Proc.devRef .tc main_v105) : Vec Ideal S2048x768 .bf16) (ix2 ρ l)
      = ((arrayOf 128 2 hl (hd x) (ix2 ρ l) : ℝ) : EReal) := by
  rw [arrayOf_ix2]
  after_reads_simp
  rw [hx]
  pointwise
  all_goals rfl
theorem g_of (hx : X (Proc.devRef .tc main_arg3) = up x) :
    (StableHlo.after hostOps0_12 X (Proc.devRef .tc main_v110) : Vec Ideal S2048x768 .bf16) (ix2 ρ l)
      = ((arrayOf 128 2 hl (hd x) (ix2 ρ l) : ℝ) : EReal) := by
  rw [arrayOf_ix2]
  after_reads_simp
  rw [hx]
  pointwise
  all_goals rfl
theorem pad_of (Y : Vec Ideal S2048x12 .f32) (z : Vec Ideal S_ .f32) (i : Fin 2048) (m : Fin 12) :
    pad S2048x128 ![0, 0] ![0, 116] ![0, 0] Y z pads_S2048x12_S2048x128_000_01160 h_S_ (ix2 i ⟨m.val, by omega⟩) = Y (ix2 i m) := by
  pointwise
theorem swap_of (Y : Vec Ideal S12x2048 .f32) (i : Fin 2048) (m : Fin 12) :
    transpose S2048x12 [1, 0] Y transposes_S12x2048_S2048x12_1_0 (ix2 i m) = Y (ix2 m i) := by
  pointwise
theorem lse_of (L : Fin 12 → Fin 2048 → ℝ)
    (h : ∀ (i : Fin 2048) (h : Fin 12), (X (Proc.devRef .tc main_v85) : Vec Ideal S2048x12 .f32) (ix2 i h) = ((L h i : ℝ) : EReal)) (m : Fin 12) :
    (StableHlo.after hostOps0_12 (StableHlo.after hostOps0_11 (StableHlo.after hostOps0_10 (StableHlo.after hostOps0_9 X))) (Proc.devRef .tc main_v113)
      : Vec Ideal S2048x128 .f32) (ix2 ρ ⟨m.val, by omega⟩) = ((L m (tok 128 (dil 2) hl ρ) : ℝ) : EReal) := by
  rw [row_eq]
  after_reads_simp
  pointwise
  exact (pad_of _ _ _ _).trans (h _ _)
theorem delta_of (L : Fin 12 → Fin 2048 → ℝ)
    (h : ∀ (h : Fin 12) (i : Fin 2048), (X (Proc.devRef .tc main_v84) : Vec Ideal S12x2048 .f32) (ix2 h i) = ((L h i : ℝ) : EReal)) (m : Fin 12) :
    (StableHlo.after hostOps0_12 (StableHlo.after hostOps0_11 (StableHlo.after hostOps0_10 (StableHlo.after hostOps0_9 X))) (Proc.devRef .tc main_v116)
      : Vec Ideal S2048x128 .f32) (ix2 ρ ⟨m.val, by omega⟩) = ((L m (tok 128 (dil 2) hl ρ) : ℝ) : EReal) := by
  rw [row_eq]
  after_reads_simp
  pointwise
  exact (pad_of _ _ _ _).trans ((swap_of _ _ _).trans (h _ _))
end Layout

section Stages
variable (X : Valuation τ sig (Elt Ideal)) (a b c e : S1x2048x12x64.Idx → ℝ)
open Cert.Attn2048RefIdeal.Read (val_main_v43_0 val_main_v10 val_main_v56 val_main_v85 val_main_v88 val_main_v93)

/-- The buffers after the masked scores, and after the statistics. -/
def X8 : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 X)))))))
def X12 : Valuation τ sig (Elt Ideal) :=
  StableHlo.after hostOps0_11 (StableHlo.after hostOps0_10 (StableHlo.after hostOps0_9 (StableHlo.after hostOps0_8 (X8 X))))

theorem X8_v43 (h0 : X (Proc.devRef .tc main_arg0) = up a) (h1 : X (Proc.devRef .tc main_arg1) = up b) :
    X8 X (Proc.devRef .tc main_v43) = val_main_v43_0 (F := Ideal) (up a) (up b) := by
  unfold X8
  after_reads_simp
  rw [h0, h1]
  sl_kernel_rfl
theorem X8_v10 (h2 : X (Proc.devRef .tc main_arg2) = up c) : X8 X (Proc.devRef .tc main_v10) = val_main_v10 (F := Ideal) (up c) := by
  unfold X8
  after_reads_simp
  rw [h2]
  rfl
theorem X8_arg3 : X8 X (Proc.devRef .tc main_arg3) = X (Proc.devRef .tc main_arg3) := by
  unfold X8
  after_reads_simp
theorem X8_arg0 : X8 X (Proc.devRef .tc main_arg0) = X (Proc.devRef .tc main_arg0) := by
  unfold X8
  after_reads_simp
theorem X8_arg1 : X8 X (Proc.devRef .tc main_arg1) = X (Proc.devRef .tc main_arg1) := by
  unfold X8
  after_reads_simp
theorem X8_arg2 : X8 X (Proc.devRef .tc main_arg2) = X (Proc.devRef .tc main_arg2) := by
  unfold X8
  after_reads_simp
theorem X12_arg0 : X12 X (Proc.devRef .tc main_arg0) = X (Proc.devRef .tc main_arg0) := by
  unfold X12
  rw [← X8_arg0 X]
  generalize X8 X = Y
  after_reads_simp
theorem X12_arg1 : X12 X (Proc.devRef .tc main_arg1) = X (Proc.devRef .tc main_arg1) := by
  unfold X12
  rw [← X8_arg1 X]
  generalize X8 X = Y
  after_reads_simp
theorem X12_arg2 : X12 X (Proc.devRef .tc main_arg2) = X (Proc.devRef .tc main_arg2) := by
  unfold X12
  rw [← X8_arg2 X]
  generalize X8 X = Y
  after_reads_simp
theorem X12_arg3 : X12 X (Proc.devRef .tc main_arg3) = X (Proc.devRef .tc main_arg3) := by
  unfold X12
  rw [← X8_arg3 X]
  generalize X8 X = Y
  after_reads_simp

theorem lse_tree (h0 : X (Proc.devRef .tc main_v43) = val_main_v43_0 (F := Ideal) (up a) (up b)) :
    (StableHlo.after hostOps0_8 X (Proc.devRef .tc main_v85) : Vec Ideal S2048x12 .f32)
      = (transpose S2048x12 [1, 0] (addf (val_main_v56 (F := Ideal) (up a) (up b)) (Host.log (val_main_v85 (F := Ideal) (up a) (up b)))
          : FVec Ideal S12x2048 .f32) transposes_S12x2048_S2048x12_1_0) := by
  after_reads_simp
  rw [h0]
  sl_kernel_rfl
theorem delta_tree (h0 : X (Proc.devRef .tc main_v43) = val_main_v43_0 (F := Ideal) (up a) (up b))
    (h1 : X (Proc.devRef .tc main_v10) = val_main_v10 (F := Ideal) (up c)) (h3 : X (Proc.devRef .tc main_arg3) = up e) :
    (StableHlo.after hostOps0_8 X (Proc.devRef .tc main_v84) : Vec Ideal S12x2048 .f32)
      = Host.reduceAdd (mulf (val_main_v93 (F := Ideal) (up e)) (val_main_v88 (F := Ideal) (up a) (up b) (up c)))
          (constant (F := Ideal) S_ .f32 0x00000000#32) reducesTo_S12x2048x64_S12x2048_d2 h_S_ := by
  after_reads_simp
  rw [h0, h1, h3]
  sl_kernel_rfl

theorem sum_of (P : Vec Ideal S12x2048x64 .f32) (w : Fin 12 → Fin 2048 → Fin 64 → ℝ) (hP : ∀ h i d, P (ix3 h i d) = ((w h i d : ℝ) : EReal))
    (h : Fin 12) (i : Fin 2048) :
    (Host.reduceAdd P (constant (F := Ideal) S_ .f32 0x00000000#32) reducesTo_S12x2048x64_S12x2048_d2 h_S_ : Vec Ideal S12x2048 .f32) (ix2 h i)
      = ((∑ d, w h i d : ℝ) : EReal) := by
  pointwise [hP]
  simp only [← coe_sum]

variable (h0 : X (Proc.devRef .tc main_arg0) = up a) (h1 : X (Proc.devRef .tc main_arg1) = up b)
  (h2 : X (Proc.devRef .tc main_arg2) = up c) (h3 : X (Proc.devRef .tc main_arg3) = up e)

include h0 h1 in
theorem win_lse (ρ : Fin 2048) (m : Fin 12) :
    (StableHlo.after hostOps0_12 (X12 X) (Proc.devRef .tc main_v113) : Vec Ideal S2048x128 .f32) (ix2 ρ ⟨m.val, by omega⟩)
      = ((Real.log (den (hq a) (hd b) m (tok 128 (dil 2) hl ρ)) : ℝ) : EReal) := by
  refine lse_of (StableHlo.after hostOps0_8 (X8 X)) ρ (fun h i => Real.log (den (hq a) (hd b) h i)) (fun i h => ?_) m
  rw [lse_tree (X8 X) a b (X8_v43 X a b h0 h1), swap_of]
  exact Cert.Attn2048RefIdeal.Read.log_at a b h i
include h0 h1 h2 h3 in
theorem win_delta (ρ : Fin 2048) (m : Fin 12) :
    (StableHlo.after hostOps0_12 (X12 X) (Proc.devRef .tc main_v116) : Vec Ideal S2048x128 .f32) (ix2 ρ ⟨m.val, by omega⟩)
      = ((delta (hq a) (hd b) (hd c) (hd e) m (tok 128 (dil 2) hl ρ) : ℝ) : EReal) := by
  refine delta_of (StableHlo.after hostOps0_8 (X8 X)) ρ (fun h i => delta (hq a) (hd b) (hd c) (hd e) h i) (fun h i => ?_) m
  rw [delta_tree (X8 X) a b c e (X8_v43 X a b h0 h1) (X8_v10 X c h2) ((X8_arg3 X).trans h3)]
  exact sum_of _ _ (Cert.Attn2048RefIdeal.Read.dot_at a b c e) h i
include h0 in
theorem win_q : (StableHlo.after hostOps0_12 (X12 X) (Proc.devRef .tc main_v95) : Vec Ideal S2048x768 .bf16)
    = Cert.Attn.up (arrayOf 128 2 hl (hq a)) := by
  funext i
  obtain ⟨r, l, rfl⟩ : ∃ r l, i = ix2 r l := ⟨_, _, eq_ix2 i⟩
  exact q_of (X12 X) a r l ((X12_arg0 X).trans h0)
include h1 in
theorem win_k : (StableHlo.after hostOps0_12 (X12 X) (Proc.devRef .tc main_v100) : Vec Ideal S2048x768 .bf16)
    = Cert.Attn.up (arrayOf 128 2 hl (hd b)) := by
  funext i
  obtain ⟨r, l, rfl⟩ : ∃ r l, i = ix2 r l := ⟨_, _, eq_ix2 i⟩
  exact k_of (X12 X) b r l ((X12_arg1 X).trans h1)
include h2 in
theorem win_v : (StableHlo.after hostOps0_12 (X12 X) (Proc.devRef .tc main_v105) : Vec Ideal S2048x768 .bf16)
    = Cert.Attn.up (arrayOf 128 2 hl (hd c)) := by
  funext i
  obtain ⟨r, l, rfl⟩ : ∃ r l, i = ix2 r l := ⟨_, _, eq_ix2 i⟩
  exact v_of (X12 X) c r l ((X12_arg2 X).trans h2)
include h3 in
theorem win_g : (StableHlo.after hostOps0_12 (X12 X) (Proc.devRef .tc main_v110) : Vec Ideal S2048x768 .bf16)
    = Cert.Attn.up (arrayOf 128 2 hl (hd e)) := by
  funext i
  obtain ⟨r, l, rfl⟩ : ∃ r l, i = ix2 r l := ⟨_, _, eq_ix2 i⟩
  exact g_of (X12 X) e r l ((X12_arg3 X).trans h3)
end Stages

/-! ## The launch's buffers -/

theorem after_append {l₁ l₂ : List (HloOp τ sig (Elt Ideal))} (X : Valuation τ sig (Elt Ideal)) :
    StableHlo.after (l₁ ++ l₂) X = StableHlo.after l₂ (StableHlo.after l₁ X) := by
  induction l₁ generalizing X with
  | nil => rfl
  | cons op l ih => exact ih _

variable (m : (ℓ : Loc nD τ sig) → Buf (Elt Ideal) ℓ)
theorem V_eq (c : Dev nD) (b : Ref sig .tc) :
    V m c b = StableHlo.after hostOps0_12 (X12 fun b => m (c, b)) b := by
  unfold V X12 X8
  rw [List.flatten_cons, after_append, List.flatten_cons, after_append, List.flatten_cons, after_append, List.flatten_cons, after_append,
    List.flatten_cons, after_append, List.flatten_cons, after_append, List.flatten_cons, after_append, List.flatten_cons, after_append,
    List.flatten_cons, after_append, List.flatten_cons, after_append, List.flatten_cons, after_append, List.flatten_cons, after_append,
    List.flatten_cons, after_append]
  rfl

end Cert.Attn128Ideal.Value

end
-- ==== Proof.Attn128Kernel.lean ====
/-
  The attention backward kernel's arrays over finite arguments (segment 128): each pair of heads' output blocks are its columns of the
  branch's query, key and value gradients.
-/
module

public import proofs.«01_k».proof.Proof.Attn128Cases
public import proofs.«01_k».proof.Proof.Attn128Host

@[expose] public section

set_option maxRecDepth 16384

noncomputable section

namespace Cert.Attn128Ideal.Value

open Cert.Attn128Ideal Cert.Attn128Ideal.Gen Idealize.ShloMosaic Idealize.ShloMosaic.TcCoe Idealize.SL.Sem
open Cert.Attn (arrayOf rowsOf rowsOf_eq logOf dotOf tok dil den delta mix dq dk dv dq_rows dk_rows dv_rows Tokens kstart Near bandOf1_apply
  dq_canon dk_canon dv_canon head rowIx winIx st)
open Cert.Attn2048RefIdeal.Read (hd hq)

section Blocks
variable
  (c : Dev nD) (i : grid0.Coords) (arg1 : Memref sig .tc .vmem S2048x128 .bf16) (harg1 : arg1.IsWhole)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S1x256x128 .f32) (harg10 : arg10.IsWhole) (arg11 : Memref sig .tc .vmem S2048x128 .f32) (harg11 : arg11.IsWhole)
  (arg12 : Memref sig .tc .vmem S2048x128 .f32) (harg12 : arg12.IsWhole)
  (q k v g : Tokens) (x4 x5 : Vec Ideal S2048x128 .f32) (t : Fin 6) (hi : (i 0).val = t.val)
  (h4 : ∀ (h : Fin 2) (ρ : Fin 2048), x4 (ix2 ρ ⟨2 * t.val + h.val, by omega⟩) = ((logOf 128 2 hl q k t h ρ : ℝ) : EReal))
  (h5 : ∀ (h : Fin 2) (ρ : Fin 2048), x5 (ix2 ρ ⟨2 * t.val + h.val, by omega⟩) = ((dotOf 128 2 hl q k v g t h ρ : ℝ) : EReal))

theorem bands_apply (V : View sig .tc .vmem S1x256x128 .f32) (b : ℕ) (h : Fin 2) (r : Fin 128) (c : Fin 128) :
    bandsOf (F := Ideal) V b (ix3 0 (st h r) c) = if Near 128 (rowIx b r).val (winIx (kstart 128 128) wins.inb b c).val then (0 : EReal) else ⊥ :=
  bandOf1_apply wins V b h r c
theorem holds (b : ℕ) (hb : b < 16) (r : Fin 128) (κ : ℕ) (hκ : κ < 2048) (hn : Near 128 (rowIx b r).val κ) :
    kstart 128 128 b ≤ κ ∧ κ < kstart 128 128 b + 128 := wins.holds b r.val κ r.isLt hκ hn

include hi h4 h5 in
theorem dq_block (ρ : Fin 2048) (l : Fin 128) :
    out0_A_6 c i arg1 harg1 arg2 harg2 arg3 harg3 arg4 harg4 arg5 harg5 arg6 harg6 arg7 harg7 arg8 harg8 arg9 harg9 arg10 harg10
      arg11 harg11 arg12 harg12 (Cert.Attn.up (rowsOf 128 2 hl t q)) (Cert.Attn.up (rowsOf 128 2 hl t k)) (Cert.Attn.up (rowsOf 128 2 hl t v))
      (Cert.Attn.up (rowsOf 128 2 hl t g)) x4 x5 (ix2 ρ l) = ((rowsOf 128 2 hl t (dq q k v g 2) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dq]
  exact (dq_canon (kstart 128 128) wins.inb (rowsOf 128 2 hl t q) (rowsOf 128 2 hl t g) (rowsOf 128 2 hl t k) (rowsOf 128 2 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds ρ l).trans
    (congrArg _ (dq_rows 128 2 hl q k v g t ρ l))
include hi h4 h5 in
theorem dk_block (ρ : Fin 2048) (l : Fin 128) :
    out0_A_7 c i arg1 harg1 arg2 harg2 arg3 harg3 arg4 harg4 arg5 harg5 arg6 harg6 arg7 harg7 arg8 harg8 arg9 harg9 arg10 harg10
      arg11 harg11 arg12 harg12 (Cert.Attn.up (rowsOf 128 2 hl t q)) (Cert.Attn.up (rowsOf 128 2 hl t k)) (Cert.Attn.up (rowsOf 128 2 hl t v))
      (Cert.Attn.up (rowsOf 128 2 hl t g)) x4 x5 (ix2 ρ l) = ((rowsOf 128 2 hl t (dk q k v g 2) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dk]
  exact (dk_canon (kstart 128 128) wins.inb (rowsOf 128 2 hl t q) (rowsOf 128 2 hl t g) (rowsOf 128 2 hl t k) (rowsOf 128 2 hl t v)
    harg1 harg2 harg3 harg4 harg5 harg6 (i 0).val hp (fun h ρ => (congrArg (fun z => x4 (ix2 ρ z)) (hc h)).trans (h4 h ρ))
    (fun h ρ => (congrArg (fun z => x5 (ix2 ρ z)) (hc h)).trans (h5 h ρ)) (fun b _ => bands_apply arg10.view b) holds arg11.view ρ l).trans
    (congrArg _ (dk_rows 128 2 hl q k v g t ρ l))
include hi h4 in
theorem dv_block (ρ : Fin 2048) (l : Fin 128) :
    out0_A_8 c i arg1 harg1 arg2 harg2 arg3 harg3 arg4 harg4 arg5 harg5 arg6 harg6 arg7 harg7 arg8 harg8 arg9 harg9 arg10 harg10
      arg11 harg11 arg12 harg12 (Cert.Attn.up (rowsOf 128 2 hl t q)) (Cert.Attn.up (rowsOf 128 2 hl t k)) (Cert.Attn.up (rowsOf 128 2 hl t v))
      (Cert.Attn.up (rowsOf 128 2 hl t g)) x4 x5 (ix2 ρ l) = ((rowsOf 128 2 hl t (dv q k g 2) (ix2 ρ l) : ℝ) : EReal) := by
  have hp : (i 0).val < 6 := by rw [hi]; exact t.isLt
  have hc : ∀ h : Fin 2, (⟨2 * (i 0).val + h.val, by omega⟩ : Fin 128) = ⟨2 * t.val + h.val, by omega⟩ := fun h => Fin.ext (by show 2 * (i 0).val + _ = _; rw [hi])
  rw [out_dv]
  exact (dv_canon (kstart 128 128) wins.inb (rowsOf 128 2 hl t q) (rowsOf 128 2 hl t g) (rowsOf 128 2 hl t k)
    harg1 harg2 harg4 harg5 (i 0).val hp (fun h ρ => (congrArg (fun z => x4 (ix2 ρ z)) (hc h)).trans (h4 h ρ))
    (fun b _ => bands_apply arg10.view b) holds arg12.view ρ l).trans
    (congrArg _ (dv_rows 128 2 hl q k g t ρ l))
end Blocks

section Arrays
variable (m : (ℓ : Loc nD τ sig) → Buf (Elt Ideal) ℓ) (c : Dev nD) (a b v e : S1x2048x12x64.Idx → ℝ)
  (h0 : m ((c : Thread nD τ).loc main_arg0) = Cert.Attn2048RefIdeal.Read.up a) (h1 : m ((c : Thread nD τ).loc main_arg1) = Cert.Attn2048RefIdeal.Read.up b)
  (h2 : m ((c : Thread nD τ).loc main_arg2) = Cert.Attn2048RefIdeal.Read.up v) (h3 : m ((c : Thread nD τ).loc main_arg3) = Cert.Attn2048RefIdeal.Read.up e)

theorem point_lt (t : Fin cfg0.N) : t.val < 6 := by
  have h := t.isLt
  have hN : cfg0.N = 6 := N_0
  omega
def pt (t : Fin cfg0.N) : Fin 6 := ⟨t.val, point_lt t⟩
theorem coord : ∀ t : Fin grid0.N, (grid0.coords t 0).val = t.val := by decide +kernel
theorem idx0 : ∀ t : Fin grid0.N, win0_0.index t 0 = 0 ∧ win0_0.index t 1 = t.val := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = t.val := by decide +kernel
theorem idx7 : ∀ t : Fin grid0.N, win0_7.index t 0 = 0 ∧ win0_7.index t 1 = t.val := by decide +kernel
theorem idx8 : ∀ t : Fin grid0.N, win0_8.index t 0 = 0 ∧ win0_8.index t 1 = t.val := by decide +kernel
theorem size6 : ∀ t : Fin grid0.N, win0_6.xsize (grid0.coords t) 0 = 2048 ∧ win0_6.xsize (grid0.coords t) 1 = 128 := by decide +kernel
theorem size7 : ∀ t : Fin grid0.N, win0_7.xsize (grid0.coords t) 0 = 2048 ∧ win0_7.xsize (grid0.coords t) 1 = 128 := by decide +kernel
theorem size8 : ∀ t : Fin grid0.N, win0_8.xsize (grid0.coords t) 0 = 2048 ∧ win0_8.xsize (grid0.coords t) 1 = 128 := by decide +kernel

theorem emb0 (t : Fin cfg0.N) (r : Fin 2048) (l : Fin 128) : ((cfg0.win 0).blk t).view.emb (ix2 r l)
    = ix2 r (⟨128 * (pt t).val + l.val, by have := (pt t).isLt; omega⟩ : Fin 768) := by
  funext a
  refine Fin.ext ?_
  match a with
  | ⟨0, _⟩ => show win0_0.index t 0 * 2048 + 1 * r.val = r.val; rw [(idx0 t).1]; omega
  | ⟨1, _⟩ => show win0_0.index t 1 * 128 + 1 * l.val = 128 * t.val + l.val; rw [(idx0 t).2]; omega
theorem emb1 (t : Fin cfg0.N) (r : Fin 2048) (l : Fin 128) : ((cfg0.win 1).blk t).view.emb (ix2 r l)
    = ix2 r (⟨128 * (pt t).val + l.val, by have := (pt t).isLt; omega⟩ : Fin 768) := by
  funext a
  refine Fin.ext ?_
  match a with
  | ⟨0, _⟩ => show win0_1.index t 0 * 2048 + 1 * r.val = r.val; rw [(idx1 t).1]; omega
  | ⟨1, _⟩ => show win0_1.index t 1 * 128 + 1 * l.val = 128 * t.val + l.val; rw [(idx1 t).2]; omega
theorem emb2 (t : Fin cfg0.N) (r : Fin 2048) (l : Fin 128) : ((cfg0.win 2).blk t).view.emb (ix2 r l)
    = ix2 r (⟨128 * (pt t).val + l.val, by have := (pt t).isLt; omega⟩ : Fin 768) := by
  funext a
  refine Fin.ext ?_
  match a with
  | ⟨0, _⟩ => show win0_2.index t 0 * 2048 + 1 * r.val = r.val; rw [(idx2 t).1]; omega
  | ⟨1, _⟩ => show win0_2.index t 1 * 128 + 1 * l.val = 128 * t.val + l.val; rw [(idx2 t).2]; omega
theorem emb3 (t : Fin cfg0.N) (r : Fin 2048) (l : Fin 128) : ((cfg0.win 3).blk t).view.emb (ix2 r l)
    = ix2 r (⟨128 * (pt t).val + l.val, by have := (pt t).isLt; omega⟩ : Fin 768) := by
  funext a
  refine Fin.ext ?_
  match a with
  | ⟨0, _⟩ => show win0_3.index t 0 * 2048 + 1 * r.val = r.val; rw [(idx3 t).1]; omega
  | ⟨1, _⟩ => show win0_3.index t 1 * 128 + 1 * l.val = 128 * t.val + l.val; rw [(idx3 t).2]; omega
theorem emb4 (t : Fin cfg0.N) (r : Fin 2048) (l : Fin 128) : ((cfg0.win 4).blk t).view.emb (ix2 r l) = ix2 r l := by
  funext a
  refine Fin.ext ?_
  match a with
  | ⟨0, _⟩ => show win0_4.index t 0 * 2048 + 1 * r.val = r.val; rw [(idx4 t).1]; omega
  | ⟨1, _⟩ => show win0_4.index t 1 * 128 + 1 * l.val = l.val; rw [(idx4 t).2]; omega
theorem emb5 (t : Fin cfg0.N) (r : Fin 2048) (l : Fin 128) : ((cfg0.win 5).blk t).view.emb (ix2 r l) = ix2 r l := by
  funext a
  refine Fin.ext ?_
  match a with
  | ⟨0, _⟩ => show win0_5.index t 0 * 2048 + 1 * r.val = r.val; rw [(idx5 t).1]; omega
  | ⟨1, _⟩ => show win0_5.index t 1 * 128 + 1 * l.val = l.val; rw [(idx5 t).2]; omega
include h0 in
theorem blk0 (t : Fin cfg0.N) : (iblk m c 0 t : S2048x128.Idx → EReal) = Cert.Attn.up (rowsOf 128 2 hl (pt t) (hq a)) := by
  funext j
  obtain ⟨r, l, rfl⟩ : ∃ r l, j = ix2 r l := ⟨_, _, eq_ix2 j⟩
  show V m c main_v95 (((cfg0.win 0).blk t).view.emb (ix2 r l)) = ((rowsOf 128 2 hl (pt t) (hq a) (ix2 r l) : ℝ) : EReal)
  rw [emb0, V_eq, win_q _ a h0, rowsOf_eq]
  all_goals rfl
include h1 in
theorem blk1 (t : Fin cfg0.N) : (iblk m c 1 t : S2048x128.Idx → EReal) = Cert.Attn.up (rowsOf 128 2 hl (pt t) (hd b)) := by
  funext j
  obtain ⟨r, l, rfl⟩ : ∃ r l, j = ix2 r l := ⟨_, _, eq_ix2 j⟩
  show V m c main_v100 (((cfg0.win 1).blk t).view.emb (ix2 r l)) = ((rowsOf 128 2 hl (pt t) (hd b) (ix2 r l) : ℝ) : EReal)
  rw [emb1, V_eq, win_k _ b h1, rowsOf_eq]
  all_goals rfl
include h2 in
theorem blk2 (t : Fin cfg0.N) : (iblk m c 2 t : S2048x128.Idx → EReal) = Cert.Attn.up (rowsOf 128 2 hl (pt t) (hd v)) := by
  funext j
  obtain ⟨r, l, rfl⟩ : ∃ r l, j = ix2 r l := ⟨_, _, eq_ix2 j⟩
  show V m c main_v105 (((cfg0.win 2).blk t).view.emb (ix2 r l)) = ((rowsOf 128 2 hl (pt t) (hd v) (ix2 r l) : ℝ) : EReal)
  rw [emb2, V_eq, win_v _ v h2, rowsOf_eq]
  all_goals rfl
include h3 in
theorem blk3 (t : Fin cfg0.N) : (iblk m c 3 t : S2048x128.Idx → EReal) = Cert.Attn.up (rowsOf 128 2 hl (pt t) (hd e)) := by
  funext j
  obtain ⟨r, l, rfl⟩ : ∃ r l, j = ix2 r l := ⟨_, _, eq_ix2 j⟩
  show V m c main_v110 (((cfg0.win 3).blk t).view.emb (ix2 r l)) = ((rowsOf 128 2 hl (pt t) (hd e) (ix2 r l) : ℝ) : EReal)
  rw [emb3, V_eq, win_g _ e h3, rowsOf_eq]
  all_goals rfl
include h0 h1 in
theorem blk4 (t : Fin cfg0.N) (h : Fin 2) (ρ : Fin 2048) : (iblk m c 4 t : S2048x128.Idx → EReal) (ix2 ρ ⟨2 * (pt t).val + h.val, by have := (pt t).isLt; omega⟩)
    = ((logOf 128 2 hl (hq a) (hd b) (pt t) h ρ : ℝ) : EReal) := by
  show V m c main_v113 (((cfg0.win 4).blk t).view.emb (ix2 ρ ⟨2 * (pt t).val + h.val, by have := (pt t).isLt; omega⟩)) = _
  rw [emb4, V_eq]
  exact win_lse _ a b h0 h1 ρ (head (pt t) h)
include h0 h1 h2 h3 in
theorem blk5 (t : Fin cfg0.N) (h : Fin 2) (ρ : Fin 2048) : (iblk m c 5 t : S2048x128.Idx → EReal) (ix2 ρ ⟨2 * (pt t).val + h.val, by have := (pt t).isLt; omega⟩)
    = ((dotOf 128 2 hl (hq a) (hd b) (hd v) (hd e) (pt t) h ρ : ℝ) : EReal) := by
  show V m c main_v116 (((cfg0.win 5).blk t).view.emb (ix2 ρ ⟨2 * (pt t).val + h.val, by have := (pt t).isLt; omega⟩)) = _
  rw [emb5, V_eq]
  exact win_delta _ a b v e h0 h1 h2 h3 ρ (head (pt t) h)

theorem emb6 (t : Fin cfg0.N) (r : Fin 2048) (l : Fin 128) : ((cfg0.win 6).blk t).view.emb (ix2 r l)
    = ix2 r (⟨128 * (pt t).val + l.val, by have := (pt t).isLt; omega⟩ : Fin 768) := by
  funext a
  refine Fin.ext ?_
  match a with
  | ⟨0, _⟩ => show win0_6.index t 0 * 2048 + 1 * r.val = r.val; rw [(idx6 t).1]; omega
  | ⟨1, _⟩ => show win0_6.index t 1 * 128 + 1 * l.val = 128 * t.val + l.val; rw [(idx6 t).2]; omega
include h0 h1 h2 h3 in
theorem final_dq : (dats m 0 c).arrAt 6 cfg0.N = (fun j => ((arrayOf 128 2 hl (dq (hq a) (hd b) (hd v) (hd e) 2) j : ℝ) : EReal) : S2048x768.Idx → EReal) := by
  refine (dats m 0 c).arrAt_eq_of_cover 6 _ (fun t hf => ?_) fun (i : S2048x768.Idx) => ?_
  · rw [flushed6_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb6]
    refine (dq_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_6 _, ?_⟩
    show i ∈ ((View.whole main_v117_0).slice (win0_6.rect t)).set
    rw [View.set_slice_whole, Rect.mem_set_unit]
    intro a
    match a with
    | ⟨0, _⟩ =>
      show win0_6.index _ 0 * 2048 ≤ (i 0).val ∧ (i 0).val < win0_6.index _ 0 * 2048 + win0_6.xsize (grid0.coords _) 0
      rw [(idx6 _).1, (size6 _).1]; omega
    | ⟨1, _⟩ =>
      show win0_6.index _ 1 * 128 ≤ (i 1).val ∧ (i 1).val < win0_6.index _ 1 * 128 + win0_6.xsize (grid0.coords _) 1
      rw [(idx6 _).2, (size6 _).2]; omega
theorem emb7 (t : Fin cfg0.N) (r : Fin 2048) (l : Fin 128) : ((cfg0.win 7).blk t).view.emb (ix2 r l)
    = ix2 r (⟨128 * (pt t).val + l.val, by have := (pt t).isLt; omega⟩ : Fin 768) := by
  funext a
  refine Fin.ext ?_
  match a with
  | ⟨0, _⟩ => show win0_7.index t 0 * 2048 + 1 * r.val = r.val; rw [(idx7 t).1]; omega
  | ⟨1, _⟩ => show win0_7.index t 1 * 128 + 1 * l.val = 128 * t.val + l.val; rw [(idx7 t).2]; omega
include h0 h1 h2 h3 in
theorem final_dk : (dats m 0 c).arrAt 7 cfg0.N = (fun j => ((arrayOf 128 2 hl (dk (hq a) (hd b) (hd v) (hd e) 2) j : ℝ) : EReal) : S2048x768.Idx → EReal) := by
  refine (dats m 0 c).arrAt_eq_of_cover 7 _ (fun t hf => ?_) fun (i : S2048x768.Idx) => ?_
  · rw [flushed7_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb7]
    refine (dk_block _ (grid0.coords t) _ _ _ _ _ _ _ _ _ _ _ _ _ _ _ _ _ _ _ _ _ _ _ _ (hq a) (hd b) (hd v) (hd e) _ _ (pt t) (coord t)
      (blk4 m c a b h0 h1 t) (blk5 m c a b v e h0 h1 h2 h3 t) r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_7 _, ?_⟩
    show i ∈ ((View.whole main_v117_1).slice (win0_7.rect t)).set
    rw [View.set_slice_whole, Rect.mem_set_unit]
    intro a
    match a with
    | ⟨0, _⟩ =>
      show win0_7.index _ 0 * 2048 ≤ (i 0).val ∧ (i 0).val < win0_7.index _ 0 * 2048 + win0_7.xsize (grid0.coords _) 0
      rw [(idx7 _).1, (size7 _).1]; omega
    | ⟨1, _⟩ =>
      show win0_7.index _ 1 * 128 ≤ (i 1).val ∧ (i 1).val < win0_7.index _ 1 * 128 + win0_7.xsize (grid0.coords _) 1
      rw [(idx7 _).2, (size7 _).2]; omega
theorem emb8 (t : Fin cfg0.N) (r : Fin 2048) (l : Fin 128) : ((cfg0.win 8).blk t).view.emb (ix2 r l)
    = ix2 r (⟨128 * (pt t).val + l.val, by have := (pt t).isLt; omega⟩ : Fin 768) := by
  funext a
  refine Fin.ext ?_
  match a with
  | ⟨0, _⟩ => show win0_8.index t 0 * 2048 + 1 * r.val = r.val; rw [(idx8 t).1]; omega
  | ⟨1, _⟩ => show win0_8.index t 1 * 128 + 1 * l.val = 128 * t.val + l.val; rw [(idx8 t).2]; omega
include h0 h1 h2 h3 in
theorem final_dv : (dats m 0 c).arrAt 8 cfg0.N = (fun j => ((arrayOf 128 2 hl (dv (hq a) (hd b) (hd e) 2) j : ℝ) : EReal) : S2048x768.Idx → EReal) := by
  refine (dats m 0 c).arrAt_eq_of_cover 8 _ (fun t hf => ?_) fun (i : S2048x768.Idx) => ?_
  · rw [flushed8_A, blk0 m c a h0 t, blk1 m c b h1 t, blk2 m c v h2 t, blk3 m c e h3 t]
    funext j
    obtain ⟨r, l, rfl⟩ : ∃ (r : Fin 2048) (l : Fin 128), j = ix2 r l := ⟨_, _, eq_ix2 j⟩
    rw [View.read_apply, emb8]
    refine (dv_block _ (grid0.coords t) _ _ _ _ _ _ _ _ _ _ _ _ _ _ _ _ _ _ _ _ _ _ _ _ (hq a) (hd b) (hd v) (hd e) _ _ (pt t) (coord t)
      (blk4 m c a b h0 h1 t)  r l).trans ?_
    rw [rowsOf_eq]
    rfl
  · have hi : (i 0).val < 2048 := (i 0).isLt
    have h1 : (i 1).val < 768 := (i 1).isLt
    obtain ⟨t, ht⟩ : ∃ t : Fin cfg0.N, t.val = (i 1).val / 128 := ⟨⟨(i 1).val / 128, by rw [show cfg0.N = 6 from N_0]; omega⟩, rfl⟩
    refine ⟨t, flush0_8 _, ?_⟩
    show i ∈ ((View.whole main_v117_2).slice (win0_8.rect t)).set
    rw [View.set_slice_whole, Rect.mem_set_unit]
    intro a
    match a with
    | ⟨0, _⟩ =>
      show win0_8.index _ 0 * 2048 ≤ (i 0).val ∧ (i 0).val < win0_8.index _ 0 * 2048 + win0_8.xsize (grid0.coords _) 0
      rw [(idx8 _).1, (size8 _).1]; omega
    | ⟨1, _⟩ =>
      show win0_8.index _ 1 * 128 ≤ (i 1).val ∧ (i 1).val < win0_8.index _ 1 * 128 + win0_8.xsize (grid0.coords _) 1
      rw [(idx8 _).2, (size8 _).2]; omega
end Arrays

end Cert.Attn128Ideal.Value

end
-- ==== Proof.Attn128Claim.lean ====
/-
  The attention backward kernel (segment 128): the frames of its programs, the mask it names, and its three results (the gradients at
  the query, the keys and the values) equal to the reference's over finite arguments.
-/
module

public import proofs.«01_k».proof.Defs
public import proofs.«01_k».proof.Proof.Attn128Kernel
public import proofs.«01_k».proof.Proof.Gen.Attn128.Frame
public import proofs.«01_k».proof.Proof.Gen.Attn128RefIdeal.Run
public import proofs.«01_k».proof.Proof.Gen.Pre_attn_finite
public import Idealize.ShloMosaic.Lib.Quiescent

@[expose] public section

set_option maxRecDepth 16384

noncomputable section

namespace Cert.Attn128Claim

open Idealize.ShloMosaic Idealize.ShloMosaic.TcCoe Idealize.SL.Sem Cert.Reals
open Cert.Attn (arrayOf tok dil dq dk dv)
open Cert.Attn2048RefIdeal.Read (up hd hq)
open Cert.Attn128Ideal.Value (hl arrayOf_ix2 row_eq)

theorem frame_kernel_ideal : Cert.quiescent_Attn128Ideal (hAttn128Ideal := Cert.Attn128Ideal.Gen.facts) := fun m ρ _ => Cert.Attn128Ideal.Gen.frame m ρ

theorem frame_kernel : Cert.quiescent_Attn128 (hAttn128 := Cert.Attn128.Gen.facts) := fun m ρ _ => Cert.Attn128.Gen.frame m ρ

theorem frame_ref : Cert.quiescent_Attn128RefIdeal (hAttn128RefIdeal := Cert.Attn128RefIdeal.Gen.facts) := fun m ρ _ =>
  (θ_run Cert.Attn128RefIdeal.defs _ _).mono
    (fun _ h => ⟨fun c => (h c).2.2.2, sem_eq_zero_of_no_sems rfl _⟩) (Cert.Attn128RefIdeal.Value.run m ρ)

/-- The branch's rows of a gradient over all branches, in the order of the kernel's rows. -/
theorem ref_rows {G : Vec Ideal Cert.Attn128RefIdeal.S3x12x2048x64 .f32} {y : Fin 3 → Cert.Attn.Tokens}
    (hG : ∀ p h i d, G (ix4 p h i d) = ((y p h i d : ℝ) : EReal)) (r : Fin 2048) (l : Fin 768) :
    (truncf .bf16 (shapeCast Cert.Attn128RefIdeal.S2048x768 (transpose Cert.Attn128RefIdeal.S16x128x768 [1, 0, 2]
      (shapeCast Cert.Attn128RefIdeal.S128x16x768 (transpose Cert.Attn128RefIdeal.S2048x12x64 [1, 0, 2]
        (shapeCast Cert.Attn128RefIdeal.S12x2048x64 (extractStridedSlice Cert.Attn128RefIdeal.S1x12x2048x64 ![2, 0, 0, 0] G
          Cert.Attn128RefIdeal.Gen.slices_S3x12x2048x64_S1x12x2048x64_2_0_0_0) Cert.Attn128RefIdeal.Gen.shapeCasts_S1x12x2048x64_S12x2048x64)
        Cert.Attn128RefIdeal.Gen.transposes_S12x2048x64_S2048x12x64_1_0_2) Cert.Attn128RefIdeal.Gen.shapeCasts_S2048x12x64_S128x16x768)
      Cert.Attn128RefIdeal.Gen.transposes_S128x16x768_S16x128x768_1_0_2) Cert.Attn128RefIdeal.Gen.shapeCasts_S16x128x768_S2048x768 : FVec Ideal Cert.Attn128RefIdeal.S2048x768 .f32)
      Cert.Attn128RefIdeal.Gen.bitsLt_bf16_f32 : FVec Ideal Cert.Attn128RefIdeal.S2048x768 .bf16) (ix2 r l)
      = ((arrayOf 128 2 hl (y 2) (ix2 r l) : ℝ) : EReal) := by
  rw [arrayOf_ix2]
  pointwise [hG]
  all_goals rfl

variable (a b v e : Cert.Attn128RefIdeal.S1x2048x12x64.Idx → ℝ)
theorem ref_dq (r : Fin 2048) (l : Fin 768) : Cert.Attn128RefIdeal.Read.val_main_v161 (F := Ideal) (up a) (up b) (up v) (up e) (ix2 r l)
    = ((arrayOf 128 2 hl (dq (hq a) (hd b) (hd v) (hd e) 2) (ix2 r l) : ℝ) : EReal) :=
  ref_rows (y := dq (hq a) (hd b) (hd v) (hd e)) (G := Cert.Attn128RefIdeal.Read.val_main_v154 (F := Ideal) (up a) (up b) (up v) (up e)) (fun p h i d =>
    (congrFun (show Cert.Attn128RefIdeal.Read.val_main_v154 (F := Ideal) (up a) (up b) (up v) (up e)
      = Cert.Attn2048RefIdeal.Read.val_main_v154 (F := Ideal) (up a) (up b) (up v) (up e) by sl_kernel_rfl) _).trans
    (Cert.Attn2048RefIdeal.Read.v154 a b v e p h i d)) r l
theorem ref_dk (r : Fin 2048) (l : Fin 768) : Cert.Attn128RefIdeal.Read.val_main_v168 (F := Ideal) (up a) (up b) (up v) (up e) (ix2 r l)
    = ((arrayOf 128 2 hl (dk (hq a) (hd b) (hd v) (hd e) 2) (ix2 r l) : ℝ) : EReal) :=
  ref_rows (y := dk (hq a) (hd b) (hd v) (hd e)) (G := Cert.Attn128RefIdeal.Read.val_main_v153 (F := Ideal) (up a) (up b) (up v) (up e)) (fun p h i d =>
    (congrFun (show Cert.Attn128RefIdeal.Read.val_main_v153 (F := Ideal) (up a) (up b) (up v) (up e)
      = Cert.Attn2048RefIdeal.Read.val_main_v153 (F := Ideal) (up a) (up b) (up v) (up e) by sl_kernel_rfl) _).trans
    (Cert.Attn2048RefIdeal.Read.v153 a b v e p h i d)) r l
theorem ref_dv (r : Fin 2048) (l : Fin 768) : Cert.Attn128RefIdeal.Read.val_main_v175 (F := Ideal) (up a) (up b) (up e) (ix2 r l)
    = ((arrayOf 128 2 hl (dv (hq a) (hd b) (hd e) 2) (ix2 r l) : ℝ) : EReal) :=
  ref_rows (y := dv (hq a) (hd b) (hd e)) (G := Cert.Attn128RefIdeal.Read.val_main_v139 (F := Ideal) (up a) (up b) (up e)) (fun p h i d =>
    (congrFun (show Cert.Attn128RefIdeal.Read.val_main_v139 (F := Ideal) (up a) (up b) (up e)
      = Cert.Attn2048RefIdeal.Read.val_main_v139 (F := Ideal) (up a) (up b) (up e) by sl_kernel_rfl) _).trans
    (Cert.Attn2048RefIdeal.Read.v139 a b e p h i d)) r l

/-- The precondition's four arguments as real arrays. -/
theorem real_args (x y z w : FVec Ideal Cert.Pre_attn_finite.S1x2048x12x64 .f32)
    (h : @Cert.Pre_attn_finite.fn Cert.Pre_attn_finite.Gen.facts Ideal _ x y z w = fun _ => 1#1) :
    (∃ X : Cert.Pre_attn_finite.S1x2048x12x64.Idx → ℝ, x = fun i => (X i : EReal))
      ∧ (∃ X : Cert.Pre_attn_finite.S1x2048x12x64.Idx → ℝ, y = fun i => (X i : EReal))
      ∧ (∃ X : Cert.Pre_attn_finite.S1x2048x12x64.Idx → ℝ, z = fun i => (X i : EReal))
      ∧ (∃ X : Cert.Pre_attn_finite.S1x2048x12x64.Idx → ℝ, w = fun i => (X i : EReal)) := by
  have e := congrFun h (Shape.Idx.first (by decide))
  unfold Cert.Pre_attn_finite.fn at e
  dsimp only at e
  obtain ⟨exy, ezw⟩ := andi_eq_one _ _ _ e
  obtain ⟨ex, ey⟩ := andi_eq_one _ _ _ exy
  obtain ⟨ez, ew⟩ := andi_eq_one _ _ _ ezw
  exact ⟨real_of_pre rfl x _ (fun _ => rfl) _ _ _ _ ex, real_of_pre rfl y _ (fun _ => rfl) _ _ _ _ ey, real_of_pre rfl z _ (fun _ => rfl) _ _ _ _ ez,
    real_of_pre rfl w _ (fun _ => rfl) _ _ _ _ ew⟩

theorem algebraic : Cert.algebraic_Attn128Ideal_Attn128RefIdeal_pre_attn_finite (hAttn128Ideal := Cert.Attn128Ideal.Gen.facts)
    (hAttn128RefIdeal := Cert.Attn128RefIdeal.Gen.facts) (hPre_attn_finite := Cert.Pre_attn_finite.Gen.facts) := by
  intro m ρ m' ρ' hpre hargs
  refine ⟨_, _, _, Cert.Attn128Ideal.Value.run_blocks m ρ, (θ_run Cert.Attn128RefIdeal.defs _ _).mono (fun r h c => ?_) (Cert.Attn128RefIdeal.Value.run m' ρ')⟩
  obtain ⟨r0, r1, r2, r3⟩ := h c
  obtain ⟨a0, a1, a2, a3⟩ := hargs c
  obtain ⟨⟨a, h0⟩, ⟨b, h1⟩, ⟨v, h2⟩, ⟨e, h3⟩⟩ := real_args _ _ _ _ (hpre c)
  refine ⟨r0.trans ?_, r1.trans ?_, r2.trans ?_, r3⟩
  · rw [Cert.Attn128Ideal.Value.final_dq m c a b v e h0 h1 h2 h3, Cert.Attn128RefIdeal.Read.val_main_v161_eq]
    show Cert.Attn128RefIdeal.Read.val_main_v161 (F := Ideal) (m' ((c.tc : Thread Cert.Attn128RefIdeal.nD Cert.Attn128RefIdeal.τ).loc Cert.Attn128RefIdeal.main_arg0))
      (m' ((c.tc : Thread Cert.Attn128RefIdeal.nD Cert.Attn128RefIdeal.τ).loc Cert.Attn128RefIdeal.main_arg1)) (m' ((c.tc : Thread Cert.Attn128RefIdeal.nD Cert.Attn128RefIdeal.τ).loc Cert.Attn128RefIdeal.main_arg2))
      (m' ((c.tc : Thread Cert.Attn128RefIdeal.nD Cert.Attn128RefIdeal.τ).loc Cert.Attn128RefIdeal.main_arg3)) = _
    rw [a0, a1, a2, a3, h0, h1, h2, h3]
    funext i
    idx_vars i
    exact ref_dq a b v e i0 i1
  · rw [Cert.Attn128Ideal.Value.final_dk m c a b v e h0 h1 h2 h3, Cert.Attn128RefIdeal.Read.val_main_v168_eq]
    show Cert.Attn128RefIdeal.Read.val_main_v168 (F := Ideal) (m' ((c.tc : Thread Cert.Attn128RefIdeal.nD Cert.Attn128RefIdeal.τ).loc Cert.Attn128RefIdeal.main_arg0))
      (m' ((c.tc : Thread Cert.Attn128RefIdeal.nD Cert.Attn128RefIdeal.τ).loc Cert.Attn128RefIdeal.main_arg1)) (m' ((c.tc : Thread Cert.Attn128RefIdeal.nD Cert.Attn128RefIdeal.τ).loc Cert.Attn128RefIdeal.main_arg2))
      (m' ((c.tc : Thread Cert.Attn128RefIdeal.nD Cert.Attn128RefIdeal.τ).loc Cert.Attn128RefIdeal.main_arg3)) = _
    rw [a0, a1, a2, a3, h0, h1, h2, h3]
    funext i
    idx_vars i
    exact ref_dk a b v e i0 i1
  · rw [Cert.Attn128Ideal.Value.final_dv m c a b v e h0 h1 h2 h3, Cert.Attn128RefIdeal.Read.val_main_v175_eq]
    show Cert.Attn128RefIdeal.Read.val_main_v175 (F := Ideal) (m' ((c.tc : Thread Cert.Attn128RefIdeal.nD Cert.Attn128RefIdeal.τ).loc Cert.Attn128RefIdeal.main_arg0))
      (m' ((c.tc : Thread Cert.Attn128RefIdeal.nD Cert.Attn128RefIdeal.τ).loc Cert.Attn128RefIdeal.main_arg1)) (m' ((c.tc : Thread Cert.Attn128RefIdeal.nD Cert.Attn128RefIdeal.τ).loc Cert.Attn128RefIdeal.main_arg3)) = _
    rw [a0, a1, a3, h0, h1, h3]
    funext i
    idx_vars i
    exact ref_dv a b e i0 i1

end Cert.Attn128Claim

end
-- ==== Proof.Gate.lean ====
/-
  The real functions of one row that the gated feed-forward half-step and its gradients are made of.
-/
module

public import proofs.«01_k».proof.Proof.Norm

@[expose] public section

noncomputable section

namespace Cert.Reals

/-- The logistic function. -/
def logi (a : ℝ) : ℝ := 1 / (1 + Real.exp (-a))

theorem logi_den_ne (a : ℝ) : (1 + Real.exp (-a)) ≠ 0 := by
  have := Real.exp_pos (-a)
  positivity

variable {n f : ℕ}

/-- The normalised row times the gain. -/
def hid (x g : Fin n → ℝ) (k : Fin n) : ℝ := x k * rs x * g k

/-- A row times a matrix. -/
def lin (h : Fin n → ℝ) (w : Fin n → Fin f → ℝ) (j : Fin f) : ℝ := ∑ k, h k * w k j

/-- The gradient at the gated row: half the row's gradient times the down projection. -/
def dact (d : Fin n → ℝ) (w : Fin f → Fin n → ℝ) (j : Fin f) : ℝ := ∑ k, 1 / 2 * d k * w j k

/-- The gradient at the gate and at the other factor. -/
def dgate (e a u : ℝ) : ℝ := e * u * (logi a * (1 + a * (1 - logi a)))
def dmul (e a : ℝ) : ℝ := e * (a * logi a)

/-- The gradient at the normalised row. -/
def dhid (p q : Fin f → ℝ) (wg wu : Fin n → Fin f → ℝ) (k : Fin n) : ℝ := (∑ j, p j * wg k j) + ∑ j, q j * wu k j

/-- The gradient at a row whose norm's gradient is `e`. -/
def dnorm (x g e : Fin n → ℝ) (k : Fin n) : ℝ :=
  rs x * (e k * g k - x k * rs x * ((∑ l, e l * g l * (x l * rs x)) / 1024))

/-- The same gradient as the derivative's rules give it: through the mean square, twice, and through the factor. -/
theorem dnorm_eq (x g e : Fin n → ℝ) (k : Fin n) :
    e k * g k * rs x + x k * ((∑ l, x l * (e l * g l)) * (-(1 / 2) * (rs x / ms x)) / 1024)
      + (∑ l, x l * (e l * g l)) * (-(1 / 2) * (rs x / ms x)) / 1024 * x k = dnorm x g e k := by
  have h := rs_sq x
  have hr : rs x / ms x = rs x * rs x * rs x := by
    rw [div_eq_iff (ms_pos x).ne']
    linear_combination (-(rs x)) * h
  have hs : ∑ l, e l * g l * (x l * rs x) = (∑ l, x l * (e l * g l)) * rs x := by
    rw [Finset.sum_mul]
    exact Finset.sum_congr rfl fun l _ => by ring
  rw [dnorm, hs, hr]
  ring

end Cert.Reals

end
-- ==== Proof.FfnCases.lean ====
/-
  What the half-step's kernel leaves in its six output blocks at a grid point, as the values it stores (no arithmetic is done
  here): the first point clears the gain's running sum, the others add to what the point before left.
-/
module

public import proofs.«01_k».proof.Proof.Gen.FfnIdeal.Value

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F]

section Stored
variable (x0 : Vec F S256x1024 .f32) (x1 : Vec F S1x1024 .f32) (x2 x3 : Vec F S256x2816 .bf16) (x4 : Vec F S256x1024 .f32)
  (x5 x6 x7 : Vec F S2816x1024 .bf16) (o : Vec F S1x1024 .f32)
/-- The gradient at the input, at the gate, at the other factor, and the running sum of the gain's gradient after `o`. -/
def stDx : Vec F S256x1024 .f32 :=
  k0_pay1 (k0_pay3 x0) (k0_pay4 x0) x4 (k0_pay17 (k0_pay2 x1) (k0_pay7 x4 x7) (k0_pay8 x2) (k0_pay9 x2) (k0_pay10 x4 x7 x3) (k0_pay11 x2) x5 x6)
    (k0_pay18 (k0_pay2 x1) (k0_pay4 x0) (k0_pay7 x4 x7) (k0_pay8 x2) (k0_pay9 x2) (k0_pay10 x4 x7 x3) (k0_pay11 x2) x5 x6)
def stGate : Vec F S256x2816 .bf16 := k0_pay12 (k0_pay8 x2) (k0_pay9 x2) (k0_pay10 x4 x7 x3) (k0_pay11 x2)
def stMul : Vec F S256x2816 .bf16 := k0_pay13 (k0_pay7 x4 x7) (k0_pay8 x2) (k0_pay9 x2)
def stGain : Vec F S1x1024 .f32 := k0_pay16 (k0_pay4 x0) (k0_pay7 x4 x7) (k0_pay8 x2) (k0_pay9 x2) (k0_pay10 x4 x7 x3) (k0_pay11 x2) x5 x6 o
end Stored

theorem hz : (![0, 0] : Fin 2 → Nat) = fun _ => 0 := funext fun a => by fin_cases a <;> rfl

section Cases
variable (c : Dev nD) (i : grid0.Coords)
  (arg1 : Memref sig .tc .vmem S256x1024 .f32) (harg1 : arg1.IsWhole)
  (arg2 : Memref sig .tc .vmem S1x1024 .f32) (harg2 : arg2.IsWhole)
  (arg3 : Memref sig .tc .vmem S256x2816 .bf16) (harg3 : arg3.IsWhole)
  (arg4 : Memref sig .tc .vmem S256x2816 .bf16) (harg4 : arg4.IsWhole)
  (arg5 : Memref sig .tc .vmem S256x1024 .f32) (harg5 : arg5.IsWhole)
  (arg6 : Memref sig .tc .vmem S2816x1024 .bf16) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S256x1024 .f32) (harg9 : arg9.IsWhole)
  (arg10 : Memref sig .tc .vmem S256x2816 .bf16) (harg10 : arg10.IsWhole)
  (arg11 : Memref sig .tc .vmem S256x2816 .bf16) (harg11 : arg11.IsWhole)
  (arg12 : Memref sig .tc .vmem S256x1024 .bf16) (harg12 : arg12.IsWhole)
  (arg13 : Memref sig .tc .vmem S256x1024 .bf16) (harg13 : arg13.IsWhole)
  (arg14 : Memref sig .tc .vmem S1x1024 .f32) (harg14 : arg14.IsWhole)
  (x0 : Vec F S256x1024 .f32) (x1 : Vec F S1x1024 .f32) (x2 x3 : Vec F S256x2816 .bf16) (x4 : Vec F S256x1024 .f32)
  (x5 x6 x7 : Vec F S2816x1024 .bf16) (xo : Vec F S1x1024 .f32)

theorem out_A_8 (hc : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = stDx x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_A_9 (hc : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = stGate x2 x3 x4 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_A_10 (hc : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = stMul x2 x4 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_A_11 (hc : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = k0_pay5 x0 x1 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_A_12 (hc : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = k0_pay6 x4 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_A_13 (hc : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 = stGain x0 x2 x3 x4 x5 x6 x7 k0_pay15 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_8 (hc : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = stDx x0 x1 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_9 (hc : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = stGate x2 x3 x4 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_10 (hc : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = stMul x2 x4 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_11 (hc : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = k0_pay5 x0 x1 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_12 (hc : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = k0_pay6 x4 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

theorem out_B_13 (hc : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo = stGain x0 x2 x3 x4 x5 x6 x7 xo := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo)]
  unfold kernelRun0_B
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg14.read_unread, View.ld_unit_zero (S := S256x1024) hz, View.ld_unit_zero (S := S1x1024) hz,
    View.ld_unit_zero (S := S256x2816) hz, View.ld_unit_zero (S := S2816x1024) hz]
  all_goals rfl

end Cases

end Cert.FfnIdeal.Value

end
-- ==== Proof.FfnKernel.lean ====
/-
  The half-step kernel's stored values over finite arguments, as real functions of a block's rows, and its six result arrays.
-/
module

public import proofs.«01_k».proof.Proof.Gate
public import proofs.«01_k».proof.Proof.FfnCases
public import Idealize.ShloMosaic.Lib.Pointwise

@[expose] public section

set_option maxRecDepth 16384

noncomputable section

namespace Cert.FfnIdeal.Value

open Cert.FfnIdeal Cert.FfnIdeal.Gen Idealize.ShloMosaic Idealize.ShloMosaic.TcCoe Idealize.SL.Sem Cert.Reals
open Idealize.ShloMosaic.Pipeline (Dat)

section Point
variable (X D : S256x1024.Idx → ℝ) (G O : S1x1024.Idx → ℝ) (A U : S256x2816.Idx → ℝ) (WG WU WD : S2816x1024.Idx → ℝ)

/-- A block's row, the gain, a weight's two ways to be read. -/
abbrev row {a b : ℕ} (X : Shape.Idx ⟨2, ![a, b]⟩ → ℝ) (r : Fin a) : Fin b → ℝ := fun k => X (ix2 r k)
abbrev col (W : S2816x1024.Idx → ℝ) : Fin 1024 → Fin 2816 → ℝ := fun k j => W (ix2 j k)
/-- The gradients at the gate, at the other factor and at the normalised row. -/
abbrev bg (r : Fin 256) (j : Fin 2816) : ℝ := dgate (dact (row D r) (row WD) j) (A (ix2 r j)) (U (ix2 r j))
abbrev bu (r : Fin 256) (j : Fin 2816) : ℝ := dmul (dact (row D r) (row WD) j) (A (ix2 r j))
abbrev bh (r : Fin 256) : Fin 1024 → ℝ := dhid (bg D A U WD r) (bu D A WD r) (col WG) (col WU)

theorem pay2 (z : Fin 1) (k : Fin 1024) : k0_pay2 (F := Ideal) (fun i => (G i : EReal)) (ix2 z k) = ((G (ix2 z k) : ℝ) : EReal) := by
  pointwise [k0_pay2]

theorem pay3 (r : Fin 256) (z : Fin 1) : k0_pay3 (F := Ideal) (fun i => (X i : EReal)) (ix2 r z) = ((rs (row X r) : ℝ) : EReal) := by
  pointwise [k0_pay3]
  have h : (∑ x, X (ix2 r x) * X (ix2 r x)) / 1024 + eps = ms (row X r) := rfl
  simp only [ofBits_1024, ofBits_eps, ← EReal.coe_mul, ← coe_sum]
  rw [div_coe_coe (by norm_num), ← EReal.coe_add, h, rsqrt_coe_pos (ms_pos _)]
  rfl

theorem pay4 (r : Fin 256) (k : Fin 1024) :
    k0_pay4 (F := Ideal) (fun i => (X i : EReal)) (ix2 r k) = ((row X r k * rs (row X r) : ℝ) : EReal) := by
  pointwise [k0_pay4, pay3]
  rw [← EReal.coe_mul]

/-- The normalised rows. -/
theorem pay5 (r : Fin 256) (k : Fin 1024) :
    k0_pay5 (F := Ideal) (fun i => (X i : EReal)) (fun i => (G i : EReal)) (ix2 r k) = ((hid (row X r) (row G 0) k : ℝ) : EReal) := by
  pointwise [k0_pay5, pay4, pay2]
  rw [← EReal.coe_mul]
  rfl

/-- Half the gradient. -/
theorem pay6 (r : Fin 256) (k : Fin 1024) :
    k0_pay6 (F := Ideal) (fun i => (D i : EReal)) (ix2 r k) = ((1 / 2 * row D r k : ℝ) : EReal) := by
  pointwise [k0_pay6]
  rw [ofBits_half, ← EReal.coe_mul]

theorem pay7 (r : Fin 256) (j : Fin 2816) :
    k0_pay7 (F := Ideal) (fun i => (D i : EReal)) (fun i => (WD i : EReal)) (ix2 r j) = ((dact (row D r) (row WD) j : ℝ) : EReal) := by
  pointwise [k0_pay7, pay6]
  simp only [← EReal.coe_mul, ← coe_sum]
  rfl

theorem pay8 (r : Fin 256) (j : Fin 2816) : k0_pay8 (F := Ideal) (fun i => (A i : EReal)) (ix2 r j) = ((A (ix2 r j) : ℝ) : EReal) := by
  pointwise [k0_pay8]

theorem pay9 (r : Fin 256) (j : Fin 2816) : k0_pay9 (F := Ideal) (fun i => (A i : EReal)) (ix2 r j) = ((logi (A (ix2 r j)) : ℝ) : EReal) := by
  pointwise [k0_pay9, pay8]
  rw [Ideal.logistic_coe, logi, one_div]

theorem pay10 (r : Fin 256) (j : Fin 2816) :
    k0_pay10 (F := Ideal) (fun i => (D i : EReal)) (fun i => (WD i : EReal)) (fun i => (U i : EReal)) (ix2 r j)
      = ((dact (row D r) (row WD) j * U (ix2 r j) : ℝ) : EReal) := by
  pointwise [k0_pay10, pay7]
  rw [← EReal.coe_mul]

theorem pay11 (r : Fin 256) (j : Fin 2816) : k0_pay11 (F := Ideal) (fun i => (A i : EReal)) (ix2 r j) = ((1 - logi (A (ix2 r j)) : ℝ) : EReal) := by
  pointwise [k0_pay11, pay9]
  rw [← EReal.coe_one, ← EReal.coe_sub]

theorem gate_at (r : Fin 256) (j : Fin 2816) :
    stGate (F := Ideal) (fun i => (A i : EReal)) (fun i => (U i : EReal)) (fun i => (D i : EReal)) (fun i => (WD i : EReal)) (ix2 r j)
      = ((bg D A U WD r j : ℝ) : EReal) := by
  unfold stGate
  pointwise [k0_pay12, pay8, pay9, pay10, pay11]
  simp only [ofBits_one, ← EReal.coe_mul, ← EReal.coe_add]
  rfl

theorem mul_at (r : Fin 256) (j : Fin 2816) :
    stMul (F := Ideal) (fun i => (A i : EReal)) (fun i => (D i : EReal)) (fun i => (WD i : EReal)) (ix2 r j) = ((bu D A WD r j : ℝ) : EReal) := by
  unfold stMul
  pointwise [k0_pay13, pay7, pay8, pay9]
  simp only [← EReal.coe_mul]
  rfl

/-- The gradient at the normalised rows. -/
def stHid : FVec Ideal S256x1024 .f32 :=
  k0_pay14 (F := Ideal) (k0_pay7 (fun i => (D i : EReal)) (fun i => (WD i : EReal))) (k0_pay8 fun i => (A i : EReal)) (k0_pay9 fun i => (A i : EReal))
    (k0_pay10 (fun i => (D i : EReal)) (fun i => (WD i : EReal)) (fun i => (U i : EReal))) (k0_pay11 fun i => (A i : EReal))
    (fun i => (WG i : EReal)) (fun i => (WU i : EReal))

theorem hid_at (r : Fin 256) (k : Fin 1024) : stHid D A U WG WU WD (ix2 r k) = ((bh D A U WG WU WD r k : ℝ) : EReal) := by
  have hg := gate_at D A U WD
  have hu := mul_at D A WD
  unfold stGate at hg
  unfold stMul at hu
  unfold stHid
  pointwise [k0_pay14, hg, hu]
  simp only [← EReal.coe_mul, ← coe_sum, ← EReal.coe_add]
  rfl

/-- What one point adds to the gain's gradient. -/
theorem gain_at (z : Fin 1) (k : Fin 1024) :
    stGain (F := Ideal) (fun i => (X i : EReal)) (fun i => (A i : EReal)) (fun i => (U i : EReal)) (fun i => (D i : EReal)) (fun i => (WG i : EReal))
        (fun i => (WU i : EReal)) (fun i => (WD i : EReal)) (fun i => (O i : EReal)) (ix2 z k)
      = ((O (ix2 z k) + ∑ r : Fin 256, bh D A U WG WU WD r k * (row X r k * rs (row X r)) : ℝ) : EReal) := by
  have hh := hid_at D A U WG WU WD
  unfold stHid at hh
  unfold stGain
  pointwise [k0_pay16, hh, pay4]
  simp only [← EReal.coe_mul, ← coe_sum, ← EReal.coe_add]

theorem dx_at (r : Fin 256) (k : Fin 1024) :
    stDx (F := Ideal) (fun i => (X i : EReal)) (fun i => (G i : EReal)) (fun i => (A i : EReal)) (fun i => (U i : EReal)) (fun i => (D i : EReal))
        (fun i => (WG i : EReal)) (fun i => (WU i : EReal)) (fun i => (WD i : EReal)) (ix2 r k)
      = ((row D r k + dnorm (row X r) (row G 0) (bh D A U WG WU WD r) k : ℝ) : EReal) := by
  have hh := hid_at D A U WG WU WD
  unfold stHid at hh
  unfold stDx
  pointwise [k0_pay1, k0_pay17, k0_pay18, hh, pay2, pay3, pay4]
  simp only [ofBits_1024, ← EReal.coe_mul, ← coe_sum]
  rw [div_coe_coe (by norm_num)]
  simp only [← EReal.coe_mul, ← EReal.coe_sub, ← EReal.coe_add]
  rfl

theorem pay15 : k0_pay15 (F := Ideal) = fun _ => ((0 : ℝ) : EReal) := by
  funext i
  idx_vars i
  pointwise [k0_pay15]
  rfl
end Point

/-! ## The points in order -/

variable (m : (ℓ : Loc nD τ sig) → Buf (Elt Ideal) ℓ) (c : Dev nD)
variable (X D : ℕ → Fin 1024 → ℝ) (A U : ℕ → Fin 2816 → ℝ) (g : Fin 1024 → ℝ) (wg wu wd : S2816x1024.Idx → ℝ)

/-- Rows `256 n` to `256 n + 255` as a block. -/
abbrev tile {b : ℕ} (A : ℕ → Fin b → ℝ) (n : ℕ) : Shape.Idx ⟨2, ![256, b]⟩ → ℝ := fun i => A (256 * n + (i 0).val) (i 1)
/-- The gain as a block. -/
abbrev one (g : Fin 1024 → ℝ) : S1x1024.Idx → ℝ := fun i => g (i 1)
/-- The gradients of row `n`. -/
abbrev rg (n : ℕ) (j : Fin 2816) : ℝ := dgate (dact (D n) (row wd) j) (A n j) (U n j)
abbrev ru (n : ℕ) (j : Fin 2816) : ℝ := dmul (dact (D n) (row wd) j) (A n j)
abbrev rh (n : ℕ) : Fin 1024 → ℝ := dhid (rg D A U wd n) (ru D A wd n) (col wg) (col wu)

/-- The running sum after `n` points. -/
def gainUpTo (n : ℕ) (k : Fin 1024) : ℝ :=
  ∑ t ∈ Finset.range n, ∑ r : Fin 256, rh D A U wg wu wd (256 * t + r.val) k * (X (256 * t + r.val) k * rs (X (256 * t + r.val)))

theorem gainUpTo_succ (n : ℕ) (k : Fin 1024) : gainUpTo X D A U wg wu wd (n + 1) k = gainUpTo X D A U wg wu wd n k
    + ∑ r : Fin 256, rh D A U wg wu wd (256 * n + r.val) k * (X (256 * n + r.val) k * rs (X (256 * n + r.val))) := Finset.sum_range_succ _ n

/-- The input blocks of every point, as real vectors. -/
structure Blocks : Prop where
  x : ∀ t : Fin cfg0.N, (iblk m c 0 t : Vec Ideal S256x1024 .f32) = fun i => ((tile X t.val i : ℝ) : EReal)
  g : ∀ t : Fin cfg0.N, (iblk m c 1 t : Vec Ideal S1x1024 .f32) = fun i => ((one g i : ℝ) : EReal)
  a : ∀ t : Fin cfg0.N, (iblk m c 2 t : Vec Ideal S256x2816 .bf16) = fun i => ((tile A t.val i : ℝ) : EReal)
  u : ∀ t : Fin cfg0.N, (iblk m c 3 t : Vec Ideal S256x2816 .bf16) = fun i => ((tile U t.val i : ℝ) : EReal)
  d : ∀ t : Fin cfg0.N, (iblk m c 4 t : Vec Ideal S256x1024 .f32) = fun i => ((tile D t.val i : ℝ) : EReal)
  wg : ∀ t : Fin cfg0.N, (iblk m c 5 t : Vec Ideal S2816x1024 .bf16) = fun i => ((wg i : ℝ) : EReal)
  wu : ∀ t : Fin cfg0.N, (iblk m c 6 t : Vec Ideal S2816x1024 .bf16) = fun i => ((wu i : ℝ) : EReal)
  wd : ∀ t : Fin cfg0.N, (iblk m c 7 t : Vec Ideal S2816x1024 .bf16) = fun i => ((wd i : ℝ) : EReal)

/-- The five blocks that a point stores whole. -/
abbrev bDx (n : ℕ) : Vec Ideal S256x1024 .f32 := fun i =>
  ((D (256 * n + (i 0).val) (i 1) + dnorm (X (256 * n + (i 0).val)) g (rh D A U wg wu wd (256 * n + (i 0).val)) (i 1) : ℝ) : EReal)
abbrev bGate (n : ℕ) : Vec Ideal S256x2816 .bf16 := fun i => ((rg D A U wd (256 * n + (i 0).val) (i 1) : ℝ) : EReal)
abbrev bMul (n : ℕ) : Vec Ideal S256x2816 .bf16 := fun i => ((ru D A wd (256 * n + (i 0).val) (i 1) : ℝ) : EReal)
abbrev bHid (n : ℕ) : Vec Ideal S256x1024 .bf16 := fun i => ((hid (X (256 * n + (i 0).val)) g (i 1) : ℝ) : EReal)
abbrev bDy (n : ℕ) : Vec Ideal S256x1024 .bf16 := fun i => ((1 / 2 * D (256 * n + (i 0).val) (i 1) : ℝ) : EReal)

/-- What the six blocks hold after point `n`. -/
theorem outsAt_eq (h : Blocks m c X D A U g wg wu wd) : ∀ (n : ℕ) (hn : n < cfg0.N), outsAt0 m c n hn =
    (bDx X D A U g wg wu wd n, bGate D A U wd n, bMul D A wd n, bHid X g n, bDy D n, fun i => ((gainUpTo X D A U wg wu wd (n + 1) (i 1) : ℝ) : EReal))
  | 0, hn => by
    refine (outsAt0_A m c ⟨0, hn⟩ rfl).trans ?_
    rw [out_A_8, out_A_9, out_A_10, out_A_11, out_A_12, out_A_13, h.x, h.g, h.a, h.u, h.d, h.wg, h.wu, h.wd, pay15]
    refine Prod.ext ?_ (Prod.ext ?_ (Prod.ext ?_ (Prod.ext ?_ (Prod.ext ?_ ?_)))) <;> funext i <;> idx_vars i
    · exact dx_at _ _ _ _ _ _ _ _ _ _
    · exact gate_at _ _ _ _ _ _
    · exact mul_at _ _ _ _ _
    · exact pay5 _ _ _ _
    · exact pay6 _ _ _
    · refine (gain_at _ _ (fun _ => 0) _ _ _ _ _ _ _).trans (congrArg _ ?_)
      rw [gainUpTo_succ]
      rfl
  | n + 1, hn => by
    have hN : cfg0.N = 8 := N_0
    have hB : ¬(⟨n + 1, hn⟩ : Fin cfg0.N).val % 8 = 0 := by dsimp only; omega
    rw [outsAt0_B m c ⟨n + 1, hn⟩ hB, out_B_8, out_B_9, out_B_10, out_B_11, out_B_12, out_B_13, h.x, h.g, h.a, h.u, h.d, h.wg, h.wu, h.wd]
    have ih := outsAt_eq h n (Nat.lt_of_succ_lt hn)
    simp only [Nat.add_sub_cancel, ih]
    refine Prod.ext ?_ (Prod.ext ?_ (Prod.ext ?_ (Prod.ext ?_ (Prod.ext ?_ ?_)))) <;> funext i <;> idx_vars i
    · exact dx_at _ _ _ _ _ _ _ _ _ _
    · exact gate_at _ _ _ _ _ _
    · exact mul_at _ _ _ _ _
    · exact pay5 _ _ _ _
    · exact pay6 _ _ _
    · refine (gain_at _ _ (fun i => gainUpTo X D A U wg wu wd (n + 1) (i 1)) _ _ _ _ _ _ _).trans (congrArg _ ?_)
      rw [gainUpTo_succ X D A U wg wu wd (n + 1)]
      rfl

/-! ## The final arrays -/

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx1 : ∀ t : Fin grid0.N, win0_1.index t 0 = 0 ∧ win0_1.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem size8 : ∀ t : Fin grid0.N, win0_8.xsize (grid0.coords t) 0 = 256 ∧ win0_8.xsize (grid0.coords t) 1 = 1024 := by decide +kernel
theorem size9 : ∀ t : Fin grid0.N, win0_9.xsize (grid0.coords t) 0 = 256 ∧ win0_9.xsize (grid0.coords t) 1 = 2816 := by decide +kernel
theorem size10 : ∀ t : Fin grid0.N, win0_10.xsize (grid0.coords t) 0 = 256 ∧ win0_10.xsize (grid0.coords t) 1 = 2816 := by decide +kernel
theorem size11 : ∀ t : Fin grid0.N, win0_11.xsize (grid0.coords t) 0 = 256 ∧ win0_11.xsize (grid0.coords t) 1 = 1024 := by decide +kernel
theorem size12 : ∀ t : Fin grid0.N, win0_12.xsize (grid0.coords t) 0 = 256 ∧ win0_12.xsize (grid0.coords t) 1 = 1024 := by decide +kernel
theorem size13 : ∀ t : Fin grid0.N, win0_13.xsize (grid0.coords t) 0 = 1 ∧ win0_13.xsize (grid0.coords t) 1 = 1024 := by decide +kernel

/-- The gradient at the input. -/
theorem final8 (h : Blocks m c X D A U g wg wu wd) : (dats m 0 c).arrAt 8 cfg0.N = fun i => ((D (i 0).val (i 1) + dnorm (X (i 0).val) g (rh D A U wg wu wd (i 0).val) (i 1) : ℝ) : EReal) := by
  refine (dats m 0 c).arrAt_eq_of_cover 8 _ (fun t hf => ?_) fun (i : S2048x1024.Idx) => ?_
  · rw [flushed8, outsAt_eq m c X D A U g wg wu wd h]
    funext j
    rw [View.read_apply]
    have e0 : (((cfg0.win 8).blk t).view.emb j 0).val = 256 * t.val + (j 0).val := by
      show win0_8.index t 0 * 256 + 1 * (j 0).val = _
      rw [(idx8 t).1]; omega
    have e1 : ((cfg0.win 8).blk t).view.emb j 1 = j 1 := Fin.ext (by
      show win0_8.index t 1 * 1024 + 1 * (j 1).val = _
      rw [(idx8 t).2]; omega)
    show ((D (256 * t.val + (j 0).val) (j 1) + dnorm (X (256 * t.val + (j 0).val)) g (rh D A U wg wu wd (256 * t.val + (j 0).val)) (j 1) : ℝ) : EReal) = ((D (((cfg0.win 8).blk t).view.emb j 0).val (((cfg0.win 8).blk t).view.emb j 1) + dnorm (X (((cfg0.win 8).blk t).view.emb j 0).val) g (rh D A U wg wu wd (((cfg0.win 8).blk t).view.emb j 0).val) (((cfg0.win 8).blk t).view.emb j 1) : ℝ) : EReal)
    rw [e0, e1]
  · have hi : (i 0).val < 2048 := (i 0).isLt
    have h1 : (i 1).val < 1024 := (i 1).isLt
    obtain ⟨t, ht⟩ : ∃ t : Fin cfg0.N, t.val = (i 0).val / 256 := ⟨⟨(i 0).val / 256, by rw [show cfg0.N = 8 from N_0]; omega⟩, rfl⟩
    refine ⟨t, flush0_8 _, ?_⟩
    show i ∈ ((View.whole main_v23_0).slice (win0_8.rect t)).set
    rw [View.set_slice_whole, Rect.mem_set_unit]
    intro a
    match a with
    | ⟨0, _⟩ =>
      show win0_8.index _ 0 * 256 ≤ (i 0).val ∧ (i 0).val < win0_8.index _ 0 * 256 + win0_8.xsize (grid0.coords _) 0
      rw [(idx8 _).1, (size8 _).1]; omega
    | ⟨1, _⟩ =>
      show win0_8.index _ 1 * 1024 ≤ (i 1).val ∧ (i 1).val < win0_8.index _ 1 * 1024 + win0_8.xsize (grid0.coords _) 1
      rw [(idx8 _).2, (size8 _).2]; omega

/-- The gradient at the gate. -/
theorem final9 (h : Blocks m c X D A U g wg wu wd) : (dats m 0 c).arrAt 9 cfg0.N = fun i => ((rg D A U wd (i 0).val (i 1) : ℝ) : EReal) := by
  refine (dats m 0 c).arrAt_eq_of_cover 9 _ (fun t hf => ?_) fun (i : S2048x2816.Idx) => ?_
  · rw [flushed9, outsAt_eq m c X D A U g wg wu wd h]
    funext j
    rw [View.read_apply]
    have e0 : (((cfg0.win 9).blk t).view.emb j 0).val = 256 * t.val + (j 0).val := by
      show win0_9.index t 0 * 256 + 1 * (j 0).val = _
      rw [(idx9 t).1]; omega
    have e1 : ((cfg0.win 9).blk t).view.emb j 1 = j 1 := Fin.ext (by
      show win0_9.index t 1 * 2816 + 1 * (j 1).val = _
      rw [(idx9 t).2]; omega)
    show ((rg D A U wd (256 * t.val + (j 0).val) (j 1) : ℝ) : EReal) = ((rg D A U wd (((cfg0.win 9).blk t).view.emb j 0).val (((cfg0.win 9).blk t).view.emb j 1) : ℝ) : EReal)
    rw [e0, e1]
  · have hi : (i 0).val < 2048 := (i 0).isLt
    have h1 : (i 1).val < 2816 := (i 1).isLt
    obtain ⟨t, ht⟩ : ∃ t : Fin cfg0.N, t.val = (i 0).val / 256 := ⟨⟨(i 0).val / 256, by rw [show cfg0.N = 8 from N_0]; omega⟩, rfl⟩
    refine ⟨t, flush0_9 _, ?_⟩
    show i ∈ ((View.whole main_v23_1).slice (win0_9.rect t)).set
    rw [View.set_slice_whole, Rect.mem_set_unit]
    intro a
    match a with
    | ⟨0, _⟩ =>
      show win0_9.index _ 0 * 256 ≤ (i 0).val ∧ (i 0).val < win0_9.index _ 0 * 256 + win0_9.xsize (grid0.coords _) 0
      rw [(idx9 _).1, (size9 _).1]; omega
    | ⟨1, _⟩ =>
      show win0_9.index _ 1 * 2816 ≤ (i 1).val ∧ (i 1).val < win0_9.index _ 1 * 2816 + win0_9.xsize (grid0.coords _) 1
      rw [(idx9 _).2, (size9 _).2]; omega

/-- The gradient at the other factor. -/
theorem final10 (h : Blocks m c X D A U g wg wu wd) : (dats m 0 c).arrAt 10 cfg0.N = fun i => ((ru D A wd (i 0).val (i 1) : ℝ) : EReal) := by
  refine (dats m 0 c).arrAt_eq_of_cover 10 _ (fun t hf => ?_) fun (i : S2048x2816.Idx) => ?_
  · rw [flushed10, outsAt_eq m c X D A U g wg wu wd h]
    funext j
    rw [View.read_apply]
    have e0 : (((cfg0.win 10).blk t).view.emb j 0).val = 256 * t.val + (j 0).val := by
      show win0_10.index t 0 * 256 + 1 * (j 0).val = _
      rw [(idx10 t).1]; omega
    have e1 : ((cfg0.win 10).blk t).view.emb j 1 = j 1 := Fin.ext (by
      show win0_10.index t 1 * 2816 + 1 * (j 1).val = _
      rw [(idx10 t).2]; omega)
    show ((ru D A wd (256 * t.val + (j 0).val) (j 1) : ℝ) : EReal) = ((ru D A wd (((cfg0.win 10).blk t).view.emb j 0).val (((cfg0.win 10).blk t).view.emb j 1) : ℝ) : EReal)
    rw [e0, e1]
  · have hi : (i 0).val < 2048 := (i 0).isLt
    have h1 : (i 1).val < 2816 := (i 1).isLt
    obtain ⟨t, ht⟩ : ∃ t : Fin cfg0.N, t.val = (i 0).val / 256 := ⟨⟨(i 0).val / 256, by rw [show cfg0.N = 8 from N_0]; omega⟩, rfl⟩
    refine ⟨t, flush0_10 _, ?_⟩
    show i ∈ ((View.whole main_v23_2).slice (win0_10.rect t)).set
    rw [View.set_slice_whole, Rect.mem_set_unit]
    intro a
    match a with
    | ⟨0, _⟩ =>
      show win0_10.index _ 0 * 256 ≤ (i 0).val ∧ (i 0).val < win0_10.index _ 0 * 256 + win0_10.xsize (grid0.coords _) 0
      rw [(idx10 _).1, (size10 _).1]; omega
    | ⟨1, _⟩ =>
      show win0_10.index _ 1 * 2816 ≤ (i 1).val ∧ (i 1).val < win0_10.index _ 1 * 2816 + win0_10.xsize (grid0.coords _) 1
      rw [(idx10 _).2, (size10 _).2]; omega

/-- The normalised rows. -/
theorem final11 (h : Blocks m c X D A U g wg wu wd) : (dats m 0 c).arrAt 11 cfg0.N = fun i => ((hid (X (i 0).val) g (i 1) : ℝ) : EReal) := by
  refine (dats m 0 c).arrAt_eq_of_cover 11 _ (fun t hf => ?_) fun (i : S2048x1024.Idx) => ?_
  · rw [flushed11, outsAt_eq m c X D A U g wg wu wd h]
    funext j
    rw [View.read_apply]
    have e0 : (((cfg0.win 11).blk t).view.emb j 0).val = 256 * t.val + (j 0).val := by
      show win0_11.index t 0 * 256 + 1 * (j 0).val = _
      rw [(idx11 t).1]; omega
    have e1 : ((cfg0.win 11).blk t).view.emb j 1 = j 1 := Fin.ext (by
      show win0_11.index t 1 * 1024 + 1 * (j 1).val = _
      rw [(idx11 t).2]; omega)
    show ((hid (X (256 * t.val + (j 0).val)) g (j 1) : ℝ) : EReal) = ((hid (X (((cfg0.win 11).blk t).view.emb j 0).val) g (((cfg0.win 11).blk t).view.emb j 1) : ℝ) : EReal)
    rw [e0, e1]
  · have hi : (i 0).val < 2048 := (i 0).isLt
    have h1 : (i 1).val < 1024 := (i 1).isLt
    obtain ⟨t, ht⟩ : ∃ t : Fin cfg0.N, t.val = (i 0).val / 256 := ⟨⟨(i 0).val / 256, by rw [show cfg0.N = 8 from N_0]; omega⟩, rfl⟩
    refine ⟨t, flush0_11 _, ?_⟩
    show i ∈ ((View.whole main_v23_3).slice (win0_11.rect t)).set
    rw [View.set_slice_whole, Rect.mem_set_unit]
    intro a
    match a with
    | ⟨0, _⟩ =>
      show win0_11.index _ 0 * 256 ≤ (i 0).val ∧ (i 0).val < win0_11.index _ 0 * 256 + win0_11.xsize (grid0.coords _) 0
      rw [(idx11 _).1, (size11 _).1]; omega
    | ⟨1, _⟩ =>
      show win0_11.index _ 1 * 1024 ≤ (i 1).val ∧ (i 1).val < win0_11.index _ 1 * 1024 + win0_11.xsize (grid0.coords _) 1
      rw [(idx11 _).2, (size11 _).2]; omega

/-- The half gradient. -/
theorem final12 (h : Blocks m c X D A U g wg wu wd) : (dats m 0 c).arrAt 12 cfg0.N = fun i => ((1 / 2 * D (i 0).val (i 1) : ℝ) : EReal) := by
  refine (dats m 0 c).arrAt_eq_of_cover 12 _ (fun t hf => ?_) fun (i : S2048x1024.Idx) => ?_
  · rw [flushed12, outsAt_eq m c X D A U g wg wu wd h]
    funext j
    rw [View.read_apply]
    have e0 : (((cfg0.win 12).blk t).view.emb j 0).val = 256 * t.val + (j 0).val := by
      show win0_12.index t 0 * 256 + 1 * (j 0).val = _
      rw [(idx12 t).1]; omega
    have e1 : ((cfg0.win 12).blk t).view.emb j 1 = j 1 := Fin.ext (by
      show win0_12.index t 1 * 1024 + 1 * (j 1).val = _
      rw [(idx12 t).2]; omega)
    show ((1 / 2 * D (256 * t.val + (j 0).val) (j 1) : ℝ) : EReal) = ((1 / 2 * D (((cfg0.win 12).blk t).view.emb j 0).val (((cfg0.win 12).blk t).view.emb j 1) : ℝ) : EReal)
    rw [e0, e1]
  · have hi : (i 0).val < 2048 := (i 0).isLt
    have h1 : (i 1).val < 1024 := (i 1).isLt
    obtain ⟨t, ht⟩ : ∃ t : Fin cfg0.N, t.val = (i 0).val / 256 := ⟨⟨(i 0).val / 256, by rw [show cfg0.N = 8 from N_0]; omega⟩, rfl⟩
    refine ⟨t, flush0_12 _, ?_⟩
    show i ∈ ((View.whole main_v23_4).slice (win0_12.rect t)).set
    rw [View.set_slice_whole, Rect.mem_set_unit]
    intro a
    match a with
    | ⟨0, _⟩ =>
      show win0_12.index _ 0 * 256 ≤ (i 0).val ∧ (i 0).val < win0_12.index _ 0 * 256 + win0_12.xsize (grid0.coords _) 0
      rw [(idx12 _).1, (size12 _).1]; omega
    | ⟨1, _⟩ =>
      show win0_12.index _ 1 * 1024 ≤ (i 1).val ∧ (i 1).val < win0_12.index _ 1 * 1024 + win0_12.xsize (grid0.coords _) 1
      rw [(idx12 _).2, (size12 _).2]; omega

theorem last_of_flush {t : Fin cfg0.N} (h : t.val % 8 = 7) : t = t0_7 := by
  have hN : cfg0.N = 8 := N_0
  exact Fin.ext (by have := t.isLt; show t.val = 7; omega)

/-- The gain's gradient. -/
theorem final13 (h : Blocks m c X D A U g wg wu wd) :
    (dats m 0 c).arrAt 13 cfg0.N = fun i => ((gainUpTo X D A U wg wu wd 8 (i 1) : ℝ) : EReal) := by
  refine (dats m 0 c).arrAt_eq_of_cover 13 _ (fun t hf => ?_) fun (i : S1x1024.Idx) => ?_
  · obtain rfl := last_of_flush ((flush0_13 t).mp hf)
    rw [flushed13, outsAt_eq m c X D A U g wg wu wd h]
    funext j
    rw [View.read_apply]
    have e1 : ((cfg0.win 13).blk t0_7).view.emb j 1 = j 1 := Fin.ext (by
      show 0 * 1024 + 1 * (j 1).val = _
      omega)
    show ((gainUpTo X D A U wg wu wd 8 (j 1) : ℝ) : EReal)
      = ((gainUpTo X D A U wg wu wd 8 (((cfg0.win 13).blk t0_7).view.emb j 1) : ℝ) : EReal)
    rw [e1]
  · have h0 : (i 0).val < 1 := (i 0).isLt
    have h1 : (i 1).val < 1024 := (i 1).isLt
    refine ⟨t0_7, (flush0_13 _).mpr rfl, ?_⟩
    show i ∈ ((View.whole main_v23_5).slice (win0_13.rect t0_7)).set
    rw [View.set_slice_whole, Rect.mem_set_unit]
    intro a
    match a with
    | ⟨0, _⟩ =>
      show 0 * 1 ≤ (i 0).val ∧ (i 0).val < 0 * 1 + win0_13.xsize (grid0.coords _) 0
      rw [(size13 _).1]; omega
    | ⟨1, _⟩ =>
      show 0 * 1024 ≤ (i 1).val ∧ (i 1).val < 0 * 1024 + win0_13.xsize (grid0.coords _) 1
      rw [(size13 _).2]; omega

theorem gainUpTo_all (k : Fin 1024) :
    gainUpTo X D A U wg wu wd 8 k = ∑ i : Fin 2048, rh D A U wg wu wd i.val k * (X i.val k * rs (X i.val)) := by
  rw [Fin.sum_univ_tiles 8 256 rfl fun i : Fin 2048 => rh D A U wg wu wd i.val k * (X i.val k * rs (X i.val)), gainUpTo, Finset.sum_range]
  simp only [Nat.mul_comm 256]

end Cert.FfnIdeal.Value

end
-- ==== Proof.FfnRef.lean ====
/-
  The half-step reference's stages over finite arguments, as real functions of a row.
-/
module

public import proofs.«01_k».proof.Proof.Gate
public import proofs.«01_k».proof.Proof.Gen.FfnRefIdeal.Read
public import Idealize.ShloMosaic.Lib.Pointwise

@[expose] public section

set_option maxRecDepth 16384

noncomputable section

namespace Cert.FfnRefIdeal.Read

open Cert.FfnRefIdeal Cert.FfnRefIdeal.Gen Idealize.ShloMosaic Idealize.ShloMosaic.TcCoe Idealize.SL.Sem Cert.Reals

variable (x : S2048x1024.Idx → ℝ) (g : S1024.Idx → ℝ) (wg wu : S1024x2816.Idx → ℝ) (wd : S2816x1024.Idx → ℝ) (d : S2048x1024.Idx → ℝ)

/-- A real array as the programs' contents. -/
abbrev up {s : Shape} (x : s.Idx → ℝ) : Vec Ideal s .f32 := fun i => ((x i : ℝ) : EReal)
/-- A row, a vector, a matrix. -/
abbrev row (x : S2048x1024.Idx → ℝ) (i : Fin 2048) : Fin 1024 → ℝ := fun k => x (ix2 i k)
abbrev vec (g : S1024.Idx → ℝ) : Fin 1024 → ℝ := fun k => g (ix1 k)
abbrev mat {a b : ℕ} (w : Shape.Idx ⟨2, ![a, b]⟩ → ℝ) : Fin a → Fin b → ℝ := fun k j => w (ix2 k j)

/-- The forward pass's two projections of a row. -/
abbrev gate (i : Fin 2048) : Fin 2816 → ℝ := lin (hid (row x i) (vec g)) (mat wg)
/-- The gradients at the gate, at the other factor and at the normalised row. -/
abbrev dg (i : Fin 2048) (j : Fin 2816) : ℝ := dgate (dact (row d i) (mat wd) j) (gate x g wg i j) (gate x g wu i j)
abbrev du (i : Fin 2048) (j : Fin 2816) : ℝ := dmul (dact (row d i) (mat wd) j) (gate x g wg i j)
abbrev dh (i : Fin 2048) : Fin 1024 → ℝ := dhid (dg x g wg wu wd d i) (du x g wg wd d i) (mat wg) (mat wu)

theorem v8 (i : Fin 2048) (y : Fin 1) : val_main_v8 (F := Ideal) (up x) (ix2 i y) = ((ms (row x i) : ℝ) : EReal) := by
  pointwise [val_main_v8, val_main_v7, val_main_v6, val_main_v5, val_main_v4, val_main_v3, val_main_v2, val_main_cst_1, val_main_cst_2, val_main_cst_3]
  simp only [ofBits_1024, ofBits_eps, ← EReal.coe_mul, ← coe_sum]
  rw [div_coe_coe (by norm_num), ← EReal.coe_add]
  rfl

theorem v9 (i : Fin 2048) (y : Fin 1) : val_main_v9 (F := Ideal) (up x) (ix2 i y) = ((rs (row x i) : ℝ) : EReal) := by
  pointwise [val_main_v9, v8]
  exact rsqrt_coe_pos (ms_pos _)

theorem v14 (i : Fin 2048) (k : Fin 1024) : val_main_v14 (F := Ideal) (up x) (ix2 i k) = ((row x i k * rs (row x i) : ℝ) : EReal) := by
  pointwise [val_main_v14, val_main_v13, v9]
  rw [← EReal.coe_mul]

theorem v17 (i : Fin 2048) (k : Fin 1024) :
    val_main_v17 (F := Ideal) (up x) (up g) (ix2 i k) = ((hid (row x i) (vec g) k : ℝ) : EReal) := by
  pointwise [val_main_v17, val_main_v16, val_main_v15, v14]
  rw [← EReal.coe_mul]
  rfl

theorem v18 (i : Fin 2048) (j : Fin 2816) :
    val_main_v18 (F := Ideal) (up x) (up g) (up wg) (ix2 i j) = ((gate x g wg i j : ℝ) : EReal) := by
  pointwise [val_main_v18, v17]
  simp only [← EReal.coe_mul, ← coe_sum]
  rfl

theorem v20 (i : Fin 2048) (j : Fin 2816) :
    val_main_v20 (F := Ideal) (up x) (up g) (up wu) (ix2 i j) = ((gate x g wu i j : ℝ) : EReal) := v18 x g wu i j

theorem v19 (i : Fin 2048) (j : Fin 2816) :
    val_main_v19 (F := Ideal) (up x) (up g) (up wg) (ix2 i j) = ((gate x g wg i j : ℝ) : EReal) := by
  pointwise [val_main_v19, val_main_v0, val_main_cst, v18]

theorem v21 (i : Fin 2048) (j : Fin 2816) :
    val_main_v21 (F := Ideal) (up x) (up g) (up wu) (ix2 i j) = ((gate x g wu i j : ℝ) : EReal) := v19 x g wu i j

theorem v22_2 (i : Fin 2048) (j : Fin 2816) :
    val_main_v22_2 (F := Ideal) (up x) (up g) (up wg) (ix2 i j) = ((logi (gate x g wg i j) : ℝ) : EReal) := by
  pointwise [val_main_v22_2, val_main_call0_v4, val_main_call0_v3, val_main_call0_v2, val_main_call0_v1, val_main_call0_v0,
    val_main_call0_cst, val_main_call0_cst_0, v19]
  rw [← EReal.coe_neg, Ideal.exp_coe, ← EReal.coe_one, ← EReal.coe_add, div_coe_coe (logi_den_ne _)]
  rfl

theorem v22_0 (i : Fin 2048) (j : Fin 2816) :
    val_main_v22_0 (F := Ideal) (up x) (up g) (up wg) (ix2 i j) = ((gate x g wg i j * logi (gate x g wg i j) : ℝ) : EReal) := by
  pointwise [val_main_v22_0, v19, v22_2]
  rw [← EReal.coe_mul]

/-- The gradient at the gated product's result. -/
theorem v31 (i : Fin 2048) (k : Fin 1024) : val_main_v31 (F := Ideal) (up d) (ix2 i k) = ((1 / 2 * row d i k : ℝ) : EReal) := by
  pointwise [val_main_v31, val_main_v30, val_main_v29, val_main_cst_6]
  rw [ofBits_half, ← EReal.coe_mul]

theorem v34 (i : Fin 2048) (j : Fin 2816) :
    val_main_v34 (F := Ideal) (up wd) (up d) (ix2 i j) = ((dact (row d i) (mat wd) j : ℝ) : EReal) := by
  pointwise [val_main_v34, v31]
  simp only [← EReal.coe_mul, ← coe_sum]
  rfl

theorem v35 (i : Fin 2048) (j : Fin 2816) :
    val_main_v35 (F := Ideal) (up x) (up g) (up wg) (up wd) (up d) (ix2 i j) = ((du x g wg wd d i j : ℝ) : EReal) := by
  pointwise [val_main_v35, v22_0, v34]
  rw [← EReal.coe_mul, du, dmul, mul_comm]

theorem v36 (i : Fin 2048) (j : Fin 2816) :
    val_main_v36 (F := Ideal) (up x) (up g) (up wu) (up wd) (up d) (ix2 i j)
      = ((dact (row d i) (mat wd) j * gate x g wu i j : ℝ) : EReal) := by
  pointwise [val_main_v36, v34, v21]
  rw [← EReal.coe_mul]

theorem v37 (i : Fin 2048) (j : Fin 2816) :
    val_main_v37 (F := Ideal) (up x) (up g) (up wg) (up wu) (up wd) (up d) (ix2 i j) = ((dg x g wg wu wd d i j : ℝ) : EReal) := by
  pointwise [val_main_v37, val_main_call1_v1, val_main_call1_v2, val_main_call1_v0, val_main_v22_1, val_main_call0_v7, val_main_call0_v6,
    val_main_call0_cst_1, v36, v22_2, v19]
  simp only [← EReal.coe_one, ← EReal.coe_mul, ← EReal.coe_sub, ← EReal.coe_add]
  refine congrArg _ ?_
  rw [dg, dgate]
  ring

theorem v44 (i : Fin 2048) (k : Fin 1024) :
    val_main_v44 (F := Ideal) (up x) (up g) (up wg) (up wu) (up wd) (up d) (ix2 i k) = ((dh x g wg wu wd d i k : ℝ) : EReal) := by
  pointwise [val_main_v44, val_main_v40, val_main_v43, v35, v37]
  simp only [← EReal.coe_mul, ← coe_sum, ← EReal.coe_add]
  refine congrArg _ ?_
  rw [dh, dhid, add_comm]

/-- The gain's gradient. -/
theorem v46 (k : Fin 1024) :
    val_main_v46 (F := Ideal) (up x) (up g) (up wg) (up wu) (up wd) (up d) (ix1 k)
      = ((∑ i, dh x g wg wu wd d i k * (row x i k * rs (row x i)) : ℝ) : EReal) := by
  pointwise [val_main_v46, val_main_cst_7, val_main_v45, v14, v44]
  simp only [← EReal.coe_mul, ← coe_sum]
  exact congrArg _ (Finset.sum_congr rfl fun i _ => mul_comm _ _)

theorem v70 (z : Fin 1) (k : Fin 1024) :
    val_main_v70 (F := Ideal) (up x) (up g) (up wg) (up wu) (up wd) (up d) (ix2 z k)
      = ((∑ i, dh x g wg wu wd d i k * (row x i k * rs (row x i)) : ℝ) : EReal) := by
  obtain rfl : z = 0 := Subsingleton.elim _ _
  pointwise [val_main_v70, val_main_v50, val_main_cst_8, val_main_v47, v46]
  exact Fin.sum_univ_one _

theorem v49 (i : Fin 2048) (k : Fin 1024) :
    val_main_v49 (F := Ideal) (up x) (up g) (up wg) (up wu) (up wd) (up d) (ix2 i k) = ((dh x g wg wu wd d i k * vec g k : ℝ) : EReal) := by
  pointwise [val_main_v49, val_main_v48, val_main_v15, v44]
  rw [← EReal.coe_mul]

theorem v59 (i : Fin 2048) (y : Fin 1) :
    val_main_v59 (F := Ideal) (up x) (up g) (up wg) (up wu) (up wd) (up d) (ix2 i y)
      = (((∑ l, row x i l * (dh x g wg wu wd d i l * vec g l)) * (-(1 / 2) * (rs (row x i) / ms (row x i))) / 1024 : ℝ) : EReal) := by
  pointwise [val_main_v59, val_main_v58, val_main_cst_10, val_main_v57, val_main_v53, val_main_v52, val_main_cst_9, val_main_v51,
    val_main_v12, val_main_v11, val_main_cst_4, val_main_v10, v9, v8, v49]
  simp only [ofBits_1024, ofBits_neg_half, ← EReal.coe_mul, ← coe_sum, div_coe_coe (by norm_num : (1024 : ℝ) ≠ 0), div_coe_coe (ms_pos _).ne']

/-- The gradient at the input. -/
theorem v65 (i : Fin 2048) (k : Fin 1024) :
    val_main_v65 (F := Ideal) (up x) (up g) (up wg) (up wu) (up wd) (up d) (ix2 i k)
      = ((row d i k + dnorm (row x i) (vec g) (dh x g wg wu wd d i) k : ℝ) : EReal) := by
  have e : val_main_v60 (F := Ideal) (up x) (up g) (up wg) (up wu) (up wd) (up d) (ix1 i)
      = val_main_v59 (F := Ideal) (up x) (up g) (up wg) (up wu) (up wd) (up d) (ix2 i 0) := by
    pointwise [val_main_v60, val_main_cst_11]
    exact Fin.sum_univ_one _
  pointwise [val_main_v65, val_main_v64, val_main_v63, val_main_v62, val_main_v61, val_main_v56, val_main_v55, val_main_v54, e, v59, v9, v49]
  simp only [← EReal.coe_mul, ← EReal.coe_add]
  refine congrArg _ ?_
  rw [← dnorm_eq]
  ring

/-! ## The results that are cast -/

theorem v66 (i : Fin 2048) (j : Fin 2816) :
    val_main_v66 (F := Ideal) (up x) (up g) (up wg) (up wu) (up wd) (up d) (ix2 i j) = ((dg x g wg wu wd d i j : ℝ) : EReal) := by
  pointwise [val_main_v66, v37]
theorem v67 (i : Fin 2048) (j : Fin 2816) :
    val_main_v67 (F := Ideal) (up x) (up g) (up wg) (up wd) (up d) (ix2 i j) = ((du x g wg wd d i j : ℝ) : EReal) := by
  pointwise [val_main_v67, v35]
theorem v68 (i : Fin 2048) (k : Fin 1024) : val_main_v68 (F := Ideal) (up x) (up g) (ix2 i k) = ((hid (row x i) (vec g) k : ℝ) : EReal) := by
  pointwise [val_main_v68, v17]
theorem v69 (i : Fin 2048) (k : Fin 1024) : val_main_v69 (F := Ideal) (up d) (ix2 i k) = ((1 / 2 * row d i k : ℝ) : EReal) := by
  pointwise [val_main_v69, v31]

end Cert.FfnRefIdeal.Read

end
-- ==== Proof.FfnClaim.lean ====
/-
  The half step's backward call: the frames of its three programs, its blocks over finite arguments, and the kernel's six
  results equal to the reference's.
-/
module

public import proofs.«01_k».proof.Defs
public import proofs.«01_k».proof.Proof.FfnKernel
public import proofs.«01_k».proof.Proof.FfnRef
public import proofs.«01_k».proof.Proof.Gen.Ffn.Frame
public import proofs.«01_k».proof.Proof.Gen.FfnRefIdeal.Run
public import proofs.«01_k».proof.Proof.Gen.Pre_ffn_finite
public import Idealize.ShloMosaic.Lib.Quiescent
public import Idealize.ShloMosaic.Lib.StableHlo.RunRead

@[expose] public section

set_option maxRecDepth 16384

noncomputable section

namespace Cert.FfnIdeal.Value

open Cert.FfnIdeal Cert.FfnIdeal.Gen Idealize.ShloMosaic Idealize.ShloMosaic.TcCoe Idealize.SL.Sem Cert.Reals
open Cert.FfnRefIdeal.Read (up vec mat gate val_main_v18 val_main_v20 v18 v20)

variable (X : Valuation τ sig (Elt Ideal)) (m : (ℓ : Loc nD τ sig) → Buf (Elt Ideal) ℓ) (c : Dev nD)
variable (x : S2048x1024.Idx → ℝ) (g : S1024.Idx → ℝ) (wg wu : S1024x2816.Idx → ℝ) (wd : S2816x1024.Idx → ℝ) (d : S2048x1024.Idx → ℝ)

theorem tree_v13 (h1 : X (Proc.devRef .tc main_arg1) = up g) :
    (StableHlo.after hostOps0 X (Proc.devRef .tc main_v13) : Vec Ideal S1x1024 .f32) = shapeCast S1x1024 (up g : Vec Ideal S1024 .f32) shapeCasts_S1024_S1x1024 := by
  after_reads_simp
  rw [h1]
  sl_kernel_rfl
theorem tree_v15 (h0 : X (Proc.devRef .tc main_arg0) = up x) (h1 : X (Proc.devRef .tc main_arg1) = up g) (h2 : X (Proc.devRef .tc main_arg2) = up wg) :
    (StableHlo.after hostOps0 X (Proc.devRef .tc main_v15) : FVec Ideal S2048x2816 .bf16) = truncf (F := Ideal) .bf16 (val_main_v18 (F := Ideal) (up x) (up g) (up wg)) bitsLt_bf16_f32 := by
  after_reads_simp
  rw [h0, h1, h2]
  sl_kernel_rfl
theorem tree_v17 (h0 : X (Proc.devRef .tc main_arg0) = up x) (h1 : X (Proc.devRef .tc main_arg1) = up g) (h3 : X (Proc.devRef .tc main_arg3) = up wu) :
    (StableHlo.after hostOps0 X (Proc.devRef .tc main_v17) : FVec Ideal S2048x2816 .bf16) = truncf (F := Ideal) .bf16 (val_main_v20 (F := Ideal) (up x) (up g) (up wu)) bitsLt_bf16_f32 := by
  after_reads_simp
  rw [h0, h1, h3]
  sl_kernel_rfl
theorem tree_v19 (h2 : X (Proc.devRef .tc main_arg2) = up wg) :
    (StableHlo.after hostOps0 X (Proc.devRef .tc main_v19) : FVec Ideal S2816x1024 .bf16) = truncf (F := Ideal) .bf16 (transpose S2816x1024 [1, 0] (up wg : FVec Ideal S1024x2816 .f32) transposes_S1024x2816_S2816x1024_1_0) bitsLt_bf16_f32 := by
  after_reads_simp
  rw [h2]
theorem tree_v21 (h3 : X (Proc.devRef .tc main_arg3) = up wu) :
    (StableHlo.after hostOps0 X (Proc.devRef .tc main_v21) : FVec Ideal S2816x1024 .bf16) = truncf (F := Ideal) .bf16 (transpose S2816x1024 [1, 0] (up wu : FVec Ideal S1024x2816 .f32) transposes_S1024x2816_S2816x1024_1_0) bitsLt_bf16_f32 := by
  after_reads_simp
  rw [h3]
theorem tree_v22 (h4 : X (Proc.devRef .tc main_arg4) = up wd) :
    (StableHlo.after hostOps0 X (Proc.devRef .tc main_v22) : FVec Ideal S2816x1024 .bf16) = truncf (F := Ideal) .bf16 (up wd : FVec Ideal S2816x1024 .f32) bitsLt_bf16_f32 := by
  after_reads_simp
  rw [h4]

/-- Rows by number. -/
def rows {b : ℕ} (x : Fin 2048 → Fin b → ℝ) (n : ℕ) (k : Fin b) : ℝ := if h : n < 2048 then x ⟨n, h⟩ k else 0
theorem rows_of {b : ℕ} (x : Fin 2048 → Fin b → ℝ) (n : ℕ) (h : n < 2048) (k : Fin b) : rows x n k = x ⟨n, h⟩ k := dif_pos h
theorem rows_val {b : ℕ} (x : Fin 2048 → Fin b → ℝ) (i : Fin 2048) : rows x i.val = x i := funext fun k => rows_of x i.val i.isLt k
/-- A weight read the other way. -/
abbrev turn (w : S1024x2816.Idx → ℝ) : S2816x1024.Idx → ℝ := fun i => w (ix2 (i 1) (i 0))

theorem point_lt (p : Fin cfg0.N) : p.val < 8 := by
  have h := p.isLt
  have hN : cfg0.N = 8 := N_0
  omega
theorem row_lt (p : Fin cfg0.N) (j : Fin 256) : 256 * p.val + j.val < 2048 := by
  have := point_lt p
  omega

theorem gain_in (z : Fin 1) (k : Fin 1024) :
    shapeCast S1x1024 (up g : Vec Ideal S1024 .f32) shapeCasts_S1024_S1x1024 (ix2 z k) = ((g (ix1 k) : ℝ) : EReal) := by
  pointwise
theorem gate_in (i : Fin 2048) (j : Fin 2816) :
    (truncf (F := Ideal) .bf16 (val_main_v18 (F := Ideal) (up x) (up g) (up wg)) bitsLt_bf16_f32 : FVec Ideal S2048x2816 .bf16) (ix2 i j)
      = ((gate x g wg i j : ℝ) : EReal) := by
  pointwise [v18]
theorem mul_in (i : Fin 2048) (j : Fin 2816) :
    (truncf (F := Ideal) .bf16 (val_main_v20 (F := Ideal) (up x) (up g) (up wu)) bitsLt_bf16_f32 : FVec Ideal S2048x2816 .bf16) (ix2 i j)
      = ((gate x g wu i j : ℝ) : EReal) := by
  pointwise [v20]
theorem turn_in (j : Fin 2816) (k : Fin 1024) :
    (truncf (F := Ideal) .bf16 (transpose S2816x1024 [1, 0] (up wg : FVec Ideal S1024x2816 .f32) transposes_S1024x2816_S2816x1024_1_0) bitsLt_bf16_f32
      : FVec Ideal S2816x1024 .bf16) (ix2 j k) = ((turn wg (ix2 j k) : ℝ) : EReal) := by
  pointwise
  rfl
theorem down_in (j : Fin 2816) (k : Fin 1024) :
    (truncf (F := Ideal) .bf16 (up wd : FVec Ideal S2816x1024 .f32) bitsLt_bf16_f32 : FVec Ideal S2816x1024 .bf16) (ix2 j k) = ((wd (ix2 j k) : ℝ) : EReal) := by
  pointwise

theorem emb0 (p : Fin cfg0.N) (j0 : Fin 256) (j1 : Fin 1024) :
    ((cfg0.win 0).blk p).view.emb (ix2 j0 j1) = ix2 (⟨256 * p.val + j0.val, row_lt p j0⟩ : Fin 2048) j1 := by
  funext a
  refine Fin.ext ?_
  match a with
  | ⟨0, _⟩ => show win0_0.index p 0 * 256 + 1 * j0.val = 256 * p.val + j0.val; rw [(idx0 p).1]; omega
  | ⟨1, _⟩ => show win0_0.index p 1 * 1024 + 1 * j1.val = j1.val; rw [(idx0 p).2]; omega
theorem emb2 (p : Fin cfg0.N) (j0 : Fin 256) (j1 : Fin 2816) :
    ((cfg0.win 2).blk p).view.emb (ix2 j0 j1) = ix2 (⟨256 * p.val + j0.val, row_lt p j0⟩ : Fin 2048) j1 := by
  funext a
  refine Fin.ext ?_
  match a with
  | ⟨0, _⟩ => show win0_2.index p 0 * 256 + 1 * j0.val = 256 * p.val + j0.val; rw [(idx2 p).1]; omega
  | ⟨1, _⟩ => show win0_2.index p 1 * 2816 + 1 * j1.val = j1.val; rw [(idx2 p).2]; omega
theorem emb3 (p : Fin cfg0.N) (j0 : Fin 256) (j1 : Fin 2816) :
    ((cfg0.win 3).blk p).view.emb (ix2 j0 j1) = ix2 (⟨256 * p.val + j0.val, row_lt p j0⟩ : Fin 2048) j1 := by
  funext a
  refine Fin.ext ?_
  match a with
  | ⟨0, _⟩ => show win0_3.index p 0 * 256 + 1 * j0.val = 256 * p.val + j0.val; rw [(idx3 p).1]; omega
  | ⟨1, _⟩ => show win0_3.index p 1 * 2816 + 1 * j1.val = j1.val; rw [(idx3 p).2]; omega
theorem emb4 (p : Fin cfg0.N) (j0 : Fin 256) (j1 : Fin 1024) :
    ((cfg0.win 4).blk p).view.emb (ix2 j0 j1) = ix2 (⟨256 * p.val + j0.val, row_lt p j0⟩ : Fin 2048) j1 := by
  funext a
  refine Fin.ext ?_
  match a with
  | ⟨0, _⟩ => show win0_4.index p 0 * 256 + 1 * j0.val = 256 * p.val + j0.val; rw [(idx4 p).1]; omega
  | ⟨1, _⟩ => show win0_4.index p 1 * 1024 + 1 * j1.val = j1.val; rw [(idx4 p).2]; omega
theorem emb1 (p : Fin cfg0.N) (j0 : Fin 1) (j1 : Fin 1024) : ((cfg0.win 1).blk p).view.emb (ix2 j0 j1) = ix2 j0 j1 := by
  funext a
  refine Fin.ext ?_
  match a with
  | ⟨0, _⟩ => show win0_1.index p 0 * 1 + 1 * j0.val = j0.val; rw [(idx1 p).1]; omega
  | ⟨1, _⟩ => show win0_1.index p 1 * 1024 + 1 * j1.val = j1.val; rw [(idx1 p).2]; omega
theorem emb5 (p : Fin cfg0.N) (j0 : Fin 2816) (j1 : Fin 1024) : ((cfg0.win 5).blk p).view.emb (ix2 j0 j1) = ix2 j0 j1 := by
  funext a
  refine Fin.ext ?_
  match a with
  | ⟨0, _⟩ => show win0_5.index p 0 * 2816 + 1 * j0.val = j0.val; rw [(idx5 p).1]; omega
  | ⟨1, _⟩ => show win0_5.index p 1 * 1024 + 1 * j1.val = j1.val; rw [(idx5 p).2]; omega
theorem emb6 (p : Fin cfg0.N) (j0 : Fin 2816) (j1 : Fin 1024) : ((cfg0.win 6).blk p).view.emb (ix2 j0 j1) = ix2 j0 j1 := by
  funext a
  refine Fin.ext ?_
  match a with
  | ⟨0, _⟩ => show win0_6.index p 0 * 2816 + 1 * j0.val = j0.val; rw [(idx6 p).1]; omega
  | ⟨1, _⟩ => show win0_6.index p 1 * 1024 + 1 * j1.val = j1.val; rw [(idx6 p).2]; omega
theorem emb7 (p : Fin cfg0.N) (j0 : Fin 2816) (j1 : Fin 1024) : ((cfg0.win 7).blk p).view.emb (ix2 j0 j1) = ix2 j0 j1 := by
  funext a
  refine Fin.ext ?_
  match a with
  | ⟨0, _⟩ => show win0_7.index p 0 * 2816 + 1 * j0.val = j0.val; rw [(idx7 p).1]; omega
  | ⟨1, _⟩ => show win0_7.index p 1 * 1024 + 1 * j1.val = j1.val; rw [(idx7 p).2]; omega

/-- The blocks of real arguments. -/
theorem blocks (h0 : m ((c : Thread nD τ).loc main_arg0) = up x) (h1 : m ((c : Thread nD τ).loc main_arg1) = up g)
    (h2 : m ((c : Thread nD τ).loc main_arg2) = up wg) (h3 : m ((c : Thread nD τ).loc main_arg3) = up wu)
    (h4 : m ((c : Thread nD τ).loc main_arg4) = up wd) (h5 : m ((c : Thread nD τ).loc main_arg5) = up d) :
    Blocks m c (rows (mat x)) (rows (mat d)) (rows (gate x g wg)) (rows (gate x g wu)) (fun k => g (ix1 k)) (turn wg) (turn wu) wd where
  x p := by
    funext j
    idx_vars j
    show V m c main_arg0 (((cfg0.win 0).blk p).view.emb (ix2 j0 j1)) = ((rows (mat x) (256 * p.val + j0.val) j1 : ℝ) : EReal)
    rw [emb0, rows_of _ _ (row_lt p j0)]
    exact (congrFun ((V_main_arg0 m c).trans h0) _).trans (rfl)
  g p := by
    funext j
    idx_vars j
    show V m c main_v13 (((cfg0.win 1).blk p).view.emb (ix2 j0 j1)) = ((g (ix1 j1) : ℝ) : EReal)
    rw [emb1]
    exact (congrFun (tree_v13 _ g h1) _).trans (gain_in g j0 j1)
  a p := by
    funext j
    idx_vars j
    show V m c main_v15 (((cfg0.win 2).blk p).view.emb (ix2 j0 j1)) = ((rows (gate x g wg) (256 * p.val + j0.val) j1 : ℝ) : EReal)
    rw [emb2, rows_of _ _ (row_lt p j0)]
    exact (congrFun (tree_v15 _ x g wg h0 h1 h2) _).trans (gate_in x g wg _ j1)
  u p := by
    funext j
    idx_vars j
    show V m c main_v17 (((cfg0.win 3).blk p).view.emb (ix2 j0 j1)) = ((rows (gate x g wu) (256 * p.val + j0.val) j1 : ℝ) : EReal)
    rw [emb3, rows_of _ _ (row_lt p j0)]
    exact (congrFun (tree_v17 _ x g wu h0 h1 h3) _).trans (mul_in x g wu _ j1)
  d p := by
    funext j
    idx_vars j
    show V m c main_arg5 (((cfg0.win 4).blk p).view.emb (ix2 j0 j1)) = ((rows (mat d) (256 * p.val + j0.val) j1 : ℝ) : EReal)
    rw [emb4, rows_of _ _ (row_lt p j0)]
    exact (congrFun ((V_main_arg5 m c).trans h5) _).trans (rfl)
  wg p := by
    funext j
    idx_vars j
    show V m c main_v19 (((cfg0.win 5).blk p).view.emb (ix2 j0 j1)) = ((turn wg (ix2 j0 j1) : ℝ) : EReal)
    rw [emb5]
    exact (congrFun (tree_v19 _ wg h2) _).trans (turn_in wg j0 j1)
  wu p := by
    funext j
    idx_vars j
    show V m c main_v21 (((cfg0.win 6).blk p).view.emb (ix2 j0 j1)) = ((turn wu (ix2 j0 j1) : ℝ) : EReal)
    rw [emb6]
    exact (congrFun (tree_v21 _ wu h3) _).trans (turn_in wu j0 j1)
  wd p := by
    funext j
    idx_vars j
    show V m c main_v22 (((cfg0.win 7).blk p).view.emb (ix2 j0 j1)) = ((wd (ix2 j0 j1) : ℝ) : EReal)
    rw [emb7]
    exact (congrFun (tree_v22 _ wd h4) _).trans (down_in wd j0 j1)

/-- The rows' gradients are the reference's. -/
theorem rg_rows (i : Fin 2048) (j : Fin 2816) :
    rg (rows (mat d)) (rows (gate x g wg)) (rows (gate x g wu)) wd i.val j = Cert.FfnRefIdeal.Read.dg x g wg wu wd d i j := by
  simp only [rg, rows_val]
theorem ru_rows (i : Fin 2048) (j : Fin 2816) :
    ru (rows (mat d)) (rows (gate x g wg)) wd i.val j = Cert.FfnRefIdeal.Read.du x g wg wd d i j := by
  simp only [ru, rows_val]
theorem rh_rows (i : Fin 2048) : rh (rows (mat d)) (rows (gate x g wg)) (rows (gate x g wu)) (turn wg) (turn wu) wd i.val
    = Cert.FfnRefIdeal.Read.dh x g wg wu wd d i := by
  unfold rh
  rw [funext (rg_rows x g wg wu wd d i), funext (ru_rows x g wg wd d i)]
  rfl

end Cert.FfnIdeal.Value

namespace Cert.FfnClaim

open Idealize.ShloMosaic Idealize.ShloMosaic.TcCoe Idealize.SL.Sem Cert.Reals

theorem frame_kernel_ideal : Cert.quiescent_FfnIdeal (hFfnIdeal := Cert.FfnIdeal.Gen.facts) := fun m ρ _ => Cert.FfnIdeal.Gen.frame m ρ

theorem frame_kernel : Cert.quiescent_Ffn (hFfn := Cert.Ffn.Gen.facts) := fun m ρ _ => Cert.Ffn.Gen.frame m ρ

theorem frame_ref : Cert.quiescent_FfnRefIdeal (hFfnRefIdeal := Cert.FfnRefIdeal.Gen.facts) := fun m ρ _ =>
  (θ_run Cert.FfnRefIdeal.defs _ _).mono
    (fun _ h => ⟨fun c => (h c).2.2.2.2.2.2, sem_eq_zero_of_no_sems rfl _⟩) (Cert.FfnRefIdeal.Value.run m ρ)

/-- The precondition's six arguments as real arrays. -/
theorem real_args (x : FVec Ideal Cert.Pre_ffn_finite.S2048x1024 .f32) (g : FVec Ideal Cert.Pre_ffn_finite.S1024 .f32)
    (wg wu : FVec Ideal Cert.Pre_ffn_finite.S1024x2816 .f32) (wd : FVec Ideal Cert.Pre_ffn_finite.S2816x1024 .f32)
    (d : FVec Ideal Cert.Pre_ffn_finite.S2048x1024 .f32)
    (h : @Cert.Pre_ffn_finite.fn Cert.Pre_ffn_finite.Gen.facts Ideal _ x g wg wu wd d = fun _ => 1#1) :
    (∃ X : Cert.Pre_ffn_finite.S2048x1024.Idx → ℝ, x = fun i => (X i : EReal)) ∧ (∃ X : Cert.Pre_ffn_finite.S1024.Idx → ℝ, g = fun i => (X i : EReal))
      ∧ (∃ X : Cert.Pre_ffn_finite.S1024x2816.Idx → ℝ, wg = fun i => (X i : EReal)) ∧ (∃ X : Cert.Pre_ffn_finite.S1024x2816.Idx → ℝ, wu = fun i => (X i : EReal))
      ∧ (∃ X : Cert.Pre_ffn_finite.S2816x1024.Idx → ℝ, wd = fun i => (X i : EReal)) ∧ (∃ X : Cert.Pre_ffn_finite.S2048x1024.Idx → ℝ, d = fun i => (X i : EReal)) := by
  have e := congrFun h (Shape.Idx.first (by decide))
  unfold Cert.Pre_ffn_finite.fn Cert.Pre_ffn_finite.fn_part1 at e
  dsimp only at e
  obtain ⟨e, e5⟩ := andi_eq_one _ _ _ e
  obtain ⟨e, e4⟩ := andi_eq_one _ _ _ e
  obtain ⟨e, e3⟩ := andi_eq_one _ _ _ e
  obtain ⟨e, e2⟩ := andi_eq_one _ _ _ e
  obtain ⟨e0, e1⟩ := andi_eq_one _ _ _ e
  exact ⟨real_of_pre rfl x _ (fun _ => rfl) _ _ _ _ e0, real_of_pre rfl g _ (fun _ => rfl) _ _ _ _ e1, real_of_pre rfl wg _ (fun _ => rfl) _ _ _ _ e2,
    real_of_pre rfl wu _ (fun _ => rfl) _ _ _ _ e3, real_of_pre rfl wd _ (fun _ => rfl) _ _ _ _ e4, real_of_pre rfl d _ (fun _ => rfl) _ _ _ _ e5⟩

/-! ## The reference's results in the kernel's form -/

section Results
open Cert.FfnIdeal.Value (rows turn rg ru rh gainUpTo gainUpTo_all rows_val rg_rows ru_rows rh_rows)
open Cert.FfnRefIdeal.Read (up mat gate val_main_v65 val_main_v66 val_main_v67 val_main_v68 val_main_v69 val_main_v70 v65 v66 v67 v68 v69 v70)
variable (x : Cert.FfnRefIdeal.S2048x1024.Idx → ℝ) (g : Cert.FfnRefIdeal.S1024.Idx → ℝ) (wg wu : Cert.FfnRefIdeal.S1024x2816.Idx → ℝ)
  (wd : Cert.FfnRefIdeal.S2816x1024.Idx → ℝ) (d : Cert.FfnRefIdeal.S2048x1024.Idx → ℝ)

theorem ref_dx (i : Fin 2048) (k : Fin 1024) : val_main_v65 (F := Ideal) (up x) (up g) (up wg) (up wu) (up wd) (up d) (ix2 i k)
    = ((rows (mat d) i.val k + dnorm (rows (mat x) i.val) (fun k => g (ix1 k))
        (rh (rows (mat d)) (rows (gate x g wg)) (rows (gate x g wu)) (turn wg) (turn wu) wd i.val) k : ℝ) : EReal) := by
  rw [v65, rh_rows, rows_val, rows_val]
theorem ref_dgate (i : Fin 2048) (j : Fin 2816) : val_main_v66 (F := Ideal) (up x) (up g) (up wg) (up wu) (up wd) (up d) (ix2 i j)
    = ((rg (rows (mat d)) (rows (gate x g wg)) (rows (gate x g wu)) wd i.val j : ℝ) : EReal) := by
  rw [v66, rg_rows]
theorem ref_dmul (i : Fin 2048) (j : Fin 2816) : val_main_v67 (F := Ideal) (up x) (up g) (up wg) (up wd) (up d) (ix2 i j)
    = ((ru (rows (mat d)) (rows (gate x g wg)) wd i.val j : ℝ) : EReal) := by
  rw [v67, ru_rows]
theorem ref_hid (i : Fin 2048) (k : Fin 1024) : val_main_v68 (F := Ideal) (up x) (up g) (ix2 i k)
    = ((hid (rows (mat x) i.val) (fun k => g (ix1 k)) k : ℝ) : EReal) := by
  rw [v68, rows_val]
theorem ref_dy (i : Fin 2048) (k : Fin 1024) : val_main_v69 (F := Ideal) (up d) (ix2 i k) = ((1 / 2 * rows (mat d) i.val k : ℝ) : EReal) := by
  rw [v69, rows_val]
theorem ref_gain (z : Fin 1) (k : Fin 1024) : val_main_v70 (F := Ideal) (up x) (up g) (up wg) (up wu) (up wd) (up d) (ix2 z k)
    = ((gainUpTo (rows (mat x)) (rows (mat d)) (rows (gate x g wg)) (rows (gate x g wu)) (turn wg) (turn wu) wd 8 k : ℝ) : EReal) := by
  rw [v70, gainUpTo_all]
  simp only [rh_rows, rows_val]
theorem arr_dx {Yx : FVec Ideal Cert.FfnRefIdeal.S2048x1024 .f32} (hx : Yx = up x) {Yg : FVec Ideal Cert.FfnRefIdeal.S1024 .f32} (hg : Yg = up g) {Ywg : FVec Ideal Cert.FfnRefIdeal.S1024x2816 .f32} (hwg : Ywg = up wg) {Ywu : FVec Ideal Cert.FfnRefIdeal.S1024x2816 .f32} (hwu : Ywu = up wu) {Ywd : FVec Ideal Cert.FfnRefIdeal.S2816x1024 .f32} (hwd : Ywd = up wd) {Yd : FVec Ideal Cert.FfnRefIdeal.S2048x1024 .f32} (hd : Yd = up d) : val_main_v65 (F := Ideal) Yx Yg Ywg Ywu Ywd Yd
    = fun t => ((rows (mat d) (t 0).val (t 1) + dnorm (rows (mat x) (t 0).val) (fun k => g (ix1 k)) (rh (rows (mat d)) (rows (gate x g wg)) (rows (gate x g wu)) (turn wg) (turn wu) wd (t 0).val) (t 1) : ℝ) : EReal) := by
  subst hx hg hwg hwu hwd hd
  funext t
  idx_vars t
  exact ref_dx x g wg wu wd d t0 t1
theorem arr_dgate {Yx : FVec Ideal Cert.FfnRefIdeal.S2048x1024 .f32} (hx : Yx = up x) {Yg : FVec Ideal Cert.FfnRefIdeal.S1024 .f32} (hg : Yg = up g) {Ywg : FVec Ideal Cert.FfnRefIdeal.S1024x2816 .f32} (hwg : Ywg = up wg) {Ywu : FVec Ideal Cert.FfnRefIdeal.S1024x2816 .f32} (hwu : Ywu = up wu) {Ywd : FVec Ideal Cert.FfnRefIdeal.S2816x1024 .f32} (hwd : Ywd = up wd) {Yd : FVec Ideal Cert.FfnRefIdeal.S2048x1024 .f32} (hd : Yd = up d) : val_main_v66 (F := Ideal) Yx Yg Ywg Ywu Ywd Yd
    = fun t => ((rg (rows (mat d)) (rows (gate x g wg)) (rows (gate x g wu)) wd (t 0).val (t 1) : ℝ) : EReal) := by
  subst hx hg hwg hwu hwd hd
  funext t
  idx_vars t
  exact ref_dgate x g wg wu wd d t0 t1
theorem arr_dmul {Yx : FVec Ideal Cert.FfnRefIdeal.S2048x1024 .f32} (hx : Yx = up x) {Yg : FVec Ideal Cert.FfnRefIdeal.S1024 .f32} (hg : Yg = up g) {Ywg : FVec Ideal Cert.FfnRefIdeal.S1024x2816 .f32} (hwg : Ywg = up wg) {Ywd : FVec Ideal Cert.FfnRefIdeal.S2816x1024 .f32} (hwd : Ywd = up wd) {Yd : FVec Ideal Cert.FfnRefIdeal.S2048x1024 .f32} (hd : Yd = up d) : val_main_v67 (F := Ideal) Yx Yg Ywg Ywd Yd
    = fun t => ((ru (rows (mat d)) (rows (gate x g wg)) wd (t 0).val (t 1) : ℝ) : EReal) := by
  subst hx hg hwg hwd hd
  funext t
  idx_vars t
  exact ref_dmul x g wg wd d t0 t1
theorem arr_hid {Yx : FVec Ideal Cert.FfnRefIdeal.S2048x1024 .f32} (hx : Yx = up x) {Yg : FVec Ideal Cert.FfnRefIdeal.S1024 .f32} (hg : Yg = up g) : val_main_v68 (F := Ideal) Yx Yg
    = fun t => ((hid (rows (mat x) (t 0).val) (fun k => g (ix1 k)) (t 1) : ℝ) : EReal) := by
  subst hx hg
  funext t
  idx_vars t
  exact ref_hid x g t0 t1
theorem arr_dy {Yd : FVec Ideal Cert.FfnRefIdeal.S2048x1024 .f32} (hd : Yd = up d) : val_main_v69 (F := Ideal) Yd
    = fun t => ((1 / 2 * rows (mat d) (t 0).val (t 1) : ℝ) : EReal) := by
  subst hd
  funext t
  idx_vars t
  exact ref_dy d t0 t1
theorem arr_gain {Yx : FVec Ideal Cert.FfnRefIdeal.S2048x1024 .f32} (hx : Yx = up x) {Yg : FVec Ideal Cert.FfnRefIdeal.S1024 .f32} (hg : Yg = up g) {Ywg : FVec Ideal Cert.FfnRefIdeal.S1024x2816 .f32} (hwg : Ywg = up wg) {Ywu : FVec Ideal Cert.FfnRefIdeal.S1024x2816 .f32} (hwu : Ywu = up wu) {Ywd : FVec Ideal Cert.FfnRefIdeal.S2816x1024 .f32} (hwd : Ywd = up wd) {Yd : FVec Ideal Cert.FfnRefIdeal.S2048x1024 .f32} (hd : Yd = up d) : val_main_v70 (F := Ideal) Yx Yg Ywg Ywu Ywd Yd
    = fun t => ((gainUpTo (rows (mat x)) (rows (mat d)) (rows (gate x g wg)) (rows (gate x g wu)) (turn wg) (turn wu) wd 8 (t 1) : ℝ) : EReal) := by
  subst hx hg hwg hwu hwd hd
  funext t
  idx_vars t
  exact ref_gain x g wg wu wd d t0 t1
end Results

set_option maxHeartbeats 1000000 in
theorem algebraic : Cert.algebraic_FfnIdeal_FfnRefIdeal_pre_ffn_finite (hFfnIdeal := Cert.FfnIdeal.Gen.facts)
    (hFfnRefIdeal := Cert.FfnRefIdeal.Gen.facts) (hPre_ffn_finite := Cert.Pre_ffn_finite.Gen.facts) := by
  intro m ρ m' ρ' hpre hargs
  refine ⟨_, _, _, _, _, _, Cert.FfnIdeal.Value.run_blocks m ρ, (θ_run Cert.FfnRefIdeal.defs _ _).mono (fun r h c => ?_) (Cert.FfnRefIdeal.Value.run m' ρ')⟩
  obtain ⟨r0, r1, r2, r3, r4, r5, r6⟩ := h c
  obtain ⟨a0, a1, a2, a3, a4, a5⟩ := hargs c
  obtain ⟨⟨x, h0⟩, ⟨g, h1⟩, ⟨wg, h2⟩, ⟨wu, h3⟩, ⟨wd, h4⟩, ⟨d, h5⟩⟩ := real_args _ _ _ _ _ _ (hpre c)
  have hb := Cert.FfnIdeal.Value.blocks m c x g wg wu wd d h0 h1 h2 h3 h4 h5
  refine ⟨r0.trans ?_, r1.trans ?_, r2.trans ?_, r3.trans ?_, r4.trans ?_, r5.trans ?_, r6⟩
  · rw [Cert.FfnIdeal.Value.final8 m c _ _ _ _ _ _ _ _ hb]
    exact (Cert.FfnRefIdeal.Read.val_main_v65_eq m' c).trans (arr_dx x g wg wu wd d (a0.trans h0) (a1.trans h1) (a2.trans h2) (a3.trans h3) (a4.trans h4) (a5.trans h5))
  · rw [Cert.FfnIdeal.Value.final9 m c _ _ _ _ _ _ _ _ hb]
    exact (Cert.FfnRefIdeal.Read.val_main_v66_eq m' c).trans (arr_dgate x g wg wu wd d (a0.trans h0) (a1.trans h1) (a2.trans h2) (a3.trans h3) (a4.trans h4) (a5.trans h5))
  · rw [Cert.FfnIdeal.Value.final10 m c _ _ _ _ _ _ _ _ hb]
    refine (Cert.FfnRefIdeal.Read.val_main_v67_eq _ _ _ _ _).trans ?_
    exact arr_dmul x g wg wd d (a0.trans h0) (a1.trans h1) (a2.trans h2) (a4.trans h4) (a5.trans h5)
  · rw [Cert.FfnIdeal.Value.final11 m c _ _ _ _ _ _ _ _ hb]
    refine (Cert.FfnRefIdeal.Read.val_main_v68_eq _ _).trans ?_
    exact arr_hid x g (a0.trans h0) (a1.trans h1)
  · rw [Cert.FfnIdeal.Value.final12 m c _ _ _ _ _ _ _ _ hb]
    refine (Cert.FfnRefIdeal.Read.val_main_v69_eq _).trans ?_
    exact arr_dy d (a5.trans h5)
  · rw [Cert.FfnIdeal.Value.final13 m c _ _ _ _ _ _ _ _ hb]
    exact (Cert.FfnRefIdeal.Read.val_main_v70_eq m' c).trans (arr_gain x g wg wu wd d (a0.trans h0) (a1.trans h1) (a2.trans h2) (a3.trans h3) (a4.trans h4) (a5.trans h5))

end Cert.FfnClaim

end
-- ==== Proof.FfnWKernel.lean ====
/-
  The weights' gradients of the half step: the kernel's three result arrays as sums over all rows of what it is given.
-/
module

public import proofs.«01_k».proof.Proof.Gen.FfnWIdeal.Value
public import Idealize.ShloMosaic.Lib.Pointwise

@[expose] public section

set_option maxRecDepth 16384

noncomputable section

namespace Cert.FfnWIdeal.Value

open Cert.FfnWIdeal Cert.FfnWIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Stored
variable (x0 x1 : Vec Ideal S2048x1024 .bf16) (x2 x3 x4 x5 : Vec Ideal S2048x256 .bf16)

theorem out6 : out0_6 x0 x1 x2 x3 x4 x5 = k0_pay3 x0 x4 := by
  unfold out0_6
  refine (View.canon_unit_zero hz _ _).trans ?_
  rw [show View.ld x0 r0_1 = x0 from View.ld_unit_zero (S := S2048x1024) hz _ _, show View.ld x4 r0_0 = x4 from View.ld_unit_zero (S := S2048x256) hz _ _]
theorem out7 : out0_7 x0 x1 x2 x3 x4 x5 = k0_pay4 x0 x5 := by
  unfold out0_7
  refine (View.canon_unit_zero hz _ _).trans ?_
  rw [show View.ld x0 r0_1 = x0 from View.ld_unit_zero (S := S2048x1024) hz _ _, show View.ld x5 r0_0 = x5 from View.ld_unit_zero (S := S2048x256) hz _ _]
theorem out8 : out0_8 x0 x1 x2 x3 x4 x5 = k0_pay1 x2 x3 x1 := by
  unfold out0_8
  refine (View.canon_unit_zero hz _ _).trans ?_
  rw [show View.ld x1 r0_1 = x1 from View.ld_unit_zero (S := S2048x1024) hz _ _, show View.ld x2 r0_0 = x2 from View.ld_unit_zero (S := S2048x256) hz _ _,
    show View.ld x3 r0_0 = x3 from View.ld_unit_zero (S := S2048x256) hz _ _]

/-- A weight's gradient: the rows' gradients against the normalised rows. -/
theorem pay3 (j : S256x1024.Idx) : k0_pay3 (F := Ideal) x0 x4 j = (∑ q : Fin 2048, x4 (ix2 q (j 0)) * x0 (ix2 q (j 1)) : EReal) := by
  idx_vars j
  pointwise [k0_pay3, k0_pay2]
theorem pay4 (j : S256x1024.Idx) : k0_pay4 (F := Ideal) x0 x5 j = (∑ q : Fin 2048, x5 (ix2 q (j 0)) * x0 (ix2 q (j 1)) : EReal) := pay3 x0 x5 j
/-- The down projection's gradient, from the gate product computed again. -/
theorem pay1 (j : S256x1024.Idx) : k0_pay1 (F := Ideal) x2 x3 x1 j
    = (∑ q : Fin 2048, x2 (ix2 q (j 0)) * Ideal.logistic (x2 (ix2 q (j 0))) * x3 (ix2 q (j 0)) * x1 (ix2 q (j 1)) : EReal) := by
  idx_vars j
  pointwise [k0_pay1]
end Stored

/-! ## The final arrays -/

variable (m : (ℓ : Loc nD τ sig) → Buf (Elt Ideal) ℓ) (c : Dev nD)
variable (H Y : Vec Ideal S2048x1024 .bf16) (A U P Q : Vec Ideal S2048x2816 .bf16)

theorem point_lt (p : Fin cfg0.N) : p.val < 11 := by
  have h := p.isLt
  have hN : cfg0.N = 11 := N_0
  omega
theorem col_lt (p : Fin cfg0.N) (j : Fin 256) : 256 * p.val + j.val < 2816 := by
  have := point_lt p
  omega
theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = t.val := by decide +kernel
theorem idx6 : ∀ t : Fin grid0.N, win0_6.index t 0 = t.val ∧ win0_6.index t 1 = 0 := by decide +kernel
theorem size6 : ∀ t : Fin grid0.N, win0_6.xsize (grid0.coords t) 0 = 256 ∧ win0_6.xsize (grid0.coords t) 1 = 1024 := by decide +kernel
theorem idx7 : ∀ t : Fin grid0.N, win0_7.index t 0 = t.val ∧ win0_7.index t 1 = 0 := by decide +kernel
theorem size7 : ∀ t : Fin grid0.N, win0_7.xsize (grid0.coords t) 0 = 256 ∧ win0_7.xsize (grid0.coords t) 1 = 1024 := by decide +kernel
theorem idx8 : ∀ t : Fin grid0.N, win0_8.index t 0 = t.val ∧ win0_8.index t 1 = 0 := by decide +kernel
theorem size8 : ∀ t : Fin grid0.N, win0_8.xsize (grid0.coords t) 0 = 256 ∧ win0_8.xsize (grid0.coords t) 1 = 1024 := by decide +kernel

theorem blk0 (h : V m c main_v68 = H) (t : Fin cfg0.N) (i : Fin 2048) (j : Fin 1024) : (iblk m c 0 t : Vec Ideal S2048x1024 .bf16) (ix2 i j) = H (ix2 i j) := by
  have e : ((cfg0.win 0).blk t).view.emb (ix2 i j) = ix2 i j := by
    funext a
    refine Fin.ext ?_
    match a with
    | ⟨0, _⟩ => show win0_0.index t 0 * 2048 + 1 * i.val = i.val; rw [(idx0 t).1]; omega
    | ⟨1, _⟩ => show win0_0.index t 1 * 1024 + 1 * j.val = j.val; rw [(idx0 t).2]; omega
  show V m c main_v68 (((cfg0.win 0).blk t).view.emb (ix2 i j)) = _
  rw [e, h]

theorem blk1 (h : V m c main_v69 = Y) (t : Fin cfg0.N) (i : Fin 2048) (j : Fin 1024) : (iblk m c 1 t : Vec Ideal S2048x1024 .bf16) (ix2 i j) = Y (ix2 i j) := by
  have e : ((cfg0.win 1).blk t).view.emb (ix2 i j) = ix2 i j := by
    funext a
    refine Fin.ext ?_
    match a with
    | ⟨0, _⟩ => show win0_1.index t 0 * 2048 + 1 * i.val = i.val; rw [(idx1 t).1]; omega
    | ⟨1, _⟩ => show win0_1.index t 1 * 1024 + 1 * j.val = j.val; rw [(idx1 t).2]; omega
  show V m c main_v69 (((cfg0.win 1).blk t).view.emb (ix2 i j)) = _
  rw [e, h]

theorem blk2 (h : V m c main_v70 = A) (t : Fin cfg0.N) (i : Fin 2048) (j : Fin 256) :
    (iblk m c 2 t : Vec Ideal S2048x256 .bf16) (ix2 i j) = A (ix2 i ⟨256 * t.val + j.val, col_lt t j⟩) := by
  have e : ((cfg0.win 2).blk t).view.emb (ix2 i j) = ix2 i (⟨256 * t.val + j.val, col_lt t j⟩ : Fin 2816) := by
    funext a
    refine Fin.ext ?_
    match a with
    | ⟨0, _⟩ => show win0_2.index t 0 * 2048 + 1 * i.val = i.val; rw [(idx2 t).1]; omega
    | ⟨1, _⟩ => show win0_2.index t 1 * 256 + 1 * j.val = 256 * t.val + j.val; rw [(idx2 t).2]; omega
  show V m c main_v70 (((cfg0.win 2).blk t).view.emb (ix2 i j)) = _
  rw [e, h]

theorem blk3 (h : V m c main_v71 = U) (t : Fin cfg0.N) (i : Fin 2048) (j : Fin 256) :
    (iblk m c 3 t : Vec Ideal S2048x256 .bf16) (ix2 i j) = U (ix2 i ⟨256 * t.val + j.val, col_lt t j⟩) := by
  have e : ((cfg0.win 3).blk t).view.emb (ix2 i j) = ix2 i (⟨256 * t.val + j.val, col_lt t j⟩ : Fin 2816) := by
    funext a
    refine Fin.ext ?_
    match a with
    | ⟨0, _⟩ => show win0_3.index t 0 * 2048 + 1 * i.val = i.val; rw [(idx3 t).1]; omega
    | ⟨1, _⟩ => show win0_3.index t 1 * 256 + 1 * j.val = 256 * t.val + j.val; rw [(idx3 t).2]; omega
  show V m c main_v71 (((cfg0.win 3).blk t).view.emb (ix2 i j)) = _
  rw [e, h]

theorem blk4 (h : V m c main_v72 = P) (t : Fin cfg0.N) (i : Fin 2048) (j : Fin 256) :
    (iblk m c 4 t : Vec Ideal S2048x256 .bf16) (ix2 i j) = P (ix2 i ⟨256 * t.val + j.val, col_lt t j⟩) := by
  have e : ((cfg0.win 4).blk t).view.emb (ix2 i j) = ix2 i (⟨256 * t.val + j.val, col_lt t j⟩ : Fin 2816) := by
    funext a
    refine Fin.ext ?_
    match a with
    | ⟨0, _⟩ => show win0_4.index t 0 * 2048 + 1 * i.val = i.val; rw [(idx4 t).1]; omega
    | ⟨1, _⟩ => show win0_4.index t 1 * 256 + 1 * j.val = 256 * t.val + j.val; rw [(idx4 t).2]; omega
  show V m c main_v72 (((cfg0.win 4).blk t).view.emb (ix2 i j)) = _
  rw [e, h]

theorem blk5 (h : V m c main_v73 = Q) (t : Fin cfg0.N) (i : Fin 2048) (j : Fin 256) :
    (iblk m c 5 t : Vec Ideal S2048x256 .bf16) (ix2 i j) = Q (ix2 i ⟨256 * t.val + j.val, col_lt t j⟩) := by
  have e : ((cfg0.win 5).blk t).view.emb (ix2 i j) = ix2 i (⟨256 * t.val + j.val, col_lt t j⟩ : Fin 2816) := by
    funext a
    refine Fin.ext ?_
    match a with
    | ⟨0, _⟩ => show win0_5.index t 0 * 2048 + 1 * i.val = i.val; rw [(idx5 t).1]; omega
    | ⟨1, _⟩ => show win0_5.index t 1 * 256 + 1 * j.val = 256 * t.val + j.val; rw [(idx5 t).2]; omega
  show V m c main_v73 (((cfg0.win 5).blk t).view.emb (ix2 i j)) = _
  rw [e, h]

/-- A weight's gradient over all rows. -/
def wsum (P : Vec Ideal S2048x2816 .bf16) (H : Vec Ideal S2048x1024 .bf16) : Vec Ideal S2816x1024 .bf16 := fun i =>
  (∑ q : Fin 2048, P (ix2 q (i 0)) * H (ix2 q (i 1)) : EReal)
/-- The gated rows. -/
def act (A U : Vec Ideal S2048x2816 .bf16) : Vec Ideal S2048x2816 .bf16 := fun i => (A i * Ideal.logistic (A i) * U i : EReal)

theorem at6 (hH : V m c main_v68 = H) (hP : V m c main_v72 = P) (t : Fin cfg0.N) (j : S256x1024.Idx) :
    k0_pay3 (F := Ideal) (iblk m c 0 t) (iblk m c 4 t) j = wsum P H (ix2 (⟨256 * t.val + (j 0).val, col_lt t (j 0)⟩ : Fin 2816) (j 1)) := by
  refine (pay3 _ _ j).trans (Finset.sum_congr rfl fun q _ => congrArg₂ (fun a b : EReal => a * b) (blk4 m c P hP t q (j 0)) (blk0 m c H hH t q (j 1)))

theorem final6 (hH : V m c main_v68 = H) (hP : V m c main_v72 = P) : (dats m 0 c).arrAt 6 cfg0.N = wsum P H := by
  refine (dats m 0 c).arrAt_eq_of_cover 6 _ (fun t hf => ?_) fun (i : S2816x1024.Idx) => ?_
  · rw [flushed6, out6]
    funext j
    rw [View.read_apply]
    have e : ((cfg0.win 6).blk t).view.emb j = ix2 (⟨256 * t.val + (j 0).val, col_lt t (j 0)⟩ : Fin 2816) (j 1) := by
      funext a
      refine Fin.ext ?_
      match a with
      | ⟨0, _⟩ => show win0_6.index t 0 * 256 + 1 * (j 0).val = 256 * t.val + (j 0).val; rw [(idx6 t).1]; omega
      | ⟨1, _⟩ => show win0_6.index t 1 * 1024 + 1 * (j 1).val = (j 1).val; rw [(idx6 t).2]; omega
    exact (at6 m c H P hH hP t j).trans (congrArg (wsum P H) e.symm)
  · have hi : (i 0).val < 2816 := (i 0).isLt
    have h1 : (i 1).val < 1024 := (i 1).isLt
    obtain ⟨t, ht⟩ : ∃ t : Fin cfg0.N, t.val = (i 0).val / 256 := ⟨⟨(i 0).val / 256, by rw [show cfg0.N = 11 from N_0]; omega⟩, rfl⟩
    refine ⟨t, flush0_6 _, ?_⟩
    show i ∈ ((View.whole main_v74_0).slice (win0_6.rect t)).set
    rw [View.set_slice_whole, Rect.mem_set_unit]
    intro a
    match a with
    | ⟨0, _⟩ =>
      show win0_6.index _ 0 * 256 ≤ (i 0).val ∧ (i 0).val < win0_6.index _ 0 * 256 + win0_6.xsize (grid0.coords _) 0
      rw [(idx6 _).1, (size6 _).1]; omega
    | ⟨1, _⟩ =>
      show win0_6.index _ 1 * 1024 ≤ (i 1).val ∧ (i 1).val < win0_6.index _ 1 * 1024 + win0_6.xsize (grid0.coords _) 1
      rw [(idx6 _).2, (size6 _).2]; omega

theorem at7 (hH : V m c main_v68 = H) (hQ : V m c main_v73 = Q) (t : Fin cfg0.N) (j : S256x1024.Idx) :
    k0_pay4 (F := Ideal) (iblk m c 0 t) (iblk m c 5 t) j = wsum Q H (ix2 (⟨256 * t.val + (j 0).val, col_lt t (j 0)⟩ : Fin 2816) (j 1)) := by
  refine (pay4 _ _ j).trans (Finset.sum_congr rfl fun q _ => congrArg₂ (fun a b : EReal => a * b) (blk5 m c Q hQ t q (j 0)) (blk0 m c H hH t q (j 1)))

theorem final7 (hH : V m c main_v68 = H) (hQ : V m c main_v73 = Q) : (dats m 0 c).arrAt 7 cfg0.N = wsum Q H := by
  refine (dats m 0 c).arrAt_eq_of_cover 7 _ (fun t hf => ?_) fun (i : S2816x1024.Idx) => ?_
  · rw [flushed7, out7]
    funext j
    rw [View.read_apply]
    have e : ((cfg0.win 7).blk t).view.emb j = ix2 (⟨256 * t.val + (j 0).val, col_lt t (j 0)⟩ : Fin 2816) (j 1) := by
      funext a
      refine Fin.ext ?_
      match a with
      | ⟨0, _⟩ => show win0_7.index t 0 * 256 + 1 * (j 0).val = 256 * t.val + (j 0).val; rw [(idx7 t).1]; omega
      | ⟨1, _⟩ => show win0_7.index t 1 * 1024 + 1 * (j 1).val = (j 1).val; rw [(idx7 t).2]; omega
    exact (at7 m c H Q hH hQ t j).trans (congrArg (wsum Q H) e.symm)
  · have hi : (i 0).val < 2816 := (i 0).isLt
    have h1 : (i 1).val < 1024 := (i 1).isLt
    obtain ⟨t, ht⟩ : ∃ t : Fin cfg0.N, t.val = (i 0).val / 256 := ⟨⟨(i 0).val / 256, by rw [show cfg0.N = 11 from N_0]; omega⟩, rfl⟩
    refine ⟨t, flush0_7 _, ?_⟩
    show i ∈ ((View.whole main_v74_1).slice (win0_7.rect t)).set
    rw [View.set_slice_whole, Rect.mem_set_unit]
    intro a
    match a with
    | ⟨0, _⟩ =>
      show win0_7.index _ 0 * 256 ≤ (i 0).val ∧ (i 0).val < win0_7.index _ 0 * 256 + win0_7.xsize (grid0.coords _) 0
      rw [(idx7 _).1, (size7 _).1]; omega
    | ⟨1, _⟩ =>
      show win0_7.index _ 1 * 1024 ≤ (i 1).val ∧ (i 1).val < win0_7.index _ 1 * 1024 + win0_7.xsize (grid0.coords _) 1
      rw [(idx7 _).2, (size7 _).2]; omega

theorem at8 (hY : V m c main_v69 = Y) (hA : V m c main_v70 = A) (hU : V m c main_v71 = U) (t : Fin cfg0.N) (j : S256x1024.Idx) :
    k0_pay1 (F := Ideal) (iblk m c 2 t) (iblk m c 3 t) (iblk m c 1 t) j = wsum (act A U) Y (ix2 (⟨256 * t.val + (j 0).val, col_lt t (j 0)⟩ : Fin 2816) (j 1)) := by
  refine (pay1 _ _ _ j).trans (Finset.sum_congr rfl fun q _ => congrArg₂ (fun a b : EReal => a * b)
    (congrArg₂ (fun a b : EReal => a * Ideal.logistic a * b) (blk2 m c A hA t q (j 0)) (blk3 m c U hU t q (j 0))) (blk1 m c Y hY t q (j 1)))

theorem final8 (hY : V m c main_v69 = Y) (hA : V m c main_v70 = A) (hU : V m c main_v71 = U) : (dats m 0 c).arrAt 8 cfg0.N = wsum (act A U) Y := by
  refine (dats m 0 c).arrAt_eq_of_cover 8 _ (fun t hf => ?_) fun (i : S2816x1024.Idx) => ?_
  · rw [flushed8, out8]
    funext j
    rw [View.read_apply]
    have e : ((cfg0.win 8).blk t).view.emb j = ix2 (⟨256 * t.val + (j 0).val, col_lt t (j 0)⟩ : Fin 2816) (j 1) := by
      funext a
      refine Fin.ext ?_
      match a with
      | ⟨0, _⟩ => show win0_8.index t 0 * 256 + 1 * (j 0).val = 256 * t.val + (j 0).val; rw [(idx8 t).1]; omega
      | ⟨1, _⟩ => show win0_8.index t 1 * 1024 + 1 * (j 1).val = (j 1).val; rw [(idx8 t).2]; omega
    exact (at8 m c Y A U hY hA hU t j).trans (congrArg (wsum (act A U) Y) e.symm)
  · have hi : (i 0).val < 2816 := (i 0).isLt
    have h1 : (i 1).val < 1024 := (i 1).isLt
    obtain ⟨t, ht⟩ : ∃ t : Fin cfg0.N, t.val = (i 0).val / 256 := ⟨⟨(i 0).val / 256, by rw [show cfg0.N = 11 from N_0]; omega⟩, rfl⟩
    refine ⟨t, flush0_8 _, ?_⟩
    show i ∈ ((View.whole main_v74_2).slice (win0_8.rect t)).set
    rw [View.set_slice_whole, Rect.mem_set_unit]
    intro a
    match a with
    | ⟨0, _⟩ =>
      show win0_8.index _ 0 * 256 ≤ (i 0).val ∧ (i 0).val < win0_8.index _ 0 * 256 + win0_8.xsize (grid0.coords _) 0
      rw [(idx8 _).1, (size8 _).1]; omega
    | ⟨1, _⟩ =>
      show win0_8.index _ 1 * 1024 ≤ (i 1).val ∧ (i 1).val < win0_8.index _ 1 * 1024 + win0_8.xsize (grid0.coords _) 1
      rw [(idx8 _).2, (size8 _).2]; omega

end Cert.FfnWIdeal.Value

end
-- ==== Proof.FfnWClaim.lean ====
/-
  The weights' gradients of the half step: the frames of the three programs, and the kernel's three results equal to the
  reference's, for all arguments.
-/
module

public import proofs.«01_k».proof.Defs
public import proofs.«01_k».proof.Proof.FfnWKernel
public import proofs.«01_k».proof.Proof.Gen.FfnW.Frame
public import proofs.«01_k».proof.Proof.Gen.FfnWRefIdeal.Run
public import proofs.«01_k».proof.Proof.Gen.FfnWRefIdeal.Read
public import Idealize.ShloMosaic.Lib.Quiescent
public import Idealize.ShloMosaic.Lib.StableHlo.RunRead
public import Idealize.ShloMosaic.Lib.Pointwise

@[expose] public section

set_option maxRecDepth 16384

noncomputable section

namespace Cert.FfnWIdeal.Value

open Cert.FfnWIdeal Cert.FfnWIdeal.Gen Idealize.ShloMosaic Idealize.ShloMosaic.TcCoe Idealize.SL.Sem
open Cert.FfnWRefIdeal.Read (val_main_v17 val_main_v18 val_main_v20 val_main_v31 val_main_v35 val_main_v37)

theorem after_append {l₁ l₂ : List (HloOp τ sig (Elt Ideal))} (X : Valuation τ sig (Elt Ideal)) :
    StableHlo.after (l₁ ++ l₂) X = StableHlo.after l₂ (StableHlo.after l₁ X) := by
  induction l₁ generalizing X with
  | nil => rfl
  | cons op l ih => exact ih _

/-- The host's values before the launch. -/
def host (X : Valuation τ sig (Elt Ideal)) : Valuation τ sig (Elt Ideal) :=
  StableHlo.after hostOps0_4 (StableHlo.after hostOps0_3 (StableHlo.after hostOps0_2 (StableHlo.after hostOps0_1 (StableHlo.after hostOps0 X))))

variable (m : (ℓ : Loc nD τ sig) → Buf (Elt Ideal) ℓ) (c : Dev nD)

theorem V_eq (b : Ref sig .tc) : V m c b = host (fun b => m (c, b)) b := by
  unfold V host
  rw [List.flatten_cons, after_append, List.flatten_cons, after_append, List.flatten_cons, after_append, List.flatten_cons, after_append,
    List.flatten_cons, after_append]
  rfl

variable (X : Valuation τ sig (Elt Ideal))
abbrev a0 : FVec Ideal S2048x1024 .f32 := X (Proc.devRef .tc main_arg0)
abbrev a1 : FVec Ideal S1024 .f32 := X (Proc.devRef .tc main_arg1)
abbrev a2 : FVec Ideal S1024x2816 .f32 := X (Proc.devRef .tc main_arg2)
abbrev a3 : FVec Ideal S1024x2816 .f32 := X (Proc.devRef .tc main_arg3)
abbrev a4 : FVec Ideal S2816x1024 .f32 := X (Proc.devRef .tc main_arg4)
abbrev a5 : FVec Ideal S2048x1024 .f32 := X (Proc.devRef .tc main_arg5)

theorem tree_v68 : (host X (Proc.devRef .tc main_v68) : FVec Ideal S2048x1024 .bf16)
    = (truncf (F := Ideal) .bf16 (val_main_v17 (F := Ideal) (a0 X) (a1 X)) bitsLt_bf16_f32 : FVec Ideal S2048x1024 .bf16) := by
  unfold host
  after_reads_simp
  sl_kernel_rfl
theorem tree_v69 : (host X (Proc.devRef .tc main_v69) : FVec Ideal S2048x1024 .bf16)
    = (truncf (F := Ideal) .bf16 (val_main_v31 (F := Ideal) (a5 X)) bitsLt_bf16_f32 : FVec Ideal S2048x1024 .bf16) := by
  unfold host
  after_reads_simp
  sl_kernel_rfl
theorem tree_v70 : (host X (Proc.devRef .tc main_v70) : FVec Ideal S2048x2816 .bf16)
    = (truncf (F := Ideal) .bf16 (val_main_v18 (F := Ideal) (a0 X) (a1 X) (a2 X)) bitsLt_bf16_f32 : FVec Ideal S2048x2816 .bf16) := by
  unfold host
  after_reads_simp
  sl_kernel_rfl
theorem tree_v71 : (host X (Proc.devRef .tc main_v71) : FVec Ideal S2048x2816 .bf16)
    = (truncf (F := Ideal) .bf16 (val_main_v20 (F := Ideal) (a0 X) (a1 X) (a3 X)) bitsLt_bf16_f32 : FVec Ideal S2048x2816 .bf16) := by
  unfold host
  after_reads_simp
  sl_kernel_rfl
theorem tree_v72 : (host X (Proc.devRef .tc main_v72) : FVec Ideal S2048x2816 .bf16)
    = (truncf (F := Ideal) .bf16 (val_main_v37 (F := Ideal) (a0 X) (a1 X) (a2 X) (a3 X) (a4 X) (a5 X)) bitsLt_bf16_f32 : FVec Ideal S2048x2816 .bf16) := by
  unfold host
  after_reads_simp
  sl_kernel_rfl
theorem tree_v73 : (host X (Proc.devRef .tc main_v73) : FVec Ideal S2048x2816 .bf16)
    = (truncf (F := Ideal) .bf16 (val_main_v35 (F := Ideal) (a0 X) (a1 X) (a2 X) (a4 X) (a5 X)) bitsLt_bf16_f32 : FVec Ideal S2048x2816 .bf16) := by
  unfold host
  after_reads_simp
  sl_kernel_rfl

end Cert.FfnWIdeal.Value

namespace Cert.FfnWClaim

open Idealize.ShloMosaic Idealize.ShloMosaic.TcCoe Idealize.SL.Sem

theorem frame_kernel_ideal : Cert.quiescent_FfnWIdeal (hFfnWIdeal := Cert.FfnWIdeal.Gen.facts) := fun m ρ _ => Cert.FfnWIdeal.Gen.frame m ρ

theorem frame_kernel : Cert.quiescent_FfnW (hFfnW := Cert.FfnW.Gen.facts) := fun m ρ _ => Cert.FfnW.Gen.frame m ρ

theorem frame_ref : Cert.quiescent_FfnWRefIdeal (hFfnWRefIdeal := Cert.FfnWRefIdeal.Gen.facts) := fun m ρ _ =>
  (θ_run Cert.FfnWRefIdeal.defs _ _).mono
    (fun _ h => ⟨fun c => (h c).2.2.2, sem_eq_zero_of_no_sems rfl _⟩) (Cert.FfnWRefIdeal.Value.run m ρ)

/-! ## The reference's results in the kernel's form -/

section Results
open Cert.FfnWRefIdeal Cert.FfnWRefIdeal.Gen Cert.FfnWRefIdeal.Read
open Cert.FfnWIdeal.Value (wsum act)
variable (x0 : FVec Ideal S2048x1024 .f32) (x1 : FVec Ideal S1024 .f32) (x2 x3 : FVec Ideal S1024x2816 .f32) (x4 : FVec Ideal S2816x1024 .f32)
  (x5 : FVec Ideal S2048x1024 .f32)

theorem ref_gate : val_main_v68 (F := Ideal) x0 x1 x2 x3 x4 x5
    = wsum (truncf (F := Ideal) .bf16 (val_main_v37 (F := Ideal) x0 x1 x2 x3 x4 x5) bitsLt_bf16_f32 : FVec Ideal S2048x2816 .bf16)
        (truncf (F := Ideal) .bf16 (val_main_v17 (F := Ideal) x0 x1) bitsLt_bf16_f32 : FVec Ideal S2048x1024 .bf16) := by
  funext t
  idx_vars t
  unfold val_main_v68 val_main_v66 val_main_v42 val_main_v41 wsum
  generalize val_main_v37 (F := Ideal) x0 x1 x2 x3 x4 x5 = P
  generalize val_main_v17 (F := Ideal) x0 x1 = H
  pointwise
theorem ref_mul : val_main_v69 (F := Ideal) x0 x1 x2 x4 x5
    = wsum (truncf (F := Ideal) .bf16 (val_main_v35 (F := Ideal) x0 x1 x2 x4 x5) bitsLt_bf16_f32 : FVec Ideal S2048x2816 .bf16)
        (truncf (F := Ideal) .bf16 (val_main_v17 (F := Ideal) x0 x1) bitsLt_bf16_f32 : FVec Ideal S2048x1024 .bf16) := by
  funext t
  idx_vars t
  unfold val_main_v69 val_main_v67 val_main_v39 val_main_v38 wsum
  generalize val_main_v35 (F := Ideal) x0 x1 x2 x4 x5 = P
  generalize val_main_v17 (F := Ideal) x0 x1 = H
  pointwise
/-- The gated rows: the reference adds a zero to each factor and writes the logistic function out. -/
theorem ref_act (q : Fin 2048) (j : Fin 2816) : val_main_v23 (F := Ideal) x0 x1 x2 x3 (ix2 q j)
    = (act (truncf (F := Ideal) .bf16 (val_main_v18 (F := Ideal) x0 x1 x2) bitsLt_bf16_f32 : FVec Ideal S2048x2816 .bf16)
        (truncf (F := Ideal) .bf16 (val_main_v20 (F := Ideal) x0 x1 x3) bitsLt_bf16_f32 : FVec Ideal S2048x2816 .bf16) (ix2 q j) : EReal) := by
  unfold val_main_v23 val_main_v22_0 val_main_v22_2 val_main_call0_v4 val_main_call0_v3 val_main_call0_v2 val_main_call0_v1 val_main_call0_v0
    val_main_call0_cst val_main_call0_cst_0 val_main_v21 val_main_v19 val_main_v0 val_main_cst act
  generalize val_main_v18 (F := Ideal) x0 x1 x2 = A
  generalize val_main_v20 (F := Ideal) x0 x1 x3 = U
  pointwise
  rfl
theorem ref_down : val_main_v70 (F := Ideal) x0 x1 x2 x3 x5
    = wsum (act (truncf (F := Ideal) .bf16 (val_main_v18 (F := Ideal) x0 x1 x2) bitsLt_bf16_f32 : FVec Ideal S2048x2816 .bf16)
        (truncf (F := Ideal) .bf16 (val_main_v20 (F := Ideal) x0 x1 x3) bitsLt_bf16_f32 : FVec Ideal S2048x2816 .bf16))
        (truncf (F := Ideal) .bf16 (val_main_v31 (F := Ideal) x5) bitsLt_bf16_f32 : FVec Ideal S2048x1024 .bf16) := by
  have h := ref_act x0 x1 x2 x3
  funext t
  idx_vars t
  unfold val_main_v70 val_main_v33 val_main_v32 wsum
  generalize val_main_v23 (F := Ideal) x0 x1 x2 x3 = A at h ⊢
  generalize val_main_v31 (F := Ideal) x5 = Y
  pointwise
  exact Finset.sum_congr rfl fun q _ => (mul_comm _ _).trans (congrArg (fun a : EReal => a * Y (ix2 q t1)) (h q t0))
theorem arr_gate {y0 : FVec Ideal S2048x1024 .f32} (e0 : y0 = x0) {y1 : FVec Ideal S1024 .f32} (e1 : y1 = x1) {y2 : FVec Ideal S1024x2816 .f32} (e2 : y2 = x2) {y3 : FVec Ideal S1024x2816 .f32} (e3 : y3 = x3) {y4 : FVec Ideal S2816x1024 .f32} (e4 : y4 = x4) {y5 : FVec Ideal S2048x1024 .f32} (e5 : y5 = x5) : val_main_v68 (F := Ideal) y0 y1 y2 y3 y4 y5
    = wsum (truncf (F := Ideal) .bf16 (val_main_v37 (F := Ideal) x0 x1 x2 x3 x4 x5) bitsLt_bf16_f32 : FVec Ideal S2048x2816 .bf16)
        (truncf (F := Ideal) .bf16 (val_main_v17 (F := Ideal) x0 x1) bitsLt_bf16_f32 : FVec Ideal S2048x1024 .bf16) := by
  subst e0 e1 e2 e3 e4 e5
  exact ref_gate _ _ _ _ _ _
theorem arr_mul {y0 : FVec Ideal S2048x1024 .f32} (e0 : y0 = x0) {y1 : FVec Ideal S1024 .f32} (e1 : y1 = x1) {y2 : FVec Ideal S1024x2816 .f32} (e2 : y2 = x2) {y4 : FVec Ideal S2816x1024 .f32} (e4 : y4 = x4) {y5 : FVec Ideal S2048x1024 .f32} (e5 : y5 = x5) : val_main_v69 (F := Ideal) y0 y1 y2 y4 y5
    = wsum (truncf (F := Ideal) .bf16 (val_main_v35 (F := Ideal) x0 x1 x2 x4 x5) bitsLt_bf16_f32 : FVec Ideal S2048x2816 .bf16)
        (truncf (F := Ideal) .bf16 (val_main_v17 (F := Ideal) x0 x1) bitsLt_bf16_f32 : FVec Ideal S2048x1024 .bf16) := by
  subst e0 e1 e2 e4 e5
  exact ref_mul _ _ _ _ _
theorem arr_down {y0 : FVec Ideal S2048x1024 .f32} (e0 : y0 = x0) {y1 : FVec Ideal S1024 .f32} (e1 : y1 = x1) {y2 : FVec Ideal S1024x2816 .f32} (e2 : y2 = x2) {y3 : FVec Ideal S1024x2816 .f32} (e3 : y3 = x3) {y5 : FVec Ideal S2048x1024 .f32} (e5 : y5 = x5) : val_main_v70 (F := Ideal) y0 y1 y2 y3 y5
    = wsum (act (truncf (F := Ideal) .bf16 (val_main_v18 (F := Ideal) x0 x1 x2) bitsLt_bf16_f32 : FVec Ideal S2048x2816 .bf16)
        (truncf (F := Ideal) .bf16 (val_main_v20 (F := Ideal) x0 x1 x3) bitsLt_bf16_f32 : FVec Ideal S2048x2816 .bf16))
        (truncf (F := Ideal) .bf16 (val_main_v31 (F := Ideal) x5) bitsLt_bf16_f32 : FVec Ideal S2048x1024 .bf16) := by
  subst e0 e1 e2 e3 e5
  exact ref_down _ _ _ _ _
end Results

set_option maxHeartbeats 1000000 in
theorem algebraic : Cert.algebraic_FfnWIdeal_FfnWRefIdeal (hFfnWIdeal := Cert.FfnWIdeal.Gen.facts)
    (hFfnWRefIdeal := Cert.FfnWRefIdeal.Gen.facts) := by
  intro m ρ m' ρ' _ hargs
  refine ⟨_, _, _, Cert.FfnWIdeal.Value.run_blocks m ρ, (θ_run Cert.FfnWRefIdeal.defs _ _).mono (fun r h c => ?_) (Cert.FfnWRefIdeal.Value.run m' ρ')⟩
  obtain ⟨r0, r1, r2, r3⟩ := h c
  obtain ⟨a0, a1, a2, a3, a4, a5⟩ := hargs c
  have H := (Cert.FfnWIdeal.Value.V_eq m c _).trans (Cert.FfnWIdeal.Value.tree_v68 fun b => m (c, b))
  have Y := (Cert.FfnWIdeal.Value.V_eq m c _).trans (Cert.FfnWIdeal.Value.tree_v69 fun b => m (c, b))
  have A := (Cert.FfnWIdeal.Value.V_eq m c _).trans (Cert.FfnWIdeal.Value.tree_v70 fun b => m (c, b))
  have U := (Cert.FfnWIdeal.Value.V_eq m c _).trans (Cert.FfnWIdeal.Value.tree_v71 fun b => m (c, b))
  have P := (Cert.FfnWIdeal.Value.V_eq m c _).trans (Cert.FfnWIdeal.Value.tree_v72 fun b => m (c, b))
  have Q := (Cert.FfnWIdeal.Value.V_eq m c _).trans (Cert.FfnWIdeal.Value.tree_v73 fun b => m (c, b))
  refine ⟨r0.trans ?_, r1.trans ?_, r2.trans ?_, r3⟩
  · rw [Cert.FfnWIdeal.Value.final6 m c _ _ H P]
    refine (Cert.FfnWRefIdeal.Read.val_main_v68_eq m' c).trans ?_
    exact arr_gate _ _ _ _ _ _ a0 a1 a2 a3 a4 a5
  · rw [Cert.FfnWIdeal.Value.final7 m c _ _ H Q]
    refine (Cert.FfnWRefIdeal.Read.val_main_v69_eq _ _ _ _ _).trans ?_
    exact arr_mul _ _ _ _ _ a0 a1 a2 a4 a5
  · rw [Cert.FfnWIdeal.Value.final8 m c _ _ _ Y A U]
    refine (Cert.FfnWRefIdeal.Read.val_main_v70_eq _ _ _ _ _).trans ?_
    exact arr_down _ _ _ _ _ a0 a1 a2 a3 a5

end Cert.FfnWClaim

end
-- ==== Proof.MixOutCases.lean ====
/-
  What the kernel leaves in its eight output blocks at a grid point, as the values it stores (no arithmetic is done here).
-/
module

public import proofs.«01_k».proof.Proof.Gen.MixOutIdeal.Value
public import Idealize.ShloMosaic.Lib.Pointwise

@[expose] public section

set_option maxRecDepth 16384

noncomputable section

namespace Cert.MixOutIdeal.Value

open Cert.MixOutIdeal Cert.MixOutIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem hz3 : (![0, 0, 0] : Fin 3 → Nat) = fun _ => 0 := funext fun a => by fin_cases a <;> rfl

section Stored
variable (x0 : Vec Ideal S256x1024 .f32) (x1 : Vec Ideal S256x768 .f32) (x2 : Vec Ideal S1024x1024 .bf16)

/-- A head's column among the mixture's columns. -/
abbrev hcol (l : Fin 768) : Fin 1024 := ⟨256 + l.val, by omega⟩

/-- The heads' part of the product. -/
def doB : Vec Ideal S256x768 .bf16 := fun i => k0_pay2 (F := Ideal) x0 x2 (ix2 (i 0) (hcol (i 1)))

/-- The two heads of column group `j`. -/
def grp (j : Fin 6) : Vec Ideal S256x128 .f32 := fun i => x1 (ix2 (i 0) ⟨128 * j.val + (i 1).val, by have h := (i 1).isLt; have : S256x128.size 1 = 128 := rfl; omega⟩)

/-- The row sums. -/
def deltaB : Vec Ideal S256x128 .f32 :=
  k0_pay27 (k0_pay2 x0 x2) (iota Kind.tc S256x128 32 [1] iota_S256x128_d1_w32) k0_pay4
    (k0_pay19 (k0_pay2 x0 x2) (iota Kind.tc S256x128 32 [1] iota_S256x128_d1_w32) k0_pay4
      (k0_pay9 (k0_pay2 x0 x2) (iota Kind.tc S256x128 32 [1] iota_S256x128_d1_w32) k0_pay4 (k0_pay6 x0 x2 (grp x1 0)) (grp x1 1))
      (k0_pay13 (k0_pay2 x0 x2) k0_pay4 (grp x1 2)) (k0_pay14 (k0_pay2 x0 x2) k0_pay4 (grp x1 2))
      (k0_pay15 (iota Kind.tc S256x128 32 [1] iota_S256x128_d1_w32)) (k0_pay16 (iota Kind.tc S256x128 32 [1] iota_S256x128_d1_w32)) (grp x1 3))
    (k0_pay22 (k0_pay2 x0 x2) (grp x1 4)) (k0_pay23 (k0_pay2 x0 x2) k0_pay4 (grp x1 4)) k0_pay24 (grp x1 5)

theorem cast_rows (Z : Vec Ideal S256x128 .f32) (hc : S256x128.ShapeCasts S256x128) (x : S256x128.Idx) : shapeCast S256x128 Z hc x = Z x := by
  idx_vars x
  pointwise

theorem delta27 : k0_pay29 (k0_pay27 (k0_pay2 x0 x2) (iota Kind.tc S256x128 32 [1] iota_S256x128_d1_w32) k0_pay4
    (k0_pay19 (k0_pay2 x0 x2) (iota Kind.tc S256x128 32 [1] iota_S256x128_d1_w32) k0_pay4
      (k0_pay9 (k0_pay2 x0 x2) (iota Kind.tc S256x128 32 [1] iota_S256x128_d1_w32) k0_pay4 (k0_pay6 x0 x2 (grp x1 0)) (grp x1 1))
      (k0_pay13 (k0_pay2 x0 x2) k0_pay4 (grp x1 2)) (k0_pay14 (k0_pay2 x0 x2) k0_pay4 (grp x1 2))
      (k0_pay15 (iota Kind.tc S256x128 32 [1] iota_S256x128_d1_w32)) (k0_pay16 (iota Kind.tc S256x128 32 [1] iota_S256x128_d1_w32)) (grp x1 3))
    (k0_pay22 (k0_pay2 x0 x2) (grp x1 4)) (k0_pay23 (k0_pay2 x0 x2) k0_pay4 (grp x1 4)) k0_pay24 (grp x1 5)) = deltaB x0 x1 x2 := by
  unfold k0_pay29
  funext x
  exact cast_rows (deltaB x0 x1 x2) _ x

theorem ld_grp (j : Fin 6) (off : Fin 2 → ℕ) (h : off = ![0, 128 * j.val]) (inb : ∀ a, off a + ![256, 128] a ≤ S256x768.size a) :
    View.ld x1 (Rect.unit off ![256, 128] inb) = grp x1 j := by
  subst h
  funext i
  exact congrArg x1 (funext fun a => Fin.ext (by
    match a with
    | ⟨0, _⟩ => show 0 + 1 * (i 0).val = (i 0).val; omega
    | ⟨1, _⟩ => show 128 * j.val + 1 * (i 1).val = 128 * j.val + (i 1).val; omega))

/-- A column group's store is a part of the heads' array. -/
theorem piece5 (o : ℕ) (p : FVec Ideal S256x128 .bf16) (hs : S256x1024.Slices ![0, 256 + o] S256x128)
    (hp : p = (truncf (F := Ideal) .bf16 (extractStridedSlice S256x128 ![0, 256 + o] (k0_pay2 (F := Ideal) x0 x2) hs : FVec Ideal S256x128 .f32) bitsLt_bf16_f32))
    (inb : ∀ a, (![0, o] : Fin 2 → ℕ) a + ![256, 128] a ≤ S256x768.size a) (x : S256x128.Idx) :
    p x = doB x0 x2 ((Rect.unit (s := S256x768) ![0, o] ![256, 128] inb).emb x) := by
  subst hp
  show k0_pay2 (F := Ideal) x0 x2 _ = k0_pay2 (F := Ideal) x0 x2 _
  refine congrArg _ (funext fun a => Fin.ext ?_)
  match a with
  | ⟨0, _⟩ => show 0 + (x 0).val = 0 + 1 * (x 0).val; omega
  | ⟨1, _⟩ => show 256 + o + (x 1).val = 256 + (o + 1 * (x 1).val); omega

theorem canon5 (h0 h1 h2 h3 h4 h5) : View.canon (Val := Elt Ideal) (s := S256x768) (e := .bf16)
      [⟨Rect.unit ![0, 640] ![256, 128] h5, k0_pay28 (k0_pay2 x0 x2)⟩, ⟨Rect.unit ![0, 512] ![256, 128] h4, k0_pay25 (k0_pay21 (k0_pay2 x0 x2))⟩,
        ⟨Rect.unit ![0, 384] ![256, 128] h3, k0_pay20 (k0_pay2 x0 x2)⟩, ⟨Rect.unit ![0, 256] ![256, 128] h2, k0_pay17 (k0_pay11 (k0_pay2 x0 x2))⟩,
        ⟨Rect.unit ![0, 128] ![256, 128] h1, k0_pay10 (k0_pay2 x0 x2)⟩, ⟨Rect.unit ![0, 0] ![256, 128] h0, k0_pay7 x0 x2⟩] = doB x0 x2 := by
  funext y
  refine View.canon_apply_of_pieces _ _ ?_ y (View.cover_of_tiledL _ ![256, 128] (by sl_kernel_rfl) y)
  simp only [List.forall_mem_cons]
  refine ⟨piece5 x0 x2 640 _ slices_S256x1024_o0_896_S256x128 rfl _, piece5 x0 x2 512 _ slices_S256x1024_o0_768_S256x128 rfl _,
    piece5 x0 x2 384 _ slices_S256x1024_o0_640_S256x128 rfl _, piece5 x0 x2 256 _ slices_S256x1024_o0_512_S256x128 rfl _,
    piece5 x0 x2 128 _ slices_S256x1024_o0_384_S256x128 rfl _, piece5 x0 x2 0 _ slices_S256x1024_o0_256_S256x128 rfl _, fun _ h => absurd h List.not_mem_nil⟩
end Stored

theorem cast_same (Z : Vec Ideal S256x768 .bf16) (hc : S256x768.ShapeCasts S256x768) (x : S256x768.Idx) : shapeCast S256x768 Z hc x = Z x := by
  idx_vars x
  pointwise

/-- The heads' array read back. -/
theorem natRead (Y : Vec Ideal S256x768 .bf16) (inb : ∀ a, (![0, 0] : Fin 2 → ℕ) a + ![256, 768] a ≤ S256x768.size a) (hc : S256x768.ShapeCasts S256x768) :
    (shapeCast S256x768 (fun j => Y ((Rect.unit (s := S256x768) ![0, 0] ![256, 768] inb).idx j)) hc : Vec Ideal S256x768 .bf16) = Y := by
  funext x
  refine (cast_same (fun j => Y ((Rect.unit (s := S256x768) ![0, 0] ![256, 768] inb).idx j)) hc x).trans (congrArg Y (funext fun a => Fin.ext ?_))
  match a with
  | ⟨0, _⟩ => show 0 + 1 * (x 0).val = (x 0).val; omega
  | ⟨1, _⟩ => show 0 + 1 * (x 1).val = (x 1).val; omega

/-- The rows sorted by residue class with a product. -/
def perm4 (Y : Vec Ideal S256x768 .bf16) : Vec Ideal S4x64x768 .bf16 :=
  k0_pay53 (F := Ideal) Y (iota .tc S256x256 32 [0] iota_S256x256_d0_w32) (iota .tc S256x256 32 [1] iota_S256x256_d1_w32) k0_pay51 (64#32) k0_pay52
def perm16 (Y : Vec Ideal S256x768 .bf16) : Vec Ideal S16x16x768 .bf16 :=
  k0_pay57 (F := Ideal) Y (iota .tc S256x256 32 [0] iota_S256x256_d0_w32) (iota .tc S256x256 32 [1] iota_S256x256_d1_w32) 16#32 k0_pay54 k0_pay55 k0_pay56

/-- The rows of a residue class, one class after another. -/
def cls4 (Y : Vec Ideal S256x128 .f32) : Vec Ideal S4x64x128 .f32 := fun i =>
  Y (ix2 ⟨4 * (i 1).val + (i 0).val, by
    have h0 : (i 0).val < 4 := (i 0).isLt
    have h1 : (i 1).val < 64 := (i 1).isLt
    omega⟩ (i 2))

theorem cast_page4 (Z : Vec Ideal S64x128 .f32) (hc : S64x128.ShapeCasts S1x64x128) (x : S1x64x128.Idx) :
    (shapeCast S1x64x128 Z hc : Vec Ideal S1x64x128 .f32) x = Z (ix2 (x 1) (x 2)) := by
  idx_vars x
  pointwise

/-- A class's rows, read with a stride and stored as a page. -/
theorem page4 (Y : Vec Ideal S256x128 .f32) (r : Fin 4)
    (hB : ∀ a, (![64, 128] : Fin 2 → ℕ) a = 0 ∨ (![r.val, 0] : Fin 2 → ℕ) a + (![4, 1] : Fin 2 → ℕ) a * ((![64, 128] : Fin 2 → ℕ) a - 1) < S256x128.size a)
    (hc : S64x128.ShapeCasts S1x64x128)
    (inb : ∀ a, (![r.val, 0, 0] : Fin 3 → ℕ) a + ![1, 64, 128] a ≤ S4x64x128.size a) (x : S1x64x128.Idx) :
    (shapeCast S1x64x128 (fun j => Y ((⟨![r.val, 0], ![64, 128], ![4, 1], hB⟩ : LoadRect S256x128).idx j)) hc : Vec Ideal S1x64x128 .f32) x
      = cls4 Y ((Rect.unit (s := S4x64x128) ![r.val, 0, 0] ![1, 64, 128] inb).emb x) := by
  refine (cast_page4 (fun j => Y ((⟨![r.val, 0], ![64, 128], ![4, 1], hB⟩ : LoadRect S256x128).idx j)) hc x).trans (congrArg Y (funext fun a => Fin.ext ?_))
  have h0 : (x 0).val < 1 := (x 0).isLt
  match a with
  | ⟨0, _⟩ => show r.val + 4 * (x 1).val = 4 * (0 + 1 * (x 1).val) + (r.val + 1 * (x 0).val); omega
  | ⟨1, _⟩ => show 0 + 1 * (x 2).val = 0 + 1 * (x 2).val; rfl

/-- The rows of a residue class, one class after another. -/
def cls16 (Y : Vec Ideal S256x128 .f32) : Vec Ideal S16x16x128 .f32 := fun i =>
  Y (ix2 ⟨16 * (i 1).val + (i 0).val, by
    have h0 : (i 0).val < 16 := (i 0).isLt
    have h1 : (i 1).val < 16 := (i 1).isLt
    omega⟩ (i 2))

theorem cast_page16 (Z : Vec Ideal S16x128 .f32) (hc : S16x128.ShapeCasts S1x16x128) (x : S1x16x128.Idx) :
    (shapeCast S1x16x128 Z hc : Vec Ideal S1x16x128 .f32) x = Z (ix2 (x 1) (x 2)) := by
  idx_vars x
  pointwise

/-- A class's rows, read with a stride and stored as a page. -/
theorem page16 (Y : Vec Ideal S256x128 .f32) (r : Fin 16)
    (hB : ∀ a, (![16, 128] : Fin 2 → ℕ) a = 0 ∨ (![r.val, 0] : Fin 2 → ℕ) a + (![16, 1] : Fin 2 → ℕ) a * ((![16, 128] : Fin 2 → ℕ) a - 1) < S256x128.size a)
    (hc : S16x128.ShapeCasts S1x16x128)
    (inb : ∀ a, (![r.val, 0, 0] : Fin 3 → ℕ) a + ![1, 16, 128] a ≤ S16x16x128.size a) (x : S1x16x128.Idx) :
    (shapeCast S1x16x128 (fun j => Y ((⟨![r.val, 0], ![16, 128], ![16, 1], hB⟩ : LoadRect S256x128).idx j)) hc : Vec Ideal S1x16x128 .f32) x
      = cls16 Y ((Rect.unit (s := S16x16x128) ![r.val, 0, 0] ![1, 16, 128] inb).emb x) := by
  refine (cast_page16 (fun j => Y ((⟨![r.val, 0], ![16, 128], ![16, 1], hB⟩ : LoadRect S256x128).idx j)) hc x).trans (congrArg Y (funext fun a => Fin.ext ?_))
  have h0 : (x 0).val < 1 := (x 0).isLt
  match a with
  | ⟨0, _⟩ => show r.val + 16 * (x 1).val = 16 * (0 + 1 * (x 1).val) + (r.val + 1 * (x 0).val); omega
  | ⟨1, _⟩ => show 0 + 1 * (x 2).val = 0 + 1 * (x 2).val; rfl

section Cases
variable (c : Dev nD) (i : grid0.Coords)
  (arg1 : Memref sig .tc .vmem S256x1024 .f32) (harg1 : arg1.IsWhole)
  (arg2 : Memref sig .tc .vmem S256x768 .f32) (harg2 : arg2.IsWhole)
  (arg3 : Memref sig .tc .vmem S1024x1024 .bf16) (harg3 : arg3.IsWhole)
  (arg4 : Memref sig .tc .vmem S256x1024 .bf16) (harg4 : arg4.IsWhole)
  (arg5 : Memref sig .tc .vmem S256x256 .f32) (harg5 : arg5.IsWhole)
  (arg6 : Memref sig .tc .vmem S256x768 .bf16) (harg6 : arg6.IsWhole)
  (arg7 : Memref sig .tc .vmem S4x64x768 .bf16) (harg7 : arg7.IsWhole)
  (arg8 : Memref sig .tc .vmem S16x16x768 .bf16) (harg8 : arg8.IsWhole)
  (arg9 : Memref sig .tc .vmem S256x128 .f32) (harg9 : arg9.IsWhole)
  (arg10 : Memref sig .tc .vmem S4x64x128 .f32) (harg10 : arg10.IsWhole)
  (arg11 : Memref sig .tc .vmem S16x16x128 .f32) (harg11 : arg11.IsWhole)
  (arg12 : Memref sig .tc .vmem S256x128 .f32) (harg12 : arg12.IsWhole)
  (x0 : Vec Ideal S256x1024 .f32) (x1 : Vec Ideal S256x768 .f32) (x2 : Vec Ideal S1024x1024 .bf16)

theorem out_3 : out0_A_3 c i arg1 harg1 arg2 harg2 arg3 harg3 arg4 harg4 arg5 harg5 arg6 harg6 arg7 harg7 arg8 harg8 arg9 harg9 arg10 harg10 arg11 harg11 arg12 harg12 x0 x1 x2 = k0_pay1 x0 := by
  unfold out0_A_3
  rw [View.read_writes_eq_canon _ _ _ (cover0_A_3 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  rw [View.canon_unit_zero hz]
  simp only [View.readAt_eq_ld, harg1.read_unread, View.ld_unit_zero (S := S256x1024) hz]
theorem out_4 : out0_A_4 c i arg1 harg1 arg2 harg2 arg3 harg3 arg4 harg4 arg5 harg5 arg6 harg6 arg7 harg7 arg8 harg8 arg9 harg9 arg10 harg10 arg11 harg11 arg12 harg12 x0 x1 x2 = k0_pay3 x0 x2 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  rw [View.canon_unit_zero hz]
  simp only [View.readAt_eq_ld, harg1.read_unread, harg3.read_unread, View.ld_unit_zero (S := S256x1024) hz, View.ld_unit_zero (S := S1024x1024) hz]
theorem out_5 : out0_A_5 c i arg1 harg1 arg2 harg2 arg3 harg3 arg4 harg4 arg5 harg5 arg6 harg6 arg7 harg7 arg8 harg8 arg9 harg9 arg10 harg10 arg11 harg11 arg12 harg12 x0 x1 x2 = doB x0 x2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz]
  exact canon5 x0 x2 _ _ _ _ _ _
theorem out_6 : out0_A_6 c i arg1 harg1 arg2 harg2 arg3 harg3 arg4 harg4 arg5 harg5 arg6 harg6 arg7 harg7 arg8 harg8 arg9 harg9 arg10 harg10 arg11 harg11 arg12 harg12 x0 x1 x2 = perm4 (doB x0 x2) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz, View.readCov_eq_canon']
  refine (View.canon_unit_zero hz3 _ _).trans ?_
  simp only [canon5]
  refine Eq.trans ?_ (congrArg perm4 (natRead (doB x0 x2) (by decide) shapeCasts_S256x768_S256x768))
  rfl
theorem out_7 : out0_A_7 c i arg1 harg1 arg2 harg2 arg3 harg3 arg4 harg4 arg5 harg5 arg6 harg6 arg7 harg7 arg8 harg8 arg9 harg9 arg10 harg10 arg11 harg11 arg12 harg12 x0 x1 x2 = perm16 (doB x0 x2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz, View.readCov_eq_canon']
  refine (View.canon_unit_zero hz3 _ _).trans ?_
  simp only [canon5]
  refine Eq.trans ?_ (congrArg perm16 (natRead (doB x0 x2) (by decide) shapeCasts_S256x768_S256x768))
  rfl
theorem out_8 : out0_A_8 c i arg1 harg1 arg2 harg2 arg3 harg3 arg4 harg4 arg5 harg5 arg6 harg6 arg7 harg7 arg8 harg8 arg9 harg9 arg10 harg10 arg11 harg11 arg12 harg12 x0 x1 x2 = deltaB x0 x1 x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz]
  refine (View.canon_unit_zero hz _ _).trans ?_
  rw [ld_grp x1 0 ![0, 0] rfl, ld_grp x1 1 ![0, 128] rfl, ld_grp x1 2 ![0, 256] rfl, ld_grp x1 3 ![0, 384] rfl, ld_grp x1 4 ![0, 512] rfl, ld_grp x1 5 ![0, 640] rfl]
  rfl
theorem out_9 : out0_A_9 c i arg1 harg1 arg2 harg2 arg3 harg3 arg4 harg4 arg5 harg5 arg6 harg6 arg7 harg7 arg8 harg8 arg9 harg9 arg10 harg10 arg11 harg11 arg12 harg12 x0 x1 x2 = cls4 (deltaB x0 x1 x2) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz, View.readCov_eq_canon']
  simp only [View.canon_unit_zero (S := S256x128) hz, ld_grp x1 0 ![0, 0] rfl, ld_grp x1 1 ![0, 128] rfl, ld_grp x1 2 ![0, 256] rfl, ld_grp x1 3 ![0, 384] rfl, ld_grp x1 4 ![0, 512] rfl, ld_grp x1 5 ![0, 640] rfl]
  rw [delta27]
  generalize deltaB x0 x1 x2 = D
  funext y
  refine View.canon_apply_of_pieces _ _ ?_ y (View.cover_of_tiledL _ ![1, 64, 128] (by sl_kernel_rfl) y)
  simp only [List.forall_mem_cons]
  exact ⟨page4 D 3 _ _ _, page4 D 2 _ _ _, page4 D 1 _ _ _, page4 D 0 _ _ _, fun _ h => absurd h List.not_mem_nil⟩
theorem out_10 : out0_A_10 c i arg1 harg1 arg2 harg2 arg3 harg3 arg4 harg4 arg5 harg5 arg6 harg6 arg7 harg7 arg8 harg8 arg9 harg9 arg10 harg10 arg11 harg11 arg12 harg12 x0 x1 x2 = cls16 (deltaB x0 x1 x2) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2)]
  unfold kernelRun0_A
  dsimp only
  sl_unfold_words
  simp only [View.readAt_eq_ld, harg1.read_unread, harg2.read_unread, harg3.read_unread, View.ld_unit_zero (S := S256x1024) hz, View.ld_unit_zero (S := S1024x1024) hz, View.readCov_eq_canon']
  simp only [View.canon_unit_zero (S := S256x128) hz, ld_grp x1 0 ![0, 0] rfl, ld_grp x1 1 ![0, 128] rfl, ld_grp x1 2 ![0, 256] rfl, ld_grp x1 3 ![0, 384] rfl, ld_grp x1 4 ![0, 512] rfl, ld_grp x1 5 ![0, 640] rfl]
  rw [delta27]
  generalize deltaB x0 x1 x2 = D
  funext y
  refine View.canon_apply_of_pieces _ _ ?_ y (View.cover_of_tiledL _ ![1, 16, 128] (by sl_kernel_rfl) y)
  simp only [List.forall_mem_cons]
  exact ⟨page16 D 15 _ _ _, page16 D 14 _ _ _, page16 D 13 _ _ _, page16 D 12 _ _ _, page16 D 11 _ _ _, page16 D 10 _ _ _, page16 D 9 _ _ _, page16 D 8 _ _ _, page16 D 7 _ _ _, page16 D 6 _ _ _, page16 D 5 _ _ _, page16 D 4 _ _ _, page16 D 3 _ _ _, page16 D 2 _ _ _, page16 D 1 _ _ _, page16 D 0 _ _ _, fun _ h => absurd h List.not_mem_nil⟩
end Cases

end Cert.MixOutIdeal.Value

end
-- ==== Proof.MixOutKernel.lean ====
/-
  The gradient of the mixture's output projection: the blocks the kernel stores, entry by entry, and its eight final arrays.
-/
module

public import proofs.«01_k».proof.Proof.MixOutCases

@[expose] public section

set_option maxRecDepth 16384

noncomputable section

namespace Cert.MixOutIdeal.Value

open Cert.MixOutIdeal Cert.MixOutIdeal.Gen Idealize.ShloMosaic Idealize.ShloMosaic.TcCoe Idealize.SL.Sem
open Idealize.ShloMosaic.Pipeline (Dat)

/-! ## Selections and masked sums -/

/-- A comparison of a lane with a small constant. -/
theorem hit (z k : ℕ) (hz : z < 2 ^ 32) (hk : k < 2 ^ 32) (a b : EReal) :
    Scalar.select (IntOp.cmpi CmpIPredicate.eq (BitVec.ofNat 32 z) (BitVec.ofNat 32 k)) a b = if z = k then a else b := by
  have h : (BitVec.ofNat 32 z = BitVec.ofNat 32 k) ↔ z = k := by
    refine ⟨fun e => ?_, fun e => by rw [e]⟩
    have e' := congrArg BitVec.toNat e
    rwa [BitVec.toNat_ofNat, BitVec.toNat_ofNat, Nat.mod_eq_of_lt hz, Nat.mod_eq_of_lt hk] at e'
  by_cases e : z = k
  · subst e
    rw [if_pos rfl]
    simp [Scalar.select, IntOp.cmpi]
  · rw [if_neg e]
    have e' : ¬ BitVec.ofNat 32 z = BitVec.ofNat 32 k := fun q => e (h.mp q)
    have e'' : (BitVec.ofNat 32 z == BitVec.ofNat 32 k) = false := beq_eq_false_iff_ne.mpr e'
    simp [Scalar.select, IntOp.cmpi, e'']

/-- A sum over rows that keeps one row. -/
theorem pick (f : Fin 256 → EReal) (e : BitVec 32) (n : Fin 256) (h : e = BitVec.ofNat 32 n.val) :
    (∑ x : Fin 256, Scalar.select (IntOp.cmpi CmpIPredicate.eq (BitVec.ofNat 32 x.val) e) (f x) 0) = f n := by
  subst h
  rw [Finset.sum_eq_single n]
  · rw [hit _ _ (by omega) (by omega), if_pos rfl]
  · intro b _ hb
    rw [hit _ _ (by omega) (by omega), if_neg fun q => hb (Fin.ext q)]
  · intro h
    exact absurd (Finset.mem_univ _) h

theorem lane_lo : ∀ d : Fin 64, IntOp.cmpi CmpIPredicate.slt (BitVec.ofNat 32 (Fin.castAdd 64 d).val) 64#32 = 1#1 := by decide +kernel
theorem lane_hi : ∀ d : Fin 64, IntOp.cmpi CmpIPredicate.slt (BitVec.ofNat 32 (Fin.natAdd 64 d).val) 64#32 = 0#1 := by decide +kernel

/-- The sum over the first half of the lanes. -/
theorem lo (f : Fin 128 → EReal) :
    (∑ x : Fin 128, Scalar.select (IntOp.cmpi CmpIPredicate.slt (BitVec.ofNat 32 x.val) 64#32) (f x) 0)
      = ∑ d : Fin 64, f ⟨d.val, by omega⟩ := by
  rw [Fin.sum_univ_add (a := 64) (b := 64)]
  refine (congrArg₂ (fun a b : EReal => a + b) (Finset.sum_congr rfl fun d _ => ?_) (Finset.sum_congr rfl fun d _ => ?_)).trans
    ((congrArg (fun b : EReal => _ + b) Finset.sum_const_zero).trans (add_zero _))
  · rw [lane_lo]; rfl
  · rw [lane_hi]; rfl
/-- The sum over the second half of the lanes. -/
theorem hi (f : Fin 128 → EReal) :
    (∑ x : Fin 128, Scalar.select (IntOp.cmpi CmpIPredicate.slt (BitVec.ofNat 32 x.val) 64#32) 0 (f x))
      = ∑ d : Fin 64, f ⟨64 + d.val, by omega⟩ := by
  rw [Fin.sum_univ_add (a := 64) (b := 64)]
  refine (congrArg₂ (fun a b : EReal => a + b) (Finset.sum_congr rfl fun d _ => ?_) (Finset.sum_congr rfl fun d _ => ?_)).trans
    ((congrArg (fun b : EReal => b + _) Finset.sum_const_zero).trans (zero_add _))
  · rw [lane_lo]; rfl
  · rw [lane_hi]; rfl

/-! ## The stored blocks -/

section Blocks
variable (x0 : Vec Ideal S256x1024 .f32) (x1 : Vec Ideal S256x768 .f32) (x2 : Vec Ideal S1024x1024 .bf16)

theorem pay2_at (r : Fin 256) (k : Fin 1024) : k0_pay2 (F := Ideal) x0 x2 (ix2 r k) = (∑ q : Fin 1024, x0 (ix2 r q) * x2 (ix2 k q) : EReal) := by
  pointwise [k0_pay2, k0_pay1]
theorem pay1_at (r : Fin 256) (k : Fin 1024) : k0_pay1 (F := Ideal) x0 (ix2 r k) = (x0 (ix2 r k) : EReal) := by
  pointwise [k0_pay1]
theorem pay3_at (r : Fin 256) (k : Fin 256) : k0_pay3 (F := Ideal) x0 x2 (ix2 r k) = (∑ q : Fin 1024, x0 (ix2 r q) * x2 (ix2 (⟨k.val, by omega⟩ : Fin 1024) q) : EReal) := by
  refine Eq.trans ?_ (pay2_at x0 x2 r ⟨k.val, by omega⟩)
  unfold k0_pay3
  generalize k0_pay2 (F := Ideal) x0 x2 = M
  pointwise
theorem doB_at (r : Fin 256) (l : Fin 768) : doB x0 x2 (ix2 r l) = (∑ q : Fin 1024, x0 (ix2 r q) * x2 (ix2 (⟨256 + l.val, by omega⟩ : Fin 1024) q) : EReal) :=
  pay2_at x0 x2 r ⟨256 + l.val, by omega⟩

variable (Y : Vec Ideal S256x768 .bf16)
theorem perm4_at (a : Fin 4) (i : Fin 64) (l : Fin 768) : perm4 Y (ix3 a i l) = (Y (ix2 (⟨4 * i.val + a.val, by omega⟩ : Fin 256) l) : EReal) := by
  unfold perm4 k0_pay53
  dsimp only
  pointwise [k0_pay51, k0_pay52]
  exact pick (fun x => Y (ix2 x l)) _ ⟨4 * i.val + a.val, by omega⟩ (by revert a i; decide +kernel)
theorem perm16_at (a : Fin 16) (i : Fin 16) (l : Fin 768) : perm16 Y (ix3 a i l) = (Y (ix2 (⟨16 * i.val + a.val, by omega⟩ : Fin 256) l) : EReal) := by
  unfold perm16 k0_pay57
  dsimp only
  pointwise [k0_pay54, k0_pay55, k0_pay56]
  exact pick (fun x => Y (ix2 x l)) _ ⟨16 * i.val + a.val, by omega⟩ (by revert a i; decide +kernel)

/-- A head's row sum. -/
def headSum (M : Vec Ideal S256x1024 .f32) (r : Fin 256) (n : ℕ) : EReal :=
  if h : n < 12 then ∑ d : Fin 64, M (ix2 r (⟨256 + 64 * n + d.val, by omega⟩ : Fin 1024)) * x1 (ix2 r (⟨64 * n + d.val, by omega⟩ : Fin 768)) else 0

theorem head_of (M : Vec Ideal S256x1024 .f32) (r : Fin 256) (n : ℕ) (hn : n < 12) (o p : Fin 64 → ℕ) (ho : ∀ d, o d = 256 + 64 * n + d.val)
    (hp : ∀ d, p d = 64 * n + d.val) (h : ∀ d, o d < 1024) (h' : ∀ d, p d < 768) :
    (∑ d : Fin 64, M (ix2 r (⟨o d, h d⟩ : Fin 1024)) * x1 (ix2 r (⟨p d, h' d⟩ : Fin 768)) : EReal) = headSum x1 M r n := by
  obtain rfl := funext ho
  obtain rfl := funext hp
  unfold headSum
  rw [dif_pos hn]

theorem nest_step (l : ℕ) (H : ℕ → EReal) (k : ℕ) (s t : EReal) (e : s = H k) (h : l ≠ k → t = H l) : (if l = k then s else t) = H l := by
  by_cases q : l = k
  · rw [if_pos q, q]; exact e
  · rw [if_neg q]; exact h q
theorem nest (l : ℕ) (H : ℕ → EReal) (hH : ∀ n, 12 ≤ n → H n = 0) (s0 s1 s2 s3 s4 s5 s6 s7 s8 s9 s10 s11 : EReal) (e0 : s0 = H 0) (e1 : s1 = H 1) (e2 : s2 = H 2) (e3 : s3 = H 3) (e4 : s4 = H 4) (e5 : s5 = H 5) (e6 : s6 = H 6) (e7 : s7 = H 7) (e8 : s8 = H 8) (e9 : s9 = H 9) (e10 : s10 = H 10) (e11 : s11 = H 11) :
    (if l = 10 then s10 else if l = 11 then s11 else if l = 8 then s8 else if l = 9 then s9 else if l = 6 then s6 else if l = 7 then s7 else if l = 4 then s4 else if l = 5 then s5 else if l = 2 then s2 else if l = 3 then s3 else if l = 0 then s0 else if l = 1 then s1 else 0) = H l := by
  refine nest_step l H 10 _ _ e10 fun n10 => ?_
  refine nest_step l H 11 _ _ e11 fun n11 => ?_
  refine nest_step l H 8 _ _ e8 fun n8 => ?_
  refine nest_step l H 9 _ _ e9 fun n9 => ?_
  refine nest_step l H 6 _ _ e6 fun n6 => ?_
  refine nest_step l H 7 _ _ e7 fun n7 => ?_
  refine nest_step l H 4 _ _ e4 fun n4 => ?_
  refine nest_step l H 5 _ _ e5 fun n5 => ?_
  refine nest_step l H 2 _ _ e2 fun n2 => ?_
  refine nest_step l H 3 _ _ e3 fun n3 => ?_
  refine nest_step l H 0 _ _ e0 fun n0 => ?_
  refine nest_step l H 1 _ _ e1 fun n1 => ?_
  exact (hH l (by omega)).symm

theorem cast_id (Z : Vec Ideal S256x128 .f32) (h : S256x128.ShapeCasts S256x128) : shapeCast S256x128 Z h = Z := funext fun x => cast_rows Z h x
theorem grp_0 (r : Fin 256) (d : Fin 128) : grp x1 0 (ix2 r d) = x1 (ix2 r (⟨0 + d.val, by omega⟩ : Fin 768)) := rfl
theorem grp_1 (r : Fin 256) (d : Fin 128) : grp x1 1 (ix2 r d) = x1 (ix2 r (⟨128 + d.val, by omega⟩ : Fin 768)) := rfl
theorem grp_2 (r : Fin 256) (d : Fin 128) : grp x1 2 (ix2 r d) = x1 (ix2 r (⟨256 + d.val, by omega⟩ : Fin 768)) := rfl
theorem grp_3 (r : Fin 256) (d : Fin 128) : grp x1 3 (ix2 r d) = x1 (ix2 r (⟨384 + d.val, by omega⟩ : Fin 768)) := rfl
theorem grp_4 (r : Fin 256) (d : Fin 128) : grp x1 4 (ix2 r d) = x1 (ix2 r (⟨512 + d.val, by omega⟩ : Fin 768)) := rfl
theorem grp_5 (r : Fin 256) (d : Fin 128) : grp x1 5 (ix2 r d) = x1 (ix2 r (⟨640 + d.val, by omega⟩ : Fin 768)) := rfl
set_option maxHeartbeats 1000000 in
theorem deltaB_at (r : Fin 256) (l : Fin 128) : deltaB x0 x1 x2 (ix2 r l) = headSum x1 (k0_pay2 x0 x2) r l.val := by
  unfold deltaB k0_pay6 k0_pay5
  generalize k0_pay2 (F := Ideal) x0 x2 = M
  simp only [k0_pay27, k0_pay19, k0_pay9, k0_pay13, k0_pay14, k0_pay15, k0_pay16, k0_pay22, k0_pay23, k0_pay24, k0_pay26, k0_pay21, k0_pay18, k0_pay12,
    k0_pay11, k0_pay8, k0_pay4, cast_id]
  pointwise
  simp only [lo, hi, grp_0, grp_1, grp_2, grp_3, grp_4, grp_5]
  have hl : l.val < 2 ^ 32 := by omega
  repeat rw [hit _ _ hl (by omega)]
  refine nest l.val (headSum x1 M r) (fun n h => dif_neg (by omega)) _ _ _ _ _ _ _ _ _ _ _ _ ?_ ?_ ?_ ?_ ?_ ?_ ?_ ?_ ?_ ?_ ?_ ?_
  · exact head_of x1 M r 0 (by omega) _ _ (fun d => by omega) (fun d => by omega) _ _
  · exact head_of x1 M r 1 (by omega) _ _ (fun d => by omega) (fun d => by omega) _ _
  · exact head_of x1 M r 2 (by omega) _ _ (fun d => by omega) (fun d => by omega) _ _
  · exact head_of x1 M r 3 (by omega) _ _ (fun d => by omega) (fun d => by omega) _ _
  · exact head_of x1 M r 4 (by omega) _ _ (fun d => by omega) (fun d => by omega) _ _
  · exact head_of x1 M r 5 (by omega) _ _ (fun d => by omega) (fun d => by omega) _ _
  · exact head_of x1 M r 6 (by omega) _ _ (fun d => by omega) (fun d => by omega) _ _
  · exact head_of x1 M r 7 (by omega) _ _ (fun d => by omega) (fun d => by omega) _ _
  · exact head_of x1 M r 8 (by omega) _ _ (fun d => by omega) (fun d => by omega) _ _
  · exact head_of x1 M r 9 (by omega) _ _ (fun d => by omega) (fun d => by omega) _ _
  · exact head_of x1 M r 10 (by omega) _ _ (fun d => by omega) (fun d => by omega) _ _
  · exact head_of x1 M r 11 (by omega) _ _ (fun d => by omega) (fun d => by omega) _ _
end Blocks

/-! ## The final arrays -/

section Arrays
variable (m : (ℓ : Loc nD τ sig) → Buf (Elt Ideal) ℓ) (c : Dev nD)
variable (G : Vec Ideal S2048x1024 .f32) (A : Vec Ideal S2048x768 .f32) (W : Vec Ideal S1024x1024 .bf16)

theorem point_lt (p : Fin cfg0.N) : p.val < 8 := by
  have h := p.isLt
  have hN : cfg0.N = 8 := N_0
  omega
theorem row_lt (p : Fin cfg0.N) (j : Fin 256) : 256 * p.val + j.val < 2048 := by
  have := point_lt p
  omega
theorem row4_lt (p : Fin cfg0.N) (j : Fin 64) : 64 * p.val + j.val < 512 := by
  have := point_lt p
  omega
theorem row16_lt (p : Fin cfg0.N) (j : Fin 16) : 16 * p.val + j.val < 128 := by
  have := point_lt p
  omega
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel

theorem read0 (Z : Vec Ideal S2048x1024 .f32) (t : Fin cfg0.N) (i : Fin 256) (j : Fin 1024) :
    (((cfg0.win 0).blk t).view.read (Elt Ideal) Z : Vec Ideal S256x1024 .f32) (ix2 i j) = Z (ix2 (⟨256 * t.val + i.val, row_lt t i⟩ : Fin 2048) j) := by
  have e : ((cfg0.win 0).blk t).view.emb (ix2 i j) = ix2 (⟨256 * t.val + i.val, row_lt t i⟩ : Fin 2048) j := by
    funext a
    refine Fin.ext ?_
    match a with
    | ⟨0, _⟩ => show win0_0.index t 0 * 256 + 1 * i.val = 256 * t.val + i.val; rw [(idx0 t).1]; omega
    | ⟨1, _⟩ => show win0_0.index t 1 * 1024 + 1 * j.val = j.val; rw [(idx0 t).2]; omega
  show Z (((cfg0.win 0).blk t).view.emb (ix2 i j)) = _
  rw [e]
theorem blk0 (h : V m c main_arg0 = G) (t : Fin cfg0.N) (i : Fin 256) (j : Fin 1024) :
    (iblk m c 0 t : Vec Ideal S256x1024 .f32) (ix2 i j) = G (ix2 (⟨256 * t.val + i.val, row_lt t i⟩ : Fin 2048) j) := by
  have h' : V m c (Pipeline.arrRef spec0 0) = G := h
  unfold iblk
  rw [h']
  exact read0 G t i j

theorem read1 (Z : Vec Ideal S2048x768 .f32) (t : Fin cfg0.N) (i : Fin 256) (j : Fin 768) :
    (((cfg0.win 1).blk t).view.read (Elt Ideal) Z : Vec Ideal S256x768 .f32) (ix2 i j) = Z (ix2 (⟨256 * t.val + i.val, row_lt t i⟩ : Fin 2048) j) := by
  have e : ((cfg0.win 1).blk t).view.emb (ix2 i j) = ix2 (⟨256 * t.val + i.val, row_lt t i⟩ : Fin 2048) j := by
    funext a
    refine Fin.ext ?_
    match a with
    | ⟨0, _⟩ => show win0_1.index t 0 * 256 + 1 * i.val = 256 * t.val + i.val; rw [(idx1 t).1]; omega
    | ⟨1, _⟩ => show win0_1.index t 1 * 768 + 1 * j.val = j.val; rw [(idx1 t).2]; omega
  show Z (((cfg0.win 1).blk t).view.emb (ix2 i j)) = _
  rw [e]
theorem blk1 (h : V m c main_v80 = A) (t : Fin cfg0.N) (i : Fin 256) (j : Fin 768) :
    (iblk m c 1 t : Vec Ideal S256x768 .f32) (ix2 i j) = A (ix2 (⟨256 * t.val + i.val, row_lt t i⟩ : Fin 2048) j) := by
  have h' : V m c (Pipeline.arrRef spec0 1) = A := h
  unfold iblk
  rw [h']
  exact read1 A t i j

theorem read2 (Z : Vec Ideal S1024x1024 .bf16) (t : Fin cfg0.N) (i : Fin 1024) (j : Fin 1024) :
    (((cfg0.win 2).blk t).view.read (Elt Ideal) Z : Vec Ideal S1024x1024 .bf16) (ix2 i j) = Z (ix2 i j) := by
  have e : ((cfg0.win 2).blk t).view.emb (ix2 i j) = ix2 i j := by
    funext a
    refine Fin.ext ?_
    match a with
    | ⟨0, _⟩ => show win0_2.index t 0 * 1024 + 1 * i.val = i.val; rw [(idx2 t).1]; omega
    | ⟨1, _⟩ => show win0_2.index t 1 * 1024 + 1 * j.val = j.val; rw [(idx2 t).2]; omega
  show Z (((cfg0.win 2).blk t).view.emb (ix2 i j)) = _
  rw [e]
theorem blk2 (h : V m c main_v81 = W) (t : Fin cfg0.N) (i : Fin 1024) (j : Fin 1024) :
    (iblk m c 2 t : Vec Ideal S1024x1024 .bf16) (ix2 i j) = W (ix2 i j) := by
  have h' : V m c (Pipeline.arrRef spec0 2) = W := h
  unfold iblk
  rw [h']
  exact read2 W t i j

/-- The rows' gradient through the projection, and the parts the kernel keeps. -/
def proj (r : Fin 2048) (k : Fin 1024) : EReal := ∑ q : Fin 1024, G (ix2 r q) * W (ix2 k q)
def gradBranch : Vec Ideal S2048x1024 .bf16 := fun i => (G i : EReal)
def gradPool : Vec Ideal S2048x256 .f32 := fun i => proj G W (i 0) (⟨(i 1).val, by have h : (i 1).val < 256 := (i 1).isLt; omega⟩ : Fin 1024)
def gradO : Vec Ideal S2048x768 .bf16 := fun i => proj G W (i 0) (⟨256 + (i 1).val, by have h : (i 1).val < 768 := (i 1).isLt; omega⟩ : Fin 1024)
def gradO4 : Vec Ideal S4x512x768 .bf16 := fun i => gradO G W (ix2 (⟨4 * (i 1).val + (i 0).val, by have h : (i 1).val < 512 := (i 1).isLt; have h' : (i 0).val < 4 := (i 0).isLt; omega⟩ : Fin 2048) (i 2))
def gradO16 : Vec Ideal S16x128x768 .bf16 := fun i => gradO G W (ix2 (⟨16 * (i 1).val + (i 0).val, by have h : (i 1).val < 128 := (i 1).isLt; have h' : (i 0).val < 16 := (i 0).isLt; omega⟩ : Fin 2048) (i 2))
/-- The heads' row sums, one lane per head, and zero in the other lanes. -/
def rowHead (r : Fin 2048) (n : ℕ) : EReal :=
  if h : n < 12 then ∑ d : Fin 64, proj G W r (⟨256 + 64 * n + d.val, by omega⟩ : Fin 1024) * A (ix2 r (⟨64 * n + d.val, by omega⟩ : Fin 768)) else 0
def rowSum : Vec Ideal S2048x128 .f32 := fun i => rowHead G A W (i 0) (i 1).val
def rowSum4 : Vec Ideal S4x512x128 .f32 := fun i => rowSum G A W (ix2 (⟨4 * (i 1).val + (i 0).val, by have h : (i 1).val < 512 := (i 1).isLt; have h' : (i 0).val < 4 := (i 0).isLt; omega⟩ : Fin 2048) (i 2))
def rowSum16 : Vec Ideal S16x128x128 .f32 := fun i => rowSum G A W (ix2 (⟨16 * (i 1).val + (i 0).val, by have h : (i 1).val < 128 := (i 1).isLt; have h' : (i 0).val < 16 := (i 0).isLt; omega⟩ : Fin 2048) (i 2))

section At
variable (hG : V m c main_arg0 = G) (hA : V m c main_v80 = A) (hW : V m c main_v81 = W) (t : Fin cfg0.N)
include hG hW

theorem pay2_blk (i : Fin 256) (k : Fin 1024) :
    k0_pay2 (F := Ideal) (iblk m c 0 t) (iblk m c 2 t) (ix2 i k) = proj G W (⟨256 * t.val + i.val, row_lt t i⟩ : Fin 2048) k := by
  refine (pay2_at _ _ i k).trans (Finset.sum_congr rfl fun q _ => congrArg₂ (fun a b : EReal => a * b) (blk0 m c G hG t i q) (blk2 m c W hW t k q))
theorem at4 (i : Fin 256) (k : Fin 256) :
    k0_pay3 (F := Ideal) (iblk m c 0 t) (iblk m c 2 t) (ix2 i k) = gradPool G W (ix2 (⟨256 * t.val + i.val, row_lt t i⟩ : Fin 2048) k) := by
  refine (pay3_at _ _ i k).trans ((pay2_at _ _ i _).symm.trans (pay2_blk m c G W hG hW t i _))
theorem at5 (i : Fin 256) (k : Fin 768) :
    doB (iblk m c 0 t) (iblk m c 2 t) (ix2 i k) = gradO G W (ix2 (⟨256 * t.val + i.val, row_lt t i⟩ : Fin 2048) k) := by
  exact pay2_blk m c G W hG hW t i (⟨256 + k.val, by omega⟩ : Fin 1024)
include hA in
theorem at8 (i : Fin 256) (l : Fin 128) :
    deltaB (iblk m c 0 t) (iblk m c 1 t) (iblk m c 2 t) (ix2 i l) = rowSum G A W (ix2 (⟨256 * t.val + i.val, row_lt t i⟩ : Fin 2048) l) := by
  refine (deltaB_at _ _ _ i l).trans ?_
  show _ = rowHead G A W (⟨256 * t.val + i.val, row_lt t i⟩ : Fin 2048) l.val
  unfold headSum rowHead
  by_cases h : l.val < 12
  · rw [dif_pos h, dif_pos h]
    exact Finset.sum_congr rfl fun d _ => congrArg₂ (fun a b : EReal => a * b) (pay2_blk m c G W hG hW t i _) (blk1 m c A hA t i _)
  · rw [dif_neg h, dif_neg h]
omit hG hW in
theorem at3 (hG : V m c main_arg0 = G) (i : Fin 256) (k : Fin 1024) :
    k0_pay1 (F := Ideal) (iblk m c 0 t) (ix2 i k) = gradBranch G (ix2 (⟨256 * t.val + i.val, row_lt t i⟩ : Fin 2048) k) :=
  (pay1_at _ i k).trans (blk0 m c G hG t i k)
theorem at6 (a : Fin 4) (i : Fin 64) (k : Fin 768) :
    perm4 (doB (iblk m c 0 t) (iblk m c 2 t)) (ix3 a i k) = gradO4 G W (ix3 a (⟨64 * t.val + i.val, row4_lt t i⟩ : Fin 512) k) := by
  refine (perm4_at _ a i k).trans ((at5 m c G W hG hW t (⟨4 * i.val + a.val, by omega⟩ : Fin 256) k).trans (congrArg (gradO G W) (congrArg (fun r : Fin 2048 => ix2 r k) (Fin.ext ?_))))
  show 256 * t.val + (4 * i.val + a.val) = 4 * (64 * t.val + i.val) + a.val
  omega
theorem at7 (a : Fin 16) (i : Fin 16) (k : Fin 768) :
    perm16 (doB (iblk m c 0 t) (iblk m c 2 t)) (ix3 a i k) = gradO16 G W (ix3 a (⟨16 * t.val + i.val, row16_lt t i⟩ : Fin 128) k) := by
  refine (perm16_at _ a i k).trans ((at5 m c G W hG hW t (⟨16 * i.val + a.val, by omega⟩ : Fin 256) k).trans (congrArg (gradO G W) (congrArg (fun r : Fin 2048 => ix2 r k) (Fin.ext ?_))))
  show 256 * t.val + (16 * i.val + a.val) = 16 * (16 * t.val + i.val) + a.val
  omega
include hA in
theorem at9 (a : Fin 4) (i : Fin 64) (k : Fin 128) :
    cls4 (deltaB (iblk m c 0 t) (iblk m c 1 t) (iblk m c 2 t)) (ix3 a i k) = rowSum4 G A W (ix3 a (⟨64 * t.val + i.val, row4_lt t i⟩ : Fin 512) k) := by
  refine (Eq.refl _ : cls4 _ (ix3 a i k) = _).trans ((at8 m c G A W hG hA hW t (⟨4 * i.val + a.val, by omega⟩ : Fin 256) k).trans (congrArg (rowSum G A W) (congrArg (fun r : Fin 2048 => ix2 r k) (Fin.ext ?_))))
  show 256 * t.val + (4 * i.val + a.val) = 4 * (64 * t.val + i.val) + a.val
  omega
include hA in
theorem at10 (a : Fin 16) (i : Fin 16) (k : Fin 128) :
    cls16 (deltaB (iblk m c 0 t) (iblk m c 1 t) (iblk m c 2 t)) (ix3 a i k) = rowSum16 G A W (ix3 a (⟨16 * t.val + i.val, row16_lt t i⟩ : Fin 128) k) := by
  refine (Eq.refl _ : cls16 _ (ix3 a i k) = _).trans ((at8 m c G A W hG hA hW t (⟨16 * i.val + a.val, by omega⟩ : Fin 256) k).trans (congrArg (rowSum G A W) (congrArg (fun r : Fin 2048 => ix2 r k) (Fin.ext ?_))))
  show 256 * t.val + (16 * i.val + a.val) = 16 * (16 * t.val + i.val) + a.val
  omega
end At

theorem idx3 : ∀ t : Fin grid0.N, win0_3.index t 0 = t.val ∧ win0_3.index t 1 = 0 := by decide +kernel
theorem size3 : ∀ t : Fin grid0.N, win0_3.xsize (grid0.coords t) 0 = 256 ∧ win0_3.xsize (grid0.coords t) 1 = 1024 := by decide +kernel
theorem final3 (hG : V m c main_arg0 = G) : (dats m 0 c).arrAt 3 cfg0.N = gradBranch G := by
  refine (dats m 0 c).arrAt_eq_of_cover 3 _ (fun t hf => ?_) fun (i : S2048x1024.Idx) => ?_
  · rw [flushed3_A, out_3]
    funext j
    rw [View.read_apply]
    have e : ((cfg0.win 3).blk t).view.emb j = ix2 (⟨256 * t.val + (j 0).val, row_lt t (j 0)⟩ : Fin 2048) (j 1) := by
      funext a
      refine Fin.ext ?_
      match a with
      | ⟨0, _⟩ => show win0_3.index t 0 * 256 + 1 * (j 0).val = 256 * t.val + (j 0).val; rw [(idx3 t).1]; omega
      | ⟨1, _⟩ => show win0_3.index t 1 * 1024 + 1 * (j 1).val = (j 1).val; rw [(idx3 t).2]; omega
    refine Eq.trans ?_ (((fun t => at3 m c G t hG) t (j 0) (j 1)).trans (congrArg (gradBranch G) e.symm))
    exact congrArg (k0_pay1 (F := Ideal) (iblk m c 0 t)) (eq_ix2 j)
  · have h0 : (i 0).val < 2048 := (i 0).isLt
    have h1 : (i 1).val < 1024 := (i 1).isLt
    obtain ⟨t, ht⟩ : ∃ t : Fin cfg0.N, t.val = (i 0).val / 256 := ⟨⟨(i 0).val / 256, by rw [show cfg0.N = 8 from N_0]; omega⟩, rfl⟩
    refine ⟨t, flush0_3 _, ?_⟩
    show i ∈ ((View.whole main_v82_0).slice (win0_3.rect t)).set
    rw [View.set_slice_whole, Rect.mem_set_unit]
    intro a
    match a with
    | ⟨0, _⟩ =>
      show win0_3.index _ 0 * 256 ≤ (i 0).val ∧ (i 0).val < win0_3.index _ 0 * 256 + win0_3.xsize (grid0.coords _) 0
      rw [(idx3 _).1, (size3 _).1]; omega
    | ⟨1, _⟩ =>
      show win0_3.index _ 1 * 1024 ≤ (i 1).val ∧ (i 1).val < win0_3.index _ 1 * 1024 + win0_3.xsize (grid0.coords _) 1
      rw [(idx3 _).2, (size3 _).2]; omega

theorem idx4 : ∀ t : Fin grid0.N, win0_4.index t 0 = t.val ∧ win0_4.index t 1 = 0 := by decide +kernel
theorem size4 : ∀ t : Fin grid0.N, win0_4.xsize (grid0.coords t) 0 = 256 ∧ win0_4.xsize (grid0.coords t) 1 = 256 := by decide +kernel
theorem final4 (hG : V m c main_arg0 = G) (hW : V m c main_v81 = W) : (dats m 0 c).arrAt 4 cfg0.N = gradPool G W := by
  refine (dats m 0 c).arrAt_eq_of_cover 4 _ (fun t hf => ?_) fun (i : S2048x256.Idx) => ?_
  · rw [flushed4_A, out_4]
    funext j
    rw [View.read_apply]
    have e : ((cfg0.win 4).blk t).view.emb j = ix2 (⟨256 * t.val + (j 0).val, row_lt t (j 0)⟩ : Fin 2048) (j 1) := by
      funext a
      refine Fin.ext ?_
      match a with
      | ⟨0, _⟩ => show win0_4.index t 0 * 256 + 1 * (j 0).val = 256 * t.val + (j 0).val; rw [(idx4 t).1]; omega
      | ⟨1, _⟩ => show win0_4.index t 1 * 256 + 1 * (j 1).val = (j 1).val; rw [(idx4 t).2]; omega
    refine Eq.trans ?_ ((at4 m c G W hG hW t (j 0) (j 1)).trans (congrArg (gradPool G W) e.symm))
    exact congrArg (k0_pay3 (F := Ideal) (iblk m c 0 t) (iblk m c 2 t)) (eq_ix2 j)
  · have h0 : (i 0).val < 2048 := (i 0).isLt
    have h1 : (i 1).val < 256 := (i 1).isLt
    obtain ⟨t, ht⟩ : ∃ t : Fin cfg0.N, t.val = (i 0).val / 256 := ⟨⟨(i 0).val / 256, by rw [show cfg0.N = 8 from N_0]; omega⟩, rfl⟩
    refine ⟨t, flush0_4 _, ?_⟩
    show i ∈ ((View.whole main_v82_1).slice (win0_4.rect t)).set
    rw [View.set_slice_whole, Rect.mem_set_unit]
    intro a
    match a with
    | ⟨0, _⟩ =>
      show win0_4.index _ 0 * 256 ≤ (i 0).val ∧ (i 0).val < win0_4.index _ 0 * 256 + win0_4.xsize (grid0.coords _) 0
      rw [(idx4 _).1, (size4 _).1]; omega
    | ⟨1, _⟩ =>
      show win0_4.index _ 1 * 256 ≤ (i 1).val ∧ (i 1).val < win0_4.index _ 1 * 256 + win0_4.xsize (grid0.coords _) 1
      rw [(idx4 _).2, (size4 _).2]; omega

theorem idx5 : ∀ t : Fin grid0.N, win0_5.index t 0 = t.val ∧ win0_5.index t 1 = 0 := by decide +kernel
theorem size5 : ∀ t : Fin grid0.N, win0_5.xsize (grid0.coords t) 0 = 256 ∧ win0_5.xsize (grid0.coords t) 1 = 768 := by decide +kernel
theorem final5 (hG : V m c main_arg0 = G) (hW : V m c main_v81 = W) : (dats m 0 c).arrAt 5 cfg0.N = gradO G W := by
  refine (dats m 0 c).arrAt_eq_of_cover 5 _ (fun t hf => ?_) fun (i : S2048x768.Idx) => ?_
  · rw [flushed5_A, out_5]
    funext j
    rw [View.read_apply]
    have e : ((cfg0.win 5).blk t).view.emb j = ix2 (⟨256 * t.val + (j 0).val, row_lt t (j 0)⟩ : Fin 2048) (j 1) := by
      funext a
      refine Fin.ext ?_
      match a with
      | ⟨0, _⟩ => show win0_5.index t 0 * 256 + 1 * (j 0).val = 256 * t.val + (j 0).val; rw [(idx5 t).1]; omega
      | ⟨1, _⟩ => show win0_5.index t 1 * 768 + 1 * (j 1).val = (j 1).val; rw [(idx5 t).2]; omega
    refine Eq.trans ?_ ((at5 m c G W hG hW t (j 0) (j 1)).trans (congrArg (gradO G W) e.symm))
    exact congrArg (doB (iblk m c 0 t) (iblk m c 2 t)) (eq_ix2 j)
  · have h0 : (i 0).val < 2048 := (i 0).isLt
    have h1 : (i 1).val < 768 := (i 1).isLt
    obtain ⟨t, ht⟩ : ∃ t : Fin cfg0.N, t.val = (i 0).val / 256 := ⟨⟨(i 0).val / 256, by rw [show cfg0.N = 8 from N_0]; omega⟩, rfl⟩
    refine ⟨t, flush0_5 _, ?_⟩
    show i ∈ ((View.whole main_v82_2).slice (win0_5.rect t)).set
    rw [View.set_slice_whole, Rect.mem_set_unit]
    intro a
    match a with
    | ⟨0, _⟩ =>
      show win0_5.index _ 0 * 256 ≤ (i 0).val ∧ (i 0).val < win0_5.index _ 0 * 256 + win0_5.xsize (grid0.coords _) 0
      rw [(idx5 _).1, (size5 _).1]; omega
    | ⟨1, _⟩ =>
      show win0_5.index _ 1 * 768 ≤ (i 1).val ∧ (i 1).val < win0_5.index _ 1 * 768 + win0_5.xsize (grid0.coords _) 1
      rw [(idx5 _).2, (size5 _).2]; omega

theorem idx6 : ∀ t : Fin grid0.N, win0_6.index t 0 = 0 ∧ win0_6.index t 1 = t.val ∧ win0_6.index t 2 = 0 := by decide +kernel
theorem size6 : ∀ t : Fin grid0.N, win0_6.xsize (grid0.coords t) 0 = 4 ∧ win0_6.xsize (grid0.coords t) 1 = 64 ∧ win0_6.xsize (grid0.coords t) 2 = 768 := by decide +kernel
theorem final6 (hG : V m c main_arg0 = G) (hW : V m c main_v81 = W) : (dats m 0 c).arrAt 6 cfg0.N = gradO4 G W := by
  refine (dats m 0 c).arrAt_eq_of_cover 6 _ (fun t hf => ?_) fun (i : S4x512x768.Idx) => ?_
  · rw [flushed6_A, out_6]
    funext j
    rw [View.read_apply]
    have e : ((cfg0.win 6).blk t).view.emb j = ix3 (j 0) (⟨64 * t.val + (j 1).val, row4_lt t (j 1)⟩ : Fin 512) (j 2) := by
      funext a
      refine Fin.ext ?_
      match a with
      | ⟨0, _⟩ => show win0_6.index t 0 * 4 + 1 * (j 0).val = (j 0).val; rw [(idx6 t).1]; omega
      | ⟨1, _⟩ => show win0_6.index t 1 * 64 + 1 * (j 1).val = 64 * t.val + (j 1).val; rw [(idx6 t).2.1]; omega
      | ⟨2, _⟩ => show win0_6.index t 2 * 768 + 1 * (j 2).val = (j 2).val; rw [(idx6 t).2.2]; omega
    refine Eq.trans ?_ ((at6 m c G W hG hW t (j 0) (j 1) (j 2)).trans (congrArg (gradO4 G W) e.symm))
    exact congrArg (perm4 (doB (iblk m c 0 t) (iblk m c 2 t))) (eq_ix3 j)
  · have h0 : (i 0).val < 4 := (i 0).isLt
    have h1 : (i 1).val < 512 := (i 1).isLt
    have h2 : (i 2).val < 768 := (i 2).isLt
    obtain ⟨t, ht⟩ : ∃ t : Fin cfg0.N, t.val = (i 1).val / 64 := ⟨⟨(i 1).val / 64, by rw [show cfg0.N = 8 from N_0]; omega⟩, rfl⟩
    refine ⟨t, flush0_6 _, ?_⟩
    show i ∈ ((View.whole main_v82_3).slice (win0_6.rect t)).set
    rw [View.set_slice_whole, Rect.mem_set_unit]
    intro a
    match a with
    | ⟨0, _⟩ =>
      show win0_6.index _ 0 * 4 ≤ (i 0).val ∧ (i 0).val < win0_6.index _ 0 * 4 + win0_6.xsize (grid0.coords _) 0
      rw [(idx6 _).1, (size6 _).1]; omega
    | ⟨1, _⟩ =>
      show win0_6.index _ 1 * 64 ≤ (i 1).val ∧ (i 1).val < win0_6.index _ 1 * 64 + win0_6.xsize (grid0.coords _) 1
      rw [(idx6 _).2.1, (size6 _).2.1]; omega
    | ⟨2, _⟩ =>
      show win0_6.index _ 2 * 768 ≤ (i 2).val ∧ (i 2).val < win0_6.index _ 2 * 768 + win0_6.xsize (grid0.coords _) 2
      rw [(idx6 _).2.2, (size6 _).2.2]; omega

theorem idx7 : ∀ t : Fin grid0.N, win0_7.index t 0 = 0 ∧ win0_7.index t 1 = t.val ∧ win0_7.index t 2 = 0 := by decide +kernel
theorem size7 : ∀ t : Fin grid0.N, win0_7.xsize (grid0.coords t) 0 = 16 ∧ win0_7.xsize (grid0.coords t) 1 = 16 ∧ win0_7.xsize (grid0.coords t) 2 = 768 := by decide +kernel
theorem final7 (hG : V m c main_arg0 = G) (hW : V m c main_v81 = W) : (dats m 0 c).arrAt 7 cfg0.N = gradO16 G W := by
  refine (dats m 0 c).arrAt_eq_of_cover 7 _ (fun t hf => ?_) fun (i : S16x128x768.Idx) => ?_
  · rw [flushed7_A, out_7]
    funext j
    rw [View.read_apply]
    have e : ((cfg0.win 7).blk t).view.emb j = ix3 (j 0) (⟨16 * t.val + (j 1).val, row16_lt t (j 1)⟩ : Fin 128) (j 2) := by
      funext a
      refine Fin.ext ?_
      match a with
      | ⟨0, _⟩ => show win0_7.index t 0 * 16 + 1 * (j 0).val = (j 0).val; rw [(idx7 t).1]; omega
      | ⟨1, _⟩ => show win0_7.index t 1 * 16 + 1 * (j 1).val = 16 * t.val + (j 1).val; rw [(idx7 t).2.1]; omega
      | ⟨2, _⟩ => show win0_7.index t 2 * 768 + 1 * (j 2).val = (j 2).val; rw [(idx7 t).2.2]; omega
    refine Eq.trans ?_ ((at7 m c G W hG hW t (j 0) (j 1) (j 2)).trans (congrArg (gradO16 G W) e.symm))
    exact congrArg (perm16 (doB (iblk m c 0 t) (iblk m c 2 t))) (eq_ix3 j)
  · have h0 : (i 0).val < 16 := (i 0).isLt
    have h1 : (i 1).val < 128 := (i 1).isLt
    have h2 : (i 2).val < 768 := (i 2).isLt
    obtain ⟨t, ht⟩ : ∃ t : Fin cfg0.N, t.val = (i 1).val / 16 := ⟨⟨(i 1).val / 16, by rw [show cfg0.N = 8 from N_0]; omega⟩, rfl⟩
    refine ⟨t, flush0_7 _, ?_⟩
    show i ∈ ((View.whole main_v82_4).slice (win0_7.rect t)).set
    rw [View.set_slice_whole, Rect.mem_set_unit]
    intro a
    match a with
    | ⟨0, _⟩ =>
      show win0_7.index _ 0 * 16 ≤ (i 0).val ∧ (i 0).val < win0_7.index _ 0 * 16 + win0_7.xsize (grid0.coords _) 0
      rw [(idx7 _).1, (size7 _).1]; omega
    | ⟨1, _⟩ =>
      show win0_7.index _ 1 * 16 ≤ (i 1).val ∧ (i 1).val < win0_7.index _ 1 * 16 + win0_7.xsize (grid0.coords _) 1
      rw [(idx7 _).2.1, (size7 _).2.1]; omega
    | ⟨2, _⟩ =>
      show win0_7.index _ 2 * 768 ≤ (i 2).val ∧ (i 2).val < win0_7.index _ 2 * 768 + win0_7.xsize (grid0.coords _) 2
      rw [(idx7 _).2.2, (size7 _).2.2]; omega

theorem idx8 : ∀ t : Fin grid0.N, win0_8.index t 0 = t.val ∧ win0_8.index t 1 = 0 := by decide +kernel
theorem size8 : ∀ t : Fin grid0.N, win0_8.xsize (grid0.coords t) 0 = 256 ∧ win0_8.xsize (grid0.coords t) 1 = 128 := by decide +kernel
theorem final8 (hG : V m c main_arg0 = G) (hA : V m c main_v80 = A) (hW : V m c main_v81 = W) : (dats m 0 c).arrAt 8 cfg0.N = rowSum G A W := by
  refine (dats m 0 c).arrAt_eq_of_cover 8 _ (fun t hf => ?_) fun (i : S2048x128.Idx) => ?_
  · rw [flushed8_A, out_8]
    funext j
    rw [View.read_apply]
    have e : ((cfg0.win 8).blk t).view.emb j = ix2 (⟨256 * t.val + (j 0).val, row_lt t (j 0)⟩ : Fin 2048) (j 1) := by
      funext a
      refine Fin.ext ?_
      match a with
      | ⟨0, _⟩ => show win0_8.index t 0 * 256 + 1 * (j 0).val = 256 * t.val + (j 0).val; rw [(idx8 t).1]; omega
      | ⟨1, _⟩ => show win0_8.index t 1 * 128 + 1 * (j 1).val = (j 1).val; rw [(idx8 t).2]; omega
    refine Eq.trans ?_ ((at8 m c G A W hG hA hW t (j 0) (j 1)).trans (congrArg (rowSum G A W) e.symm))
    exact congrArg (deltaB (iblk m c 0 t) (iblk m c 1 t) (iblk m c 2 t)) (eq_ix2 j)
  · have h0 : (i 0).val < 2048 := (i 0).isLt
    have h1 : (i 1).val < 128 := (i 1).isLt
    obtain ⟨t, ht⟩ : ∃ t : Fin cfg0.N, t.val = (i 0).val / 256 := ⟨⟨(i 0).val / 256, by rw [show cfg0.N = 8 from N_0]; omega⟩, rfl⟩
    refine ⟨t, flush0_8 _, ?_⟩
    show i ∈ ((View.whole main_v82_5).slice (win0_8.rect t)).set
    rw [View.set_slice_whole, Rect.mem_set_unit]
    intro a
    match a with
    | ⟨0, _⟩ =>
      show win0_8.index _ 0 * 256 ≤ (i 0).val ∧ (i 0).val < win0_8.index _ 0 * 256 + win0_8.xsize (grid0.coords _) 0
      rw [(idx8 _).1, (size8 _).1]; omega
    | ⟨1, _⟩ =>
      show win0_8.index _ 1 * 128 ≤ (i 1).val ∧ (i 1).val < win0_8.index _ 1 * 128 + win0_8.xsize (grid0.coords _) 1
      rw [(idx8 _).2, (size8 _).2]; omega

theorem idx9 : ∀ t : Fin grid0.N, win0_9.index t 0 = 0 ∧ win0_9.index t 1 = t.val ∧ win0_9.index t 2 = 0 := by decide +kernel
theorem size9 : ∀ t : Fin grid0.N, win0_9.xsize (grid0.coords t) 0 = 4 ∧ win0_9.xsize (grid0.coords t) 1 = 64 ∧ win0_9.xsize (grid0.coords t) 2 = 128 := by decide +kernel
theorem final9 (hG : V m c main_arg0 = G) (hA : V m c main_v80 = A) (hW : V m c main_v81 = W) : (dats m 0 c).arrAt 9 cfg0.N = rowSum4 G A W := by
  refine (dats m 0 c).arrAt_eq_of_cover 9 _ (fun t hf => ?_) fun (i : S4x512x128.Idx) => ?_
  · rw [flushed9_A, out_9]
    funext j
    rw [View.read_apply]
    have e : ((cfg0.win 9).blk t).view.emb j = ix3 (j 0) (⟨64 * t.val + (j 1).val, row4_lt t (j 1)⟩ : Fin 512) (j 2) := by
      funext a
      refine Fin.ext ?_
      match a with
      | ⟨0, _⟩ => show win0_9.index t 0 * 4 + 1 * (j 0).val = (j 0).val; rw [(idx9 t).1]; omega
      | ⟨1, _⟩ => show win0_9.index t 1 * 64 + 1 * (j 1).val = 64 * t.val + (j 1).val; rw [(idx9 t).2.1]; omega
      | ⟨2, _⟩ => show win0_9.index t 2 * 128 + 1 * (j 2).val = (j 2).val; rw [(idx9 t).2.2]; omega
    refine Eq.trans ?_ ((at9 m c G A W hG hA hW t (j 0) (j 1) (j 2)).trans (congrArg (rowSum4 G A W) e.symm))
    exact congrArg (cls4 (deltaB (iblk m c 0 t) (iblk m c 1 t) (iblk m c 2 t))) (eq_ix3 j)
  · have h0 : (i 0).val < 4 := (i 0).isLt
    have h1 : (i 1).val < 512 := (i 1).isLt
    have h2 : (i 2).val < 128 := (i 2).isLt
    obtain ⟨t, ht⟩ : ∃ t : Fin cfg0.N, t.val = (i 1).val / 64 := ⟨⟨(i 1).val / 64, by rw [show cfg0.N = 8 from N_0]; omega⟩, rfl⟩
    refine ⟨t, flush0_9 _, ?_⟩
    show i ∈ ((View.whole main_v82_6).slice (win0_9.rect t)).set
    rw [View.set_slice_whole, Rect.mem_set_unit]
    intro a
    match a with
    | ⟨0, _⟩ =>
      show win0_9.index _ 0 * 4 ≤ (i 0).val ∧ (i 0).val < win0_9.index _ 0 * 4 + win0_9.xsize (grid0.coords _) 0
      rw [(idx9 _).1, (size9 _).1]; omega
    | ⟨1, _⟩ =>
      show win0_9.index _ 1 * 64 ≤ (i 1).val ∧ (i 1).val < win0_9.index _ 1 * 64 + win0_9.xsize (grid0.coords _) 1
      rw [(idx9 _).2.1, (size9 _).2.1]; omega
    | ⟨2, _⟩ =>
      show win0_9.index _ 2 * 128 ≤ (i 2).val ∧ (i 2).val < win0_9.index _ 2 * 128 + win0_9.xsize (grid0.coords _) 2
      rw [(idx9 _).2.2, (size9 _).2.2]; omega

theorem idx10 : ∀ t : Fin grid0.N, win0_10.index t 0 = 0 ∧ win0_10.index t 1 = t.val ∧ win0_10.index t 2 = 0 := by decide +kernel
theorem size10 : ∀ t : Fin grid0.N, win0_10.xsize (grid0.coords t) 0 = 16 ∧ win0_10.xsize (grid0.coords t) 1 = 16 ∧ win0_10.xsize (grid0.coords t) 2 = 128 := by decide +kernel
theorem final10 (hG : V m c main_arg0 = G) (hA : V m c main_v80 = A) (hW : V m c main_v81 = W) : (dats m 0 c).arrAt 10 cfg0.N = rowSum16 G A W := by
  refine (dats m 0 c).arrAt_eq_of_cover 10 _ (fun t hf => ?_) fun (i : S16x128x128.Idx) => ?_
  · rw [flushed10_A, out_10]
    funext j
    rw [View.read_apply]
    have e : ((cfg0.win 10).blk t).view.emb j = ix3 (j 0) (⟨16 * t.val + (j 1).val, row16_lt t (j 1)⟩ : Fin 128) (j 2) := by
      funext a
      refine Fin.ext ?_
      match a with
      | ⟨0, _⟩ => show win0_10.index t 0 * 16 + 1 * (j 0).val = (j 0).val; rw [(idx10 t).1]; omega
      | ⟨1, _⟩ => show win0_10.index t 1 * 16 + 1 * (j 1).val = 16 * t.val + (j 1).val; rw [(idx10 t).2.1]; omega
      | ⟨2, _⟩ => show win0_10.index t 2 * 128 + 1 * (j 2).val = (j 2).val; rw [(idx10 t).2.2]; omega
    refine Eq.trans ?_ ((at10 m c G A W hG hA hW t (j 0) (j 1) (j 2)).trans (congrArg (rowSum16 G A W) e.symm))
    exact congrArg (cls16 (deltaB (iblk m c 0 t) (iblk m c 1 t) (iblk m c 2 t))) (eq_ix3 j)
  · have h0 : (i 0).val < 16 := (i 0).isLt
    have h1 : (i 1).val < 128 := (i 1).isLt
    have h2 : (i 2).val < 128 := (i 2).isLt
    obtain ⟨t, ht⟩ : ∃ t : Fin cfg0.N, t.val = (i 1).val / 16 := ⟨⟨(i 1).val / 16, by rw [show cfg0.N = 8 from N_0]; omega⟩, rfl⟩
    refine ⟨t, flush0_10 _, ?_⟩
    show i ∈ ((View.whole main_v82_7).slice (win0_10.rect t)).set
    rw [View.set_slice_whole, Rect.mem_set_unit]
    intro a
    match a with
    | ⟨0, _⟩ =>
      show win0_10.index _ 0 * 16 ≤ (i 0).val ∧ (i 0).val < win0_10.index _ 0 * 16 + win0_10.xsize (grid0.coords _) 0
      rw [(idx10 _).1, (size10 _).1]; omega
    | ⟨1, _⟩ =>
      show win0_10.index _ 1 * 16 ≤ (i 1).val ∧ (i 1).val < win0_10.index _ 1 * 16 + win0_10.xsize (grid0.coords _) 1
      rw [(idx10 _).2.1, (size10 _).2.1]; omega
    | ⟨2, _⟩ =>
      show win0_10.index _ 2 * 128 ≤ (i 2).val ∧ (i 2).val < win0_10.index _ 2 * 128 + win0_10.xsize (grid0.coords _) 2
      rw [(idx10 _).2.2, (size10 _).2.2]; omega
end Arrays

end Cert.MixOutIdeal.Value

end
-- ==== Proof.MixOutHost.lean ====
/-
  What the host computes before the launch of the output projection's gradient: the attention's output and the weight's cast.
-/
module

public import proofs.«01_k».proof.Proof.Gen.MixOutIdeal.Value
public import proofs.«01_k».proof.Proof.Gen.MixOutRefIdeal.Read
public import Idealize.ShloMosaic.Lib.StableHlo.RunRead
public import Idealize.ShloMosaic.Lib.Pointwise

@[expose] public section

set_option maxRecDepth 16384

noncomputable section

namespace Cert.MixOutIdeal.Value

open Cert.MixOutIdeal Cert.MixOutIdeal.Gen Idealize.ShloMosaic Idealize.ShloMosaic.TcCoe Idealize.SL.Sem
open Cert.MixOutRefIdeal.Read (val_main_v10 val_main_v43 val_main_v80)

theorem after_append {l₁ l₂ : List (HloOp τ sig (Elt Ideal))} (X : Valuation τ sig (Elt Ideal)) :
    StableHlo.after (l₁ ++ l₂) X = StableHlo.after l₂ (StableHlo.after l₁ X) := by
  induction l₁ generalizing X with
  | nil => rfl
  | cons op l ih => exact ih _

variable (m : (ℓ : Loc nD τ sig) → Buf (Elt Ideal) ℓ) (c : Dev nD)
variable (X : Valuation τ sig (Elt Ideal))

/-- The buffers after the masked scores. -/
def X8 : Valuation τ sig (Elt Ideal) :=
  StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 X)))))))

theorem V_eq (b : Ref sig .tc) : V m c b = StableHlo.after hostOps0_8 (X8 fun b => m (c, b)) b := by
  unfold V X8
  rw [List.flatten_cons, after_append, List.flatten_cons, after_append, List.flatten_cons, after_append, List.flatten_cons, after_append,
    List.flatten_cons, after_append, List.flatten_cons, after_append, List.flatten_cons, after_append, List.flatten_cons, after_append,
    List.flatten_cons, after_append]
  rfl

theorem X8_v43 : X8 X (Proc.devRef .tc main_v43) = val_main_v43 (F := Ideal) (X (Proc.devRef .tc main_arg1)) (X (Proc.devRef .tc main_arg2)) := by
  unfold X8
  after_reads_simp
  sl_kernel_rfl
theorem X8_v10 : X8 X (Proc.devRef .tc main_v10) = val_main_v10 (F := Ideal) (X (Proc.devRef .tc main_arg3)) := by
  unfold X8
  after_reads_simp
  rfl
theorem X8_arg4 : X8 X (Proc.devRef .tc main_arg4) = X (Proc.devRef .tc main_arg4) := by
  unfold X8
  after_reads_simp

/-- The attention's output, by reference.py's lines. -/
theorem out_tree (Y : Valuation τ sig (Elt Ideal)) (x1 x2 x3 : FVec Ideal S1x2048x12x64 .f32)
    (h0 : Y (Proc.devRef .tc main_v43) = val_main_v43 (F := Ideal) x1 x2) (h1 : Y (Proc.devRef .tc main_v10) = val_main_v10 (F := Ideal) x3) :
    (StableHlo.after hostOps0_8 Y (Proc.devRef .tc main_v80) : FVec Ideal S2048x768 .f32) = val_main_v80 (F := Ideal) x1 x2 x3 := by
  after_reads_simp
  rw [h0, h1]
  sl_kernel_rfl
theorem w_tree (Y : Valuation τ sig (Elt Ideal)) (x4 : FVec Ideal S1024x1024 .f32) (h : Y (Proc.devRef .tc main_arg4) = x4) :
    (StableHlo.after hostOps0_8 Y (Proc.devRef .tc main_v81) : FVec Ideal S1024x1024 .bf16)
      = (truncf (F := Ideal) .bf16 x4 bitsLt_bf16_f32 : FVec Ideal S1024x1024 .bf16) := by
  after_reads_simp
  rw [h]

theorem host_v80 : (V m c main_v80 : FVec Ideal S2048x768 .f32)
    = val_main_v80 (F := Ideal) (m (c, Proc.devRef .tc main_arg1)) (m (c, Proc.devRef .tc main_arg2)) (m (c, Proc.devRef .tc main_arg3)) :=
  (V_eq m c _).trans (out_tree _ _ _ _ (X8_v43 _) (X8_v10 _))
theorem host_v81 : (V m c main_v81 : FVec Ideal S1024x1024 .bf16)
    = (truncf (F := Ideal) .bf16 (m (c, Proc.devRef .tc main_arg4) : FVec Ideal S1024x1024 .f32) bitsLt_bf16_f32 : FVec Ideal S1024x1024 .bf16) :=
  (V_eq m c _).trans (w_tree _ _ (X8_arg4 _))

end Cert.MixOutIdeal.Value

end
-- ==== Proof.MixOutClaim.lean ====
/-
  The gradient of the mixture's output projection: the frames of the three programs, and the kernel's eight results equal to
  the reference's, for all arguments.
-/
module

public import proofs.«01_k».proof.Defs
public import proofs.«01_k».proof.Proof.MixOutKernel
public import proofs.«01_k».proof.Proof.MixOutHost
public import proofs.«01_k».proof.Proof.Gen.MixOut.Frame
public import proofs.«01_k».proof.Proof.Gen.MixOutRefIdeal.Run
public import proofs.«01_k».proof.Proof.Gen.MixOutRefIdeal.Read
public import Idealize.ShloMosaic.Lib.Quiescent
public import Idealize.ShloMosaic.Lib.StableHlo.RunRead
public import Idealize.ShloMosaic.Lib.Pointwise

@[expose] public section

set_option maxRecDepth 16384

noncomputable section

namespace Cert.MixOutClaim

open Idealize.ShloMosaic Idealize.ShloMosaic.TcCoe Idealize.SL.Sem

theorem frame_kernel_ideal : Cert.quiescent_MixOutIdeal (hMixOutIdeal := Cert.MixOutIdeal.Gen.facts) := fun m ρ _ => Cert.MixOutIdeal.Gen.frame m ρ

theorem frame_kernel : Cert.quiescent_MixOut (hMixOut := Cert.MixOut.Gen.facts) := fun m ρ _ => Cert.MixOut.Gen.frame m ρ

theorem frame_ref : Cert.quiescent_MixOutRefIdeal (hMixOutRefIdeal := Cert.MixOutRefIdeal.Gen.facts) := fun m ρ _ =>
  (θ_run Cert.MixOutRefIdeal.defs _ _).mono
    (fun _ h => ⟨fun c => (h c).2.2.2.2.2.2.2.2, sem_eq_zero_of_no_sems rfl _⟩) (Cert.MixOutRefIdeal.Value.run m ρ)

/-! ## The reference's results in the kernel's form -/

section Results
open Cert.MixOutRefIdeal Cert.MixOutRefIdeal.Gen Cert.MixOutRefIdeal.Read
open Cert.MixOutIdeal.Value (proj gradBranch gradPool gradO gradO4 gradO16 rowSum rowSum4 rowSum16)
variable (x0 : FVec Ideal S2048x1024 .f32) (x1 x2 x3 : FVec Ideal S1x2048x12x64 .f32) (x4 : FVec Ideal S1024x1024 .f32)

theorem ref_proj (r : Fin 2048) (k : Fin 1024) : val_main_v85 (F := Ideal) x0 x4 (ix2 r k) = proj x0 (truncf (F := Ideal) .bf16 x4 bitsLt_bf16_f32 : FVec Ideal S1024x1024 .bf16) r k := by
  unfold val_main_v85 proj
  pointwise
theorem ref_branch : val_main_v94 (F := Ideal) x0 = gradBranch x0 := by
  funext t
  idx_vars t
  unfold val_main_v94 gradBranch
  pointwise
theorem ref_pool : val_main_v86 (F := Ideal) x0 x4 = gradPool x0 (truncf (F := Ideal) .bf16 x4 bitsLt_bf16_f32 : FVec Ideal S1024x1024 .bf16) := by
  have h := ref_proj x0 x4
  funext t
  idx_vars t
  unfold val_main_v86 gradPool
  generalize val_main_v85 (F := Ideal) x0 x4 = M at h ⊢
  pointwise
  exact h _ _
theorem ref_o : val_main_v93 (F := Ideal) x0 x4 = gradO x0 (truncf (F := Ideal) .bf16 x4 bitsLt_bf16_f32 : FVec Ideal S1024x1024 .bf16) := by
  have h := ref_proj x0 x4
  funext t
  idx_vars t
  unfold val_main_v93 val_main_v87 gradO
  generalize val_main_v85 (F := Ideal) x0 x4 = M at h ⊢
  pointwise
  exact h _ _
theorem ref_o4 : val_main_v96 (F := Ideal) x0 x4 = gradO4 x0 (truncf (F := Ideal) .bf16 x4 bitsLt_bf16_f32 : FVec Ideal S1024x1024 .bf16) := by
  have h := ref_o x0 x4
  unfold val_main_v96 val_main_v95 gradO4
  rw [h]
  generalize gradO x0 (truncf (F := Ideal) .bf16 x4 bitsLt_bf16_f32 : FVec Ideal S1024x1024 .bf16) = D
  funext t
  idx_vars t
  pointwise
  exact congrArg D (congrArg (fun r : Fin 2048 => ix2 r t2) (Fin.ext (congrArg (fun a : ℕ => a + t0.val) (Nat.mul_comm t1.val 4))))
theorem ref_o16 : val_main_v98 (F := Ideal) x0 x4 = gradO16 x0 (truncf (F := Ideal) .bf16 x4 bitsLt_bf16_f32 : FVec Ideal S1024x1024 .bf16) := by
  have h := ref_o x0 x4
  unfold val_main_v98 val_main_v97 gradO16
  rw [h]
  generalize gradO x0 (truncf (F := Ideal) .bf16 x4 bitsLt_bf16_f32 : FVec Ideal S1024x1024 .bf16) = D
  funext t
  idx_vars t
  pointwise
  exact congrArg D (congrArg (fun r : Fin 2048 => ix2 r t2) (Fin.ext (congrArg (fun a : ℕ => a + t0.val) (Nat.mul_comm t1.val 16))))
theorem heads_of (M : FVec Ideal S2048x1024 .f32) (O : FVec Ideal S2048x768 .f32) (r : Fin 2048) (n : Fin 12) :
    (Host.reduceAdd (F := Ideal) (mulf (shapeCast S2048x12x64 (extractStridedSlice S2048x768 ![0, 256] M slices_S2048x1024_S2048x768_0_256)
        shapeCasts_S2048x768_S2048x12x64) (shapeCast S2048x12x64 O shapeCasts_S2048x768_S2048x12x64))
        (val_main_cst_13 (F := Ideal)) reducesTo_S2048x12x64_S2048x12_d2 h_S_ : FVec Ideal S2048x12 .f32) (ix2 r n)
      = (∑ d : Fin 64, M (ix2 r (⟨256 + 64 * n.val + d.val, by omega⟩ : Fin 1024)) * O (ix2 r (⟨64 * n.val + d.val, by omega⟩ : Fin 768)) : EReal) := by
  unfold val_main_cst_13
  pointwise
  refine Finset.sum_congr rfl fun d _ => congrArg₂ (fun a b : EReal => a * b)
    (congrArg M (congrArg (fun k : Fin 1024 => ix2 r k) (Fin.ext ?_))) (congrArg O (congrArg (fun k : Fin 768 => ix2 r k) (Fin.ext ?_)))
  · show 256 + (n.val * 64 + d.val) = 256 + 64 * n.val + d.val
    omega
  · show n.val * 64 + d.val = 64 * n.val + d.val
    omega
theorem ref_heads (r : Fin 2048) (n : Fin 12) : val_main_v91 (F := Ideal) x0 x1 x2 x3 x4 (ix2 r n)
    = (∑ d : Fin 64, proj x0 (truncf (F := Ideal) .bf16 x4 bitsLt_bf16_f32 : FVec Ideal S1024x1024 .bf16) r (⟨256 + 64 * n.val + d.val, by omega⟩ : Fin 1024) * (val_main_v80 (F := Ideal) x1 x2 x3) (ix2 r (⟨64 * n.val + d.val, by omega⟩ : Fin 768)) : EReal) := by
  have h := ref_proj x0 x4
  unfold val_main_v91 val_main_v90 val_main_v89 val_main_v88 val_main_v87
  generalize val_main_v80 (F := Ideal) x1 x2 x3 = O
  generalize val_main_v85 (F := Ideal) x0 x4 = M at h ⊢
  refine (heads_of M O r n).trans (Finset.sum_congr rfl fun d _ => ?_)
  rw [h]
theorem ref_sum : val_main_v92 (F := Ideal) x0 x1 x2 x3 x4 = rowSum x0 (val_main_v80 (F := Ideal) x1 x2 x3) (truncf (F := Ideal) .bf16 x4 bitsLt_bf16_f32 : FVec Ideal S1024x1024 .bf16) := by
  have h := ref_heads x0 x1 x2 x3 x4
  funext t
  idx_vars t
  unfold val_main_v92 val_main_call4_v0 val_main_c_14 rowSum
  generalize val_main_v91 (F := Ideal) x0 x1 x2 x3 x4 = P at h ⊢
  generalize val_main_v80 (F := Ideal) x1 x2 x3 = O at h ⊢
  pointwise
  unfold Cert.MixOutIdeal.Value.rowHead
  by_cases q : t1.val < 12
  · rw [dif_pos q, dif_pos q]
    exact h t0 ⟨t1.val, q⟩
  · rw [dif_neg q, dif_neg q]
    simp [FloatOps.sitofp]
theorem ref_sum4 : val_main_v100 (F := Ideal) x0 x1 x2 x3 x4 = rowSum4 x0 (val_main_v80 (F := Ideal) x1 x2 x3) (truncf (F := Ideal) .bf16 x4 bitsLt_bf16_f32 : FVec Ideal S1024x1024 .bf16) := by
  have h := ref_sum x0 x1 x2 x3 x4
  unfold val_main_v100 val_main_v99 rowSum4
  rw [h]
  generalize rowSum x0 (val_main_v80 (F := Ideal) x1 x2 x3) (truncf (F := Ideal) .bf16 x4 bitsLt_bf16_f32 : FVec Ideal S1024x1024 .bf16) = D
  funext t
  idx_vars t
  pointwise
  exact congrArg D (congrArg (fun r : Fin 2048 => ix2 r t2) (Fin.ext (congrArg (fun a : ℕ => a + t0.val) (Nat.mul_comm t1.val 4))))
theorem ref_sum16 : val_main_v102 (F := Ideal) x0 x1 x2 x3 x4 = rowSum16 x0 (val_main_v80 (F := Ideal) x1 x2 x3) (truncf (F := Ideal) .bf16 x4 bitsLt_bf16_f32 : FVec Ideal S1024x1024 .bf16) := by
  have h := ref_sum x0 x1 x2 x3 x4
  unfold val_main_v102 val_main_v101 rowSum16
  rw [h]
  generalize rowSum x0 (val_main_v80 (F := Ideal) x1 x2 x3) (truncf (F := Ideal) .bf16 x4 bitsLt_bf16_f32 : FVec Ideal S1024x1024 .bf16) = D
  funext t
  idx_vars t
  pointwise
  exact congrArg D (congrArg (fun r : Fin 2048 => ix2 r t2) (Fin.ext (congrArg (fun a : ℕ => a + t0.val) (Nat.mul_comm t1.val 16))))
theorem arr_branch {y0 : FVec Ideal S2048x1024 .f32} (e0 : y0 = x0) : val_main_v94 (F := Ideal) y0 = gradBranch x0 := by
  subst e0
  exact ref_branch _
theorem arr_pool {y0 : FVec Ideal S2048x1024 .f32} (e0 : y0 = x0) {y4 : FVec Ideal S1024x1024 .f32} (e4 : y4 = x4) : val_main_v86 (F := Ideal) y0 y4 = gradPool x0 (truncf (F := Ideal) .bf16 x4 bitsLt_bf16_f32 : FVec Ideal S1024x1024 .bf16) := by
  subst e0 e4
  exact ref_pool _ _
theorem arr_o {y0 : FVec Ideal S2048x1024 .f32} (e0 : y0 = x0) {y4 : FVec Ideal S1024x1024 .f32} (e4 : y4 = x4) : val_main_v93 (F := Ideal) y0 y4 = gradO x0 (truncf (F := Ideal) .bf16 x4 bitsLt_bf16_f32 : FVec Ideal S1024x1024 .bf16) := by
  subst e0 e4
  exact ref_o _ _
theorem arr_o4 {y0 : FVec Ideal S2048x1024 .f32} (e0 : y0 = x0) {y4 : FVec Ideal S1024x1024 .f32} (e4 : y4 = x4) : val_main_v96 (F := Ideal) y0 y4 = gradO4 x0 (truncf (F := Ideal) .bf16 x4 bitsLt_bf16_f32 : FVec Ideal S1024x1024 .bf16) := by
  subst e0 e4
  exact ref_o4 _ _
theorem arr_o16 {y0 : FVec Ideal S2048x1024 .f32} (e0 : y0 = x0) {y4 : FVec Ideal S1024x1024 .f32} (e4 : y4 = x4) : val_main_v98 (F := Ideal) y0 y4 = gradO16 x0 (truncf (F := Ideal) .bf16 x4 bitsLt_bf16_f32 : FVec Ideal S1024x1024 .bf16) := by
  subst e0 e4
  exact ref_o16 _ _
theorem arr_sum {y0 : FVec Ideal S2048x1024 .f32} (e0 : y0 = x0) {y1 : FVec Ideal S1x2048x12x64 .f32} (e1 : y1 = x1) {y2 : FVec Ideal S1x2048x12x64 .f32} (e2 : y2 = x2) {y3 : FVec Ideal S1x2048x12x64 .f32} (e3 : y3 = x3) {y4 : FVec Ideal S1024x1024 .f32} (e4 : y4 = x4) : val_main_v92 (F := Ideal) y0 y1 y2 y3 y4 = rowSum x0 (val_main_v80 (F := Ideal) x1 x2 x3) (truncf (F := Ideal) .bf16 x4 bitsLt_bf16_f32 : FVec Ideal S1024x1024 .bf16) := by
  subst e0 e1 e2 e3 e4
  exact ref_sum _ _ _ _ _
theorem arr_sum4 {y0 : FVec Ideal S2048x1024 .f32} (e0 : y0 = x0) {y1 : FVec Ideal S1x2048x12x64 .f32} (e1 : y1 = x1) {y2 : FVec Ideal S1x2048x12x64 .f32} (e2 : y2 = x2) {y3 : FVec Ideal S1x2048x12x64 .f32} (e3 : y3 = x3) {y4 : FVec Ideal S1024x1024 .f32} (e4 : y4 = x4) : val_main_v100 (F := Ideal) y0 y1 y2 y3 y4 = rowSum4 x0 (val_main_v80 (F := Ideal) x1 x2 x3) (truncf (F := Ideal) .bf16 x4 bitsLt_bf16_f32 : FVec Ideal S1024x1024 .bf16) := by
  subst e0 e1 e2 e3 e4
  exact ref_sum4 _ _ _ _ _
theorem arr_sum16 {y0 : FVec Ideal S2048x1024 .f32} (e0 : y0 = x0) {y1 : FVec Ideal S1x2048x12x64 .f32} (e1 : y1 = x1) {y2 : FVec Ideal S1x2048x12x64 .f32} (e2 : y2 = x2) {y3 : FVec Ideal S1x2048x12x64 .f32} (e3 : y3 = x3) {y4 : FVec Ideal S1024x1024 .f32} (e4 : y4 = x4) : val_main_v102 (F := Ideal) y0 y1 y2 y3 y4 = rowSum16 x0 (val_main_v80 (F := Ideal) x1 x2 x3) (truncf (F := Ideal) .bf16 x4 bitsLt_bf16_f32 : FVec Ideal S1024x1024 .bf16) := by
  subst e0 e1 e2 e3 e4
  exact ref_sum16 _ _ _ _ _
end Results

set_option maxHeartbeats 1000000 in
theorem algebraic : Cert.algebraic_MixOutIdeal_MixOutRefIdeal (hMixOutIdeal := Cert.MixOutIdeal.Gen.facts)
    (hMixOutRefIdeal := Cert.MixOutRefIdeal.Gen.facts) := by
  intro m ρ m' ρ' _ hargs
  refine ⟨_, _, _, _, _, _, _, _, Cert.MixOutIdeal.Value.run_blocks m ρ, (θ_run Cert.MixOutRefIdeal.defs _ _).mono (fun r h c => ?_) (Cert.MixOutRefIdeal.Value.run m' ρ')⟩
  obtain ⟨r0, r1, r2, r3, r4, r5, r6, r7, r8⟩ := h c
  obtain ⟨a0, a1, a2, a3, a4⟩ := hargs c
  have G := Cert.MixOutIdeal.Gen.V_main_arg0 m c
  have A := Cert.MixOutIdeal.Value.host_v80 m c
  have W := Cert.MixOutIdeal.Value.host_v81 m c
  refine ⟨r0.trans ?_, r1.trans ?_, r2.trans ?_, r3.trans ?_, r4.trans ?_, r5.trans ?_, r6.trans ?_, r7.trans ?_, r8⟩
  · rw [Cert.MixOutIdeal.Value.final3 m c _ G]
    refine (Cert.MixOutRefIdeal.Read.val_main_v94_eq _).trans ?_
    exact arr_branch _ a0
  · rw [Cert.MixOutIdeal.Value.final4 m c _ _ G W]
    refine (Cert.MixOutRefIdeal.Read.val_main_v86_eq _).trans ?_
    exact arr_pool _ _ a0 a4
  · rw [Cert.MixOutIdeal.Value.final5 m c _ _ G W]
    refine (Cert.MixOutRefIdeal.Read.val_main_v93_eq _).trans ?_
    exact arr_o _ _ a0 a4
  · rw [Cert.MixOutIdeal.Value.final6 m c _ _ G W]
    refine (Cert.MixOutRefIdeal.Read.val_main_v96_eq _).trans ?_
    exact arr_o4 _ _ a0 a4
  · rw [Cert.MixOutIdeal.Value.final7 m c _ _ G W]
    refine (Cert.MixOutRefIdeal.Read.val_main_v98_eq _).trans ?_
    exact arr_o16 _ _ a0 a4
  · rw [Cert.MixOutIdeal.Value.final8 m c _ _ _ G A W]
    refine (Cert.MixOutRefIdeal.Read.val_main_v92_eq _).trans ?_
    exact arr_sum _ _ _ _ _ a0 a1 a2 a3 a4
  · rw [Cert.MixOutIdeal.Value.final9 m c _ _ _ G A W]
    refine (Cert.MixOutRefIdeal.Read.val_main_v100_eq _).trans ?_
    exact arr_sum4 _ _ _ _ _ a0 a1 a2 a3 a4
  · rw [Cert.MixOutIdeal.Value.final10 m c _ _ _ G A W]
    refine (Cert.MixOutRefIdeal.Read.val_main_v102_eq _).trans ?_
    exact arr_sum16 _ _ _ _ _ a0 a1 a2 a3 a4

end Cert.MixOutClaim

end
-- ==== Proof.PoolFrame.lean ====
/-
  The frames of the pool's gradient and of its idealization.
-/
module

public import proofs.«01_k».proof.Defs
public import proofs.«01_k».proof.Proof.Gen.Pool.Frame
public import proofs.«01_k».proof.Proof.Gen.PoolIdeal.Frame

@[expose] public section

namespace Cert.PoolFrame

open Idealize.ShloMosaic

theorem frame_kernel : Cert.quiescent_Pool (hPool := Cert.Pool.Gen.facts) := fun m ρ _ => Cert.Pool.Gen.frame m ρ

theorem frame_kernel_ideal : Cert.quiescent_PoolIdeal (hPoolIdeal := Cert.PoolIdeal.Gen.facts) := fun m ρ _ => Cert.PoolIdeal.Gen.frame m ρ

theorem preserves : Cert.preserves_Pool_PoolIdeal := trivial

end Cert.PoolFrame

end
-- ==== Proof.MixInFrame.lean ====
/-
  The frames of the gradient of norm, input projection and rotary and of its idealization.
-/
module

public import proofs.«01_k».proof.Defs
public import proofs.«01_k».proof.Proof.Gen.MixIn.Frame
public import proofs.«01_k».proof.Proof.Gen.MixInIdeal.Frame

@[expose] public section

namespace Cert.MixInFrame

open Idealize.ShloMosaic

theorem frame_kernel : Cert.quiescent_MixIn (hMixIn := Cert.MixIn.Gen.facts) := fun m ρ _ => Cert.MixIn.Gen.frame m ρ

theorem frame_kernel_ideal : Cert.quiescent_MixInIdeal (hMixInIdeal := Cert.MixInIdeal.Gen.facts) := fun m ρ _ => Cert.MixInIdeal.Gen.frame m ρ

theorem preserves : Cert.preserves_MixIn_MixInIdeal := trivial

end Cert.MixInFrame

end
-- ==== Proof.lean ====
/-
  The proof of the claim: every part is proved in a module of its own, and put together here.
-/
module

public import proofs.«01_k».proof.Proof.LossClaim
public import proofs.«01_k».proof.Proof.Attn2048Claim
public import proofs.«01_k».proof.Proof.Attn512Claim
public import proofs.«01_k».proof.Proof.Attn128Claim
public import proofs.«01_k».proof.Proof.FfnClaim
public import proofs.«01_k».proof.Proof.FfnWClaim
public import proofs.«01_k».proof.Proof.MixOutClaim
public import proofs.«01_k».proof.Proof.PoolFrame
public import proofs.«01_k».proof.Proof.MixInFrame

@[expose] public section

namespace Cert.Proof

open Idealize.ShloMosaic

theorem claim : Cert.Claim := ⟨Cert.Loss.Gen.facts, Cert.LossIdeal.Gen.facts, Cert.LossRefIdeal.Gen.facts,
  Cert.Attn2048.Gen.facts, Cert.Attn2048Ideal.Gen.facts, Cert.Attn2048RefIdeal.Gen.facts,
  Cert.Attn512.Gen.facts, Cert.Attn512Ideal.Gen.facts, Cert.Attn512RefIdeal.Gen.facts,
  Cert.Attn128.Gen.facts, Cert.Attn128Ideal.Gen.facts, Cert.Attn128RefIdeal.Gen.facts,
  Cert.Ffn.Gen.facts, Cert.FfnIdeal.Gen.facts, Cert.FfnRefIdeal.Gen.facts,
  Cert.FfnW.Gen.facts, Cert.FfnWIdeal.Gen.facts, Cert.FfnWRefIdeal.Gen.facts,
  Cert.MixOut.Gen.facts, Cert.MixOutIdeal.Gen.facts, Cert.MixOutRefIdeal.Gen.facts,
  Cert.Pool.Gen.facts, Cert.PoolIdeal.Gen.facts, Cert.MixIn.Gen.facts, Cert.MixInIdeal.Gen.facts,
  Cert.Pre_loss_finite.Gen.facts, Cert.Pre_attn_finite.Gen.facts, Cert.Pre_ffn_finite.Gen.facts,
  ⟨LossClaim.frame_kernel, LossClaim.frame_kernel_ideal, fun m ρ _ => LossClaim.frame_kernel_ideal m ρ trivial, LossClaim.frame_ref,
    fun m ρ _ => LossClaim.frame_ref m ρ trivial,
    Attn2048Claim.frame_kernel, Attn2048Claim.frame_kernel_ideal, fun m ρ _ => Attn2048Claim.frame_kernel_ideal m ρ trivial, Attn2048Claim.frame_ref,
    fun m ρ _ => Attn2048Claim.frame_ref m ρ trivial,
    Attn512Claim.frame_kernel, Attn512Claim.frame_kernel_ideal, fun m ρ _ => Attn512Claim.frame_kernel_ideal m ρ trivial, Attn512Claim.frame_ref,
    fun m ρ _ => Attn512Claim.frame_ref m ρ trivial,
    Attn128Claim.frame_kernel, Attn128Claim.frame_kernel_ideal, fun m ρ _ => Attn128Claim.frame_kernel_ideal m ρ trivial, Attn128Claim.frame_ref,
    fun m ρ _ => Attn128Claim.frame_ref m ρ trivial,
    FfnClaim.frame_kernel, FfnClaim.frame_kernel_ideal, fun m ρ _ => FfnClaim.frame_kernel_ideal m ρ trivial, FfnClaim.frame_ref,
    fun m ρ _ => FfnClaim.frame_ref m ρ trivial,
    FfnWClaim.frame_kernel, FfnWClaim.frame_kernel_ideal, FfnWClaim.frame_ref,
    MixOutClaim.frame_kernel, MixOutClaim.frame_kernel_ideal, MixOutClaim.frame_ref,
    PoolFrame.frame_kernel, PoolFrame.frame_kernel_ideal, MixInFrame.frame_kernel, MixInFrame.frame_kernel_ideal,
    trivial, LossClaim.algebraic,
    IdealRules.named_const.statement Cert.Attn2048Ideal.κ "mask" .f32 0xF149F2CA#32 ⊥ rfl, Attn2048Claim.algebraic,
    IdealRules.named_const.statement Cert.Attn512Ideal.κ "mask" .f32 0xF149F2CA#32 ⊥ rfl, Attn512Claim.algebraic,
    IdealRules.named_const.statement Cert.Attn128Ideal.κ "mask" .f32 0xF149F2CA#32 ⊥ rfl, Attn128Claim.algebraic,
    trivial, FfnClaim.algebraic,
    trivial, FfnWClaim.algebraic,
    trivial, MixOutClaim.algebraic,
    PoolFrame.preserves, MixInFrame.preserves⟩⟩

end Cert.Proof
